-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Din (m : (ℓ : Loc Cert.Din.nD Cert.Din.τ Cert.Din.sig) → Buf (Elt Bits) ℓ) : Prop :=
  True

def Pre_DinIdeal (m : (ℓ : Loc Cert.DinIdeal.nD Cert.DinIdeal.τ Cert.DinIdeal.sig) → Buf (Elt Ideal) ℓ) : Prop :=
  True

def Pre_DinRefIdeal (m : (ℓ : Loc Cert.DinRefIdeal.nD Cert.DinRefIdeal.τ Cert.DinRefIdeal.sig) → Buf (Elt Ideal) ℓ) : Prop :=
  True

def Pre_AFwd (m : (ℓ : Loc Cert.AFwd.nD Cert.AFwd.τ Cert.AFwd.sig) → Buf (Elt Bits) ℓ) : Prop :=
  True

def Pre_AFwdIdeal (m : (ℓ : Loc Cert.AFwdIdeal.nD Cert.AFwdIdeal.τ Cert.AFwdIdeal.sig) → Buf (Elt Ideal) ℓ) : Prop :=
  True

def Pre_AFwdRefIdeal (m : (ℓ : Loc Cert.AFwdRefIdeal.nD Cert.AFwdRefIdeal.τ Cert.AFwdRefIdeal.sig) → Buf (Elt Ideal) ℓ) : Prop :=
  True

def Pre_MFwd (m : (ℓ : Loc Cert.MFwd.nD Cert.MFwd.τ Cert.MFwd.sig) → Buf (Elt Bits) ℓ) : Prop :=
  True

def Pre_MFwdIdeal (m : (ℓ : Loc Cert.MFwdIdeal.nD Cert.MFwdIdeal.τ Cert.MFwdIdeal.sig) → Buf (Elt Ideal) ℓ) : Prop :=
  True

def Pre_MFwdRefIdeal (m : (ℓ : Loc Cert.MFwdRefIdeal.nD Cert.MFwdRefIdeal.τ Cert.MFwdRefIdeal.sig) → Buf (Elt Ideal) ℓ) : Prop :=
  True

def Pre_PFwd (m : (ℓ : Loc Cert.PFwd.nD Cert.PFwd.τ Cert.PFwd.sig) → Buf (Elt Bits) ℓ) : Prop :=
  True

def Pre_PFwdIdeal (m : (ℓ : Loc Cert.PFwdIdeal.nD Cert.PFwdIdeal.τ Cert.PFwdIdeal.sig) → Buf (Elt Ideal) ℓ) : Prop :=
  True

def Pre_PFwdRefIdeal (m : (ℓ : Loc Cert.PFwdRefIdeal.nD Cert.PFwdRefIdeal.τ Cert.PFwdRefIdeal.sig) → Buf (Elt Ideal) ℓ) : Prop :=
  True

def Pre_OFwd (m : (ℓ : Loc Cert.OFwd.nD Cert.OFwd.τ Cert.OFwd.sig) → Buf (Elt Bits) ℓ) : Prop :=
  True

def Pre_OFwdIdeal (m : (ℓ : Loc Cert.OFwdIdeal.nD Cert.OFwdIdeal.τ Cert.OFwdIdeal.sig) → Buf (Elt Ideal) ℓ) : Prop :=
  True

def Pre_OFwdRefIdeal (m : (ℓ : Loc Cert.OFwdRefIdeal.nD Cert.OFwdRefIdeal.τ Cert.OFwdRefIdeal.sig) → Buf (Elt Ideal) ℓ) : Prop :=
  True

def Pre_MatNt (m : (ℓ : Loc Cert.MatNt.nD Cert.MatNt.τ Cert.MatNt.sig) → Buf (Elt Bits) ℓ) : Prop :=
  True

def Pre_MatNtIdeal (m : (ℓ : Loc Cert.MatNtIdeal.nD Cert.MatNtIdeal.τ Cert.MatNtIdeal.sig) → Buf (Elt Ideal) ℓ) : Prop :=
  True

def Pre_MatNtRefIdeal (m : (ℓ : Loc Cert.MatNtRefIdeal.nD Cert.MatNtRefIdeal.τ Cert.MatNtRefIdeal.sig) → Buf (Elt Ideal) ℓ) : Prop :=
  True

def Pre_MatTn (m : (ℓ : Loc Cert.MatTn.nD Cert.MatTn.τ Cert.MatTn.sig) → Buf (Elt Bits) ℓ) : Prop :=
  True

def Pre_MatTnIdeal (m : (ℓ : Loc Cert.MatTnIdeal.nD Cert.MatTnIdeal.τ Cert.MatTnIdeal.sig) → Buf (Elt Ideal) ℓ) : Prop :=
  True

def Pre_MatTnRefIdeal (m : (ℓ : Loc Cert.MatTnRefIdeal.nD Cert.MatTnRefIdeal.τ Cert.MatTnRefIdeal.sig) → Buf (Elt Ideal) ℓ) : Prop :=
  True

def Pre_DWin (m : (ℓ : Loc Cert.DWin.nD Cert.DWin.τ Cert.DWin.sig) → Buf (Elt Bits) ℓ) : Prop :=
  True

def Pre_DWinIdeal (m : (ℓ : Loc Cert.DWinIdeal.nD Cert.DWinIdeal.τ Cert.DWinIdeal.sig) → Buf (Elt Ideal) ℓ) : Prop :=
  True

def Pre_DWinRefIdeal (m : (ℓ : Loc Cert.DWinRefIdeal.nD Cert.DWinRefIdeal.τ Cert.DWinRefIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsRefIdeal (m : (ℓ : Loc Cert.SlotsRefIdeal.nD Cert.SlotsRefIdeal.τ Cert.SlotsRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_SHalf [hPre_is_core : Cert.Pre_is_core.Facts] (m : (ℓ : Loc Cert.SHalf.nD Cert.SHalf.τ Cert.SHalf.sig) → Buf (Elt Bits) ℓ) : Prop :=
  ∀ c : Dev Cert.SHalf.nD,
    (Cert.Pre_is_core.fn (F := Bits) (m ((c.tc : Thread Cert.SHalf.nD Cert.SHalf.τ).loc Cert.SHalf.main_arg0)) (m ((c.tc : Thread Cert.SHalf.nD Cert.SHalf.τ).loc Cert.SHalf.main_arg1)) (m ((c.tc : Thread Cert.SHalf.nD Cert.SHalf.τ).loc Cert.SHalf.main_arg2))) = (fun _ => 1#1)

def Pre_SHalfIdeal [hPre_is_core : Cert.Pre_is_core.Facts] (m : (ℓ : Loc Cert.SHalfIdeal.nD Cert.SHalfIdeal.τ Cert.SHalfIdeal.sig) → Buf (Elt Ideal) ℓ) : Prop :=
  ∀ c : Dev Cert.SHalfIdeal.nD,
    (Cert.Pre_is_core.fn (F := Ideal) (m ((c.tc : Thread Cert.SHalfIdeal.nD Cert.SHalfIdeal.τ).loc Cert.SHalfIdeal.main_arg0)) (m ((c.tc : Thread Cert.SHalfIdeal.nD Cert.SHalfIdeal.τ).loc Cert.SHalfIdeal.main_arg1)) (m ((c.tc : Thread Cert.SHalfIdeal.nD Cert.SHalfIdeal.τ).loc Cert.SHalfIdeal.main_arg2))) = (fun _ => 1#1)

def Pre_SHalfRefIdeal [hPre_is_core : Cert.Pre_is_core.Facts] (m : (ℓ : Loc Cert.SHalfRefIdeal.nD Cert.SHalfRefIdeal.τ Cert.SHalfRefIdeal.sig) → Buf (Elt Ideal) ℓ) : Prop :=
  ∀ c : Dev Cert.SHalfRefIdeal.nD,
    (Cert.Pre_is_core.fn (F := Ideal) (m ((c.tc : Thread Cert.SHalfRefIdeal.nD Cert.SHalfRefIdeal.τ).loc Cert.SHalfRefIdeal.main_arg0)) (m ((c.tc : Thread Cert.SHalfRefIdeal.nD Cert.SHalfRefIdeal.τ).loc Cert.SHalfRefIdeal.main_arg1)) (m ((c.tc : Thread Cert.SHalfRefIdeal.nD Cert.SHalfRefIdeal.τ).loc Cert.SHalfRefIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Din [hDin : Cert.Din.Facts] : Prop :=
  ∀ (m : (ℓ : Loc Cert.Din.nD Cert.Din.τ Cert.Din.sig) → Buf (Elt Bits) ℓ) (g : Dev Cert.Din.nD → PrngReg), Pre_Din m →
    θ_run (Cert.Din.defs (F := Bits)) (onTc (τ := Cert.Din.τ) (Cert.Din.main (F := Bits))) ⟨m, fun _ => 0, g⟩ (fun r => (∀ c : Dev Cert.Din.nD,
      r.2.mem ((c.tc : Thread Cert.Din.nD Cert.Din.τ).loc Cert.Din.main_arg0) = m ((c.tc : Thread Cert.Din.nD Cert.Din.τ).loc Cert.Din.main_arg0)
      ∧ r.2.mem ((c.tc : Thread Cert.Din.nD Cert.Din.τ).loc Cert.Din.main_arg1) = m ((c.tc : Thread Cert.Din.nD Cert.Din.τ).loc Cert.Din.main_arg1)
      ∧ r.2.mem ((c.tc : Thread Cert.Din.nD Cert.Din.τ).loc Cert.Din.main_arg2) = m ((c.tc : Thread Cert.Din.nD Cert.Din.τ).loc Cert.Din.main_arg2)
      ∧ r.2.mem ((c.tc : Thread Cert.Din.nD Cert.Din.τ).loc Cert.Din.main_arg3) = m ((c.tc : Thread Cert.Din.nD Cert.Din.τ).loc Cert.Din.main_arg3)
      ∧ r.2.mem ((c.tc : Thread Cert.Din.nD Cert.Din.τ).loc Cert.Din.main_arg4) = m ((c.tc : Thread Cert.Din.nD Cert.Din.τ).loc Cert.Din.main_arg4))
      ∧ r.2.sem = fun _ => 0)

def quiescent_DinIdeal [hDinIdeal : Cert.DinIdeal.Facts] : Prop :=
  ∀ (m : (ℓ : Loc Cert.DinIdeal.nD Cert.DinIdeal.τ Cert.DinIdeal.sig) → Buf (Elt Ideal) ℓ) (g : Dev Cert.DinIdeal.nD → PrngReg), Pre_DinIdeal m →
    θ_run (Cert.DinIdeal.defs (F := Ideal)) (onTc (τ := Cert.DinIdeal.τ) (Cert.DinIdeal.main (F := Ideal))) ⟨m, fun _ => 0, g⟩ (fun r => (∀ c : Dev Cert.DinIdeal.nD,
      r.2.mem ((c.tc : Thread Cert.DinIdeal.nD Cert.DinIdeal.τ).loc Cert.DinIdeal.main_arg0) = m ((c.tc : Thread Cert.DinIdeal.nD Cert.DinIdeal.τ).loc Cert.DinIdeal.main_arg0)
      ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
      ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
      ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
      ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ r.2.sem = fun _ => 0)

def quiescent_DinRefIdeal [hDinRefIdeal : Cert.DinRefIdeal.Facts] : Prop :=
  ∀ (m : (ℓ : Loc Cert.DinRefIdeal.nD Cert.DinRefIdeal.τ Cert.DinRefIdeal.sig) → Buf (Elt Ideal) ℓ) (g : Dev Cert.DinRefIdeal.nD → PrngReg), Pre_DinRefIdeal m →
    θ_run (Cert.DinRefIdeal.defs (F := Ideal)) (onTc (τ := Cert.DinRefIdeal.τ) (Cert.DinRefIdeal.main (F := Ideal))) ⟨m, fun _ => 0, g⟩ (fun r => (∀ c : Dev Cert.DinRefIdeal.nD,
      r.2.mem ((c.tc : Thread Cert.DinRefIdeal.nD Cert.DinRefIdeal.τ).loc Cert.DinRefIdeal.main_arg0) = m ((c.tc : Thread Cert.DinRefIdeal.nD Cert.DinRefIdeal.τ).loc Cert.DinRefIdeal.main_arg0)
      ∧ r.2.mem ((c.tc : Thread Cert.DinRefIdeal.nD Cert.DinRefIdeal.τ).loc Cert.DinRefIdeal.main_arg1) = m ((c.tc : Thread Cert.DinRefIdeal.nD Cert.DinRefIdeal.τ).loc Cert.DinRefIdeal.main_arg1)
      ∧ r.2.mem ((c.tc : Thread Cert.DinRefIdeal.nD Cert.DinRefIdeal.τ).loc Cert.DinRefIdeal.main_arg2) = m ((c.tc : Thread Cert.DinRefIdeal.nD Cert.DinRefIdeal.τ).loc Cert.DinRefIdeal.main_arg2)
      ∧ r.2.mem ((c.tc : Thread Cert.DinRefIdeal.nD Cert.DinRefIdeal.τ).loc Cert.DinRefIdeal.main_arg3) = m ((c.tc : Thread Cert.DinRefIdeal.nD Cert.DinRefIdeal.τ).loc Cert.DinRefIdeal.main_arg3)
      ∧ r.2.mem ((c.tc : Thread Cert.DinRefIdeal.nD Cert.DinRefIdeal.τ).loc Cert.DinRefIdeal.main_arg4) = m ((c.tc : Thread Cert.DinRefIdeal.nD Cert.DinRefIdeal.τ).loc Cert.DinRefIdeal.main_arg4))
      ∧ r.2.sem = fun _ => 0)

def quiescent_AFwd [hAFwd : Cert.AFwd.Facts] : Prop :=
  ∀ (m : (ℓ : Loc Cert.AFwd.nD Cert.AFwd.τ Cert.AFwd.sig) → Buf (Elt Bits) ℓ) (g : Dev Cert.AFwd.nD → PrngReg), Pre_AFwd m →
    θ_run (Cert.AFwd.defs (F := Bits)) (onTc (τ := Cert.AFwd.τ) (Cert.AFwd.main (F := Bits))) ⟨m, fun _ => 0, g⟩ (fun r => (∀ c : Dev Cert.AFwd.nD,
      r.2.mem ((c.tc : Thread Cert.AFwd.nD Cert.AFwd.τ).loc Cert.AFwd.main_arg0) = m ((c.tc : Thread Cert.AFwd.nD Cert.AFwd.τ).loc Cert.AFwd.main_arg0)
      ∧ r.2.mem ((c.tc : Thread Cert.AFwd.nD Cert.AFwd.τ).loc Cert.AFwd.main_arg1) = m ((c.tc : Thread Cert.AFwd.nD Cert.AFwd.τ).loc Cert.AFwd.main_arg1)
      ∧ r.2.mem ((c.tc : Thread Cert.AFwd.nD Cert.AFwd.τ).loc Cert.AFwd.main_arg2) = m ((c.tc : Thread Cert.AFwd.nD Cert.AFwd.τ).loc Cert.AFwd.main_arg2)
      ∧ r.2.mem ((c.tc : Thread Cert.AFwd.nD Cert.AFwd.τ).loc Cert.AFwd.main_arg3) = m ((c.tc : Thread Cert.AFwd.nD Cert.AFwd.τ).loc Cert.AFwd.main_arg3)
      ∧ r.2.mem ((c.tc : Thread Cert.AFwd.nD Cert.AFwd.τ).loc Cert.AFwd.main_arg4) = m ((c.tc : Thread Cert.AFwd.nD Cert.AFwd.τ).loc Cert.AFwd.main_arg4)
      ∧ r.2.mem ((c.tc : Thread Cert.AFwd.nD Cert.AFwd.τ).loc Cert.AFwd.main_arg5) = m ((c.tc : Thread Cert.AFwd.nD Cert.AFwd.τ).loc Cert.AFwd.main_arg5)
      ∧ r.2.mem ((c.tc : Thread Cert.AFwd.nD Cert.AFwd.τ).loc Cert.AFwd.main_arg6) = m ((c.tc : Thread Cert.AFwd.nD Cert.AFwd.τ).loc Cert.AFwd.main_arg6)
      ∧ r.2.mem ((c.tc : Thread Cert.AFwd.nD Cert.AFwd.τ).loc Cert.AFwd.main_arg7) = m ((c.tc : Thread Cert.AFwd.nD Cert.AFwd.τ).loc Cert.AFwd.main_arg7))
      ∧ r.2.sem = fun _ => 0)

def quiescent_AFwdIdeal [hAFwdIdeal : Cert.AFwdIdeal.Facts] : Prop :=
  ∀ (m : (ℓ : Loc Cert.AFwdIdeal.nD Cert.AFwdIdeal.τ Cert.AFwdIdeal.sig) → Buf (Elt Ideal) ℓ) (g : Dev Cert.AFwdIdeal.nD → PrngReg), Pre_AFwdIdeal m →
    θ_run (Cert.AFwdIdeal.defs (F := Ideal)) (onTc (τ := Cert.AFwdIdeal.τ) (Cert.AFwdIdeal.main (F := Ideal))) ⟨m, fun _ => 0, g⟩ (fun r => (∀ c : Dev Cert.AFwdIdeal.nD,
      r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
      ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
      ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
      ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
      ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
      ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
      ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
      ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7))
      ∧ r.2.sem = fun _ => 0)

def quiescent_AFwdRefIdeal [hAFwdRefIdeal : Cert.AFwdRefIdeal.Facts] : Prop :=
  ∀ (m : (ℓ : Loc Cert.AFwdRefIdeal.nD Cert.AFwdRefIdeal.τ Cert.AFwdRefIdeal.sig) → Buf (Elt Ideal) ℓ) (g : Dev Cert.AFwdRefIdeal.nD → PrngReg), Pre_AFwdRefIdeal m →
    θ_run (Cert.AFwdRefIdeal.defs (F := Ideal)) (onTc (τ := Cert.AFwdRefIdeal.τ) (Cert.AFwdRefIdeal.main (F := Ideal))) ⟨m, fun _ => 0, g⟩ (fun r => (∀ c : Dev Cert.AFwdRefIdeal.nD,
      r.2.mem ((c.tc : Thread Cert.AFwdRefIdeal.nD Cert.AFwdRefIdeal.τ).loc Cert.AFwdRefIdeal.main_arg0) = m ((c.tc : Thread Cert.AFwdRefIdeal.nD Cert.AFwdRefIdeal.τ).loc Cert.AFwdRefIdeal.main_arg0)
      ∧ r.2.mem ((c.tc : Thread Cert.AFwdRefIdeal.nD Cert.AFwdRefIdeal.τ).loc Cert.AFwdRefIdeal.main_arg1) = m ((c.tc : Thread Cert.AFwdRefIdeal.nD Cert.AFwdRefIdeal.τ).loc Cert.AFwdRefIdeal.main_arg1)
      ∧ r.2.mem ((c.tc : Thread Cert.AFwdRefIdeal.nD Cert.AFwdRefIdeal.τ).loc Cert.AFwdRefIdeal.main_arg2) = m ((c.tc : Thread Cert.AFwdRefIdeal.nD Cert.AFwdRefIdeal.τ).loc Cert.AFwdRefIdeal.main_arg2)
      ∧ r.2.mem ((c.tc : Thread Cert.AFwdRefIdeal.nD Cert.AFwdRefIdeal.τ).loc Cert.AFwdRefIdeal.main_arg3) = m ((c.tc : Thread Cert.AFwdRefIdeal.nD Cert.AFwdRefIdeal.τ).loc Cert.AFwdRefIdeal.main_arg3)
      ∧ r.2.mem ((c.tc : Thread Cert.AFwdRefIdeal.nD Cert.AFwdRefIdeal.τ).loc Cert.AFwdRefIdeal.main_arg4) = m ((c.tc : Thread Cert.AFwdRefIdeal.nD Cert.AFwdRefIdeal.τ).loc Cert.AFwdRefIdeal.main_arg4)
      ∧ r.2.mem ((c.tc : Thread Cert.AFwdRefIdeal.nD Cert.AFwdRefIdeal.τ).loc Cert.AFwdRefIdeal.main_arg5) = m ((c.tc : Thread Cert.AFwdRefIdeal.nD Cert.AFwdRefIdeal.τ).loc Cert.AFwdRefIdeal.main_arg5)
      ∧ r.2.mem ((c.tc : Thread Cert.AFwdRefIdeal.nD Cert.AFwdRefIdeal.τ).loc Cert.AFwdRefIdeal.main_arg6) = m ((c.tc : Thread Cert.AFwdRefIdeal.nD Cert.AFwdRefIdeal.τ).loc Cert.AFwdRefIdeal.main_arg6)
      ∧ r.2.mem ((c.tc : Thread Cert.AFwdRefIdeal.nD Cert.AFwdRefIdeal.τ).loc Cert.AFwdRefIdeal.main_arg7) = m ((c.tc : Thread Cert.AFwdRefIdeal.nD Cert.AFwdRefIdeal.τ).loc Cert.AFwdRefIdeal.main_arg7))
      ∧ r.2.sem = fun _ => 0)

def quiescent_MFwd [hMFwd : Cert.MFwd.Facts] : Prop :=
  ∀ (m : (ℓ : Loc Cert.MFwd.nD Cert.MFwd.τ Cert.MFwd.sig) → Buf (Elt Bits) ℓ) (g : Dev Cert.MFwd.nD → PrngReg), Pre_MFwd m →
    θ_run (Cert.MFwd.defs (F := Bits)) (onTc (τ := Cert.MFwd.τ) (Cert.MFwd.main (F := Bits))) ⟨m, fun _ => 0, g⟩ (fun r => (∀ c : Dev Cert.MFwd.nD,
      r.2.mem ((c.tc : Thread Cert.MFwd.nD Cert.MFwd.τ).loc Cert.MFwd.main_arg0) = m ((c.tc : Thread Cert.MFwd.nD Cert.MFwd.τ).loc Cert.MFwd.main_arg0)
      ∧ r.2.mem ((c.tc : Thread Cert.MFwd.nD Cert.MFwd.τ).loc Cert.MFwd.main_arg1) = m ((c.tc : Thread Cert.MFwd.nD Cert.MFwd.τ).loc Cert.MFwd.main_arg1)
      ∧ r.2.mem ((c.tc : Thread Cert.MFwd.nD Cert.MFwd.τ).loc Cert.MFwd.main_arg2) = m ((c.tc : Thread Cert.MFwd.nD Cert.MFwd.τ).loc Cert.MFwd.main_arg2)
      ∧ r.2.mem ((c.tc : Thread Cert.MFwd.nD Cert.MFwd.τ).loc Cert.MFwd.main_arg3) = m ((c.tc : Thread Cert.MFwd.nD Cert.MFwd.τ).loc Cert.MFwd.main_arg3)
      ∧ r.2.mem ((c.tc : Thread Cert.MFwd.nD Cert.MFwd.τ).loc Cert.MFwd.main_arg4) = m ((c.tc : Thread Cert.MFwd.nD Cert.MFwd.τ).loc Cert.MFwd.main_arg4))
      ∧ r.2.sem = fun _ => 0)

def quiescent_MFwdIdeal [hMFwdIdeal : Cert.MFwdIdeal.Facts] : Prop :=
  ∀ (m : (ℓ : Loc Cert.MFwdIdeal.nD Cert.MFwdIdeal.τ Cert.MFwdIdeal.sig) → Buf (Elt Ideal) ℓ) (g : Dev Cert.MFwdIdeal.nD → PrngReg), Pre_MFwdIdeal m →
    θ_run (Cert.MFwdIdeal.defs (F := Ideal)) (onTc (τ := Cert.MFwdIdeal.τ) (Cert.MFwdIdeal.main (F := Ideal))) ⟨m, fun _ => 0, g⟩ (fun r => (∀ c : Dev Cert.MFwdIdeal.nD,
      r.2.mem ((c.tc : Thread Cert.MFwdIdeal.nD Cert.MFwdIdeal.τ).loc Cert.MFwdIdeal.main_arg0) = m ((c.tc : Thread Cert.MFwdIdeal.nD Cert.MFwdIdeal.τ).loc Cert.MFwdIdeal.main_arg0)
      ∧ r.2.mem ((c.tc : Thread Cert.MFwdIdeal.nD Cert.MFwdIdeal.τ).loc Cert.MFwdIdeal.main_arg1) = m ((c.tc : Thread Cert.MFwdIdeal.nD Cert.MFwdIdeal.τ).loc Cert.MFwdIdeal.main_arg1)
      ∧ r.2.mem ((c.tc : Thread Cert.MFwdIdeal.nD Cert.MFwdIdeal.τ).loc Cert.MFwdIdeal.main_arg2) = m ((c.tc : Thread Cert.MFwdIdeal.nD Cert.MFwdIdeal.τ).loc Cert.MFwdIdeal.main_arg2)
      ∧ r.2.mem ((c.tc : Thread Cert.MFwdIdeal.nD Cert.MFwdIdeal.τ).loc Cert.MFwdIdeal.main_arg3) = m ((c.tc : Thread Cert.MFwdIdeal.nD Cert.MFwdIdeal.τ).loc Cert.MFwdIdeal.main_arg3)
      ∧ r.2.mem ((c.tc : Thread Cert.MFwdIdeal.nD Cert.MFwdIdeal.τ).loc Cert.MFwdIdeal.main_arg4) = m ((c.tc : Thread Cert.MFwdIdeal.nD Cert.MFwdIdeal.τ).loc Cert.MFwdIdeal.main_arg4))
      ∧ r.2.sem = fun _ => 0)

def quiescent_MFwdRefIdeal [hMFwdRefIdeal : Cert.MFwdRefIdeal.Facts] : Prop :=
  ∀ (m : (ℓ : Loc Cert.MFwdRefIdeal.nD Cert.MFwdRefIdeal.τ Cert.MFwdRefIdeal.sig) → Buf (Elt Ideal) ℓ) (g : Dev Cert.MFwdRefIdeal.nD → PrngReg), Pre_MFwdRefIdeal m →
    θ_run (Cert.MFwdRefIdeal.defs (F := Ideal)) (onTc (τ := Cert.MFwdRefIdeal.τ) (Cert.MFwdRefIdeal.main (F := Ideal))) ⟨m, fun _ => 0, g⟩ (fun r => (∀ c : Dev Cert.MFwdRefIdeal.nD,
      r.2.mem ((c.tc : Thread Cert.MFwdRefIdeal.nD Cert.MFwdRefIdeal.τ).loc Cert.MFwdRefIdeal.main_arg0) = m ((c.tc : Thread Cert.MFwdRefIdeal.nD Cert.MFwdRefIdeal.τ).loc Cert.MFwdRefIdeal.main_arg0)
      ∧ r.2.mem ((c.tc : Thread Cert.MFwdRefIdeal.nD Cert.MFwdRefIdeal.τ).loc Cert.MFwdRefIdeal.main_arg1) = m ((c.tc : Thread Cert.MFwdRefIdeal.nD Cert.MFwdRefIdeal.τ).loc Cert.MFwdRefIdeal.main_arg1)
      ∧ r.2.mem ((c.tc : Thread Cert.MFwdRefIdeal.nD Cert.MFwdRefIdeal.τ).loc Cert.MFwdRefIdeal.main_arg2) = m ((c.tc : Thread Cert.MFwdRefIdeal.nD Cert.MFwdRefIdeal.τ).loc Cert.MFwdRefIdeal.main_arg2)
      ∧ r.2.mem ((c.tc : Thread Cert.MFwdRefIdeal.nD Cert.MFwdRefIdeal.τ).loc Cert.MFwdRefIdeal.main_arg3) = m ((c.tc : Thread Cert.MFwdRefIdeal.nD Cert.MFwdRefIdeal.τ).loc Cert.MFwdRefIdeal.main_arg3)
      ∧ r.2.mem ((c.tc : Thread Cert.MFwdRefIdeal.nD Cert.MFwdRefIdeal.τ).loc Cert.MFwdRefIdeal.main_arg4) = m ((c.tc : Thread Cert.MFwdRefIdeal.nD Cert.MFwdRefIdeal.τ).loc Cert.MFwdRefIdeal.main_arg4))
      ∧ r.2.sem = fun _ => 0)

def quiescent_PFwd [hPFwd : Cert.PFwd.Facts] : Prop :=
  ∀ (m : (ℓ : Loc Cert.PFwd.nD Cert.PFwd.τ Cert.PFwd.sig) → Buf (Elt Bits) ℓ) (g : Dev Cert.PFwd.nD → PrngReg), Pre_PFwd m →
    θ_run (Cert.PFwd.defs (F := Bits)) (onTc (τ := Cert.PFwd.τ) (Cert.PFwd.main (F := Bits))) ⟨m, fun _ => 0, g⟩ (fun r => (∀ c : Dev Cert.PFwd.nD,
      r.2.mem ((c.tc : Thread Cert.PFwd.nD Cert.PFwd.τ).loc Cert.PFwd.main_arg0) = m ((c.tc : Thread Cert.PFwd.nD Cert.PFwd.τ).loc Cert.PFwd.main_arg0)
      ∧ r.2.mem ((c.tc : Thread Cert.PFwd.nD Cert.PFwd.τ).loc Cert.PFwd.main_arg1) = m ((c.tc : Thread Cert.PFwd.nD Cert.PFwd.τ).loc Cert.PFwd.main_arg1)
      ∧ r.2.mem ((c.tc : Thread Cert.PFwd.nD Cert.PFwd.τ).loc Cert.PFwd.main_arg2) = m ((c.tc : Thread Cert.PFwd.nD Cert.PFwd.τ).loc Cert.PFwd.main_arg2))
      ∧ r.2.sem = fun _ => 0)

def quiescent_PFwdIdeal [hPFwdIdeal : Cert.PFwdIdeal.Facts] : Prop :=
  ∀ (m : (ℓ : Loc Cert.PFwdIdeal.nD Cert.PFwdIdeal.τ Cert.PFwdIdeal.sig) → Buf (Elt Ideal) ℓ) (g : Dev Cert.PFwdIdeal.nD → PrngReg), Pre_PFwdIdeal m →
    θ_run (Cert.PFwdIdeal.defs (F := Ideal)) (onTc (τ := Cert.PFwdIdeal.τ) (Cert.PFwdIdeal.main (F := Ideal))) ⟨m, fun _ => 0, g⟩ (fun r => (∀ c : Dev Cert.PFwdIdeal.nD,
      r.2.mem ((c.tc : Thread Cert.PFwdIdeal.nD Cert.PFwdIdeal.τ).loc Cert.PFwdIdeal.main_arg0) = m ((c.tc : Thread Cert.PFwdIdeal.nD Cert.PFwdIdeal.τ).loc Cert.PFwdIdeal.main_arg0)
      ∧ r.2.mem ((c.tc : Thread Cert.PFwdIdeal.nD Cert.PFwdIdeal.τ).loc Cert.PFwdIdeal.main_arg1) = m ((c.tc : Thread Cert.PFwdIdeal.nD Cert.PFwdIdeal.τ).loc Cert.PFwdIdeal.main_arg1)
      ∧ r.2.mem ((c.tc : Thread Cert.PFwdIdeal.nD Cert.PFwdIdeal.τ).loc Cert.PFwdIdeal.main_arg2) = m ((c.tc : Thread Cert.PFwdIdeal.nD Cert.PFwdIdeal.τ).loc Cert.PFwdIdeal.main_arg2))
      ∧ r.2.sem = fun _ => 0)

def quiescent_PFwdRefIdeal [hPFwdRefIdeal : Cert.PFwdRefIdeal.Facts] : Prop :=
  ∀ (m : (ℓ : Loc Cert.PFwdRefIdeal.nD Cert.PFwdRefIdeal.τ Cert.PFwdRefIdeal.sig) → Buf (Elt Ideal) ℓ) (g : Dev Cert.PFwdRefIdeal.nD → PrngReg), Pre_PFwdRefIdeal m →
    θ_run (Cert.PFwdRefIdeal.defs (F := Ideal)) (onTc (τ := Cert.PFwdRefIdeal.τ) (Cert.PFwdRefIdeal.main (F := Ideal))) ⟨m, fun _ => 0, g⟩ (fun r => (∀ c : Dev Cert.PFwdRefIdeal.nD,
      r.2.mem ((c.tc : Thread Cert.PFwdRefIdeal.nD Cert.PFwdRefIdeal.τ).loc Cert.PFwdRefIdeal.main_arg0) = m ((c.tc : Thread Cert.PFwdRefIdeal.nD Cert.PFwdRefIdeal.τ).loc Cert.PFwdRefIdeal.main_arg0)
      ∧ r.2.mem ((c.tc : Thread Cert.PFwdRefIdeal.nD Cert.PFwdRefIdeal.τ).loc Cert.PFwdRefIdeal.main_arg1) = m ((c.tc : Thread Cert.PFwdRefIdeal.nD Cert.PFwdRefIdeal.τ).loc Cert.PFwdRefIdeal.main_arg1)
      ∧ r.2.mem ((c.tc : Thread Cert.PFwdRefIdeal.nD Cert.PFwdRefIdeal.τ).loc Cert.PFwdRefIdeal.main_arg2) = m ((c.tc : Thread Cert.PFwdRefIdeal.nD Cert.PFwdRefIdeal.τ).loc Cert.PFwdRefIdeal.main_arg2))
      ∧ r.2.sem = fun _ => 0)

def quiescent_OFwd [hOFwd : Cert.OFwd.Facts] : Prop :=
  ∀ (m : (ℓ : Loc Cert.OFwd.nD Cert.OFwd.τ Cert.OFwd.sig) → Buf (Elt Bits) ℓ) (g : Dev Cert.OFwd.nD → PrngReg), Pre_OFwd m →
    θ_run (Cert.OFwd.defs (F := Bits)) (onTc (τ := Cert.OFwd.τ) (Cert.OFwd.main (F := Bits))) ⟨m, fun _ => 0, g⟩ (fun r => (∀ c : Dev Cert.OFwd.nD,
      r.2.mem ((c.tc : Thread Cert.OFwd.nD Cert.OFwd.τ).loc Cert.OFwd.main_arg0) = m ((c.tc : Thread Cert.OFwd.nD Cert.OFwd.τ).loc Cert.OFwd.main_arg0)
      ∧ r.2.mem ((c.tc : Thread Cert.OFwd.nD Cert.OFwd.τ).loc Cert.OFwd.main_arg1) = m ((c.tc : Thread Cert.OFwd.nD Cert.OFwd.τ).loc Cert.OFwd.main_arg1)
      ∧ r.2.mem ((c.tc : Thread Cert.OFwd.nD Cert.OFwd.τ).loc Cert.OFwd.main_arg2) = m ((c.tc : Thread Cert.OFwd.nD Cert.OFwd.τ).loc Cert.OFwd.main_arg2))
      ∧ r.2.sem = fun _ => 0)

def quiescent_OFwdIdeal [hOFwdIdeal : Cert.OFwdIdeal.Facts] : Prop :=
  ∀ (m : (ℓ : Loc Cert.OFwdIdeal.nD Cert.OFwdIdeal.τ Cert.OFwdIdeal.sig) → Buf (Elt Ideal) ℓ) (g : Dev Cert.OFwdIdeal.nD → PrngReg), Pre_OFwdIdeal m →
    θ_run (Cert.OFwdIdeal.defs (F := Ideal)) (onTc (τ := Cert.OFwdIdeal.τ) (Cert.OFwdIdeal.main (F := Ideal))) ⟨m, fun _ => 0, g⟩ (fun r => (∀ c : Dev Cert.OFwdIdeal.nD,
      r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
      ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
      ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ r.2.sem = fun _ => 0)

def quiescent_OFwdRefIdeal [hOFwdRefIdeal : Cert.OFwdRefIdeal.Facts] : Prop :=
  ∀ (m : (ℓ : Loc Cert.OFwdRefIdeal.nD Cert.OFwdRefIdeal.τ Cert.OFwdRefIdeal.sig) → Buf (Elt Ideal) ℓ) (g : Dev Cert.OFwdRefIdeal.nD → PrngReg), Pre_OFwdRefIdeal m →
    θ_run (Cert.OFwdRefIdeal.defs (F := Ideal)) (onTc (τ := Cert.OFwdRefIdeal.τ) (Cert.OFwdRefIdeal.main (F := Ideal))) ⟨m, fun _ => 0, g⟩ (fun r => (∀ c : Dev Cert.OFwdRefIdeal.nD,
      r.2.mem ((c.tc : Thread Cert.OFwdRefIdeal.nD Cert.OFwdRefIdeal.τ).loc Cert.OFwdRefIdeal.main_arg0) = m ((c.tc : Thread Cert.OFwdRefIdeal.nD Cert.OFwdRefIdeal.τ).loc Cert.OFwdRefIdeal.main_arg0)
      ∧ r.2.mem ((c.tc : Thread Cert.OFwdRefIdeal.nD Cert.OFwdRefIdeal.τ).loc Cert.OFwdRefIdeal.main_arg1) = m ((c.tc : Thread Cert.OFwdRefIdeal.nD Cert.OFwdRefIdeal.τ).loc Cert.OFwdRefIdeal.main_arg1)
      ∧ r.2.mem ((c.tc : Thread Cert.OFwdRefIdeal.nD Cert.OFwdRefIdeal.τ).loc Cert.OFwdRefIdeal.main_arg2) = m ((c.tc : Thread Cert.OFwdRefIdeal.nD Cert.OFwdRefIdeal.τ).loc Cert.OFwdRefIdeal.main_arg2))
      ∧ r.2.sem = fun _ => 0)

def quiescent_MatNt [hMatNt : Cert.MatNt.Facts] : Prop :=
  ∀ (m : (ℓ : Loc Cert.MatNt.nD Cert.MatNt.τ Cert.MatNt.sig) → Buf (Elt Bits) ℓ) (g : Dev Cert.MatNt.nD → PrngReg), Pre_MatNt m →
    θ_run (Cert.MatNt.defs (F := Bits)) (onTc (τ := Cert.MatNt.τ) (Cert.MatNt.main (F := Bits))) ⟨m, fun _ => 0, g⟩ (fun r => (∀ c : Dev Cert.MatNt.nD,
      r.2.mem ((c.tc : Thread Cert.MatNt.nD Cert.MatNt.τ).loc Cert.MatNt.main_arg0) = m ((c.tc : Thread Cert.MatNt.nD Cert.MatNt.τ).loc Cert.MatNt.main_arg0)
      ∧ r.2.mem ((c.tc : Thread Cert.MatNt.nD Cert.MatNt.τ).loc Cert.MatNt.main_arg1) = m ((c.tc : Thread Cert.MatNt.nD Cert.MatNt.τ).loc Cert.MatNt.main_arg1)
      ∧ r.2.mem ((c.tc : Thread Cert.MatNt.nD Cert.MatNt.τ).loc Cert.MatNt.main_arg2) = m ((c.tc : Thread Cert.MatNt.nD Cert.MatNt.τ).loc Cert.MatNt.main_arg2))
      ∧ r.2.sem = fun _ => 0)

def quiescent_MatNtIdeal [hMatNtIdeal : Cert.MatNtIdeal.Facts] : Prop :=
  ∀ (m : (ℓ : Loc Cert.MatNtIdeal.nD Cert.MatNtIdeal.τ Cert.MatNtIdeal.sig) → Buf (Elt Ideal) ℓ) (g : Dev Cert.MatNtIdeal.nD → PrngReg), Pre_MatNtIdeal m →
    θ_run (Cert.MatNtIdeal.defs (F := Ideal)) (onTc (τ := Cert.MatNtIdeal.τ) (Cert.MatNtIdeal.main (F := Ideal))) ⟨m, fun _ => 0, g⟩ (fun r => (∀ c : Dev Cert.MatNtIdeal.nD,
      r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
      ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1)
      ∧ r.2.mem ((c.tc : Thread Cert.MatNtIdeal.nD Cert.MatNtIdeal.τ).loc Cert.MatNtIdeal.main_arg2) = m ((c.tc : Thread Cert.MatNtIdeal.nD Cert.MatNtIdeal.τ).loc Cert.MatNtIdeal.main_arg2))
      ∧ r.2.sem = fun _ => 0)

def quiescent_MatNtRefIdeal [hMatNtRefIdeal : Cert.MatNtRefIdeal.Facts] : Prop :=
  ∀ (m : (ℓ : Loc Cert.MatNtRefIdeal.nD Cert.MatNtRefIdeal.τ Cert.MatNtRefIdeal.sig) → Buf (Elt Ideal) ℓ) (g : Dev Cert.MatNtRefIdeal.nD → PrngReg), Pre_MatNtRefIdeal m →
    θ_run (Cert.MatNtRefIdeal.defs (F := Ideal)) (onTc (τ := Cert.MatNtRefIdeal.τ) (Cert.MatNtRefIdeal.main (F := Ideal))) ⟨m, fun _ => 0, g⟩ (fun r => (∀ c : Dev Cert.MatNtRefIdeal.nD,
      r.2.mem ((c.tc : Thread Cert.MatNtRefIdeal.nD Cert.MatNtRefIdeal.τ).loc Cert.MatNtRefIdeal.main_arg0) = m ((c.tc : Thread Cert.MatNtRefIdeal.nD Cert.MatNtRefIdeal.τ).loc Cert.MatNtRefIdeal.main_arg0)
      ∧ r.2.mem ((c.tc : Thread Cert.MatNtRefIdeal.nD Cert.MatNtRefIdeal.τ).loc Cert.MatNtRefIdeal.main_arg1) = m ((c.tc : Thread Cert.MatNtRefIdeal.nD Cert.MatNtRefIdeal.τ).loc Cert.MatNtRefIdeal.main_arg1)
      ∧ r.2.mem ((c.tc : Thread Cert.MatNtRefIdeal.nD Cert.MatNtRefIdeal.τ).loc Cert.MatNtRefIdeal.main_arg2) = m ((c.tc : Thread Cert.MatNtRefIdeal.nD Cert.MatNtRefIdeal.τ).loc Cert.MatNtRefIdeal.main_arg2))
      ∧ r.2.sem = fun _ => 0)

def quiescent_MatTn [hMatTn : Cert.MatTn.Facts] : Prop :=
  ∀ (m : (ℓ : Loc Cert.MatTn.nD Cert.MatTn.τ Cert.MatTn.sig) → Buf (Elt Bits) ℓ) (g : Dev Cert.MatTn.nD → PrngReg), Pre_MatTn m →
    θ_run (Cert.MatTn.defs (F := Bits)) (onTc (τ := Cert.MatTn.τ) (Cert.MatTn.main (F := Bits))) ⟨m, fun _ => 0, g⟩ (fun r => (∀ c : Dev Cert.MatTn.nD,
      r.2.mem ((c.tc : Thread Cert.MatTn.nD Cert.MatTn.τ).loc Cert.MatTn.main_arg0) = m ((c.tc : Thread Cert.MatTn.nD Cert.MatTn.τ).loc Cert.MatTn.main_arg0)
      ∧ r.2.mem ((c.tc : Thread Cert.MatTn.nD Cert.MatTn.τ).loc Cert.MatTn.main_arg1) = m ((c.tc : Thread Cert.MatTn.nD Cert.MatTn.τ).loc Cert.MatTn.main_arg1)
      ∧ r.2.mem ((c.tc : Thread Cert.MatTn.nD Cert.MatTn.τ).loc Cert.MatTn.main_arg2) = m ((c.tc : Thread Cert.MatTn.nD Cert.MatTn.τ).loc Cert.MatTn.main_arg2))
      ∧ r.2.sem = fun _ => 0)

def quiescent_MatTnIdeal [hMatTnIdeal : Cert.MatTnIdeal.Facts] : Prop :=
  ∀ (m : (ℓ : Loc Cert.MatTnIdeal.nD Cert.MatTnIdeal.τ Cert.MatTnIdeal.sig) → Buf (Elt Ideal) ℓ) (g : Dev Cert.MatTnIdeal.nD → PrngReg), Pre_MatTnIdeal m →
    θ_run (Cert.MatTnIdeal.defs (F := Ideal)) (onTc (τ := Cert.MatTnIdeal.τ) (Cert.MatTnIdeal.main (F := Ideal))) ⟨m, fun _ => 0, g⟩ (fun r => (∀ c : Dev Cert.MatTnIdeal.nD,
      r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
      ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1)
      ∧ r.2.mem ((c.tc : Thread Cert.MatTnIdeal.nD Cert.MatTnIdeal.τ).loc Cert.MatTnIdeal.main_arg2) = m ((c.tc : Thread Cert.MatTnIdeal.nD Cert.MatTnIdeal.τ).loc Cert.MatTnIdeal.main_arg2))
      ∧ r.2.sem = fun _ => 0)

def quiescent_MatTnRefIdeal [hMatTnRefIdeal : Cert.MatTnRefIdeal.Facts] : Prop :=
  ∀ (m : (ℓ : Loc Cert.MatTnRefIdeal.nD Cert.MatTnRefIdeal.τ Cert.MatTnRefIdeal.sig) → Buf (Elt Ideal) ℓ) (g : Dev Cert.MatTnRefIdeal.nD → PrngReg), Pre_MatTnRefIdeal m →
    θ_run (Cert.MatTnRefIdeal.defs (F := Ideal)) (onTc (τ := Cert.MatTnRefIdeal.τ) (Cert.MatTnRefIdeal.main (F := Ideal))) ⟨m, fun _ => 0, g⟩ (fun r => (∀ c : Dev Cert.MatTnRefIdeal.nD,
      r.2.mem ((c.tc : Thread Cert.MatTnRefIdeal.nD Cert.MatTnRefIdeal.τ).loc Cert.MatTnRefIdeal.main_arg0) = m ((c.tc : Thread Cert.MatTnRefIdeal.nD Cert.MatTnRefIdeal.τ).loc Cert.MatTnRefIdeal.main_arg0)
      ∧ r.2.mem ((c.tc : Thread Cert.MatTnRefIdeal.nD Cert.MatTnRefIdeal.τ).loc Cert.MatTnRefIdeal.main_arg1) = m ((c.tc : Thread Cert.MatTnRefIdeal.nD Cert.MatTnRefIdeal.τ).loc Cert.MatTnRefIdeal.main_arg1)
      ∧ r.2.mem ((c.tc : Thread Cert.MatTnRefIdeal.nD Cert.MatTnRefIdeal.τ).loc Cert.MatTnRefIdeal.main_arg2) = m ((c.tc : Thread Cert.MatTnRefIdeal.nD Cert.MatTnRefIdeal.τ).loc Cert.MatTnRefIdeal.main_arg2))
      ∧ r.2.sem = fun _ => 0)

def quiescent_DWin [hDWin : Cert.DWin.Facts] : Prop :=
  ∀ (m : (ℓ : Loc Cert.DWin.nD Cert.DWin.τ Cert.DWin.sig) → Buf (Elt Bits) ℓ) (g : Dev Cert.DWin.nD → PrngReg), Pre_DWin m →
    θ_run (Cert.DWin.defs (F := Bits)) (onTc (τ := Cert.DWin.τ) (Cert.DWin.main (F := Bits))) ⟨m, fun _ => 0, g⟩ (fun r => (∀ c : Dev Cert.DWin.nD,
      r.2.mem ((c.tc : Thread Cert.DWin.nD Cert.DWin.τ).loc Cert.DWin.main_arg0) = m ((c.tc : Thread Cert.DWin.nD Cert.DWin.τ).loc Cert.DWin.main_arg0)
      ∧ r.2.mem ((c.tc : Thread Cert.DWin.nD Cert.DWin.τ).loc Cert.DWin.main_arg1) = m ((c.tc : Thread Cert.DWin.nD Cert.DWin.τ).loc Cert.DWin.main_arg1)
      ∧ r.2.mem ((c.tc : Thread Cert.DWin.nD Cert.DWin.τ).loc Cert.DWin.main_arg2) = m ((c.tc : Thread Cert.DWin.nD Cert.DWin.τ).loc Cert.DWin.main_arg2))
      ∧ r.2.sem = fun _ => 0)

def quiescent_DWinIdeal [hDWinIdeal : Cert.DWinIdeal.Facts] : Prop :=
  ∀ (m : (ℓ : Loc Cert.DWinIdeal.nD Cert.DWinIdeal.τ Cert.DWinIdeal.sig) → Buf (Elt Ideal) ℓ) (g : Dev Cert.DWinIdeal.nD → PrngReg), Pre_DWinIdeal m →
    θ_run (Cert.DWinIdeal.defs (F := Ideal)) (onTc (τ := Cert.DWinIdeal.τ) (Cert.DWinIdeal.main (F := Ideal))) ⟨m, fun _ => 0, g⟩ (fun r => (∀ c : Dev Cert.DWinIdeal.nD,
      r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
      ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1)
      ∧ r.2.mem ((c.tc : Thread Cert.DWinIdeal.nD Cert.DWinIdeal.τ).loc Cert.DWinIdeal.main_arg2) = m ((c.tc : Thread Cert.DWinIdeal.nD Cert.DWinIdeal.τ).loc Cert.DWinIdeal.main_arg2))
      ∧ r.2.sem = fun _ => 0)

def quiescent_DWinRefIdeal [hDWinRefIdeal : Cert.DWinRefIdeal.Facts] : Prop :=
  ∀ (m : (ℓ : Loc Cert.DWinRefIdeal.nD Cert.DWinRefIdeal.τ Cert.DWinRefIdeal.sig) → Buf (Elt Ideal) ℓ) (g : Dev Cert.DWinRefIdeal.nD → PrngReg), Pre_DWinRefIdeal m →
    θ_run (Cert.DWinRefIdeal.defs (F := Ideal)) (onTc (τ := Cert.DWinRefIdeal.τ) (Cert.DWinRefIdeal.main (F := Ideal))) ⟨m, fun _ => 0, g⟩ (fun r => (∀ c : Dev Cert.DWinRefIdeal.nD,
      r.2.mem ((c.tc : Thread Cert.DWinRefIdeal.nD Cert.DWinRefIdeal.τ).loc Cert.DWinRefIdeal.main_arg0) = m ((c.tc : Thread Cert.DWinRefIdeal.nD Cert.DWinRefIdeal.τ).loc Cert.DWinRefIdeal.main_arg0)
      ∧ r.2.mem ((c.tc : Thread Cert.DWinRefIdeal.nD Cert.DWinRefIdeal.τ).loc Cert.DWinRefIdeal.main_arg1) = m ((c.tc : Thread Cert.DWinRefIdeal.nD Cert.DWinRefIdeal.τ).loc Cert.DWinRefIdeal.main_arg1)
      ∧ r.2.mem ((c.tc : Thread Cert.DWinRefIdeal.nD Cert.DWinRefIdeal.τ).loc Cert.DWinRefIdeal.main_arg2) = m ((c.tc : Thread Cert.DWinRefIdeal.nD Cert.DWinRefIdeal.τ).loc Cert.DWinRefIdeal.main_arg2))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ r.2.sem = fun _ => 0)

def quiescent_SlotsRefIdeal [hSlotsRefIdeal : Cert.SlotsRefIdeal.Facts] : Prop :=
  ∀ (m : (ℓ : Loc Cert.SlotsRefIdeal.nD Cert.SlotsRefIdeal.τ Cert.SlotsRefIdeal.sig) → Buf (Elt Ideal) ℓ) (g : Dev Cert.SlotsRefIdeal.nD → PrngReg), Pre_SlotsRefIdeal m →
    θ_run (Cert.SlotsRefIdeal.defs (F := Ideal)) (onTc (τ := Cert.SlotsRefIdeal.τ) (Cert.SlotsRefIdeal.main (F := Ideal))) ⟨m, fun _ => 0, g⟩ (fun r => (∀ c : Dev Cert.SlotsRefIdeal.nD,
      r.2.mem ((c.tc : Thread Cert.SlotsRefIdeal.nD Cert.SlotsRefIdeal.τ).loc Cert.SlotsRefIdeal.main_arg0) = m ((c.tc : Thread Cert.SlotsRefIdeal.nD Cert.SlotsRefIdeal.τ).loc Cert.SlotsRefIdeal.main_arg0))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_SHalf [hSHalf : Cert.SHalf.Facts] [hPre_is_core : Cert.Pre_is_core.Facts] : Prop :=
  ∀ (m : (ℓ : Loc Cert.SHalf.nD Cert.SHalf.τ Cert.SHalf.sig) → Buf (Elt Bits) ℓ) (g : Dev Cert.SHalf.nD → PrngReg), Pre_SHalf m →
    θ_run (Cert.SHalf.defs (F := Bits)) (onTc (τ := Cert.SHalf.τ) (Cert.SHalf.main (F := Bits))) ⟨m, fun _ => 0, g⟩ (fun r => (∀ c : Dev Cert.SHalf.nD,
      r.2.mem ((c.tc : Thread Cert.SHalf.nD Cert.SHalf.τ).loc Cert.SHalf.main_arg0) = m ((c.tc : Thread Cert.SHalf.nD Cert.SHalf.τ).loc Cert.SHalf.main_arg0)
      ∧ r.2.mem ((c.tc : Thread Cert.SHalf.nD Cert.SHalf.τ).loc Cert.SHalf.main_arg1) = m ((c.tc : Thread Cert.SHalf.nD Cert.SHalf.τ).loc Cert.SHalf.main_arg1)
      ∧ r.2.mem ((c.tc : Thread Cert.SHalf.nD Cert.SHalf.τ).loc Cert.SHalf.main_arg2) = m ((c.tc : Thread Cert.SHalf.nD Cert.SHalf.τ).loc Cert.SHalf.main_arg2))
      ∧ r.2.sem = fun _ => 0)

def quiescent_SHalfIdeal [hSHalfIdeal : Cert.SHalfIdeal.Facts] [hPre_is_core : Cert.Pre_is_core.Facts] : Prop :=
  ∀ (m : (ℓ : Loc Cert.SHalfIdeal.nD Cert.SHalfIdeal.τ Cert.SHalfIdeal.sig) → Buf (Elt Ideal) ℓ) (g : Dev Cert.SHalfIdeal.nD → PrngReg), Pre_SHalfIdeal m →
    θ_run (Cert.SHalfIdeal.defs (F := Ideal)) (onTc (τ := Cert.SHalfIdeal.τ) (Cert.SHalfIdeal.main (F := Ideal))) ⟨m, fun _ => 0, g⟩ (fun r => (∀ c : Dev Cert.SHalfIdeal.nD,
      r.2.mem ((c.tc : Thread Cert.SHalfIdeal.nD Cert.SHalfIdeal.τ).loc Cert.SHalfIdeal.main_arg0) = m ((c.tc : Thread Cert.SHalfIdeal.nD Cert.SHalfIdeal.τ).loc Cert.SHalfIdeal.main_arg0)
      ∧ r.2.mem ((c.tc : Thread Cert.SHalfIdeal.nD Cert.SHalfIdeal.τ).loc Cert.SHalfIdeal.main_arg1) = m ((c.tc : Thread Cert.SHalfIdeal.nD Cert.SHalfIdeal.τ).loc Cert.SHalfIdeal.main_arg1)
      ∧ r.2.mem ((c.tc : Thread Cert.SHalfIdeal.nD Cert.SHalfIdeal.τ).loc Cert.SHalfIdeal.main_arg2) = m ((c.tc : Thread Cert.SHalfIdeal.nD Cert.SHalfIdeal.τ).loc Cert.SHalfIdeal.main_arg2))
      ∧ r.2.sem = fun _ => 0)

def quiescent_SHalfRefIdeal [hSHalfRefIdeal : Cert.SHalfRefIdeal.Facts] [hPre_is_core : Cert.Pre_is_core.Facts] : Prop :=
  ∀ (m : (ℓ : Loc Cert.SHalfRefIdeal.nD Cert.SHalfRefIdeal.τ Cert.SHalfRefIdeal.sig) → Buf (Elt Ideal) ℓ) (g : Dev Cert.SHalfRefIdeal.nD → PrngReg), Pre_SHalfRefIdeal m →
    θ_run (Cert.SHalfRefIdeal.defs (F := Ideal)) (onTc (τ := Cert.SHalfRefIdeal.τ) (Cert.SHalfRefIdeal.main (F := Ideal))) ⟨m, fun _ => 0, g⟩ (fun r => (∀ c : Dev Cert.SHalfRefIdeal.nD,
      r.2.mem ((c.tc : Thread Cert.SHalfRefIdeal.nD Cert.SHalfRefIdeal.τ).loc Cert.SHalfRefIdeal.main_arg0) = m ((c.tc : Thread Cert.SHalfRefIdeal.nD Cert.SHalfRefIdeal.τ).loc Cert.SHalfRefIdeal.main_arg0)
      ∧ r.2.mem ((c.tc : Thread Cert.SHalfRefIdeal.nD Cert.SHalfRefIdeal.τ).loc Cert.SHalfRefIdeal.main_arg1) = m ((c.tc : Thread Cert.SHalfRefIdeal.nD Cert.SHalfRefIdeal.τ).loc Cert.SHalfRefIdeal.main_arg1)
      ∧ r.2.mem ((c.tc : Thread Cert.SHalfRefIdeal.nD Cert.SHalfRefIdeal.τ).loc Cert.SHalfRefIdeal.main_arg2) = m ((c.tc : Thread Cert.SHalfRefIdeal.nD Cert.SHalfRefIdeal.τ).loc Cert.SHalfRefIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)) (v2 : (c : Dev Cert.MergeIdeal.nD) → Buf (Elt Ideal) ((c.tc : Thread Cert.MergeIdeal.nD Cert.MergeIdeal.τ).loc Cert.MergeIdeal.main_v5_2)) (v3 : (c : Dev Cert.MergeIdeal.nD) → Buf (Elt Ideal) ((c.tc : Thread Cert.MergeIdeal.nD Cert.MergeIdeal.τ).loc Cert.MergeIdeal.main_v5_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_v5_2) = v2 c
          ∧ r.2.mem ((c.tc : Thread Cert.MergeIdeal.nD Cert.MergeIdeal.τ).loc Cert.MergeIdeal.main_v5_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v46) = v0 c
          ∧ r.2.mem ((c.tc : Thread Cert.MergeRefIdeal.nD Cert.MergeRefIdeal.τ).loc Cert.MergeRefIdeal.main_v47) = v1 c
          ∧ r.2.mem ((c.tc : Thread Cert.MergeRefIdeal.nD Cert.MergeRefIdeal.τ).loc Cert.MergeRefIdeal.main_v48) = v2 c
          ∧ r.2.mem ((c.tc : Thread Cert.MergeRefIdeal.nD Cert.MergeRefIdeal.τ).loc Cert.MergeRefIdeal.main_v49) = v3 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Din_DinIdeal : Prop :=
  True

def algebraic_DinIdeal_DinRefIdeal [hDinIdeal : Cert.DinIdeal.Facts] [hDinRefIdeal : Cert.DinRefIdeal.Facts] : Prop :=
  ∀ (m : (ℓ : Loc Cert.DinIdeal.nD Cert.DinIdeal.τ Cert.DinIdeal.sig) → Buf (Elt Ideal) ℓ) (g : Dev Cert.DinIdeal.nD → PrngReg)
    (m' : (ℓ : Loc Cert.DinRefIdeal.nD Cert.DinRefIdeal.τ Cert.DinRefIdeal.sig) → Buf (Elt Ideal) ℓ) (g' : Dev Cert.DinRefIdeal.nD → PrngReg), Pre_DinIdeal m →
    (∀ c : Dev Cert.DinIdeal.nD,
      m' ((c.tc : Thread Cert.DinRefIdeal.nD Cert.DinRefIdeal.τ).loc Cert.DinRefIdeal.main_arg0) = m ((c.tc : Thread Cert.DinIdeal.nD Cert.DinIdeal.τ).loc Cert.DinIdeal.main_arg0)
      ∧ m' ((c.tc : Thread Cert.DinRefIdeal.nD Cert.DinRefIdeal.τ).loc Cert.DinRefIdeal.main_arg1) = m ((c.tc : Thread Cert.DinIdeal.nD Cert.DinIdeal.τ).loc Cert.DinIdeal.main_arg1)
      ∧ m' ((c.tc : Thread Cert.DinRefIdeal.nD Cert.DinRefIdeal.τ).loc Cert.DinRefIdeal.main_arg2) = m ((c.tc : Thread Cert.DinIdeal.nD Cert.DinIdeal.τ).loc Cert.DinIdeal.main_arg2)
      ∧ m' ((c.tc : Thread Cert.DinRefIdeal.nD Cert.DinRefIdeal.τ).loc Cert.DinRefIdeal.main_arg3) = m ((c.tc : Thread Cert.DinIdeal.nD Cert.DinIdeal.τ).loc Cert.DinIdeal.main_arg3)
      ∧ m' ((c.tc : Thread Cert.DinRefIdeal.nD Cert.DinRefIdeal.τ).loc Cert.DinRefIdeal.main_arg4) = m ((c.tc : Thread Cert.DinIdeal.nD Cert.DinIdeal.τ).loc Cert.DinIdeal.main_arg4)) →
    ∃ (v0 : (c : Dev Cert.DinIdeal.nD) → Buf (Elt Ideal) ((c.tc : Thread Cert.DinIdeal.nD Cert.DinIdeal.τ).loc Cert.DinIdeal.main_v18_0)) (v1 : (c : Dev Cert.DinIdeal.nD) → Buf (Elt Ideal) ((c.tc : Thread Cert.DinIdeal.nD Cert.DinIdeal.τ).loc Cert.DinIdeal.main_v18_1)),
      θ_run (Cert.DinIdeal.defs (F := Ideal)) (onTc (τ := Cert.DinIdeal.τ) (Cert.DinIdeal.main (F := Ideal))) ⟨m, fun _ => 0, g⟩ (fun r => ∀ c : Dev Cert.DinIdeal.nD,
          r.2.mem ((c.tc : Thread Cert.DinIdeal.nD Cert.DinIdeal.τ).loc Cert.DinIdeal.main_v18_0) = v0 c
          ∧ r.2.mem ((c.tc : Thread Cert.DinIdeal.nD Cert.DinIdeal.τ).loc Cert.DinIdeal.main_v18_1) = v1 c
          ∧ r.2.mem ((c.tc : Thread Cert.DinIdeal.nD Cert.DinIdeal.τ).loc Cert.DinIdeal.main_arg0) = m ((c.tc : Thread Cert.DinIdeal.nD Cert.DinIdeal.τ).loc Cert.DinIdeal.main_arg0)
          ∧ r.2.mem ((c.tc : Thread Cert.DinIdeal.nD Cert.DinIdeal.τ).loc Cert.DinIdeal.main_arg1) = m ((c.tc : Thread Cert.DinIdeal.nD Cert.DinIdeal.τ).loc Cert.DinIdeal.main_arg1)
          ∧ r.2.mem ((c.tc : Thread Cert.DinIdeal.nD Cert.DinIdeal.τ).loc Cert.DinIdeal.main_arg2) = m ((c.tc : Thread Cert.DinIdeal.nD Cert.DinIdeal.τ).loc Cert.DinIdeal.main_arg2)
          ∧ r.2.mem ((c.tc : Thread Cert.DinIdeal.nD Cert.DinIdeal.τ).loc Cert.DinIdeal.main_arg3) = m ((c.tc : Thread Cert.DinIdeal.nD Cert.DinIdeal.τ).loc Cert.DinIdeal.main_arg3)
          ∧ r.2.mem ((c.tc : Thread Cert.DinIdeal.nD Cert.DinIdeal.τ).loc Cert.DinIdeal.main_arg4) = m ((c.tc : Thread Cert.DinIdeal.nD Cert.DinIdeal.τ).loc Cert.DinIdeal.main_arg4))
      ∧ θ_run (Cert.DinRefIdeal.defs (F := Ideal)) (onTc (τ := Cert.DinRefIdeal.τ) (Cert.DinRefIdeal.main (F := Ideal))) ⟨m', fun _ => 0, g'⟩ (fun r => ∀ c : Dev Cert.DinRefIdeal.nD,
          r.2.mem ((c.tc : Thread Cert.DinRefIdeal.nD Cert.DinRefIdeal.τ).loc Cert.DinRefIdeal.main_v43) = v0 c
          ∧ r.2.mem ((c.tc : Thread Cert.DinRefIdeal.nD Cert.DinRefIdeal.τ).loc Cert.DinRefIdeal.main_v44) = v1 c
          ∧ r.2.mem ((c.tc : Thread Cert.DinRefIdeal.nD Cert.DinRefIdeal.τ).loc Cert.DinRefIdeal.main_arg0) = m' ((c.tc : Thread Cert.DinRefIdeal.nD Cert.DinRefIdeal.τ).loc Cert.DinRefIdeal.main_arg0)
          ∧ r.2.mem ((c.tc : Thread Cert.DinRefIdeal.nD Cert.DinRefIdeal.τ).loc Cert.DinRefIdeal.main_arg1) = m' ((c.tc : Thread Cert.DinRefIdeal.nD Cert.DinRefIdeal.τ).loc Cert.DinRefIdeal.main_arg1)
          ∧ r.2.mem ((c.tc : Thread Cert.DinRefIdeal.nD Cert.DinRefIdeal.τ).loc Cert.DinRefIdeal.main_arg2) = m' ((c.tc : Thread Cert.DinRefIdeal.nD Cert.DinRefIdeal.τ).loc Cert.DinRefIdeal.main_arg2)
          ∧ r.2.mem ((c.tc : Thread Cert.DinRefIdeal.nD Cert.DinRefIdeal.τ).loc Cert.DinRefIdeal.main_arg3) = m' ((c.tc : Thread Cert.DinRefIdeal.nD Cert.DinRefIdeal.τ).loc Cert.DinRefIdeal.main_arg3)
          ∧ r.2.mem ((c.tc : Thread Cert.DinRefIdeal.nD Cert.DinRefIdeal.τ).loc Cert.DinRefIdeal.main_arg4) = m' ((c.tc : Thread Cert.DinRefIdeal.nD Cert.DinRefIdeal.τ).loc Cert.DinRefIdeal.main_arg4))

def preserves_AFwd_AFwdIdeal : Prop :=
  True

def algebraic_AFwdIdeal_AFwdRefIdeal [hAFwdIdeal : Cert.AFwdIdeal.Facts] [hAFwdRefIdeal : Cert.AFwdRefIdeal.Facts] : Prop :=
  ∀ (m : (ℓ : Loc Cert.AFwdIdeal.nD Cert.AFwdIdeal.τ Cert.AFwdIdeal.sig) → Buf (Elt Ideal) ℓ) (g : Dev Cert.AFwdIdeal.nD → PrngReg)
    (m' : (ℓ : Loc Cert.AFwdRefIdeal.nD Cert.AFwdRefIdeal.τ Cert.AFwdRefIdeal.sig) → Buf (Elt Ideal) ℓ) (g' : Dev Cert.AFwdRefIdeal.nD → PrngReg), Pre_AFwdIdeal m →
    (∀ c : Dev Cert.AFwdIdeal.nD,
      m' ((c.tc : Thread Cert.AFwdRefIdeal.nD Cert.AFwdRefIdeal.τ).loc Cert.AFwdRefIdeal.main_arg0) = m ((c.tc : Thread Cert.AFwdIdeal.nD Cert.AFwdIdeal.τ).loc Cert.AFwdIdeal.main_arg0)
      ∧ m' ((c.tc : Thread Cert.AFwdRefIdeal.nD Cert.AFwdRefIdeal.τ).loc Cert.AFwdRefIdeal.main_arg1) = m ((c.tc : Thread Cert.AFwdIdeal.nD Cert.AFwdIdeal.τ).loc Cert.AFwdIdeal.main_arg1)
      ∧ m' ((c.tc : Thread Cert.AFwdRefIdeal.nD Cert.AFwdRefIdeal.τ).loc Cert.AFwdRefIdeal.main_arg2) = m ((c.tc : Thread Cert.AFwdIdeal.nD Cert.AFwdIdeal.τ).loc Cert.AFwdIdeal.main_arg2)
      ∧ m' ((c.tc : Thread Cert.AFwdRefIdeal.nD Cert.AFwdRefIdeal.τ).loc Cert.AFwdRefIdeal.main_arg3) = m ((c.tc : Thread Cert.AFwdIdeal.nD Cert.AFwdIdeal.τ).loc Cert.AFwdIdeal.main_arg3)
      ∧ m' ((c.tc : Thread Cert.AFwdRefIdeal.nD Cert.AFwdRefIdeal.τ).loc Cert.AFwdRefIdeal.main_arg4) = m ((c.tc : Thread Cert.AFwdIdeal.nD Cert.AFwdIdeal.τ).loc Cert.AFwdIdeal.main_arg4)
      ∧ m' ((c.tc : Thread Cert.AFwdRefIdeal.nD Cert.AFwdRefIdeal.τ).loc Cert.AFwdRefIdeal.main_arg5) = m ((c.tc : Thread Cert.AFwdIdeal.nD Cert.AFwdIdeal.τ).loc Cert.AFwdIdeal.main_arg5)
      ∧ m' ((c.tc : Thread Cert.AFwdRefIdeal.nD Cert.AFwdRefIdeal.τ).loc Cert.AFwdRefIdeal.main_arg6) = m ((c.tc : Thread Cert.AFwdIdeal.nD Cert.AFwdIdeal.τ).loc Cert.AFwdIdeal.main_arg6)
      ∧ m' ((c.tc : Thread Cert.AFwdRefIdeal.nD Cert.AFwdRefIdeal.τ).loc Cert.AFwdRefIdeal.main_arg7) = m ((c.tc : Thread Cert.AFwdIdeal.nD Cert.AFwdIdeal.τ).loc Cert.AFwdIdeal.main_arg7)) →
    ∃ (v0 : (c : Dev Cert.AFwdIdeal.nD) → Buf (Elt Ideal) ((c.tc : Thread Cert.AFwdIdeal.nD Cert.AFwdIdeal.τ).loc Cert.AFwdIdeal.main_v6_0)) (v1 : (c : Dev Cert.AFwdIdeal.nD) → Buf (Elt Ideal) ((c.tc : Thread Cert.AFwdIdeal.nD Cert.AFwdIdeal.τ).loc Cert.AFwdIdeal.main_v6_1)),
      θ_run (Cert.AFwdIdeal.defs (F := Ideal)) (onTc (τ := Cert.AFwdIdeal.τ) (Cert.AFwdIdeal.main (F := Ideal))) ⟨m, fun _ => 0, g⟩ (fun r => ∀ c : Dev Cert.AFwdIdeal.nD,
          r.2.mem ((c.tc : Thread Cert.AFwdIdeal.nD Cert.AFwdIdeal.τ).loc Cert.AFwdIdeal.main_v6_0) = v0 c
          ∧ r.2.mem ((c.tc : Thread Cert.AFwdIdeal.nD Cert.AFwdIdeal.τ).loc Cert.AFwdIdeal.main_v6_1) = v1 c
          ∧ r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
          ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
          ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
          ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
          ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
          ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
          ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
          ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7))
      ∧ θ_run (Cert.AFwdRefIdeal.defs (F := Ideal)) (onTc (τ := Cert.AFwdRefIdeal.τ) (Cert.AFwdRefIdeal.main (F := Ideal))) ⟨m', fun _ => 0, g'⟩ (fun r => ∀ c : Dev Cert.AFwdRefIdeal.nD,
          r.2.mem ((c.tc : Thread Cert.AFwdRefIdeal.nD Cert.AFwdRefIdeal.τ).loc Cert.AFwdRefIdeal.main_v83) = v0 c
          ∧ r.2.mem ((c.tc : Thread Cert.AFwdRefIdeal.nD Cert.AFwdRefIdeal.τ).loc Cert.AFwdRefIdeal.main_v79_4) = v1 c
          ∧ r.2.mem ((c.tc : Thread Cert.AFwdRefIdeal.nD Cert.AFwdRefIdeal.τ).loc Cert.AFwdRefIdeal.main_arg0) = m' ((c.tc : Thread Cert.AFwdRefIdeal.nD Cert.AFwdRefIdeal.τ).loc Cert.AFwdRefIdeal.main_arg0)
          ∧ r.2.mem ((c.tc : Thread Cert.AFwdRefIdeal.nD Cert.AFwdRefIdeal.τ).loc Cert.AFwdRefIdeal.main_arg1) = m' ((c.tc : Thread Cert.AFwdRefIdeal.nD Cert.AFwdRefIdeal.τ).loc Cert.AFwdRefIdeal.main_arg1)
          ∧ r.2.mem ((c.tc : Thread Cert.AFwdRefIdeal.nD Cert.AFwdRefIdeal.τ).loc Cert.AFwdRefIdeal.main_arg2) = m' ((c.tc : Thread Cert.AFwdRefIdeal.nD Cert.AFwdRefIdeal.τ).loc Cert.AFwdRefIdeal.main_arg2)
          ∧ r.2.mem ((c.tc : Thread Cert.AFwdRefIdeal.nD Cert.AFwdRefIdeal.τ).loc Cert.AFwdRefIdeal.main_arg3) = m' ((c.tc : Thread Cert.AFwdRefIdeal.nD Cert.AFwdRefIdeal.τ).loc Cert.AFwdRefIdeal.main_arg3)
          ∧ r.2.mem ((c.tc : Thread Cert.AFwdRefIdeal.nD Cert.AFwdRefIdeal.τ).loc Cert.AFwdRefIdeal.main_arg4) = m' ((c.tc : Thread Cert.AFwdRefIdeal.nD Cert.AFwdRefIdeal.τ).loc Cert.AFwdRefIdeal.main_arg4)
          ∧ r.2.mem ((c.tc : Thread Cert.AFwdRefIdeal.nD Cert.AFwdRefIdeal.τ).loc Cert.AFwdRefIdeal.main_arg5) = m' ((c.tc : Thread Cert.AFwdRefIdeal.nD Cert.AFwdRefIdeal.τ).loc Cert.AFwdRefIdeal.main_arg5)
          ∧ r.2.mem ((c.tc : Thread Cert.AFwdRefIdeal.nD Cert.AFwdRefIdeal.τ).loc Cert.AFwdRefIdeal.main_arg6) = m' ((c.tc : Thread Cert.AFwdRefIdeal.nD Cert.AFwdRefIdeal.τ).loc Cert.AFwdRefIdeal.main_arg6)
          ∧ r.2.mem ((c.tc : Thread Cert.AFwdRefIdeal.nD Cert.AFwdRefIdeal.τ).loc Cert.AFwdRefIdeal.main_arg7) = m' ((c.tc : Thread Cert.AFwdRefIdeal.nD Cert.AFwdRefIdeal.τ).loc Cert.AFwdRefIdeal.main_arg7))

def preserves_MFwd_MFwdIdeal : Prop :=
  True

def algebraic_MFwdIdeal_MFwdRefIdeal [hMFwdIdeal : Cert.MFwdIdeal.Facts] [hMFwdRefIdeal : Cert.MFwdRefIdeal.Facts] : Prop :=
  ∀ (m : (ℓ : Loc Cert.MFwdIdeal.nD Cert.MFwdIdeal.τ Cert.MFwdIdeal.sig) → Buf (Elt Ideal) ℓ) (g : Dev Cert.MFwdIdeal.nD → PrngReg)
    (m' : (ℓ : Loc Cert.MFwdRefIdeal.nD Cert.MFwdRefIdeal.τ Cert.MFwdRefIdeal.sig) → Buf (Elt Ideal) ℓ) (g' : Dev Cert.MFwdRefIdeal.nD → PrngReg), Pre_MFwdIdeal m →
    (∀ c : Dev Cert.MFwdIdeal.nD,
      m' ((c.tc : Thread Cert.MFwdRefIdeal.nD Cert.MFwdRefIdeal.τ).loc Cert.MFwdRefIdeal.main_arg0) = m ((c.tc : Thread Cert.MFwdIdeal.nD Cert.MFwdIdeal.τ).loc Cert.MFwdIdeal.main_arg0)
      ∧ m' ((c.tc : Thread Cert.MFwdRefIdeal.nD Cert.MFwdRefIdeal.τ).loc Cert.MFwdRefIdeal.main_arg1) = m ((c.tc : Thread Cert.MFwdIdeal.nD Cert.MFwdIdeal.τ).loc Cert.MFwdIdeal.main_arg1)
      ∧ m' ((c.tc : Thread Cert.MFwdRefIdeal.nD Cert.MFwdRefIdeal.τ).loc Cert.MFwdRefIdeal.main_arg2) = m ((c.tc : Thread Cert.MFwdIdeal.nD Cert.MFwdIdeal.τ).loc Cert.MFwdIdeal.main_arg2)
      ∧ m' ((c.tc : Thread Cert.MFwdRefIdeal.nD Cert.MFwdRefIdeal.τ).loc Cert.MFwdRefIdeal.main_arg3) = m ((c.tc : Thread Cert.MFwdIdeal.nD Cert.MFwdIdeal.τ).loc Cert.MFwdIdeal.main_arg3)
      ∧ m' ((c.tc : Thread Cert.MFwdRefIdeal.nD Cert.MFwdRefIdeal.τ).loc Cert.MFwdRefIdeal.main_arg4) = m ((c.tc : Thread Cert.MFwdIdeal.nD Cert.MFwdIdeal.τ).loc Cert.MFwdIdeal.main_arg4)) →
    ∃ (v0 : (c : Dev Cert.MFwdIdeal.nD) → Buf (Elt Ideal) ((c.tc : Thread Cert.MFwdIdeal.nD Cert.MFwdIdeal.τ).loc Cert.MFwdIdeal.main_v4_0)) (v1 : (c : Dev Cert.MFwdIdeal.nD) → Buf (Elt Ideal) ((c.tc : Thread Cert.MFwdIdeal.nD Cert.MFwdIdeal.τ).loc Cert.MFwdIdeal.main_v4_1)) (v2 : (c : Dev Cert.MFwdIdeal.nD) → Buf (Elt Ideal) ((c.tc : Thread Cert.MFwdIdeal.nD Cert.MFwdIdeal.τ).loc Cert.MFwdIdeal.main_v4_2)),
      θ_run (Cert.MFwdIdeal.defs (F := Ideal)) (onTc (τ := Cert.MFwdIdeal.τ) (Cert.MFwdIdeal.main (F := Ideal))) ⟨m, fun _ => 0, g⟩ (fun r => ∀ c : Dev Cert.MFwdIdeal.nD,
          r.2.mem ((c.tc : Thread Cert.MFwdIdeal.nD Cert.MFwdIdeal.τ).loc Cert.MFwdIdeal.main_v4_0) = v0 c
          ∧ r.2.mem ((c.tc : Thread Cert.MFwdIdeal.nD Cert.MFwdIdeal.τ).loc Cert.MFwdIdeal.main_v4_1) = v1 c
          ∧ r.2.mem ((c.tc : Thread Cert.MFwdIdeal.nD Cert.MFwdIdeal.τ).loc Cert.MFwdIdeal.main_v4_2) = v2 c
          ∧ r.2.mem ((c.tc : Thread Cert.MFwdIdeal.nD Cert.MFwdIdeal.τ).loc Cert.MFwdIdeal.main_arg0) = m ((c.tc : Thread Cert.MFwdIdeal.nD Cert.MFwdIdeal.τ).loc Cert.MFwdIdeal.main_arg0)
          ∧ r.2.mem ((c.tc : Thread Cert.MFwdIdeal.nD Cert.MFwdIdeal.τ).loc Cert.MFwdIdeal.main_arg1) = m ((c.tc : Thread Cert.MFwdIdeal.nD Cert.MFwdIdeal.τ).loc Cert.MFwdIdeal.main_arg1)
          ∧ r.2.mem ((c.tc : Thread Cert.MFwdIdeal.nD Cert.MFwdIdeal.τ).loc Cert.MFwdIdeal.main_arg2) = m ((c.tc : Thread Cert.MFwdIdeal.nD Cert.MFwdIdeal.τ).loc Cert.MFwdIdeal.main_arg2)
          ∧ r.2.mem ((c.tc : Thread Cert.MFwdIdeal.nD Cert.MFwdIdeal.τ).loc Cert.MFwdIdeal.main_arg3) = m ((c.tc : Thread Cert.MFwdIdeal.nD Cert.MFwdIdeal.τ).loc Cert.MFwdIdeal.main_arg3)
          ∧ r.2.mem ((c.tc : Thread Cert.MFwdIdeal.nD Cert.MFwdIdeal.τ).loc Cert.MFwdIdeal.main_arg4) = m ((c.tc : Thread Cert.MFwdIdeal.nD Cert.MFwdIdeal.τ).loc Cert.MFwdIdeal.main_arg4))
      ∧ θ_run (Cert.MFwdRefIdeal.defs (F := Ideal)) (onTc (τ := Cert.MFwdRefIdeal.τ) (Cert.MFwdRefIdeal.main (F := Ideal))) ⟨m', fun _ => 0, g'⟩ (fun r => ∀ c : Dev Cert.MFwdRefIdeal.nD,
          r.2.mem ((c.tc : Thread Cert.MFwdRefIdeal.nD Cert.MFwdRefIdeal.τ).loc Cert.MFwdRefIdeal.main_v28) = v0 c
          ∧ r.2.mem ((c.tc : Thread Cert.MFwdRefIdeal.nD Cert.MFwdRefIdeal.τ).loc Cert.MFwdRefIdeal.main_v29) = v1 c
          ∧ r.2.mem ((c.tc : Thread Cert.MFwdRefIdeal.nD Cert.MFwdRefIdeal.τ).loc Cert.MFwdRefIdeal.main_v30) = v2 c
          ∧ r.2.mem ((c.tc : Thread Cert.MFwdRefIdeal.nD Cert.MFwdRefIdeal.τ).loc Cert.MFwdRefIdeal.main_arg0) = m' ((c.tc : Thread Cert.MFwdRefIdeal.nD Cert.MFwdRefIdeal.τ).loc Cert.MFwdRefIdeal.main_arg0)
          ∧ r.2.mem ((c.tc : Thread Cert.MFwdRefIdeal.nD Cert.MFwdRefIdeal.τ).loc Cert.MFwdRefIdeal.main_arg1) = m' ((c.tc : Thread Cert.MFwdRefIdeal.nD Cert.MFwdRefIdeal.τ).loc Cert.MFwdRefIdeal.main_arg1)
          ∧ r.2.mem ((c.tc : Thread Cert.MFwdRefIdeal.nD Cert.MFwdRefIdeal.τ).loc Cert.MFwdRefIdeal.main_arg2) = m' ((c.tc : Thread Cert.MFwdRefIdeal.nD Cert.MFwdRefIdeal.τ).loc Cert.MFwdRefIdeal.main_arg2)
          ∧ r.2.mem ((c.tc : Thread Cert.MFwdRefIdeal.nD Cert.MFwdRefIdeal.τ).loc Cert.MFwdRefIdeal.main_arg3) = m' ((c.tc : Thread Cert.MFwdRefIdeal.nD Cert.MFwdRefIdeal.τ).loc Cert.MFwdRefIdeal.main_arg3)
          ∧ r.2.mem ((c.tc : Thread Cert.MFwdRefIdeal.nD Cert.MFwdRefIdeal.τ).loc Cert.MFwdRefIdeal.main_arg4) = m' ((c.tc : Thread Cert.MFwdRefIdeal.nD Cert.MFwdRefIdeal.τ).loc Cert.MFwdRefIdeal.main_arg4))

def preserves_PFwd_PFwdIdeal : Prop :=
  True

def algebraic_PFwdIdeal_PFwdRefIdeal [hPFwdIdeal : Cert.PFwdIdeal.Facts] [hPFwdRefIdeal : Cert.PFwdRefIdeal.Facts] : Prop :=
  ∀ (m : (ℓ : Loc Cert.PFwdIdeal.nD Cert.PFwdIdeal.τ Cert.PFwdIdeal.sig) → Buf (Elt Ideal) ℓ) (g : Dev Cert.PFwdIdeal.nD → PrngReg)
    (m' : (ℓ : Loc Cert.PFwdRefIdeal.nD Cert.PFwdRefIdeal.τ Cert.PFwdRefIdeal.sig) → Buf (Elt Ideal) ℓ) (g' : Dev Cert.PFwdRefIdeal.nD → PrngReg), Pre_PFwdIdeal m →
    (∀ c : Dev Cert.PFwdIdeal.nD,
      m' ((c.tc : Thread Cert.PFwdRefIdeal.nD Cert.PFwdRefIdeal.τ).loc Cert.PFwdRefIdeal.main_arg0) = m ((c.tc : Thread Cert.PFwdIdeal.nD Cert.PFwdIdeal.τ).loc Cert.PFwdIdeal.main_arg0)
      ∧ m' ((c.tc : Thread Cert.PFwdRefIdeal.nD Cert.PFwdRefIdeal.τ).loc Cert.PFwdRefIdeal.main_arg1) = m ((c.tc : Thread Cert.PFwdIdeal.nD Cert.PFwdIdeal.τ).loc Cert.PFwdIdeal.main_arg1)
      ∧ m' ((c.tc : Thread Cert.PFwdRefIdeal.nD Cert.PFwdRefIdeal.τ).loc Cert.PFwdRefIdeal.main_arg2) = m ((c.tc : Thread Cert.PFwdIdeal.nD Cert.PFwdIdeal.τ).loc Cert.PFwdIdeal.main_arg2)) →
    ∃ (v0 : (c : Dev Cert.PFwdIdeal.nD) → Buf (Elt Ideal) ((c.tc : Thread Cert.PFwdIdeal.nD Cert.PFwdIdeal.τ).loc Cert.PFwdIdeal.main_v4_0)) (v1 : (c : Dev Cert.PFwdIdeal.nD) → Buf (Elt Ideal) ((c.tc : Thread Cert.PFwdIdeal.nD Cert.PFwdIdeal.τ).loc Cert.PFwdIdeal.main_v4_1)),
      θ_run (Cert.PFwdIdeal.defs (F := Ideal)) (onTc (τ := Cert.PFwdIdeal.τ) (Cert.PFwdIdeal.main (F := Ideal))) ⟨m, fun _ => 0, g⟩ (fun r => ∀ c : Dev Cert.PFwdIdeal.nD,
          r.2.mem ((c.tc : Thread Cert.PFwdIdeal.nD Cert.PFwdIdeal.τ).loc Cert.PFwdIdeal.main_v4_0) = v0 c
          ∧ r.2.mem ((c.tc : Thread Cert.PFwdIdeal.nD Cert.PFwdIdeal.τ).loc Cert.PFwdIdeal.main_v4_1) = v1 c
          ∧ r.2.mem ((c.tc : Thread Cert.PFwdIdeal.nD Cert.PFwdIdeal.τ).loc Cert.PFwdIdeal.main_arg0) = m ((c.tc : Thread Cert.PFwdIdeal.nD Cert.PFwdIdeal.τ).loc Cert.PFwdIdeal.main_arg0)
          ∧ r.2.mem ((c.tc : Thread Cert.PFwdIdeal.nD Cert.PFwdIdeal.τ).loc Cert.PFwdIdeal.main_arg1) = m ((c.tc : Thread Cert.PFwdIdeal.nD Cert.PFwdIdeal.τ).loc Cert.PFwdIdeal.main_arg1)
          ∧ r.2.mem ((c.tc : Thread Cert.PFwdIdeal.nD Cert.PFwdIdeal.τ).loc Cert.PFwdIdeal.main_arg2) = m ((c.tc : Thread Cert.PFwdIdeal.nD Cert.PFwdIdeal.τ).loc Cert.PFwdIdeal.main_arg2))
      ∧ θ_run (Cert.PFwdRefIdeal.defs (F := Ideal)) (onTc (τ := Cert.PFwdRefIdeal.τ) (Cert.PFwdRefIdeal.main (F := Ideal))) ⟨m', fun _ => 0, g'⟩ (fun r => ∀ c : Dev Cert.PFwdRefIdeal.nD,
          r.2.mem ((c.tc : Thread Cert.PFwdRefIdeal.nD Cert.PFwdRefIdeal.τ).loc Cert.PFwdRefIdeal.main_v15) = v0 c
          ∧ r.2.mem ((c.tc : Thread Cert.PFwdRefIdeal.nD Cert.PFwdRefIdeal.τ).loc Cert.PFwdRefIdeal.main_v17) = v1 c
          ∧ r.2.mem ((c.tc : Thread Cert.PFwdRefIdeal.nD Cert.PFwdRefIdeal.τ).loc Cert.PFwdRefIdeal.main_arg0) = m' ((c.tc : Thread Cert.PFwdRefIdeal.nD Cert.PFwdRefIdeal.τ).loc Cert.PFwdRefIdeal.main_arg0)
          ∧ r.2.mem ((c.tc : Thread Cert.PFwdRefIdeal.nD Cert.PFwdRefIdeal.τ).loc Cert.PFwdRefIdeal.main_arg1) = m' ((c.tc : Thread Cert.PFwdRefIdeal.nD Cert.PFwdRefIdeal.τ).loc Cert.PFwdRefIdeal.main_arg1)
          ∧ r.2.mem ((c.tc : Thread Cert.PFwdRefIdeal.nD Cert.PFwdRefIdeal.τ).loc Cert.PFwdRefIdeal.main_arg2) = m' ((c.tc : Thread Cert.PFwdRefIdeal.nD Cert.PFwdRefIdeal.τ).loc Cert.PFwdRefIdeal.main_arg2))

def preserves_OFwd_OFwdIdeal : Prop :=
  True

def algebraic_OFwdIdeal_OFwdRefIdeal [hOFwdIdeal : Cert.OFwdIdeal.Facts] [hOFwdRefIdeal : Cert.OFwdRefIdeal.Facts] : Prop :=
  ∀ (m : (ℓ : Loc Cert.OFwdIdeal.nD Cert.OFwdIdeal.τ Cert.OFwdIdeal.sig) → Buf (Elt Ideal) ℓ) (g : Dev Cert.OFwdIdeal.nD → PrngReg)
    (m' : (ℓ : Loc Cert.OFwdRefIdeal.nD Cert.OFwdRefIdeal.τ Cert.OFwdRefIdeal.sig) → Buf (Elt Ideal) ℓ) (g' : Dev Cert.OFwdRefIdeal.nD → PrngReg), Pre_OFwdIdeal m →
    (∀ c : Dev Cert.OFwdIdeal.nD,
      m' ((c.tc : Thread Cert.OFwdRefIdeal.nD Cert.OFwdRefIdeal.τ).loc Cert.OFwdRefIdeal.main_arg0) = m ((c.tc : Thread Cert.OFwdIdeal.nD Cert.OFwdIdeal.τ).loc Cert.OFwdIdeal.main_arg0)
      ∧ m' ((c.tc : Thread Cert.OFwdRefIdeal.nD Cert.OFwdRefIdeal.τ).loc Cert.OFwdRefIdeal.main_arg1) = m ((c.tc : Thread Cert.OFwdIdeal.nD Cert.OFwdIdeal.τ).loc Cert.OFwdIdeal.main_arg1)
      ∧ m' ((c.tc : Thread Cert.OFwdRefIdeal.nD Cert.OFwdRefIdeal.τ).loc Cert.OFwdRefIdeal.main_arg2) = m ((c.tc : Thread Cert.OFwdIdeal.nD Cert.OFwdIdeal.τ).loc Cert.OFwdIdeal.main_arg2)) →
    ∃ (v0 : (c : Dev Cert.OFwdIdeal.nD) → Buf (Elt Ideal) ((c.tc : Thread Cert.OFwdIdeal.nD Cert.OFwdIdeal.τ).loc Cert.OFwdIdeal.main_v2)),
      θ_run (Cert.OFwdIdeal.defs (F := Ideal)) (onTc (τ := Cert.OFwdIdeal.τ) (Cert.OFwdIdeal.main (F := Ideal))) ⟨m, fun _ => 0, g⟩ (fun r => ∀ c : Dev Cert.OFwdIdeal.nD,
          r.2.mem ((c.tc : Thread Cert.OFwdIdeal.nD Cert.OFwdIdeal.τ).loc Cert.OFwdIdeal.main_v2) = v0 c
          ∧ r.2.mem ((c.tc : Thread Cert.OFwdIdeal.nD Cert.OFwdIdeal.τ).loc Cert.OFwdIdeal.main_arg0) = m ((c.tc : Thread Cert.OFwdIdeal.nD Cert.OFwdIdeal.τ).loc Cert.OFwdIdeal.main_arg0)
          ∧ r.2.mem ((c.tc : Thread Cert.OFwdIdeal.nD Cert.OFwdIdeal.τ).loc Cert.OFwdIdeal.main_arg1) = m ((c.tc : Thread Cert.OFwdIdeal.nD Cert.OFwdIdeal.τ).loc Cert.OFwdIdeal.main_arg1)
          ∧ r.2.mem ((c.tc : Thread Cert.OFwdIdeal.nD Cert.OFwdIdeal.τ).loc Cert.OFwdIdeal.main_arg2) = m ((c.tc : Thread Cert.OFwdIdeal.nD Cert.OFwdIdeal.τ).loc Cert.OFwdIdeal.main_arg2))
      ∧ θ_run (Cert.OFwdRefIdeal.defs (F := Ideal)) (onTc (τ := Cert.OFwdRefIdeal.τ) (Cert.OFwdRefIdeal.main (F := Ideal))) ⟨m', fun _ => 0, g'⟩ (fun r => ∀ c : Dev Cert.OFwdRefIdeal.nD,
          r.2.mem ((c.tc : Thread Cert.OFwdRefIdeal.nD Cert.OFwdRefIdeal.τ).loc Cert.OFwdRefIdeal.main_v3) = v0 c
          ∧ r.2.mem ((c.tc : Thread Cert.OFwdRefIdeal.nD Cert.OFwdRefIdeal.τ).loc Cert.OFwdRefIdeal.main_arg0) = m' ((c.tc : Thread Cert.OFwdRefIdeal.nD Cert.OFwdRefIdeal.τ).loc Cert.OFwdRefIdeal.main_arg0)
          ∧ r.2.mem ((c.tc : Thread Cert.OFwdRefIdeal.nD Cert.OFwdRefIdeal.τ).loc Cert.OFwdRefIdeal.main_arg1) = m' ((c.tc : Thread Cert.OFwdRefIdeal.nD Cert.OFwdRefIdeal.τ).loc Cert.OFwdRefIdeal.main_arg1)
          ∧ r.2.mem ((c.tc : Thread Cert.OFwdRefIdeal.nD Cert.OFwdRefIdeal.τ).loc Cert.OFwdRefIdeal.main_arg2) = m' ((c.tc : Thread Cert.OFwdRefIdeal.nD Cert.OFwdRefIdeal.τ).loc Cert.OFwdRefIdeal.main_arg2))

def preserves_MatNt_MatNtIdeal : Prop :=
  True

def algebraic_MatNtIdeal_MatNtRefIdeal [hMatNtIdeal : Cert.MatNtIdeal.Facts] [hMatNtRefIdeal : Cert.MatNtRefIdeal.Facts] : Prop :=
  ∀ (m : (ℓ : Loc Cert.MatNtIdeal.nD Cert.MatNtIdeal.τ Cert.MatNtIdeal.sig) → Buf (Elt Ideal) ℓ) (g : Dev Cert.MatNtIdeal.nD → PrngReg)
    (m' : (ℓ : Loc Cert.MatNtRefIdeal.nD Cert.MatNtRefIdeal.τ Cert.MatNtRefIdeal.sig) → Buf (Elt Ideal) ℓ) (g' : Dev Cert.MatNtRefIdeal.nD → PrngReg), Pre_MatNtIdeal m →
    (∀ c : Dev Cert.MatNtIdeal.nD,
      m' ((c.tc : Thread Cert.MatNtRefIdeal.nD Cert.MatNtRefIdeal.τ).loc Cert.MatNtRefIdeal.main_arg0) = m ((c.tc : Thread Cert.MatNtIdeal.nD Cert.MatNtIdeal.τ).loc Cert.MatNtIdeal.main_arg0)
      ∧ m' ((c.tc : Thread Cert.MatNtRefIdeal.nD Cert.MatNtRefIdeal.τ).loc Cert.MatNtRefIdeal.main_arg1) = m ((c.tc : Thread Cert.MatNtIdeal.nD Cert.MatNtIdeal.τ).loc Cert.MatNtIdeal.main_arg1)
      ∧ m' ((c.tc : Thread Cert.MatNtRefIdeal.nD Cert.MatNtRefIdeal.τ).loc Cert.MatNtRefIdeal.main_arg2) = m ((c.tc : Thread Cert.MatNtIdeal.nD Cert.MatNtIdeal.τ).loc Cert.MatNtIdeal.main_arg2)) →
    ∃ (v0 : (c : Dev Cert.MatNtIdeal.nD) → Buf (Elt Ideal) ((c.tc : Thread Cert.MatNtIdeal.nD Cert.MatNtIdeal.τ).loc Cert.MatNtIdeal.main_v2)),
      θ_run (Cert.MatNtIdeal.defs (F := Ideal)) (onTc (τ := Cert.MatNtIdeal.τ) (Cert.MatNtIdeal.main (F := Ideal))) ⟨m, fun _ => 0, g⟩ (fun r => ∀ c : Dev Cert.MatNtIdeal.nD,
          r.2.mem ((c.tc : Thread Cert.MatNtIdeal.nD Cert.MatNtIdeal.τ).loc Cert.MatNtIdeal.main_v2) = v0 c
          ∧ r.2.mem ((c.tc : Thread Cert.MatNtIdeal.nD Cert.MatNtIdeal.τ).loc Cert.MatNtIdeal.main_arg0) = m ((c.tc : Thread Cert.MatNtIdeal.nD Cert.MatNtIdeal.τ).loc Cert.MatNtIdeal.main_arg0)
          ∧ r.2.mem ((c.tc : Thread Cert.MatNtIdeal.nD Cert.MatNtIdeal.τ).loc Cert.MatNtIdeal.main_arg1) = m ((c.tc : Thread Cert.MatNtIdeal.nD Cert.MatNtIdeal.τ).loc Cert.MatNtIdeal.main_arg1)
          ∧ r.2.mem ((c.tc : Thread Cert.MatNtIdeal.nD Cert.MatNtIdeal.τ).loc Cert.MatNtIdeal.main_arg2) = m ((c.tc : Thread Cert.MatNtIdeal.nD Cert.MatNtIdeal.τ).loc Cert.MatNtIdeal.main_arg2))
      ∧ θ_run (Cert.MatNtRefIdeal.defs (F := Ideal)) (onTc (τ := Cert.MatNtRefIdeal.τ) (Cert.MatNtRefIdeal.main (F := Ideal))) ⟨m', fun _ => 0, g'⟩ (fun r => ∀ c : Dev Cert.MatNtRefIdeal.nD,
          r.2.mem ((c.tc : Thread Cert.MatNtRefIdeal.nD Cert.MatNtRefIdeal.τ).loc Cert.MatNtRefIdeal.main_v3) = v0 c
          ∧ r.2.mem ((c.tc : Thread Cert.MatNtRefIdeal.nD Cert.MatNtRefIdeal.τ).loc Cert.MatNtRefIdeal.main_arg0) = m' ((c.tc : Thread Cert.MatNtRefIdeal.nD Cert.MatNtRefIdeal.τ).loc Cert.MatNtRefIdeal.main_arg0)
          ∧ r.2.mem ((c.tc : Thread Cert.MatNtRefIdeal.nD Cert.MatNtRefIdeal.τ).loc Cert.MatNtRefIdeal.main_arg1) = m' ((c.tc : Thread Cert.MatNtRefIdeal.nD Cert.MatNtRefIdeal.τ).loc Cert.MatNtRefIdeal.main_arg1)
          ∧ r.2.mem ((c.tc : Thread Cert.MatNtRefIdeal.nD Cert.MatNtRefIdeal.τ).loc Cert.MatNtRefIdeal.main_arg2) = m' ((c.tc : Thread Cert.MatNtRefIdeal.nD Cert.MatNtRefIdeal.τ).loc Cert.MatNtRefIdeal.main_arg2))

def preserves_MatTn_MatTnIdeal : Prop :=
  True

def algebraic_MatTnIdeal_MatTnRefIdeal [hMatTnIdeal : Cert.MatTnIdeal.Facts] [hMatTnRefIdeal : Cert.MatTnRefIdeal.Facts] : Prop :=
  ∀ (m : (ℓ : Loc Cert.MatTnIdeal.nD Cert.MatTnIdeal.τ Cert.MatTnIdeal.sig) → Buf (Elt Ideal) ℓ) (g : Dev Cert.MatTnIdeal.nD → PrngReg)
    (m' : (ℓ : Loc Cert.MatTnRefIdeal.nD Cert.MatTnRefIdeal.τ Cert.MatTnRefIdeal.sig) → Buf (Elt Ideal) ℓ) (g' : Dev Cert.MatTnRefIdeal.nD → PrngReg), Pre_MatTnIdeal m →
    (∀ c : Dev Cert.MatTnIdeal.nD,
      m' ((c.tc : Thread Cert.MatTnRefIdeal.nD Cert.MatTnRefIdeal.τ).loc Cert.MatTnRefIdeal.main_arg0) = m ((c.tc : Thread Cert.MatTnIdeal.nD Cert.MatTnIdeal.τ).loc Cert.MatTnIdeal.main_arg0)
      ∧ m' ((c.tc : Thread Cert.MatTnRefIdeal.nD Cert.MatTnRefIdeal.τ).loc Cert.MatTnRefIdeal.main_arg1) = m ((c.tc : Thread Cert.MatTnIdeal.nD Cert.MatTnIdeal.τ).loc Cert.MatTnIdeal.main_arg1)
      ∧ m' ((c.tc : Thread Cert.MatTnRefIdeal.nD Cert.MatTnRefIdeal.τ).loc Cert.MatTnRefIdeal.main_arg2) = m ((c.tc : Thread Cert.MatTnIdeal.nD Cert.MatTnIdeal.τ).loc Cert.MatTnIdeal.main_arg2)) →
    ∃ (v0 : (c : Dev Cert.MatTnIdeal.nD) → Buf (Elt Ideal) ((c.tc : Thread Cert.MatTnIdeal.nD Cert.MatTnIdeal.τ).loc Cert.MatTnIdeal.main_v1)),
      θ_run (Cert.MatTnIdeal.defs (F := Ideal)) (onTc (τ := Cert.MatTnIdeal.τ) (Cert.MatTnIdeal.main (F := Ideal))) ⟨m, fun _ => 0, g⟩ (fun r => ∀ c : Dev Cert.MatTnIdeal.nD,
          r.2.mem ((c.tc : Thread Cert.MatTnIdeal.nD Cert.MatTnIdeal.τ).loc Cert.MatTnIdeal.main_v1) = v0 c
          ∧ r.2.mem ((c.tc : Thread Cert.MatTnIdeal.nD Cert.MatTnIdeal.τ).loc Cert.MatTnIdeal.main_arg0) = m ((c.tc : Thread Cert.MatTnIdeal.nD Cert.MatTnIdeal.τ).loc Cert.MatTnIdeal.main_arg0)
          ∧ r.2.mem ((c.tc : Thread Cert.MatTnIdeal.nD Cert.MatTnIdeal.τ).loc Cert.MatTnIdeal.main_arg1) = m ((c.tc : Thread Cert.MatTnIdeal.nD Cert.MatTnIdeal.τ).loc Cert.MatTnIdeal.main_arg1)
          ∧ r.2.mem ((c.tc : Thread Cert.MatTnIdeal.nD Cert.MatTnIdeal.τ).loc Cert.MatTnIdeal.main_arg2) = m ((c.tc : Thread Cert.MatTnIdeal.nD Cert.MatTnIdeal.τ).loc Cert.MatTnIdeal.main_arg2))
      ∧ θ_run (Cert.MatTnRefIdeal.defs (F := Ideal)) (onTc (τ := Cert.MatTnRefIdeal.τ) (Cert.MatTnRefIdeal.main (F := Ideal))) ⟨m', fun _ => 0, g'⟩ (fun r => ∀ c : Dev Cert.MatTnRefIdeal.nD,
          r.2.mem ((c.tc : Thread Cert.MatTnRefIdeal.nD Cert.MatTnRefIdeal.τ).loc Cert.MatTnRefIdeal.main_v2) = v0 c
          ∧ r.2.mem ((c.tc : Thread Cert.MatTnRefIdeal.nD Cert.MatTnRefIdeal.τ).loc Cert.MatTnRefIdeal.main_arg0) = m' ((c.tc : Thread Cert.MatTnRefIdeal.nD Cert.MatTnRefIdeal.τ).loc Cert.MatTnRefIdeal.main_arg0)
          ∧ r.2.mem ((c.tc : Thread Cert.MatTnRefIdeal.nD Cert.MatTnRefIdeal.τ).loc Cert.MatTnRefIdeal.main_arg1) = m' ((c.tc : Thread Cert.MatTnRefIdeal.nD Cert.MatTnRefIdeal.τ).loc Cert.MatTnRefIdeal.main_arg1)
          ∧ r.2.mem ((c.tc : Thread Cert.MatTnRefIdeal.nD Cert.MatTnRefIdeal.τ).loc Cert.MatTnRefIdeal.main_arg2) = m' ((c.tc : Thread Cert.MatTnRefIdeal.nD Cert.MatTnRefIdeal.τ).loc Cert.MatTnRefIdeal.main_arg2))

def preserves_DWin_DWinIdeal : Prop :=
  True

def algebraic_DWinIdeal_DWinRefIdeal [hDWinIdeal : Cert.DWinIdeal.Facts] [hDWinRefIdeal : Cert.DWinRefIdeal.Facts] : Prop :=
  ∀ (m : (ℓ : Loc Cert.DWinIdeal.nD Cert.DWinIdeal.τ Cert.DWinIdeal.sig) → Buf (Elt Ideal) ℓ) (g : Dev Cert.DWinIdeal.nD → PrngReg)
    (m' : (ℓ : Loc Cert.DWinRefIdeal.nD Cert.DWinRefIdeal.τ Cert.DWinRefIdeal.sig) → Buf (Elt Ideal) ℓ) (g' : Dev Cert.DWinRefIdeal.nD → PrngReg), Pre_DWinIdeal m →
    (∀ c : Dev Cert.DWinIdeal.nD,
      m' ((c.tc : Thread Cert.DWinRefIdeal.nD Cert.DWinRefIdeal.τ).loc Cert.DWinRefIdeal.main_arg0) = m ((c.tc : Thread Cert.DWinIdeal.nD Cert.DWinIdeal.τ).loc Cert.DWinIdeal.main_arg0)
      ∧ m' ((c.tc : Thread Cert.DWinRefIdeal.nD Cert.DWinRefIdeal.τ).loc Cert.DWinRefIdeal.main_arg1) = m ((c.tc : Thread Cert.DWinIdeal.nD Cert.DWinIdeal.τ).loc Cert.DWinIdeal.main_arg1)
      ∧ m' ((c.tc : Thread Cert.DWinRefIdeal.nD Cert.DWinRefIdeal.τ).loc Cert.DWinRefIdeal.main_arg2) = m ((c.tc : Thread Cert.DWinIdeal.nD Cert.DWinIdeal.τ).loc Cert.DWinIdeal.main_arg2)) →
    ∃ (v0 : (c : Dev Cert.DWinIdeal.nD) → Buf (Elt Ideal) ((c.tc : Thread Cert.DWinIdeal.nD Cert.DWinIdeal.τ).loc Cert.DWinIdeal.main_v9)),
      θ_run (Cert.DWinIdeal.defs (F := Ideal)) (onTc (τ := Cert.DWinIdeal.τ) (Cert.DWinIdeal.main (F := Ideal))) ⟨m, fun _ => 0, g⟩ (fun r => ∀ c : Dev Cert.DWinIdeal.nD,
          r.2.mem ((c.tc : Thread Cert.DWinIdeal.nD Cert.DWinIdeal.τ).loc Cert.DWinIdeal.main_v9) = v0 c
          ∧ r.2.mem ((c.tc : Thread Cert.DWinIdeal.nD Cert.DWinIdeal.τ).loc Cert.DWinIdeal.main_arg0) = m ((c.tc : Thread Cert.DWinIdeal.nD Cert.DWinIdeal.τ).loc Cert.DWinIdeal.main_arg0)
          ∧ r.2.mem ((c.tc : Thread Cert.DWinIdeal.nD Cert.DWinIdeal.τ).loc Cert.DWinIdeal.main_arg1) = m ((c.tc : Thread Cert.DWinIdeal.nD Cert.DWinIdeal.τ).loc Cert.DWinIdeal.main_arg1)
          ∧ r.2.mem ((c.tc : Thread Cert.DWinIdeal.nD Cert.DWinIdeal.τ).loc Cert.DWinIdeal.main_arg2) = m ((c.tc : Thread Cert.DWinIdeal.nD Cert.DWinIdeal.τ).loc Cert.DWinIdeal.main_arg2))
      ∧ θ_run (Cert.DWinRefIdeal.defs (F := Ideal)) (onTc (τ := Cert.DWinRefIdeal.τ) (Cert.DWinRefIdeal.main (F := Ideal))) ⟨m', fun _ => 0, g'⟩ (fun r => ∀ c : Dev Cert.DWinRefIdeal.nD,
          r.2.mem ((c.tc : Thread Cert.DWinRefIdeal.nD Cert.DWinRefIdeal.τ).loc Cert.DWinRefIdeal.main_v5) = v0 c
          ∧ r.2.mem ((c.tc : Thread Cert.DWinRefIdeal.nD Cert.DWinRefIdeal.τ).loc Cert.DWinRefIdeal.main_arg0) = m' ((c.tc : Thread Cert.DWinRefIdeal.nD Cert.DWinRefIdeal.τ).loc Cert.DWinRefIdeal.main_arg0)
          ∧ r.2.mem ((c.tc : Thread Cert.DWinRefIdeal.nD Cert.DWinRefIdeal.τ).loc Cert.DWinRefIdeal.main_arg1) = m' ((c.tc : Thread Cert.DWinRefIdeal.nD Cert.DWinRefIdeal.τ).loc Cert.DWinRefIdeal.main_arg1)
          ∧ r.2.mem ((c.tc : Thread Cert.DWinRefIdeal.nD Cert.DWinRefIdeal.τ).loc Cert.DWinRefIdeal.main_arg2) = m' ((c.tc : Thread Cert.DWinRefIdeal.nD Cert.DWinRefIdeal.τ).loc Cert.DWinRefIdeal.main_arg2))

def preserves_Slots_SlotsIdeal : Prop :=
  True

def algebraic_SlotsIdeal_SlotsRefIdeal [hSlotsIdeal : Cert.SlotsIdeal.Facts] [hSlotsRefIdeal : Cert.SlotsRefIdeal.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.SlotsRefIdeal.nD Cert.SlotsRefIdeal.τ Cert.SlotsRefIdeal.sig) → Buf (Elt Ideal) ℓ) (g' : Dev Cert.SlotsRefIdeal.nD → PrngReg), Pre_SlotsIdeal m →
    (∀ c : Dev Cert.SlotsIdeal.nD,
      m' ((c.tc : Thread Cert.SlotsRefIdeal.nD Cert.SlotsRefIdeal.τ).loc Cert.SlotsRefIdeal.main_arg0) = m ((c.tc : Thread Cert.SlotsIdeal.nD Cert.SlotsIdeal.τ).loc Cert.SlotsIdeal.main_arg0)) →
    ∃ (v0 : (c : Dev Cert.SlotsIdeal.nD) → Buf (Elt Ideal) ((c.tc : Thread Cert.SlotsIdeal.nD Cert.SlotsIdeal.τ).loc Cert.SlotsIdeal.main_v0)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v0) = v0 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0))
      ∧ θ_run (Cert.SlotsRefIdeal.defs (F := Ideal)) (onTc (τ := Cert.SlotsRefIdeal.τ) (Cert.SlotsRefIdeal.main (F := Ideal))) ⟨m', fun _ => 0, g'⟩ (fun r => ∀ c : Dev Cert.SlotsRefIdeal.nD,
          r.2.mem ((c.tc : Thread Cert.SlotsRefIdeal.nD Cert.SlotsRefIdeal.τ).loc Cert.SlotsRefIdeal.main_v1) = v0 c
          ∧ r.2.mem ((c.tc : Thread Cert.SlotsRefIdeal.nD Cert.SlotsRefIdeal.τ).loc Cert.SlotsRefIdeal.main_arg0) = m' ((c.tc : Thread Cert.SlotsRefIdeal.nD Cert.SlotsRefIdeal.τ).loc Cert.SlotsRefIdeal.main_arg0))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)) (v3 : (c : Dev Cert.AdamIdeal.nD) → Buf (Elt Ideal) ((c.tc : Thread Cert.AdamIdeal.nD Cert.AdamIdeal.τ).loc Cert.AdamIdeal.main_v4_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_v4_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_v27) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_SHalf_SHalfIdeal : Prop :=
  True

def algebraic_SHalfIdeal_SHalfRefIdeal [hSHalfIdeal : Cert.SHalfIdeal.Facts] [hSHalfRefIdeal : Cert.SHalfRefIdeal.Facts] [hPre_is_core : Cert.Pre_is_core.Facts] : Prop :=
  ∀ (m : (ℓ : Loc Cert.SHalfIdeal.nD Cert.SHalfIdeal.τ Cert.SHalfIdeal.sig) → Buf (Elt Ideal) ℓ) (g : Dev Cert.SHalfIdeal.nD → PrngReg)
    (m' : (ℓ : Loc Cert.SHalfRefIdeal.nD Cert.SHalfRefIdeal.τ Cert.SHalfRefIdeal.sig) → Buf (Elt Ideal) ℓ) (g' : Dev Cert.SHalfRefIdeal.nD → PrngReg), Pre_SHalfIdeal m →
    (∀ c : Dev Cert.SHalfIdeal.nD,
      m' ((c.tc : Thread Cert.SHalfRefIdeal.nD Cert.SHalfRefIdeal.τ).loc Cert.SHalfRefIdeal.main_arg0) = m ((c.tc : Thread Cert.SHalfIdeal.nD Cert.SHalfIdeal.τ).loc Cert.SHalfIdeal.main_arg0)
      ∧ m' ((c.tc : Thread Cert.SHalfRefIdeal.nD Cert.SHalfRefIdeal.τ).loc Cert.SHalfRefIdeal.main_arg1) = m ((c.tc : Thread Cert.SHalfIdeal.nD Cert.SHalfIdeal.τ).loc Cert.SHalfIdeal.main_arg1)
      ∧ m' ((c.tc : Thread Cert.SHalfRefIdeal.nD Cert.SHalfRefIdeal.τ).loc Cert.SHalfRefIdeal.main_arg2) = m ((c.tc : Thread Cert.SHalfIdeal.nD Cert.SHalfIdeal.τ).loc Cert.SHalfIdeal.main_arg2)) →
    ∃ (v0 : (c : Dev Cert.SHalfIdeal.nD) → Buf (Elt Ideal) ((c.tc : Thread Cert.SHalfIdeal.nD Cert.SHalfIdeal.τ).loc Cert.SHalfIdeal.main_v0)),
      θ_run (Cert.SHalfIdeal.defs (F := Ideal)) (onTc (τ := Cert.SHalfIdeal.τ) (Cert.SHalfIdeal.main (F := Ideal))) ⟨m, fun _ => 0, g⟩ (fun r => ∀ c : Dev Cert.SHalfIdeal.nD,
          r.2.mem ((c.tc : Thread Cert.SHalfIdeal.nD Cert.SHalfIdeal.τ).loc Cert.SHalfIdeal.main_v0) = v0 c
          ∧ r.2.mem ((c.tc : Thread Cert.SHalfIdeal.nD Cert.SHalfIdeal.τ).loc Cert.SHalfIdeal.main_arg0) = m ((c.tc : Thread Cert.SHalfIdeal.nD Cert.SHalfIdeal.τ).loc Cert.SHalfIdeal.main_arg0)
          ∧ r.2.mem ((c.tc : Thread Cert.SHalfIdeal.nD Cert.SHalfIdeal.τ).loc Cert.SHalfIdeal.main_arg1) = m ((c.tc : Thread Cert.SHalfIdeal.nD Cert.SHalfIdeal.τ).loc Cert.SHalfIdeal.main_arg1)
          ∧ r.2.mem ((c.tc : Thread Cert.SHalfIdeal.nD Cert.SHalfIdeal.τ).loc Cert.SHalfIdeal.main_arg2) = m ((c.tc : Thread Cert.SHalfIdeal.nD Cert.SHalfIdeal.τ).loc Cert.SHalfIdeal.main_arg2))
      ∧ θ_run (Cert.SHalfRefIdeal.defs (F := Ideal)) (onTc (τ := Cert.SHalfRefIdeal.τ) (Cert.SHalfRefIdeal.main (F := Ideal))) ⟨m', fun _ => 0, g'⟩ (fun r => ∀ c : Dev Cert.SHalfRefIdeal.nD,
          r.2.mem ((c.tc : Thread Cert.SHalfRefIdeal.nD Cert.SHalfRefIdeal.τ).loc Cert.SHalfRefIdeal.main_v6) = v0 c
          ∧ r.2.mem ((c.tc : Thread Cert.SHalfRefIdeal.nD Cert.SHalfRefIdeal.τ).loc Cert.SHalfRefIdeal.main_arg0) = m' ((c.tc : Thread Cert.SHalfRefIdeal.nD Cert.SHalfRefIdeal.τ).loc Cert.SHalfRefIdeal.main_arg0)
          ∧ r.2.mem ((c.tc : Thread Cert.SHalfRefIdeal.nD Cert.SHalfRefIdeal.τ).loc Cert.SHalfRefIdeal.main_arg1) = m' ((c.tc : Thread Cert.SHalfRefIdeal.nD Cert.SHalfRefIdeal.τ).loc Cert.SHalfRefIdeal.main_arg1)
          ∧ r.2.mem ((c.tc : Thread Cert.SHalfRefIdeal.nD Cert.SHalfRefIdeal.τ).loc Cert.SHalfRefIdeal.main_arg2) = m' ((c.tc : Thread Cert.SHalfRefIdeal.nD Cert.SHalfRefIdeal.τ).loc Cert.SHalfRefIdeal.main_arg2))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeRefIdeal : Cert.MergeRefIdeal.Facts) (hDin : Cert.Din.Facts) (hDinIdeal : Cert.DinIdeal.Facts) (hDinRefIdeal : Cert.DinRefIdeal.Facts) (hAFwd : Cert.AFwd.Facts) (hAFwdIdeal : Cert.AFwdIdeal.Facts) (hAFwdRefIdeal : Cert.AFwdRefIdeal.Facts) (hMFwd : Cert.MFwd.Facts) (hMFwdIdeal : Cert.MFwdIdeal.Facts) (hMFwdRefIdeal : Cert.MFwdRefIdeal.Facts) (hPFwd : Cert.PFwd.Facts) (hPFwdIdeal : Cert.PFwdIdeal.Facts) (hPFwdRefIdeal : Cert.PFwdRefIdeal.Facts) (hOFwd : Cert.OFwd.Facts) (hOFwdIdeal : Cert.OFwdIdeal.Facts) (hOFwdRefIdeal : Cert.OFwdRefIdeal.Facts) (hMatNt : Cert.MatNt.Facts) (hMatNtIdeal : Cert.MatNtIdeal.Facts) (hMatNtRefIdeal : Cert.MatNtRefIdeal.Facts) (hMatTn : Cert.MatTn.Facts) (hMatTnIdeal : Cert.MatTnIdeal.Facts) (hMatTnRefIdeal : Cert.MatTnRefIdeal.Facts) (hDWin : Cert.DWin.Facts) (hDWinIdeal : Cert.DWinIdeal.Facts) (hDWinRefIdeal : Cert.DWinRefIdeal.Facts) (hSlots : Cert.Slots.Facts) (hSlotsIdeal : Cert.SlotsIdeal.Facts) (hSlotsRefIdeal : Cert.SlotsRefIdeal.Facts) (hAdam : Cert.Adam.Facts) (hAdamIdeal : Cert.AdamIdeal.Facts) (hAdamRefIdeal : Cert.AdamRefIdeal.Facts) (hSHalf : Cert.SHalf.Facts) (hSHalfIdeal : Cert.SHalfIdeal.Facts) (hSHalfRefIdeal : Cert.SHalfRefIdeal.Facts) (hPre_is_core : Cert.Pre_is_core.Facts),
    quiescent_Kernel (hKernel := hKernel)
    ∧ quiescent_KernelIdeal (hKernelIdeal := hKernelIdeal)
    ∧ quiescent_ReferenceIdeal (hReferenceIdeal := hReferenceIdeal)
    ∧ quiescent_Merge (hMerge := hMerge)
    ∧ quiescent_MergeIdeal (hMergeIdeal := hMergeIdeal)
    ∧ quiescent_MergeRefIdeal (hMergeRefIdeal := hMergeRefIdeal)
    ∧ quiescent_Din (hDin := hDin)
    ∧ quiescent_DinIdeal (hDinIdeal := hDinIdeal)
    ∧ quiescent_DinRefIdeal (hDinRefIdeal := hDinRefIdeal)
    ∧ quiescent_AFwd (hAFwd := hAFwd)
    ∧ quiescent_AFwdIdeal (hAFwdIdeal := hAFwdIdeal)
    ∧ quiescent_AFwdRefIdeal (hAFwdRefIdeal := hAFwdRefIdeal)
    ∧ quiescent_MFwd (hMFwd := hMFwd)
    ∧ quiescent_MFwdIdeal (hMFwdIdeal := hMFwdIdeal)
    ∧ quiescent_MFwdRefIdeal (hMFwdRefIdeal := hMFwdRefIdeal)
    ∧ quiescent_PFwd (hPFwd := hPFwd)
    ∧ quiescent_PFwdIdeal (hPFwdIdeal := hPFwdIdeal)
    ∧ quiescent_PFwdRefIdeal (hPFwdRefIdeal := hPFwdRefIdeal)
    ∧ quiescent_OFwd (hOFwd := hOFwd)
    ∧ quiescent_OFwdIdeal (hOFwdIdeal := hOFwdIdeal)
    ∧ quiescent_OFwdRefIdeal (hOFwdRefIdeal := hOFwdRefIdeal)
    ∧ quiescent_MatNt (hMatNt := hMatNt)
    ∧ quiescent_MatNtIdeal (hMatNtIdeal := hMatNtIdeal)
    ∧ quiescent_MatNtRefIdeal (hMatNtRefIdeal := hMatNtRefIdeal)
    ∧ quiescent_MatTn (hMatTn := hMatTn)
    ∧ quiescent_MatTnIdeal (hMatTnIdeal := hMatTnIdeal)
    ∧ quiescent_MatTnRefIdeal (hMatTnRefIdeal := hMatTnRefIdeal)
    ∧ quiescent_DWin (hDWin := hDWin)
    ∧ quiescent_DWinIdeal (hDWinIdeal := hDWinIdeal)
    ∧ quiescent_DWinRefIdeal (hDWinRefIdeal := hDWinRefIdeal)
    ∧ quiescent_Slots (hSlots := hSlots)
    ∧ quiescent_SlotsIdeal (hSlotsIdeal := hSlotsIdeal)
    ∧ quiescent_SlotsRefIdeal (hSlotsRefIdeal := hSlotsRefIdeal)
    ∧ quiescent_Adam (hAdam := hAdam)
    ∧ quiescent_AdamIdeal (hAdamIdeal := hAdamIdeal)
    ∧ quiescent_AdamRefIdeal (hAdamRefIdeal := hAdamRefIdeal)
    ∧ quiescent_SHalf (hSHalf := hSHalf) (hPre_is_core := hPre_is_core)
    ∧ quiescent_SHalfIdeal (hSHalfIdeal := hSHalfIdeal) (hPre_is_core := hPre_is_core)
    ∧ quiescent_SHalfRefIdeal (hSHalfRefIdeal := hSHalfRefIdeal) (hPre_is_core := hPre_is_core)
    ∧ preserves_Kernel_KernelIdeal
    ∧ algebraic_KernelIdeal_ReferenceIdeal (hKernelIdeal := hKernelIdeal) (hReferenceIdeal := hReferenceIdeal)
    ∧ preserves_Merge_MergeIdeal
    ∧ algebraic_MergeIdeal_MergeRefIdeal (hMergeIdeal := hMergeIdeal) (hMergeRefIdeal := hMergeRefIdeal)
    ∧ preserves_Din_DinIdeal
    ∧ algebraic_DinIdeal_DinRefIdeal (hDinIdeal := hDinIdeal) (hDinRefIdeal := hDinRefIdeal)
    ∧ preserves_AFwd_AFwdIdeal
    ∧ algebraic_AFwdIdeal_AFwdRefIdeal (hAFwdIdeal := hAFwdIdeal) (hAFwdRefIdeal := hAFwdRefIdeal)
    ∧ preserves_MFwd_MFwdIdeal
    ∧ algebraic_MFwdIdeal_MFwdRefIdeal (hMFwdIdeal := hMFwdIdeal) (hMFwdRefIdeal := hMFwdRefIdeal)
    ∧ preserves_PFwd_PFwdIdeal
    ∧ algebraic_PFwdIdeal_PFwdRefIdeal (hPFwdIdeal := hPFwdIdeal) (hPFwdRefIdeal := hPFwdRefIdeal)
    ∧ preserves_OFwd_OFwdIdeal
    ∧ algebraic_OFwdIdeal_OFwdRefIdeal (hOFwdIdeal := hOFwdIdeal) (hOFwdRefIdeal := hOFwdRefIdeal)
    ∧ preserves_MatNt_MatNtIdeal
    ∧ algebraic_MatNtIdeal_MatNtRefIdeal (hMatNtIdeal := hMatNtIdeal) (hMatNtRefIdeal := hMatNtRefIdeal)
    ∧ preserves_MatTn_MatTnIdeal
    ∧ algebraic_MatTnIdeal_MatTnRefIdeal (hMatTnIdeal := hMatTnIdeal) (hMatTnRefIdeal := hMatTnRefIdeal)
    ∧ preserves_DWin_DWinIdeal
    ∧ algebraic_DWinIdeal_DWinRefIdeal (hDWinIdeal := hDWinIdeal) (hDWinRefIdeal := hDWinRefIdeal)
    ∧ preserves_Slots_SlotsIdeal
    ∧ algebraic_SlotsIdeal_SlotsRefIdeal (hSlotsIdeal := hSlotsIdeal) (hSlotsRefIdeal := hSlotsRefIdeal)
    ∧ preserves_Adam_AdamIdeal
    ∧ algebraic_AdamIdeal_AdamRefIdeal (hAdamIdeal := hAdamIdeal) (hAdamRefIdeal := hAdamRefIdeal)
    ∧ preserves_SHalf_SHalfIdeal
    ∧ algebraic_SHalfIdeal_SHalfRefIdeal (hSHalfIdeal := hSHalfIdeal) (hSHalfRefIdeal := hSHalfRefIdeal) (hPre_is_core := hPre_is_core)
-- ==== Pre_is_core.lean ====
abbrev S4x2048x3584 : Shape := ⟨3, ![4, 2048, 3584]⟩
abbrev S4x1024x3584 : Shape := ⟨3, ![4, 1024, 3584]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S4x2048x3584 .f32) (main_arg1 : FVec F S4x1024x3584 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Kernel.lean ====
abbrev S8208x2048 : Shape := ⟨2, ![8208, 2048]⟩
abbrev S2048 : Shape := ⟨1, ![2048]⟩
abbrev S1x8192x2048 : Shape := ⟨3, ![1, 8192, 2048]⟩
abbrev S_ : Shape := ⟨0, ![]⟩
abbrev S16x2048 : Shape := ⟨2, ![16, 2048]⟩
abbrev S8192x2048 : Shape := ⟨2, ![8192, 2048]⟩
abbrev S1x2048 : Shape := ⟨2, ![1, 2048]⟩
abbrev S144x2048 : Shape := ⟨2, ![144, 2048]⟩
abbrev S144 : Shape := ⟨1, ![144]⟩
abbrev S144x1 : Shape := ⟨2, ![144, 1]⟩

abbrev nBuf : Space → Nat
  | .hbm => 14
  | .vmem => 9
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S1x8192x2048, .f32⟩
  | .hbm, ⟨3, _⟩ => ⟨S_, .f32⟩
  | .hbm, ⟨4, _⟩ => ⟨S16x2048, .f32⟩
  | .hbm, ⟨5, _⟩ => ⟨S8192x2048, .f32⟩
  | .hbm, ⟨6, _⟩ => ⟨S8208x2048, .f32⟩
  | .hbm, ⟨7, _⟩ => ⟨S1x2048, .f32⟩
  | .hbm, ⟨8, _⟩ => ⟨S1x2048, .f32⟩
  | .hbm, ⟨9, _⟩ => ⟨S8208x2048, .f32⟩
  | .hbm, ⟨10, _⟩ => ⟨S1x2048, .f32⟩
  | .hbm, ⟨11, _⟩ => ⟨S_, .f32⟩
  | .hbm, ⟨12, _⟩ => ⟨S_, .f32⟩
  | .hbm, ⟨13, _⟩ => ⟨S2048, .f32⟩
  | .local _ .vmem, ⟨0, _⟩ => ⟨S144x2048, .f32⟩
  | .local _ .vmem, ⟨1, _⟩ => ⟨S144x2048, .f32⟩
  | .local _ .vmem, ⟨2, _⟩ => ⟨S1x2048, .f32⟩
  | .local _ .vmem, ⟨3, _⟩ => ⟨S144x2048, .f32⟩
  | .local _ .vmem, ⟨4, _⟩ => ⟨S144x2048, .f32⟩
  | .local _ .vmem, ⟨5, _⟩ => ⟨S1x2048, .f32⟩
  | .local _ .vmem, ⟨6, _⟩ => ⟨S144x2048, .f32⟩
  | .local _ .vmem, ⟨7, _⟩ => ⟨S144x2048, .f32⟩
  | .local _ .vmem, ⟨8, _⟩ => ⟨S1x2048, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![57], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S144x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S144x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S144x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8208x2048 : Shape := ⟨2, ![8208, 2048]⟩
abbrev S2048 : Shape := ⟨1, ![2048]⟩
abbrev S1x8192x2048 : Shape := ⟨3, ![1, 8192, 2048]⟩
abbrev S1x8208x2048 : Shape := ⟨3, ![1, 8208, 2048]⟩
abbrev S_ : Shape := ⟨0, ![]⟩
abbrev S1x8208 : Shape := ⟨2, ![1, 8208]⟩
abbrev S1x8208x1 : Shape := ⟨3, ![1, 8208, 1]⟩
abbrev S1x1x2048 : Shape := ⟨3, ![1, 1, 2048]⟩
abbrev S1x8192 : Shape := ⟨2, ![1, 8192]⟩
abbrev S1x2048 : Shape := ⟨2, ![1, 2048]⟩
abbrev S8208 : Shape := ⟨1, ![8208]⟩

abbrev nBuf : Space → Nat
  | .hbm => 78
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S1x8192x2048, .f32⟩
  | .hbm, ⟨3, _⟩ => ⟨S1x8208x2048, .f32⟩
  | .hbm, ⟨4, _⟩ => ⟨S1x8208x2048, .f32⟩
  | .hbm, ⟨5, _⟩ => ⟨S_, .f32⟩
  | .hbm, ⟨6, _⟩ => ⟨S1x8208, .f32⟩
  | .hbm, ⟨7, _⟩ => ⟨S1x8208x1, .f32⟩
  | .hbm, ⟨8, _⟩ => ⟨S_, .f32⟩
  | .hbm, ⟨9, _⟩ => ⟨S1x8208x1, .f32⟩
  | .hbm, ⟨10, _⟩ => ⟨S1x8208x1, .f32⟩
  | .hbm, ⟨11, _⟩ => ⟨S_, .f32⟩
  | .hbm, ⟨12, _⟩ => ⟨S1x8208x1, .f32⟩
  | .hbm, ⟨13, _⟩ => ⟨S1x8208x1, .f32⟩
  | .hbm, ⟨14, _⟩ => ⟨S1x8208x1, .f32⟩
  | .hbm, ⟨15, _⟩ => ⟨S1x8208x1, .f32⟩
  | .hbm, ⟨16, _⟩ => ⟨S_, .f32⟩
  | .hbm, ⟨17, _⟩ => ⟨S1x8208x1, .f32⟩
  | .hbm, ⟨18, _⟩ => ⟨S1x8208x1, .f32⟩
  | .hbm, ⟨19, _⟩ => ⟨S1x8208x2048, .f32⟩
  | .hbm, ⟨20, _⟩ => ⟨S1x8208x2048, .f32⟩
  | .hbm, ⟨21, _⟩ => ⟨S1x1x2048, .f32⟩
  | .hbm, ⟨22, _⟩ => ⟨S1x8208x2048, .f32⟩
  | .hbm, ⟨23, _⟩ => ⟨S1x8208x2048, .f32⟩
  | .hbm, ⟨24, _⟩ => ⟨S1x8192x2048, .f32⟩
  | .hbm, ⟨25, _⟩ => ⟨S1x8192x2048, .f32⟩
  | .hbm, ⟨26, _⟩ => ⟨S1x8192x2048, .f32⟩
  | .hbm, ⟨27, _⟩ => ⟨S_, .f32⟩
  | .hbm, ⟨28, _⟩ => ⟨S1x8192x2048, .f32⟩
  | .hbm, ⟨29, _⟩ => ⟨S1x8192x2048, .f32⟩
  | .hbm, ⟨30, _⟩ => ⟨S_, .f32⟩
  | .hbm, ⟨31, _⟩ => ⟨S1x8192, .f32⟩
  | .hbm, ⟨32, _⟩ => ⟨S_, .f32⟩
  | .hbm, ⟨33, _⟩ => ⟨S1x8192, .f32⟩
  | .hbm, ⟨34, _⟩ => ⟨S1x8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1x8192, .f32⟩
  | .hbm, ⟨43, _⟩ => ⟨S_, .f32⟩
  | .hbm, ⟨44, _⟩ => ⟨S1x8192, .f32⟩
  | .hbm, ⟨45, _⟩ => ⟨S1x8192, .f32⟩
  | .hbm, ⟨46, _⟩ => ⟨S1x8192x2048, .f32⟩
  | .hbm, ⟨47, _⟩ => ⟨S1x8192x2048, .f32⟩
  | .hbm, ⟨48, _⟩ => ⟨S_, .f32⟩
  | .hbm, ⟨49, _⟩ => ⟨S1x8208x2048, .f32⟩
  | .hbm, ⟨50, _⟩ => ⟨S1x8208x2048, .f32⟩
  | .hbm, ⟨51, _⟩ => ⟨S_, .f32⟩
  | .hbm, ⟨52, _⟩ => ⟨S1x2048, .f32⟩
  | .hbm, ⟨53, _⟩ => ⟨S1x1x2048, .f32⟩
  | .hbm, ⟨54, _⟩ => ⟨S1x8208x2048, .f32⟩
  | .hbm, ⟨55, _⟩ => ⟨S1x8208x2048, .f32⟩
  | .hbm, ⟨56, _⟩ => ⟨S_, .f32⟩
  | .hbm, ⟨57, _⟩ => ⟨S2048, .f32⟩
  | .hbm, ⟨58, _⟩ => ⟨S1x8208x2048, .f32⟩
  | .hbm, ⟨59, _⟩ => ⟨S_, .f32⟩
  | .hbm, ⟨60, _⟩ => ⟨S1x8208, .f32⟩
  | .hbm, ⟨61, _⟩ => ⟨S1x8208x1, .f32⟩
  | .hbm, ⟨62, _⟩ => ⟨S1x8208x2048, .f32⟩
  | .hbm, ⟨63, _⟩ => ⟨S1x8208x2048, .f32⟩
  | .hbm, ⟨64, _⟩ => ⟨S1x8208x1, .f32⟩
  | .hbm, ⟨65, _⟩ => ⟨S_, .f32⟩
  | .hbm, ⟨66, _⟩ => ⟨S1x8208x1, .f32⟩
  | .hbm, ⟨67, _⟩ => ⟨S1x8208x1, .f32⟩
  | .hbm, ⟨68, _⟩ => ⟨S_, .f32⟩
  | .hbm, ⟨69, _⟩ => ⟨S8208, .f32⟩
  | .hbm, ⟨70, _⟩ => ⟨S1x8208, .f32⟩
  | .hbm, ⟨71, _⟩ => ⟨S1x8208x2048, .f32⟩
  | .hbm, ⟨72, _⟩ => ⟨S1x8208x2048, .f32⟩
  | .hbm, ⟨73, _⟩ => ⟨S1x8208x2048, .f32⟩
  | .hbm, ⟨74, _⟩ => ⟨S1x8208x2048, .f32⟩
  | .hbm, ⟨75, _⟩ => ⟨S1x8208x2048, .f32⟩
  | .hbm, ⟨76, _⟩ => ⟨S_, .f32⟩
  | .hbm, ⟨77, _⟩ => ⟨S8208x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_cst_8 : Ref sig .tc := ⟨.hbm, 39, rfl⟩
abbrev main_cst_9 : Ref sig .tc := ⟨.hbm, 40, rfl⟩
abbrev main_v27 : Ref sig .tc := ⟨.hbm, 41, rfl⟩
abbrev main_v28 : Ref sig .tc := ⟨.hbm, 42, rfl⟩
abbrev main_cst_10 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_cst_12 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_cst_14 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_cst_16 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_17 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== Merge.lean ====
abbrev S8208x2048 : Shape := ⟨2, ![8208, 2048]⟩
abbrev S8208x14336 : Shape := ⟨2, ![8208, 14336]⟩
abbrev S2048x2048 : Shape := ⟨2, ![2048, 2048]⟩
abbrev S912x2048 : Shape := ⟨2, ![912, 2048]⟩
abbrev S512x2048 : Shape := ⟨2, ![512, 2048]⟩
abbrev S912x512 : Shape := ⟨2, ![912, 512]⟩

abbrev nBuf : Space → Nat
  | .hbm => 16
  | .vmem => 21
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x14336, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S8208x2048, .f32⟩
  | .hbm, ⟨7, _⟩ => ⟨S8208x2048, .f32⟩
  | .hbm, ⟨8, _⟩ => ⟨S8208x2048, .bf16⟩
  | .hbm, ⟨9, _⟩ => ⟨S8208x2048, .f32⟩
  | .hbm, ⟨10, _⟩ => ⟨S8208x2048, .bf16⟩
  | .hbm, ⟨11, _⟩ => ⟨S2048x2048, .bf16⟩
  | .hbm, ⟨12, _⟩ => ⟨S8208x2048, .bf16⟩
  | .hbm, ⟨13, _⟩ => ⟨S8208x2048, .bf16⟩
  | .hbm, ⟨14, _⟩ => ⟨S8208x2048, .bf16⟩
  | .hbm, ⟨15, _⟩ => ⟨S8208x2048, .bf16⟩
  | .local _ .vmem, ⟨0, _⟩ => ⟨S912x2048, .f32⟩
  | .local _ .vmem, ⟨1, _⟩ => ⟨S912x2048, .f32⟩
  | .local _ .vmem, ⟨2, _⟩ => ⟨S512x2048, .bf16⟩
  | .local _ .vmem, ⟨3, _⟩ => ⟨S512x2048, .bf16⟩
  | .local _ .vmem, ⟨4, _⟩ => ⟨S912x512, .f32⟩
  | .local _ .vmem, ⟨5, _⟩ => ⟨S912x512, .f32⟩
  | .local _ .vmem, ⟨6, _⟩ => ⟨S912x512, .f32⟩
  | .local _ .vmem, ⟨7, _⟩ => ⟨S912x512, .f32⟩
  | .local _ .vmem, ⟨8, _⟩ => ⟨S912x512, .bf16⟩
  | .local _ .vmem, ⟨9, _⟩ => ⟨S912x512, .bf16⟩
  | .local _ .vmem, ⟨10, _⟩ => ⟨S912x512, .bf16⟩
  | .local _ .vmem, ⟨11, _⟩ => ⟨S912x512, .bf16⟩
  | .local _ .vmem, ⟨12, _⟩ => ⟨S912x512, .bf16⟩
  | .local _ .vmem, ⟨13, _⟩ => ⟨S912x512, .bf16⟩
  | .local _ .vmem, ⟨14, _⟩ => ⟨S912x512, .bf16⟩
  | .local _ .vmem, ⟨15, _⟩ => ⟨S912x512, .bf16⟩
  | .local _ .vmem, ⟨16, _⟩ => ⟨S912x512, .bf16⟩
  | .local _ .vmem, ⟨17, _⟩ => ⟨S912x512, .bf16⟩
  | .local _ .vmem, ⟨18, _⟩ => ⟨S912x512, .bf16⟩
  | .local _ .vmem, ⟨19, _⟩ => ⟨S912x512, .bf16⟩
  | .local _ .vmem, ⟨20, _⟩ => ⟨S912x2048, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S912x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S912x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S912x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S912x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S912x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S8208x2048 : Shape := ⟨2, ![8208, 2048]⟩
abbrev S8208x14336 : Shape := ⟨2, ![8208, 14336]⟩
abbrev S2048x2048 : Shape := ⟨2, ![2048, 2048]⟩
abbrev S1x8208x2048 : Shape := ⟨3, ![1, 8208, 2048]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x14336, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S8208x2048, .f32⟩
  | .hbm, ⟨7, _⟩ => ⟨S8208x2048, .f32⟩
  | .hbm, ⟨8, _⟩ => ⟨S8208x2048, .f32⟩
  | .hbm, ⟨9, _⟩ => ⟨S8208x2048, .f32⟩
  | .hbm, ⟨10, _⟩ => ⟨S8208x2048, .f32⟩
  | .hbm, ⟨11, _⟩ => ⟨S8208x2048, .f32⟩
  | .hbm, ⟨12, _⟩ => ⟨S8208x2048, .f32⟩
  | .hbm, ⟨13, _⟩ => ⟨S8208x2048, .f32⟩
  | .hbm, ⟨14, _⟩ => ⟨S1x8208x2048, .f32⟩
  | .hbm, ⟨15, _⟩ => ⟨S1x8208x2048, .f32⟩
  | .hbm, ⟨16, _⟩ => ⟨S8208x2048, .f32⟩
  | .hbm, ⟨17, _⟩ => ⟨S1x8208x2048, .f32⟩
  | .hbm, ⟨18, _⟩ => ⟨S1x8208x2048, .f32⟩
  | .hbm, ⟨19, _⟩ => ⟨S8208x2048, .f32⟩
  | .hbm, ⟨20, _⟩ => ⟨S8208x2048, .f32⟩
  | .hbm, ⟨21, _⟩ => ⟨S8208x2048, .f32⟩
  | .hbm, ⟨22, _⟩ => ⟨S_, .f32⟩
  | .hbm, ⟨23, _⟩ => ⟨S8208x2048, .f32⟩
  | .hbm, ⟨24, _⟩ => ⟨S8208x2048, .f32⟩
  | .hbm, ⟨25, _⟩ => ⟨S_, .f32⟩
  | .hbm, ⟨26, _⟩ => ⟨S8208x2048, .f32⟩
  | .hbm, ⟨27, _⟩ => ⟨S8208x2048, .f32⟩
  | .hbm, ⟨28, _⟩ => ⟨S_, .f32⟩
  | .hbm, ⟨29, _⟩ => ⟨S8208x2048, .f32⟩
  | .hbm, ⟨30, _⟩ => ⟨S8208x2048, .f32⟩
  | .hbm, ⟨31, _⟩ => ⟨S8208x2048, .f32⟩
  | .hbm, ⟨32, _⟩ => ⟨S8208x2048, .f32⟩
  | .hbm, ⟨33, _⟩ => ⟨S8208x2048, .f32⟩
  | .hbm, ⟨34, _⟩ => ⟨S8208x2048, .f32⟩
  | .hbm, ⟨35, _⟩ => ⟨S_, .f32⟩
  | .hbm, ⟨36, _⟩ => ⟨S8208x2048, .f32⟩
  | .hbm, ⟨37, _⟩ => ⟨S8208x2048, .f32⟩
  | .hbm, ⟨38, _⟩ => ⟨S_, .f32⟩
  | .hbm, ⟨39, _⟩ => ⟨S8208x2048, .f32⟩
  | .hbm, ⟨40, _⟩ => ⟨S8208x2048, .f32⟩
  | .hbm, ⟨41, _⟩ => ⟨S_, .f32⟩
  | .hbm, ⟨42, _⟩ => ⟨S8208x2048, .f32⟩
  | .hbm, ⟨43, _⟩ => ⟨S8208x2048, .f32⟩
  | .hbm, ⟨44, _⟩ => ⟨S8208x2048, .f32⟩
  | .hbm, ⟨45, _⟩ => ⟨S8208x2048, .f32⟩
  | .hbm, ⟨46, _⟩ => ⟨S8208x2048, .f32⟩
  | .hbm, ⟨47, _⟩ => ⟨S1x8208x2048, .f32⟩
  | .hbm, ⟨48, _⟩ => ⟨S1x8208x2048, .f32⟩
  | .hbm, ⟨49, _⟩ => ⟨S8208x2048, .f32⟩
  | .hbm, ⟨50, _⟩ => ⟨S1x8208x2048, .f32⟩
  | .hbm, ⟨51, _⟩ => ⟨S1x8208x2048, .f32⟩
  | .hbm, ⟨52, _⟩ => ⟨S_, .f32⟩
  | .hbm, ⟨53, _⟩ => ⟨S8208x2048, .f32⟩
  | .hbm, ⟨54, _⟩ => ⟨S8208x2048, .f32⟩
  | .hbm, ⟨55, _⟩ => ⟨S8208x2048, .f32⟩
  | .hbm, ⟨56, _⟩ => ⟨S8208x2048, .f32⟩
  | .hbm, ⟨57, _⟩ => ⟨S8208x2048, .f32⟩
  | .hbm, ⟨58, _⟩ => ⟨S8208x2048, .f32⟩
  | .hbm, ⟨59, _⟩ => ⟨S8208x2048, .f32⟩
  | .hbm, ⟨60, _⟩ => ⟨S8208x2048, .bf16⟩
  | .hbm, ⟨61, _⟩ => ⟨S8208x2048, .bf16⟩
  | .hbm, ⟨62, _⟩ => ⟨S8208x2048, .bf16⟩
  | .hbm, ⟨63, _⟩ => ⟨S8208x2048, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_5 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Din.lean ====
abbrev S8208x2048 : Shape := ⟨2, ![8208, 2048]⟩
abbrev S2048 : Shape := ⟨1, ![2048]⟩
abbrev S2048x14336 : Shape := ⟨2, ![2048, 14336]⟩
abbrev S8208x14336 : Shape := ⟨2, ![8208, 14336]⟩
abbrev S2048x4x3584 : Shape := ⟨3, ![2048, 4, 3584]⟩
abbrev S4x2048x3584 : Shape := ⟨3, ![4, 2048, 3584]⟩
abbrev S1x2048 : Shape := ⟨2, ![1, 2048]⟩
abbrev S912x512 : Shape := ⟨2, ![912, 512]⟩
abbrev S1x2048x512 : Shape := ⟨3, ![1, 2048, 512]⟩
abbrev S912x2048 : Shape := ⟨2, ![912, 2048]⟩
abbrev S8x2048 : Shape := ⟨2, ![8, 2048]⟩
abbrev S2048x512 : Shape := ⟨2, ![2048, 512]⟩
abbrev S16x2048 : Shape := ⟨2, ![16, 2048]⟩
abbrev S16 : Shape := ⟨1, ![16]⟩
abbrev S16x1 : Shape := ⟨2, ![16, 1]⟩

abbrev nBuf : Space → Nat
  | .hbm => 25
  | .vmem => 25
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S8208x14336, .f32⟩
  | .hbm, ⟨4, _⟩ => ⟨S8208x2048, .f32⟩
  | .hbm, ⟨5, _⟩ => ⟨S8208x2048, .f32⟩
  | .hbm, ⟨6, _⟩ => ⟨S8208x2048, .bf16⟩
  | .hbm, ⟨7, _⟩ => ⟨S8208x2048, .f32⟩
  | .hbm, ⟨8, _⟩ => ⟨S8208x2048, .bf16⟩
  | .hbm, ⟨9, _⟩ => ⟨S8208x2048, .f32⟩
  | .hbm, ⟨10, _⟩ => ⟨S8208x2048, .bf16⟩
  | .hbm, ⟨11, _⟩ => ⟨S8208x2048, .f32⟩
  | .hbm, ⟨12, _⟩ => ⟨S8208x2048, .bf16⟩
  | .hbm, ⟨13, _⟩ => ⟨S8208x2048, .f32⟩
  | .hbm, ⟨14, _⟩ => ⟨S8208x2048, .bf16⟩
  | .hbm, ⟨15, _⟩ => ⟨S8208x2048, .f32⟩
  | .hbm, ⟨16, _⟩ => ⟨S8208x2048, .bf16⟩
  | .hbm, ⟨17, _⟩ => ⟨S8208x2048, .f32⟩
  | .hbm, ⟨18, _⟩ => ⟨S8208x2048, .bf16⟩
  | .hbm, ⟨19, _⟩ => ⟨S2048x14336, .bf16⟩
  | .hbm, ⟨20, _⟩ => ⟨S2048x4x3584, .bf16⟩
  | .hbm, ⟨21, _⟩ => ⟨S4x2048x3584, .bf16⟩
  | .hbm, ⟨22, _⟩ => ⟨S1x2048, .f32⟩
  | .hbm, ⟨23, _⟩ => ⟨S8208x2048, .f32⟩
  | .hbm, ⟨24, _⟩ => ⟨S1x2048, .f32⟩
  | .local _ .vmem, ⟨0, _⟩ => ⟨S912x512, .bf16⟩
  | .local _ .vmem, ⟨1, _⟩ => ⟨S912x512, .bf16⟩
  | .local _ .vmem, ⟨2, _⟩ => ⟨S912x512, .bf16⟩
  | .local _ .vmem, ⟨3, _⟩ => ⟨S912x512, .bf16⟩
  | .local _ .vmem, ⟨4, _⟩ => ⟨S912x512, .bf16⟩
  | .local _ .vmem, ⟨5, _⟩ => ⟨S912x512, .bf16⟩
  | .local _ .vmem, ⟨6, _⟩ => ⟨S912x512, .bf16⟩
  | .local _ .vmem, ⟨7, _⟩ => ⟨S912x512, .bf16⟩
  | .local _ .vmem, ⟨8, _⟩ => ⟨S912x512, .bf16⟩
  | .local _ .vmem, ⟨9, _⟩ => ⟨S912x512, .bf16⟩
  | .local _ .vmem, ⟨10, _⟩ => ⟨S912x512, .bf16⟩
  | .local _ .vmem, ⟨11, _⟩ => ⟨S912x512, .bf16⟩
  | .local _ .vmem, ⟨12, _⟩ => ⟨S912x512, .bf16⟩
  | .local _ .vmem, ⟨13, _⟩ => ⟨S912x512, .bf16⟩
  | .local _ .vmem, ⟨14, _⟩ => ⟨S1x2048x512, .bf16⟩
  | .local _ .vmem, ⟨15, _⟩ => ⟨S1x2048x512, .bf16⟩
  | .local _ .vmem, ⟨16, _⟩ => ⟨S912x2048, .f32⟩
  | .local _ .vmem, ⟨17, _⟩ => ⟨S912x2048, .f32⟩
  | .local _ .vmem, ⟨18, _⟩ => ⟨S1x2048, .f32⟩
  | .local _ .vmem, ⟨19, _⟩ => ⟨S912x2048, .f32⟩
  | .local _ .vmem, ⟨20, _⟩ => ⟨S912x2048, .f32⟩
  | .local _ .vmem, ⟨21, _⟩ => ⟨S912x2048, .f32⟩
  | .local _ .vmem, ⟨22, _⟩ => ⟨S912x2048, .f32⟩
  | .local _ .vmem, ⟨23, _⟩ => ⟨S1x2048, .f32⟩
  | .local _ .vmem, ⟨24, _⟩ => ⟨S8x2048, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18_0 : Ref sig .tc := ⟨.hbm, 23, rfl⟩
abbrev main_v18_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![9, 28], ![false, false]⟩

def k0_cond10 (i : grid0.Coords) : BitVec 1 :=
  let arg1 : BitVec 32 := BitVec.ofNat 32 (i 1).val
  let c27_i32 : BitVec 32 := 27#32
  let v148 : BitVec 1 := Scalar.cmpi .eq arg1 c27_i32
  let v149 : BitVec 32 := Scalar.extui v148
  let c0_i32_61 : BitVec 32 := 0#32
  let v150 : BitVec 1 := Scalar.cmpi .ne v149 c0_i32_61
  v150

@[reducible] def k0_t1_loop : Scf.Loop 32 :=
  let c0_i32_62 : BitVec 32 := 0#32
  let c19_i32 : BitVec 32 := 19#32
  let v151 : BitVec 32 := Scalar.addi c0_i32_62 c19_i32
  let c1_i32_63 : BitVec 32 := 1#32
  ⟨c0_i32_62, v151, c1_i32_63⟩
def k0_mult1 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_68 : BitVec 32 := 3#32
  let v156 : BitVec 32 := Scalar.muli arg16 c3_i32_68
  let c0_i32_69 : BitVec 32 := 0#32
  let v157 : BitVec 32 := Scalar.addi v156 c0_i32_69
  let c16_i32 : BitVec 32 := 16#32
  let v158 : BitVec 32 := Scalar.muli v157 c16_i32
  v158
def k0_mult2 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_68 : BitVec 32 := 3#32
  let v156 : BitVec 32 := Scalar.muli arg16 c3_i32_68
  let c0_i32_69 : BitVec 32 := 0#32
  let v157 : BitVec 32 := Scalar.addi v156 c0_i32_69
  let c16_i32 : BitVec 32 := 16#32
  let v158 : BitVec 32 := Scalar.muli v157 c16_i32
  let v159 : BitVec 32 := v158
  let c0_i32_70 : BitVec 32 := 0#32
  let v160 : BitVec 32 := Scalar.addi v159 c0_i32_70
  v160
def k0_off1 (k0_t1 : Fin k0_t1_loop.trips) (c0_i32_69 : BitVec 32) : Fin 2 → Nat :=
  let c0_i32_62 : BitVec 32 := 0#32
  let c1_i32_63 : BitVec 32 := 1#32
  let arg16 : BitVec 32 := Scf.iv c0_i32_62 c1_i32_63 k0_t1
  let c3_i32_68 : BitVec 32 := 3#32
  let v156 : BitVec 32 := Scalar.muli arg16 c3_i32_68
  let v157 : BitVec 32 := Scalar.addi v156 c0_i32_69
  let c16_i32 : BitVec 32 := 16#32
  let v158 : BitVec 32 := Scalar.muli v157 c16_i32
  let v159 : BitVec 32 := v158
  let c0_i32_70 : BitVec 32 := 0#32
  let v160 : BitVec 32 := Scalar.addi v159 c0_i32_70
  let v161 : BitVec 32 := v160
  let v162 : Index := Scalar.indexCast v161
  let c0_71 : Index := 0#32
  ![v162.toNat, 0]
def k0_mult3 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_86 : BitVec 32 := 3#32
  let v205 : BitVec 32 := Scalar.muli arg16 c3_i32_86
  let c1_i32_87 : BitVec 32 := 1#32
  let v206 : BitVec 32 := Scalar.addi v205 c1_i32_87
  let c16_i32_88 : BitVec 32 := 16#32
  let v207 : BitVec 32 := Scalar.muli v206 c16_i32_88
  v207
def k0_mult4 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_86 : BitVec 32 := 3#32
  let v205 : BitVec 32 := Scalar.muli arg16 c3_i32_86
  let c1_i32_87 : BitVec 32 := 1#32
  let v206 : BitVec 32 := Scalar.addi v205 c1_i32_87
  let c16_i32_88 : BitVec 32 := 16#32
  let v207 : BitVec 32 := Scalar.muli v206 c16_i32_88
  let v208 : BitVec 32 := v207
  let c0_i32_89 : BitVec 32 := 0#32
  let v209 : BitVec 32 := Scalar.addi v208 c0_i32_89
  v209
def k0_mult5 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_105 : BitVec 32 := 3#32
  let v254 : BitVec 32 := Scalar.muli arg16 c3_i32_105
  let c2_i32_106 : BitVec 32 := 2#32
  let v255 : BitVec 32 := Scalar.addi v254 c2_i32_106
  let c16_i32_107 : BitVec 32 := 16#32
  let v256 : BitVec 32 := Scalar.muli v255 c16_i32_107
  v256
def k0_mult6 (k0_t1 : Fin k0_t1_loop.trips) : BitVec 32 :=
  let c0_i32_62 : BitVec 32 := 0#32
  let c1_i32_63 : BitVec 32 := 1#32
  let arg16 : BitVec 32 := Scf.iv c0_i32_62 c1_i32_63 k0_t1
  let c3_i32_105 : BitVec 32 := 3#32
  let v254 : BitVec 32 := Scalar.muli arg16 c3_i32_105
  let c2_i32_106 : BitVec 32 := 2#32
  let v255 : BitVec 32 := Scalar.addi v254 c2_i32_106
  let c16_i32_107 : BitVec 32 := 16#32
  let v256 : BitVec 32 := Scalar.muli v255 c16_i32_107
  let v257 : BitVec 32 := v256
  let c0_i32_108 : BitVec 32 := 0#32
  let v258 : BitVec 32 := Scalar.addi v257 c0_i32_108
  v258
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c0_i32_4 : BitVec 32 := 0#32
  let v9 : BitVec 1 := Scalar.cmpi .sgt arg1 c0_i32_4
  let v10 : BitVec 32 := Scalar.extui v9
  let c0_i32_5 : BitVec 32 := 0#32
  let v11 : BitVec 1 := Scalar.cmpi .slt arg1 c0_i32_5
  let v12 : BitVec 32 := Scalar.extui v11
  let v13 : BitVec 32 := Scalar.subi v10 v12
  let c4_i32 : BitVec 32 := 4#32
  let c0_i32_6 : BitVec 32 := 0#32
  let v14 : BitVec 1 := Scalar.cmpi .sgt c4_i32 c0_i32_6
  let v15 : BitVec 32 := Scalar.extui v14
  let c0_i32_7 : BitVec 32 := 0#32
  let v16 : BitVec 1 := Scalar.cmpi .slt c4_i32 c0_i32_7
  let v17 : BitVec 32 := Scalar.extui v16
  let v18 : BitVec 32 := Scalar.subi v15 v17
  let v19 : BitVec 1 := Scalar.cmpi .ne v13 v18
  let v20 : BitVec 32 := Scalar.remsi arg1 c4_i32
  let c0_i32_8 : BitVec 32 := 0#32
  let v21 : BitVec 1 := Scalar.cmpi .ne v20 c0_i32_8
  let v22 : BitVec 1 := Scalar.andi v19 v21
  let v8 : BitVec 32 := Scalar.divsi arg1 c4_i32
  let c1_i32 : BitVec 32 := 1#32
  let v23 : BitVec 32 := Scalar.subi v8 c1_i32
  let v24 : BitVec 32 := Scalar.select v22 v23 v8
  let c0_i32_9 : BitVec 32 := 0#32
  let v25 : BitVec 1 := Scalar.cmpi .eq v24 c0_i32_9
  let v26 : BitVec 32 := Scalar.extui v25
  let c0_i32_10 : BitVec 32 := 0#32
  let v27 : BitVec 1 := Scalar.cmpi .ne v26 c0_i32_10
  v27

def k0_cond4 (i : grid0.Coords) : BitVec 1 :=
  let arg1 : BitVec 32 := BitVec.ofNat 32 (i 1).val
  let c0_i32_12 : BitVec 32 := 0#32
  let v29 : BitVec 1 := Scalar.cmpi .sgt arg1 c0_i32_12
  let v30 : BitVec 32 := Scalar.extui v29
  let c0_i32_13 : BitVec 32 := 0#32
  let v31 : BitVec 1 := Scalar.cmpi .slt arg1 c0_i32_13
  let v32 : BitVec 32 := Scalar.extui v31
  let v33 : BitVec 32 := Scalar.subi v30 v32
  let c4_i32_11 : BitVec 32 := 4#32
  let c0_i32_14 : BitVec 32 := 0#32
  let v34 : BitVec 1 := Scalar.cmpi .sgt c4_i32_11 c0_i32_14
  let v35 : BitVec 32 := Scalar.extui v34
  let c0_i32_15 : BitVec 32 := 0#32
  let v36 : BitVec 1 := Scalar.cmpi .slt c4_i32_11 c0_i32_15
  let v37 : BitVec 32 := Scalar.extui v36
  let v38 : BitVec 32 := Scalar.subi v35 v37
  let v39 : BitVec 1 := Scalar.cmpi .ne v33 v38
  let v40 : BitVec 32 := Scalar.remsi arg1 c4_i32_11
  let c0_i32_16 : BitVec 32 := 0#32
  let v41 : BitVec 1 := Scalar.cmpi .ne v40 c0_i32_16
  let v42 : BitVec 1 := Scalar.andi v39 v41
  let v28 : BitVec 32 := Scalar.divsi arg1 c4_i32_11
  let c1_i32_17 : BitVec 32 := 1#32
  let v43 : BitVec 32 := Scalar.subi v28 c1_i32_17
  let v44 : BitVec 32 := Scalar.select v42 v43 v28
  let c1_i32_18 : BitVec 32 := 1#32
  let v45 : BitVec 1 := Scalar.cmpi .eq v44 c1_i32_18
  let v46 : BitVec 32 := Scalar.extui v45
  let c0_i32_19 : BitVec 32 := 0#32
  let v47 : BitVec 1 := Scalar.cmpi .ne v46 c0_i32_19
  v47

def k0_cond5 (i : grid0.Coords) : BitVec 1 :=
  let arg1 : BitVec 32 := BitVec.ofNat 32 (i 1).val
  let c0_i32_21 : BitVec 32 := 0#32
  let v49 : BitVec 1 := Scalar.cmpi .sgt arg1 c0_i32_21
  let v50 : BitVec 32 := Scalar.extui v49
  let c0_i32_22 : BitVec 32 := 0#32
  let v51 : BitVec 1 := Scalar.cmpi .slt arg1 c0_i32_22
  let v52 : BitVec 32 := Scalar.extui v51
  let v53 : BitVec 32 := Scalar.subi v50 v52
  let c4_i32_20 : BitVec 32 := 4#32
  let c0_i32_23 : BitVec 32 := 0#32
  let v54 : BitVec 1 := Scalar.cmpi .sgt c4_i32_20 c0_i32_23
  let v55 : BitVec 32 := Scalar.extui v54
  let c0_i32_24 : BitVec 32 := 0#32
  let v56 : BitVec 1 := Scalar.cmpi .slt c4_i32_20 c0_i32_24
  let v57 : BitVec 32 := Scalar.extui v56
  let v58 : BitVec 32 := Scalar.subi v55 v57
  let v59 : BitVec 1 := Scalar.cmpi .ne v53 v58
  let v60 : BitVec 32 := Scalar.remsi arg1 c4_i32_20
  let c0_i32_25 : BitVec 32 := 0#32
  let v61 : BitVec 1 := Scalar.cmpi .ne v60 c0_i32_25
  let v62 : BitVec 1 := Scalar.andi v59 v61
  let v48 : BitVec 32 := Scalar.divsi arg1 c4_i32_20
  let c1_i32_26 : BitVec 32 := 1#32
  let v63 : BitVec 32 := Scalar.subi v48 c1_i32_26
  let v64 : BitVec 32 := Scalar.select v62 v63 v48
  let c2_i32 : BitVec 32 := 2#32
  let v65 : BitVec 1 := Scalar.cmpi .eq v64 c2_i32
  let v66 : BitVec 32 := Scalar.extui v65
  let c0_i32_27 : BitVec 32 := 0#32
  let v67 : BitVec 1 := Scalar.cmpi .ne v66 c0_i32_27
  v67

def k0_cond6 (i : grid0.Coords) : BitVec 1 :=
  let arg1 : BitVec 32 := BitVec.ofNat 32 (i 1).val
  let c0_i32_29 : BitVec 32 := 0#32
  let v69 : BitVec 1 := Scalar.cmpi .sgt arg1 c0_i32_29
  let v70 : BitVec 32 := Scalar.extui v69
  let c0_i32_30 : BitVec 32 := 0#32
  let v71 : BitVec 1 := Scalar.cmpi .slt arg1 c0_i32_30
  let v72 : BitVec 32 := Scalar.extui v71
  let v73 : BitVec 32 := Scalar.subi v70 v72
  let c4_i32_28 : BitVec 32 := 4#32
  let c0_i32_31 : BitVec 32 := 0#32
  let v74 : BitVec 1 := Scalar.cmpi .sgt c4_i32_28 c0_i32_31
  let v75 : BitVec 32 := Scalar.extui v74
  let c0_i32_32 : BitVec 32 := 0#32
  let v76 : BitVec 1 := Scalar.cmpi .slt c4_i32_28 c0_i32_32
  let v77 : BitVec 32 := Scalar.extui v76
  let v78 : BitVec 32 := Scalar.subi v75 v77
  let v79 : BitVec 1 := Scalar.cmpi .ne v73 v78
  let v80 : BitVec 32 := Scalar.remsi arg1 c4_i32_28
  let c0_i32_33 : BitVec 32 := 0#32
  let v81 : BitVec 1 := Scalar.cmpi .ne v80 c0_i32_33
  let v82 : BitVec 1 := Scalar.andi v79 v81
  let v68 : BitVec 32 := Scalar.divsi arg1 c4_i32_28
  let c1_i32_34 : BitVec 32 := 1#32
  let v83 : BitVec 32 := Scalar.subi v68 c1_i32_34
  let v84 : BitVec 32 := Scalar.select v82 v83 v68
  let c3_i32 : BitVec 32 := 3#32
  let v85 : BitVec 1 := Scalar.cmpi .eq v84 c3_i32
  let v86 : BitVec 32 := Scalar.extui v85
  let c0_i32_35 : BitVec 32 := 0#32
  let v87 : BitVec 1 := Scalar.cmpi .ne v86 c0_i32_35
  v87

def k0_cond7 (i : grid0.Coords) : BitVec 1 :=
  let arg1 : BitVec 32 := BitVec.ofNat 32 (i 1).val
  let c0_i32_37 : BitVec 32 := 0#32
  let v89 : BitVec 1 := Scalar.cmpi .sgt arg1 c0_i32_37
  let v90 : BitVec 32 := Scalar.extui v89
  let c0_i32_38 : BitVec 32 := 0#32
  let v91 : BitVec 1 := Scalar.cmpi .slt arg1 c0_i32_38
  let v92 : BitVec 32 := Scalar.extui v91
  let v93 : BitVec 32 := Scalar.subi v90 v92
  let c4_i32_36 : BitVec 32 := 4#32
  let c0_i32_39 : BitVec 32 := 0#32
  let v94 : BitVec 1 := Scalar.cmpi .sgt c4_i32_36 c0_i32_39
  let v95 : BitVec 32 := Scalar.extui v94
  let c0_i32_40 : BitVec 32 := 0#32
  let v96 : BitVec 1 := Scalar.cmpi .slt c4_i32_36 c0_i32_40
  let v97 : BitVec 32 := Scalar.extui v96
  let v98 : BitVec 32 := Scalar.subi v95 v97
  let v99 : BitVec 1 := Scalar.cmpi .ne v93 v98
  let v100 : BitVec 32 := Scalar.remsi arg1 c4_i32_36
  let c0_i32_41 : BitVec 32 := 0#32
  let v101 : BitVec 1 := Scalar.cmpi .ne v100 c0_i32_41
  let v102 : BitVec 1 := Scalar.andi v99 v101
  let v88 : BitVec 32 := Scalar.divsi arg1 c4_i32_36
  let c1_i32_42 : BitVec 32 := 1#32
  let v103 : BitVec 32 := Scalar.subi v88 c1_i32_42
  let v104 : BitVec 32 := Scalar.select v102 v103 v88
  let c4_i32_43 : BitVec 32 := 4#32
  let v105 : BitVec 1 := Scalar.cmpi .eq v104 c4_i32_43
  let v106 : BitVec 32 := Scalar.extui v105
  let c0_i32_44 : BitVec 32 := 0#32
  let v107 : BitVec 1 := Scalar.cmpi .ne v106 c0_i32_44
  v107

def k0_cond8 (i : grid0.Coords) : BitVec 1 :=
  let arg1 : BitVec 32 := BitVec.ofNat 32 (i 1).val
  let c0_i32_46 : BitVec 32 := 0#32
  let v109 : BitVec 1 := Scalar.cmpi .sgt arg1 c0_i32_46
  let v110 : BitVec 32 := Scalar.extui v109
  let c0_i32_47 : BitVec 32 := 0#32
  let v111 : BitVec 1 := Scalar.cmpi .slt arg1 c0_i32_47
  let v112 : BitVec 32 := Scalar.extui v111
  let v113 : BitVec 32 := Scalar.subi v110 v112
  let c4_i32_45 : BitVec 32 := 4#32
  let c0_i32_48 : BitVec 32 := 0#32
  let v114 : BitVec 1 := Scalar.cmpi .sgt c4_i32_45 c0_i32_48
  let v115 : BitVec 32 := Scalar.extui v114
  let c0_i32_49 : BitVec 32 := 0#32
  let v116 : BitVec 1 := Scalar.cmpi .slt c4_i32_45 c0_i32_49
  let v117 : BitVec 32 := Scalar.extui v116
  let v118 : BitVec 32 := Scalar.subi v115 v117
  let v119 : BitVec 1 := Scalar.cmpi .ne v113 v118
  let v120 : BitVec 32 := Scalar.remsi arg1 c4_i32_45
  let c0_i32_50 : BitVec 32 := 0#32
  let v121 : BitVec 1 := Scalar.cmpi .ne v120 c0_i32_50
  let v122 : BitVec 1 := Scalar.andi v119 v121
  let v108 : BitVec 32 := Scalar.divsi arg1 c4_i32_45
  let c1_i32_51 : BitVec 32 := 1#32
  let v123 : BitVec 32 := Scalar.subi v108 c1_i32_51
  let v124 : BitVec 32 := Scalar.select v122 v123 v108
  let c5_i32 : BitVec 32 := 5#32
  let v125 : BitVec 1 := Scalar.cmpi .eq v124 c5_i32
  let v126 : BitVec 32 := Scalar.extui v125
  let c0_i32_52 : BitVec 32 := 0#32
  let v127 : BitVec 1 := Scalar.cmpi .ne v126 c0_i32_52
  v127

def k0_cond9 (i : grid0.Coords) : BitVec 1 :=
  let arg1 : BitVec 32 := BitVec.ofNat 32 (i 1).val
  let c0_i32_54 : BitVec 32 := 0#32
  let v129 : BitVec 1 := Scalar.cmpi .sgt arg1 c0_i32_54
  let v130 : BitVec 32 := Scalar.extui v129
  let c0_i32_55 : BitVec 32 := 0#32
  let v131 : BitVec 1 := Scalar.cmpi .slt arg1 c0_i32_55
  let v132 : BitVec 32 := Scalar.extui v131
  let v133 : BitVec 32 := Scalar.subi v130 v132
  let c4_i32_53 : BitVec 32 := 4#32
  let c0_i32_56 : BitVec 32 := 0#32
  let v134 : BitVec 1 := Scalar.cmpi .sgt c4_i32_53 c0_i32_56
  let v135 : BitVec 32 := Scalar.extui v134
  let c0_i32_57 : BitVec 32 := 0#32
  let v136 : BitVec 1 := Scalar.cmpi .slt c4_i32_53 c0_i32_57
  let v137 : BitVec 32 := Scalar.extui v136
  let v138 : BitVec 32 := Scalar.subi v135 v137
  let v139 : BitVec 1 := Scalar.cmpi .ne v133 v138
  let v140 : BitVec 32 := Scalar.remsi arg1 c4_i32_53
  let c0_i32_58 : BitVec 32 := 0#32
  let v141 : BitVec 1 := Scalar.cmpi .ne v140 c0_i32_58
  let v142 : BitVec 1 := Scalar.andi v139 v141
  let v128 : BitVec 32 := Scalar.divsi arg1 c4_i32_53
  let c1_i32_59 : BitVec 32 := 1#32
  let v143 : BitVec 32 := Scalar.subi v128 c1_i32_59
  let v144 : BitVec 32 := Scalar.select v142 v143 v128
  let c6_i32 : BitVec 32 := 6#32
  let v145 : BitVec 1 := Scalar.cmpi .eq v144 c6_i32
  let v146 : BitVec 32 := Scalar.extui v145
  let c0_i32_60 : BitVec 32 := 0#32
  let v147 : BitVec 1 := Scalar.cmpi .ne v146 c0_i32_60
  v147

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.subi arg1 c12_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.subi arg1 c20_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.subi arg1 c24_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg1 c7_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg1 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S912x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S912x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S912x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S912x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S912x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S912x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S912x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== DinRefIdeal.lean ====
abbrev S8208x2048 : Shape := ⟨2, ![8208, 2048]⟩
abbrev S2048 : Shape := ⟨1, ![2048]⟩
abbrev S2048x14336 : Shape := ⟨2, ![2048, 14336]⟩
abbrev S8208x14336 : Shape := ⟨2, ![8208, 14336]⟩
abbrev S1x8208x2048 : Shape := ⟨3, ![1, 8208, 2048]⟩
abbrev S_ : Shape := ⟨0, ![]⟩
abbrev S1x8208 : Shape := ⟨2, ![1, 8208]⟩
abbrev S1x8208x1 : Shape := ⟨3, ![1, 8208, 1]⟩
abbrev S1x1x2048 : Shape := ⟨3, ![1, 1, 2048]⟩
abbrev S1x8208x14336 : Shape := ⟨3, ![1, 8208, 14336]⟩
abbrev S1x2048 : Shape := ⟨2, ![1, 2048]⟩
abbrev S8208 : Shape := ⟨1, ![8208]⟩

abbrev nBuf : Space → Nat
  | .hbm => 60
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S8208x14336, .f32⟩
  | .hbm, ⟨4, _⟩ => ⟨S8208x2048, .f32⟩
  | .hbm, ⟨5, _⟩ => ⟨S1x8208x2048, .f32⟩
  | .hbm, ⟨6, _⟩ => ⟨S1x8208x2048, .f32⟩
  | .hbm, ⟨7, _⟩ => ⟨S_, .f32⟩
  | .hbm, ⟨8, _⟩ => ⟨S1x8208, .f32⟩
  | .hbm, ⟨9, _⟩ => ⟨S1x8208x1, .f32⟩
  | .hbm, ⟨10, _⟩ => ⟨S_, .f32⟩
  | .hbm, ⟨11, _⟩ => ⟨S1x8208x1, .f32⟩
  | .hbm, ⟨12, _⟩ => ⟨S1x8208x1, .f32⟩
  | .hbm, ⟨13, _⟩ => ⟨S_, .f32⟩
  | .hbm, ⟨14, _⟩ => ⟨S1x8208x1, .f32⟩
  | .hbm, ⟨15, _⟩ => ⟨S1x8208x1, .f32⟩
  | .hbm, ⟨16, _⟩ => ⟨S1x8208x1, .f32⟩
  | .hbm, ⟨17, _⟩ => ⟨S1x8208x1, .f32⟩
  | .hbm, ⟨18, _⟩ => ⟨S_, .f32⟩
  | .hbm, ⟨19, _⟩ => ⟨S1x8208x1, .f32⟩
  | .hbm, ⟨20, _⟩ => ⟨S1x8208x1, .f32⟩
  | .hbm, ⟨21, _⟩ => ⟨S1x8208x2048, .f32⟩
  | .hbm, ⟨22, _⟩ => ⟨S1x8208x2048, .f32⟩
  | .hbm, ⟨23, _⟩ => ⟨S1x1x2048, .f32⟩
  | .hbm, ⟨24, _⟩ => ⟨S1x8208x2048, .f32⟩
  | .hbm, ⟨25, _⟩ => ⟨S1x8208x2048, .f32⟩
  | .hbm, ⟨26, _⟩ => ⟨S1x8208x14336, .f32⟩
  | .hbm, ⟨27, _⟩ => ⟨S8208x14336, .f32⟩
  | .hbm, ⟨28, _⟩ => ⟨S1x8208x14336, .f32⟩
  | .hbm, ⟨29, _⟩ => ⟨S1x8208x2048, .f32⟩
  | .hbm, ⟨30, _⟩ => ⟨S1x8208x2048, .f32⟩
  | .hbm, ⟨31, _⟩ => ⟨S_, .f32⟩
  | .hbm, ⟨32, _⟩ => ⟨S1x2048, .f32⟩
  | .hbm, ⟨33, _⟩ => ⟨S1x1x2048, .f32⟩
  | .hbm, ⟨34, _⟩ => ⟨S1x8208x2048, .f32⟩
  | .hbm, ⟨35, _⟩ => ⟨S1x8208x2048, .f32⟩
  | .hbm, ⟨36, _⟩ => ⟨S_, .f32⟩
  | .hbm, ⟨37, _⟩ => ⟨S2048, .f32⟩
  | .hbm, ⟨38, _⟩ => ⟨S1x8208x2048, .f32⟩
  | .hbm, ⟨39, _⟩ => ⟨S_, .f32⟩
  | .hbm, ⟨40, _⟩ => ⟨S1x8208, .f32⟩
  | .hbm, ⟨41, _⟩ => ⟨S1x8208x1, .f32⟩
  | .hbm, ⟨42, _⟩ => ⟨S1x8208x2048, .f32⟩
  | .hbm, ⟨43, _⟩ => ⟨S1x8208x2048, .f32⟩
  | .hbm, ⟨44, _⟩ => ⟨S1x8208x1, .f32⟩
  | .hbm, ⟨45, _⟩ => ⟨S_, .f32⟩
  | .hbm, ⟨46, _⟩ => ⟨S1x8208x1, .f32⟩
  | .hbm, ⟨47, _⟩ => ⟨S1x8208x1, .f32⟩
  | .hbm, ⟨48, _⟩ => ⟨S_, .f32⟩
  | .hbm, ⟨49, _⟩ => ⟨S8208, .f32⟩
  | .hbm, ⟨50, _⟩ => ⟨S1x8208, .f32⟩
  | .hbm, ⟨51, _⟩ => ⟨S1x8208x2048, .f32⟩
  | .hbm, ⟨52, _⟩ => ⟨S1x8208x2048, .f32⟩
  | .hbm, ⟨53, _⟩ => ⟨S1x8208x2048, .f32⟩
  | .hbm, ⟨54, _⟩ => ⟨S1x8208x2048, .f32⟩
  | .hbm, ⟨55, _⟩ => ⟨S1x8208x2048, .f32⟩
  | .hbm, ⟨56, _⟩ => ⟨S_, .f32⟩
  | .hbm, ⟨57, _⟩ => ⟨S8208x2048, .f32⟩
  | .hbm, ⟨58, _⟩ => ⟨S8208x2048, .f32⟩
  | .hbm, ⟨59, _⟩ => ⟨S1x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== AFwd.lean ====
abbrev S8208x14336 : Shape := ⟨2, ![8208, 14336]⟩
abbrev S4x2048 : Shape := ⟨2, ![4, 2048]⟩
abbrev S2048 : Shape := ⟨1, ![2048]⟩
abbrev S16x128x128 : Shape := ⟨3, ![16, 128, 128]⟩
abbrev S1x2048 : Shape := ⟨2, ![1, 2048]⟩
abbrev S8208x2048 : Shape := ⟨2, ![8208, 2048]⟩
abbrev S144x2048 : Shape := ⟨2, ![144, 2048]⟩
abbrev S16x2048 : Shape := ⟨2, ![16, 2048]⟩
abbrev S160x2048 : Shape := ⟨2, ![160, 2048]⟩
abbrev S144x128 : Shape := ⟨2, ![144, 128]⟩
abbrev S1x128x128 : Shape := ⟨3, ![1, 128, 128]⟩
abbrev S128x128 : Shape := ⟨2, ![128, 128]⟩
abbrev S8x2048 : Shape := ⟨2, ![8, 2048]⟩

abbrev nBuf : Space → Nat
  | .hbm => 16
  | .vmem => 22
  | .smem => 0
  | _ => 0

abbrev bufTy : (tb : Table) → Fin (tcTables nBuf tb) → BufTy
  | .hbm, ⟨0, _⟩ => ⟨S8208x14336, .f32⟩
  | .hbm, ⟨1, _⟩ => ⟨S4x2048, .f32⟩
  | .hbm, ⟨2, _⟩ => ⟨S2048, .f32⟩
  | .hbm, ⟨3, _⟩ => ⟨S16x128x128, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S16x128x128, .bf16⟩
  | .hbm, ⟨10, _⟩ => ⟨S1x2048, .f32⟩
  | .hbm, ⟨11, _⟩ => ⟨S16x128x128, .bf16⟩
  | .hbm, ⟨12, _⟩ => ⟨S1x2048, .f32⟩
  | .hbm, ⟨13, _⟩ => ⟨S1x2048, .f32⟩
  | .hbm, ⟨14, _⟩ => ⟨S8208x2048, .bf16⟩
  | .hbm, ⟨15, _⟩ => ⟨S8208x2048, .f32⟩
  | .local _ .vmem, ⟨0, _⟩ => ⟨S144x2048, .f32⟩
  | .local _ .vmem, ⟨1, _⟩ => ⟨S144x2048, .f32⟩
  | .local _ .vmem, ⟨2, _⟩ => ⟨S16x2048, .f32⟩
  | .local _ .vmem, ⟨3, _⟩ => ⟨S16x2048, .f32⟩
  | .local _ .vmem, ⟨4, _⟩ => ⟨S144x2048, .f32⟩
  | .local _ .vmem, ⟨5, _⟩ => ⟨S144x2048, .f32⟩
  | .local _ .vmem, ⟨6, _⟩ => ⟨S4x2048, .f32⟩
  | .local _ .vmem, ⟨7, _⟩ => ⟨S1x2048, .f32⟩
  | .local _ .vmem, ⟨8, _⟩ => ⟨S16x128x128, .bf16⟩
  | .local _ .vmem, ⟨9, _⟩ => ⟨S1x2048, .f32⟩
  | .local _ .vmem, ⟨10, _⟩ => ⟨S16x128x128, .bf16⟩
  | .local _ .vmem, ⟨11, _⟩ => ⟨S1x2048, .f32⟩
  | .local _ .vmem, ⟨12, _⟩ => ⟨S1x2048, .f32⟩
  | .local _ .vmem, ⟨13, _⟩ => ⟨S144x2048, .bf16⟩
  | .local _ .vmem, ⟨14, _⟩ => ⟨S144x2048, .bf16⟩
  | .local _ .vmem, ⟨15, _⟩ => ⟨S144x2048, .f32⟩
  | .local _ .vmem, ⟨16, _⟩ => ⟨S144x2048, .f32⟩
  | .local _ .vmem, ⟨17, _⟩ => ⟨S160x2048, .f32⟩
  | .local _ .vmem, ⟨18, _⟩ => ⟨S144x2048, .f32⟩
  | .local _ .vmem, ⟨19, _⟩ => ⟨S144x2048, .f32⟩
  | .local _ .vmem, ⟨20, _⟩ => ⟨S144x2048, .f32⟩
  | .local _ .vmem, ⟨21, _⟩ => ⟨S1x2048, .f32⟩
  | _, _ => ⟨S8208x14336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![57], ![false]⟩

@[reducible] def k0_t1_loop : Scf.Loop 32 :=
  let c0_i32_220 : BitVec 32 := 0#32
  let c18_i32 : BitVec 32 := 18#32
  let v328 : BitVec 32 := Scalar.addi c0_i32_220 c18_i32
  let c1_i32 : BitVec 32 := 1#32
  ⟨c0_i32_220, v328, c1_i32⟩
def k0_mult1 (k0_t1 : Fin k0_t1_loop.trips) : BitVec 32 :=
  let c0_i32_220 : BitVec 32 := 0#32
  let c1_i32 : BitVec 32 := 1#32
  let arg18 : BitVec 32 := Scf.iv c0_i32_220 c1_i32 k0_t1
  let c8_i32 : BitVec 32 := 8#32
  let v347 : BitVec 32 := Scalar.muli arg18 c8_i32
  v347
def k0_off1 (k0_t1 : Fin k0_t1_loop.trips) : Fin 2 → Nat :=
  let c0_i32_220 : BitVec 32 := 0#32
  let c1_i32 : BitVec 32 := 1#32
  let arg18 : BitVec 32 := Scf.iv c0_i32_220 c1_i32 k0_t1
  let c8_i32 : BitVec 32 := 8#32
  let v347 : BitVec 32 := Scalar.muli arg18 c8_i32
  let v348 : BitVec 32 := v347
  let v349 : Index := Scalar.indexCast v348
  let c0_233 : Index := 0#32
  ![v349.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c9_i32 : BitVec 32 := 9#32
  let v0 : BitVec 32 := Scalar.muli arg0 c9_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S144x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S144x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AFwdRefIdeal.lean ====
abbrev S8208x14336 : Shape := ⟨2, ![8208, 14336]⟩
abbrev S4x2048 : Shape := ⟨2, ![4, 2048]⟩
abbrev S2048 : Shape := ⟨1, ![2048]⟩
abbrev S16x128x128 : Shape := ⟨3, ![16, 128, 128]⟩
abbrev S8208x2048 : Shape := ⟨2, ![8208, 2048]⟩
abbrev S_ : Shape := ⟨0, ![]⟩
abbrev S3x2048 : Shape := ⟨2, ![3, 2048]⟩
abbrev S8211x2048 : Shape := ⟨2, ![8211, 2048]⟩
abbrev S1x2048 : Shape := ⟨2, ![1, 2048]⟩
abbrev S8208x16x128 : Shape := ⟨3, ![8208, 16, 128]⟩
abbrev S16x128x8208 : Shape := ⟨3, ![16, 128, 8208]⟩

abbrev nBuf : Space → Nat
  | .hbm => 144
  | .vmem => 0
  | .smem => 0
  | _ => 0

abbrev hbmTy0_0 (i : Nat) : BufTy := match i % 128 with
  | 0 => ⟨S8208x14336, .f32⟩
  | 1 => ⟨S4x2048, .f32⟩
  | 2 => ⟨S2048, .f32⟩
  | 3 => ⟨S16x128x128, .f32⟩
  | 4 => ⟨S2048, .f32⟩
  | 5 => ⟨S16x128x128, .f32⟩
  | 6 => ⟨S2048, .f32⟩
  | 7 => ⟨S2048, .f32⟩
  | 8 => ⟨S8208x2048, .f32⟩
  | 9 => ⟨S_, .f32⟩
  | 10 => ⟨S3x2048, .f32⟩
  | 11 => ⟨S8211x2048, .f32⟩
  | 12 => ⟨S1x2048, .f32⟩
  | 13 => ⟨S2048, .f32⟩
  | 14 => ⟨S8208x2048, .f32⟩
  | 15 => ⟨S1x2048, .f32⟩
  | 16 => ⟨S8208x2048, .f32⟩
  | 17 => ⟨S8208x2048, .f32⟩
  | 18 => ⟨S_, .f32⟩
  | 19 => ⟨S8208x2048, .f32⟩
  | 20 => ⟨S8208x2048, .f32⟩
  | 21 => ⟨S1x2048, .f32⟩
  | 22 => ⟨S2048, .f32⟩
  | 23 => ⟨S8208x2048, .f32⟩
  | 24 => ⟨S1x2048, .f32⟩
  | 25 => ⟨S8208x2048, .f32⟩
  | 26 => ⟨S8208x2048, .f32⟩
  | 27 => ⟨S8208x2048, .f32⟩
  | 28 => ⟨S1x2048, .f32⟩
  | 29 => ⟨S2048, .f32⟩
  | 30 => ⟨S8208x2048, .f32⟩
  | 31 => ⟨S1x2048, .f32⟩
  | 32 => ⟨S8208x2048, .f32⟩
  | 33 => ⟨S8208x2048, .f32⟩
  | 34 => ⟨S8208x2048, .f32⟩
  | 35 => ⟨S1x2048, .f32⟩
  | 36 => ⟨S2048, .f32⟩
  | 37 => ⟨S8208x2048, .f32⟩
  | 38 => ⟨S1x2048, .f32⟩
  | 39 => ⟨S8208x2048, .f32⟩
  | 40 => ⟨S8208x2048, .f32⟩
  | 41 => ⟨S8208x2048, .f32⟩
  | 42 => ⟨S1x2048, .f32⟩
  | 43 => ⟨S8208x2048, .f32⟩
  | 44 => ⟨S8208x2048, .f32⟩
  | 45 => ⟨S8208x16x128, .f32⟩
  | 46 => ⟨S16x128x8208, .f32⟩
  | 47 => ⟨S8208x16x128, .f32⟩
  | 48 => ⟨S8208x2048, .f32⟩
  | 49 => ⟨S1x2048, .f32⟩
  | 50 => ⟨S8208x2048, .f32⟩
  | 51 => ⟨S8208x2048, .f32⟩
  | 52 => ⟨S8208x2048, .f32⟩
  | 53 => ⟨S8208x2048, .f32⟩
  | 54 => ⟨S_, .f32⟩
  | 55 => ⟨S8208x2048, .f32⟩
  | 56 => ⟨S8208x2048, .f32⟩
  | 57 => ⟨S_, .f32⟩
  | 58 => ⟨S8208x2048, .f32⟩
  | 59 => ⟨S8208x2048, .f32⟩
  | 60 => ⟨S16x128x8208, .f32⟩
  | 61 => ⟨S8208x16x128, .f32⟩
  | 62 => ⟨S8208x2048, .f32⟩
  | 63 => ⟨S1x2048, .f32⟩
  | 64 => ⟨S8208x2048, .f32⟩
  | 65 => ⟨S8208x2048, .f32⟩
  | 66 => ⟨S8208x2048, .f32⟩
  | 67 => ⟨S8208x2048, .f32⟩
  | 68 => ⟨S_, .f32⟩
  | 69 => ⟨S8208x2048, .f32⟩
  | 70 => ⟨S8208x2048, .f32⟩
  | 71 => ⟨S_, .f32⟩
  | 72 => ⟨S8208x2048, .f32⟩
  | 73 => ⟨S8208x2048, .f32⟩
  | 74 => ⟨S_, .f32⟩
  | 75 => ⟨S8208x2048, .f32⟩
  | 76 => ⟨S8208x2048, .f32⟩
  | 77 => ⟨S2048, .f32⟩
  | 78 => ⟨S_, .f32⟩
  | 79 => ⟨S2048, .f32⟩
  | 80 => ⟨S2048, .f32⟩
  | 81 => ⟨S2048, .f32⟩
  | 82 => ⟨S2048, .f32⟩
  | 83 => ⟨S2048, .i1⟩
  | 84 => ⟨S2048, .f32⟩
  | 85 => ⟨S2048, .f32⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S1x2048, .f32⟩
  | 93 => ⟨S8208x2048, .f32⟩
  | 94 => ⟨S8208x2048, .f32⟩
  | 95 => ⟨S8208x2048, .f32⟩
  | 96 => ⟨S_, .f32⟩
  | 97 => ⟨S8208x2048, .f32⟩
  | 98 => ⟨S8208x2048, .f32⟩
  | 99 => ⟨S8208x2048, .f32⟩
  | 100 => ⟨S8208x2048, .f32⟩
  | 101 => ⟨S_, .f32⟩
  | 102 => ⟨S8208x2048, .f32⟩
  | 103 => ⟨S8208x2048, .f32⟩
  | 104 => ⟨S8208x2048, .f32⟩
  | 105 => ⟨S8208x2048, .f32⟩
  | 106 => ⟨S8208x2048, .f32⟩
  | 107 => ⟨S_, .f32⟩
  | 108 => ⟨S2048, .f32⟩
  | 109 => ⟨S_, .f32⟩
  | 110 => ⟨S8208x2048, .f32⟩
  | 111 => ⟨S_, .i32⟩
  | 112 => ⟨S8208x2048, .f32⟩
  | 113 => ⟨S8208x2048, .f32⟩
  | 114 => ⟨S_, .i32⟩
  | 115 => ⟨S2048, .f32⟩
  | 116 => ⟨S8208x2048, .f32⟩
  | 117 => ⟨S_, .i32⟩
  | 118 => ⟨S_, .i1⟩
  | 119 => ⟨S_, .i32⟩
  | 120 => ⟨S1x2048, .f32⟩
  | 121 => ⟨S2048, .f32⟩
  | 122 => ⟨S_, .i32⟩
  | 123 => ⟨S1x2048, .f32⟩
  | 124 => ⟨S2048, .f32⟩
  | 125 => ⟨S2048, .f32⟩
  | 126 => ⟨S2048, .f32⟩
  | 127 => ⟨S1x2048, .f32⟩
  | _ => ⟨S8208x14336, .f32⟩

abbrev hbmTy0_1 (i : Nat) : BufTy := match i % 128 with
  | 0 => ⟨S_, .i32⟩
  | 1 => ⟨S8208x2048, .f32⟩
  | 2 => ⟨S_, .i32⟩
  | 3 => ⟨S_, .i32⟩
  | 4 => ⟨S8208x2048, .f32⟩
  | 5 => ⟨S8208x2048, .f32⟩
  | 6 => ⟨S8208x2048, .f32⟩
  | 7 => ⟨S_, .f32⟩
  | 8 => ⟨S8208x2048, .f32⟩
  | 9 => ⟨S8208x2048, .f32⟩
  | 10 => ⟨S_, .f32⟩
  | 11 => ⟨S8208x2048, .f32⟩
  | 12 => ⟨S8208x2048, .f32⟩
  | 13 => ⟨S8208x2048, .f32⟩
  | 14 => ⟨S8208x2048, .f32⟩
  | 15 => ⟨S8208x2048, .bf16⟩
  | _ => ⟨S8208x14336, .f32⟩

abbrev hbmTy (i : Nat) : BufTy := match i / 128 with
  | 0 => hbmTy0_0 i
  | 1 => hbmTy0_1 i
  | _ => ⟨S8208x14336, .f32⟩

abbrev bufTy : (tb : Table) → Fin (tcTables nBuf tb) → BufTy
  | .hbm, ⟨i, _⟩ => hbmTy i
  | _, _ => ⟨S8208x14336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_1 : Ref sig .tc := ⟨.hbm, 54, rfl⟩
abbrev main_v44 : Ref sig .tc := ⟨.hbm, 55, rfl⟩
abbrev main_v45 : Ref sig .tc := ⟨.hbm, 56, rfl⟩
abbrev main_cst_2 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_3 : Ref sig .tc := ⟨.hbm, 68, rfl⟩
abbrev main_v56 : Ref sig .tc := ⟨.hbm, 69, rfl⟩
abbrev main_v57 : Ref sig .tc := ⟨.hbm, 70, rfl⟩
abbrev main_cst_4 : Ref sig .tc := ⟨.hbm, 71, rfl⟩
abbrev main_v58 : Ref sig .tc := ⟨.hbm, 72, rfl⟩
abbrev main_v59 : Ref sig .tc := ⟨.hbm, 73, rfl⟩
abbrev main_cst_5 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_v9 : Ref sig .tc := ⟨.hbm, 88, rfl⟩
abbrev main_call0_v10 : Ref sig .tc := ⟨.hbm, 89, rfl⟩
abbrev main_call0_v11 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_7 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_8 : Ref sig .tc := ⟨.hbm, 107, rfl⟩
abbrev main_v77 : Ref sig .tc := ⟨.hbm, 108, rfl⟩
abbrev main_cst_9 : Ref sig .tc := ⟨.hbm, 109, rfl⟩
abbrev main_v78 : Ref sig .tc := ⟨.hbm, 110, rfl⟩
abbrev main_c : Ref sig .tc := ⟨.hbm, 111, rfl⟩
abbrev main_v79_0 : Ref sig .tc := ⟨.hbm, 112, rfl⟩
abbrev main_v79_1 : Ref sig .tc := ⟨.hbm, 113, rfl⟩
abbrev main_v79_2 : Ref sig .tc := ⟨.hbm, 114, rfl⟩
abbrev main_v79_3 : Ref sig .tc := ⟨.hbm, 115, rfl⟩
abbrev main_v79_4 : Ref sig .tc := ⟨.hbm, 116, rfl⟩
abbrev main_while0c_c_14 : Ref sig .tc := ⟨.hbm, 117, rfl⟩
abbrev main_while0c_v84 : Ref sig .tc := ⟨.hbm, 118, rfl⟩
abbrev main_while0b_call1_c : Ref sig .tc := ⟨.hbm, 119, rfl⟩
abbrev main_while0b_call1_v0 : Ref sig .tc := ⟨.hbm, 120, rfl⟩
abbrev main_while0b_v84 : Ref sig .tc := ⟨.hbm, 121, rfl⟩
abbrev main_while0b_call2_c : Ref sig .tc := ⟨.hbm, 122, rfl⟩
abbrev main_while0b_call2_v0 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_call3_v0 : Ref sig .tc := ⟨.hbm, 127, rfl⟩
abbrev main_while0b_call3_c : Ref sig .tc := ⟨.hbm, 128, rfl⟩
abbrev main_while0b_v88 : Ref sig .tc := ⟨.hbm, 129, rfl⟩
abbrev main_while0b_c_14 : Ref sig .tc := ⟨.hbm, 130, rfl⟩
abbrev main_while0b_v89 : Ref sig .tc := ⟨.hbm, 131, rfl⟩
abbrev main_v80 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_call4_v5 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩

abbrev nD : Nat := 1
abbrev τ : Topo := Topo.v7x

variable {F : FTy → Type} [FloatOps F]

abbrev main_while0_count : Scf.Loop 32 := ⟨0#32, 8208#32, 1#32⟩
-- ==== MFwd.lean ====
abbrev S8208x2048 : Shape := ⟨2, ![8208, 2048]⟩
abbrev S8208x14336 : Shape := ⟨2, ![8208, 14336]⟩
abbrev S2048x2048 : Shape := ⟨2, ![2048, 2048]⟩
abbrev S912x2048 : Shape := ⟨2, ![912, 2048]⟩
abbrev S912x512 : Shape := ⟨2, ![912, 512]⟩
abbrev S2048x512 : Shape := ⟨2, ![2048, 512]⟩

abbrev nBuf : Space → Nat
  | .hbm => 12
  | .vmem => 18
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x14336, .f32⟩
  | .hbm, ⟨3, _⟩ => ⟨S2048x2048, .f32⟩
  | .hbm, ⟨4, _⟩ => ⟨S2048x2048, .f32⟩
  | .hbm, ⟨5, _⟩ => ⟨S8208x2048, .bf16⟩
  | .hbm, ⟨6, _⟩ => ⟨S8208x2048, .bf16⟩
  | .hbm, ⟨7, _⟩ => ⟨S2048x2048, .bf16⟩
  | .hbm, ⟨8, _⟩ => ⟨S2048x2048, .bf16⟩
  | .hbm, ⟨9, _⟩ => ⟨S8208x2048, .bf16⟩
  | .hbm, ⟨10, _⟩ => ⟨S8208x2048, .bf16⟩
  | .hbm, ⟨11, _⟩ => ⟨S8208x2048, .bf16⟩
  | .local _ .vmem, ⟨0, _⟩ => ⟨S912x2048, .bf16⟩
  | .local _ .vmem, ⟨1, _⟩ => ⟨S912x2048, .bf16⟩
  | .local _ .vmem, ⟨2, _⟩ => ⟨S912x2048, .bf16⟩
  | .local _ .vmem, ⟨3, _⟩ => ⟨S912x2048, .bf16⟩
  | .local _ .vmem, ⟨4, _⟩ => ⟨S912x512, .f32⟩
  | .local _ .vmem, ⟨5, _⟩ => ⟨S912x512, .f32⟩
  | .local _ .vmem, ⟨6, _⟩ => ⟨S912x512, .f32⟩
  | .local _ .vmem, ⟨7, _⟩ => ⟨S912x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S912x512, .bf16⟩
  | .local _ .vmem, ⟨13, _⟩ => ⟨S912x512, .bf16⟩
  | .local _ .vmem, ⟨14, _⟩ => ⟨S912x512, .bf16⟩
  | .local _ .vmem, ⟨15, _⟩ => ⟨S912x512, .bf16⟩
  | .local _ .vmem, ⟨16, _⟩ => ⟨S912x512, .bf16⟩
  | .local _ .vmem, ⟨17, _⟩ => ⟨S912x512, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![9, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S912x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S912x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S912x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S912x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== MFwdRefIdeal.lean ====
abbrev S8208x2048 : Shape := ⟨2, ![8208, 2048]⟩
abbrev S8208x14336 : Shape := ⟨2, ![8208, 14336]⟩
abbrev S2048x2048 : Shape := ⟨2, ![2048, 2048]⟩
abbrev S1x8208x2048 : Shape := ⟨3, ![1, 8208, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S8208x14336, .f32⟩
  | .hbm, ⟨3, _⟩ => ⟨S2048x2048, .f32⟩
  | .hbm, ⟨4, _⟩ => ⟨S2048x2048, .f32⟩
  | .hbm, ⟨5, _⟩ => ⟨S8208x2048, .f32⟩
  | .hbm, ⟨6, _⟩ => ⟨S8208x2048, .f32⟩
  | .hbm, ⟨7, _⟩ => ⟨S8208x2048, .f32⟩
  | .hbm, ⟨8, _⟩ => ⟨S8208x2048, .f32⟩
  | .hbm, ⟨9, _⟩ => ⟨S8208x2048, .f32⟩
  | .hbm, ⟨10, _⟩ => ⟨S8208x2048, .f32⟩
  | .hbm, ⟨11, _⟩ => ⟨S8208x2048, .f32⟩
  | .hbm, ⟨12, _⟩ => ⟨S1x8208x2048, .f32⟩
  | .hbm, ⟨13, _⟩ => ⟨S1x8208x2048, .f32⟩
  | .hbm, ⟨14, _⟩ => ⟨S8208x2048, .f32⟩
  | .hbm, ⟨15, _⟩ => ⟨S1x8208x2048, .f32⟩
  | .hbm, ⟨16, _⟩ => ⟨S1x8208x2048, .f32⟩
  | .hbm, ⟨17, _⟩ => ⟨S8208x2048, .f32⟩
  | .hbm, ⟨18, _⟩ => ⟨S8208x2048, .f32⟩
  | .hbm, ⟨19, _⟩ => ⟨S8208x2048, .f32⟩
  | .hbm, ⟨20, _⟩ => ⟨S_, .f32⟩
  | .hbm, ⟨21, _⟩ => ⟨S8208x2048, .f32⟩
  | .hbm, ⟨22, _⟩ => ⟨S8208x2048, .f32⟩
  | .hbm, ⟨23, _⟩ => ⟨S_, .f32⟩
  | .hbm, ⟨24, _⟩ => ⟨S8208x2048, .f32⟩
  | .hbm, ⟨25, _⟩ => ⟨S8208x2048, .f32⟩
  | .hbm, ⟨26, _⟩ => ⟨S8208x2048, .f32⟩
  | .hbm, ⟨27, _⟩ => ⟨S8208x2048, .f32⟩
  | .hbm, ⟨28, _⟩ => ⟨S8208x2048, .f32⟩
  | .hbm, ⟨29, _⟩ => ⟨S_, .f32⟩
  | .hbm, ⟨30, _⟩ => ⟨S8208x2048, .f32⟩
  | .hbm, ⟨31, _⟩ => ⟨S8208x2048, .f32⟩
  | .hbm, ⟨32, _⟩ => ⟨S_, .f32⟩
  | .hbm, ⟨33, _⟩ => ⟨S8208x2048, .f32⟩
  | .hbm, ⟨34, _⟩ => ⟨S8208x2048, .f32⟩
  | .hbm, ⟨35, _⟩ => ⟨S8208x2048, .f32⟩
  | .hbm, ⟨36, _⟩ => ⟨S8208x2048, .f32⟩
  | .hbm, ⟨37, _⟩ => ⟨S8208x2048, .bf16⟩
  | .hbm, ⟨38, _⟩ => ⟨S8208x2048, .bf16⟩
  | .hbm, ⟨39, _⟩ => ⟨S8208x2048, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== PFwd.lean ====
abbrev S8208x2048 : Shape := ⟨2, ![8208, 2048]⟩
abbrev S2048 : Shape := ⟨1, ![2048]⟩
abbrev S2048x14336 : Shape := ⟨2, ![2048, 14336]⟩
abbrev S2048x4x3584 : Shape := ⟨3, ![2048, 4, 3584]⟩
abbrev S4x2048x3584 : Shape := ⟨3, ![4, 2048, 3584]⟩
abbrev S1x2048 : Shape := ⟨2, ![1, 2048]⟩
abbrev S8208x14336 : Shape := ⟨2, ![8208, 14336]⟩
abbrev S912x2048 : Shape := ⟨2, ![912, 2048]⟩
abbrev S1x2048x1792 : Shape := ⟨3, ![1, 2048, 1792]⟩
abbrev S912x1792 : Shape := ⟨2, ![912, 1792]⟩
abbrev S16x2048 : Shape := ⟨2, ![16, 2048]⟩
abbrev S16 : Shape := ⟨1, ![16]⟩
abbrev S16x1 : Shape := ⟨2, ![16, 1]⟩
abbrev S2048x1792 : Shape := ⟨2, ![2048, 1792]⟩

abbrev nBuf : Space → Nat
  | .hbm => 9
  | .vmem => 9
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S2048x14336, .bf16⟩
  | .hbm, ⟨4, _⟩ => ⟨S2048x4x3584, .bf16⟩
  | .hbm, ⟨5, _⟩ => ⟨S4x2048x3584, .bf16⟩
  | .hbm, ⟨6, _⟩ => ⟨S1x2048, .f32⟩
  | .hbm, ⟨7, _⟩ => ⟨S8208x14336, .f32⟩
  | .hbm, ⟨8, _⟩ => ⟨S8208x2048, .bf16⟩
  | .local _ .vmem, ⟨0, _⟩ => ⟨S912x2048, .f32⟩
  | .local _ .vmem, ⟨1, _⟩ => ⟨S912x2048, .f32⟩
  | .local _ .vmem, ⟨2, _⟩ => ⟨S1x2048, .f32⟩
  | .local _ .vmem, ⟨3, _⟩ => ⟨S1x2048x1792, .bf16⟩
  | .local _ .vmem, ⟨4, _⟩ => ⟨S1x2048x1792, .bf16⟩
  | .local _ .vmem, ⟨5, _⟩ => ⟨S912x1792, .f32⟩
  | .local _ .vmem, ⟨6, _⟩ => ⟨S912x1792, .f32⟩
  | .local _ .vmem, ⟨7, _⟩ => ⟨S912x2048, .bf16⟩
  | .local _ .vmem, ⟨8, _⟩ => ⟨S912x2048, .bf16⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![9, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c19_i32 : BitVec 32 := 19#32
  let v9 : BitVec 32 := Scalar.addi c0_i32_7 c19_i32
  let c1_i32 : BitVec 32 := 1#32
  ⟨c0_i32_7, v9, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32 : BitVec 32 := 3#32
  let v10 : BitVec 32 := Scalar.muli arg7 c3_i32
  let c0_i32_9 : BitVec 32 := 0#32
  let v11 : BitVec 32 := Scalar.addi v10 c0_i32_9
  let c16_i32 : BitVec 32 := 16#32
  let v12 : BitVec 32 := Scalar.muli v11 c16_i32
  v12
def k0_mult2 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32 : BitVec 32 := 3#32
  let v10 : BitVec 32 := Scalar.muli arg7 c3_i32
  let c0_i32_9 : BitVec 32 := 0#32
  let v11 : BitVec 32 := Scalar.addi v10 c0_i32_9
  let c16_i32 : BitVec 32 := 16#32
  let v12 : BitVec 32 := Scalar.muli v11 c16_i32
  let v13 : BitVec 32 := v12
  let c0_i32_10 : BitVec 32 := 0#32
  let v14 : BitVec 32 := Scalar.addi v13 c0_i32_10
  v14
def k0_off1 (k0_t1 : Fin k0_t1_loop.trips) (c0_i32_9 : BitVec 32) : Fin 2 → Nat :=
  let c0_i32_7 : BitVec 32 := 0#32
  let c1_i32 : BitVec 32 := 1#32
  let arg7 : BitVec 32 := Scf.iv c0_i32_7 c1_i32 k0_t1
  let c3_i32 : BitVec 32 := 3#32
  let v10 : BitVec 32 := Scalar.muli arg7 c3_i32
  let v11 : BitVec 32 := Scalar.addi v10 c0_i32_9
  let c16_i32 : BitVec 32 := 16#32
  let v12 : BitVec 32 := Scalar.muli v11 c16_i32
  let v13 : BitVec 32 := v12
  let c0_i32_10 : BitVec 32 := 0#32
  let v14 : BitVec 32 := Scalar.addi v13 c0_i32_10
  let v15 : BitVec 32 := v14
  let v16 : Index := Scalar.indexCast v15
  let c0_11 : Index := 0#32
  ![v16.toNat, 0]
def k0_mult3 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_18 : BitVec 32 := 3#32
  let v35 : BitVec 32 := Scalar.muli arg7 c3_i32_18
  let c1_i32_19 : BitVec 32 := 1#32
  let v36 : BitVec 32 := Scalar.addi v35 c1_i32_19
  let c16_i32_20 : BitVec 32 := 16#32
  let v37 : BitVec 32 := Scalar.muli v36 c16_i32_20
  v37
def k0_mult4 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_18 : BitVec 32 := 3#32
  let v35 : BitVec 32 := Scalar.muli arg7 c3_i32_18
  let c1_i32_19 : BitVec 32 := 1#32
  let v36 : BitVec 32 := Scalar.addi v35 c1_i32_19
  let c16_i32_20 : BitVec 32 := 16#32
  let v37 : BitVec 32 := Scalar.muli v36 c16_i32_20
  let v38 : BitVec 32 := v37
  let c0_i32_21 : BitVec 32 := 0#32
  let v39 : BitVec 32 := Scalar.addi v38 c0_i32_21
  v39
def k0_mult5 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_29 : BitVec 32 := 3#32
  let v60 : BitVec 32 := Scalar.muli arg7 c3_i32_29
  let c2_i32 : BitVec 32 := 2#32
  let v61 : BitVec 32 := Scalar.addi v60 c2_i32
  let c16_i32_30 : BitVec 32 := 16#32
  let v62 : BitVec 32 := Scalar.muli v61 c16_i32_30
  v62
def k0_mult6 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c3_i32_29 : BitVec 32 := 3#32
  let v60 : BitVec 32 := Scalar.muli arg7 c3_i32_29
  let c2_i32 : BitVec 32 := 2#32
  let v61 : BitVec 32 := Scalar.addi v60 c2_i32
  let c16_i32_30 : BitVec 32 := 16#32
  let v62 : BitVec 32 := Scalar.muli v61 c16_i32_30
  let v63 : BitVec 32 := v62
  let c0_i32_31 : BitVec 32 := 0#32
  let v64 : BitVec 32 := Scalar.addi v63 c0_i32_31
  v64
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S912x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== PFwdRefIdeal.lean ====
abbrev S8208x2048 : Shape := ⟨2, ![8208, 2048]⟩
abbrev S2048 : Shape := ⟨1, ![2048]⟩
abbrev S2048x14336 : Shape := ⟨2, ![2048, 14336]⟩
abbrev S1x8208x2048 : Shape := ⟨3, ![1, 8208, 2048]⟩
abbrev S_ : Shape := ⟨0, ![]⟩
abbrev S1x8208 : Shape := ⟨2, ![1, 8208]⟩
abbrev S1x8208x1 : Shape := ⟨3, ![1, 8208, 1]⟩
abbrev S1x1x2048 : Shape := ⟨3, ![1, 1, 2048]⟩
abbrev S1x8208x14336 : Shape := ⟨3, ![1, 8208, 14336]⟩
abbrev S8208x14336 : Shape := ⟨2, ![8208, 14336]⟩

abbrev nBuf : Space → Nat
  | .hbm => 24
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048, .f32⟩
  | .hbm, ⟨2, _⟩ => ⟨S2048x14336, .f32⟩
  | .hbm, ⟨3, _⟩ => ⟨S1x8208x2048, .f32⟩
  | .hbm, ⟨4, _⟩ => ⟨S1x8208x2048, .f32⟩
  | .hbm, ⟨5, _⟩ => ⟨S_, .f32⟩
  | .hbm, ⟨6, _⟩ => ⟨S1x8208, .f32⟩
  | .hbm, ⟨7, _⟩ => ⟨S1x8208x1, .f32⟩
  | .hbm, ⟨8, _⟩ => ⟨S_, .f32⟩
  | .hbm, ⟨9, _⟩ => ⟨S1x8208x1, .f32⟩
  | .hbm, ⟨10, _⟩ => ⟨S1x8208x1, .f32⟩
  | .hbm, ⟨11, _⟩ => ⟨S_, .f32⟩
  | .hbm, ⟨12, _⟩ => ⟨S1x8208x1, .f32⟩
  | .hbm, ⟨13, _⟩ => ⟨S1x8208x1, .f32⟩
  | .hbm, ⟨14, _⟩ => ⟨S1x8208x1, .f32⟩
  | .hbm, ⟨15, _⟩ => ⟨S1x8208x2048, .f32⟩
  | .hbm, ⟨16, _⟩ => ⟨S1x8208x2048, .f32⟩
  | .hbm, ⟨17, _⟩ => ⟨S1x1x2048, .f32⟩
  | .hbm, ⟨18, _⟩ => ⟨S1x8208x2048, .f32⟩
  | .hbm, ⟨19, _⟩ => ⟨S1x8208x2048, .f32⟩
  | .hbm, ⟨20, _⟩ => ⟨S1x8208x14336, .f32⟩
  | .hbm, ⟨21, _⟩ => ⟨S8208x14336, .f32⟩
  | .hbm, ⟨22, _⟩ => ⟨S8208x2048, .f32⟩
  | .hbm, ⟨23, _⟩ => ⟨S8208x2048, .bf16⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== OFwd.lean ====
abbrev S8208x2048 : Shape := ⟨2, ![8208, 2048]⟩
abbrev S2048x2048 : Shape := ⟨2, ![2048, 2048]⟩
abbrev S912x1024 : Shape := ⟨2, ![912, 1024]⟩
abbrev S912x2048 : Shape := ⟨2, ![912, 2048]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S2048x2048, .f32⟩
  | .hbm, ⟨3, _⟩ => ⟨S8208x2048, .bf16⟩
  | .hbm, ⟨4, _⟩ => ⟨S2048x2048, .bf16⟩
  | .hbm, ⟨5, _⟩ => ⟨S8208x2048, .f32⟩
  | .local _ .vmem, ⟨0, _⟩ => ⟨S912x1024, .f32⟩
  | .local _ .vmem, ⟨1, _⟩ => ⟨S912x1024, .f32⟩
  | .local _ .vmem, ⟨2, _⟩ => ⟨S912x2048, .bf16⟩
  | .local _ .vmem, ⟨3, _⟩ => ⟨S912x2048, .bf16⟩
  | .local _ .vmem, ⟨4, _⟩ => ⟨S2048x1024, .bf16⟩
  | .local _ .vmem, ⟨5, _⟩ => ⟨S2048x1024, .bf16⟩
  | .local _ .vmem, ⟨6, _⟩ => ⟨S912x1024, .f32⟩
  | .local _ .vmem, ⟨7, _⟩ => ⟨S912x1024, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S912x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S912x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OFwdRefIdeal.lean ====
abbrev S8208x2048 : Shape := ⟨2, ![8208, 2048]⟩
abbrev S2048x2048 : Shape := ⟨2, ![2048, 2048]⟩
abbrev S1x8208x2048 : Shape := ⟨3, ![1, 8208, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S8208x2048, .f32⟩
  | .hbm, ⟨2, _⟩ => ⟨S2048x2048, .f32⟩
  | .hbm, ⟨3, _⟩ => ⟨S1x8208x2048, .f32⟩
  | .hbm, ⟨4, _⟩ => ⟨S1x8208x2048, .f32⟩
  | .hbm, ⟨5, _⟩ => ⟨S8208x2048, .f32⟩
  | .hbm, ⟨6, _⟩ => ⟨S8208x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MatNt.lean ====
abbrev S8208x2048 : Shape := ⟨2, ![8208, 2048]⟩
abbrev S2048x2048 : Shape := ⟨2, ![2048, 2048]⟩
abbrev S912x2048 : Shape := ⟨2, ![912, 2048]⟩
abbrev S1024x2048 : Shape := ⟨2, ![1024, 2048]⟩
abbrev S912x1024 : Shape := ⟨2, ![912, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8208x2048, .f32⟩
  | .hbm, ⟨3, _⟩ => ⟨S8208x2048, .bf16⟩
  | .hbm, ⟨4, _⟩ => ⟨S2048x2048, .bf16⟩
  | .hbm, ⟨5, _⟩ => ⟨S8208x2048, .f32⟩
  | .local _ .vmem, ⟨0, _⟩ => ⟨S912x2048, .bf16⟩
  | .local _ .vmem, ⟨1, _⟩ => ⟨S912x2048, .bf16⟩
  | .local _ .vmem, ⟨2, _⟩ => ⟨S1024x2048, .bf16⟩
  | .local _ .vmem, ⟨3, _⟩ => ⟨S1024x2048, .bf16⟩
  | .local _ .vmem, ⟨4, _⟩ => ⟨S912x1024, .f32⟩
  | .local _ .vmem, ⟨5, _⟩ => ⟨S912x1024, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S912x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MatNtRefIdeal.lean ====
abbrev S8208x2048 : Shape := ⟨2, ![8208, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8208x2048, .f32⟩
  | .hbm, ⟨3, _⟩ => ⟨S8208x2048, .f32⟩
  | .hbm, ⟨4, _⟩ => ⟨S2048x2048, .f32⟩
  | .hbm, ⟨5, _⟩ => ⟨S2048x2048, .f32⟩
  | .hbm, ⟨6, _⟩ => ⟨S8208x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MatTn.lean ====
abbrev S8208x2048 : Shape := ⟨2, ![8208, 2048]⟩
abbrev S2048x2048 : Shape := ⟨2, ![2048, 2048]⟩
abbrev S912x2048 : Shape := ⟨2, ![912, 2048]⟩
abbrev S912x1024 : Shape := ⟨2, ![912, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8208x2048, .f32⟩
  | .hbm, ⟨3, _⟩ => ⟨S8208x2048, .bf16⟩
  | .hbm, ⟨4, _⟩ => ⟨S2048x2048, .f32⟩
  | .local _ .vmem, ⟨0, _⟩ => ⟨S912x2048, .bf16⟩
  | .local _ .vmem, ⟨1, _⟩ => ⟨S912x2048, .bf16⟩
  | .local _ .vmem, ⟨2, _⟩ => ⟨S912x1024, .f32⟩
  | .local _ .vmem, ⟨3, _⟩ => ⟨S912x1024, .f32⟩
  | .local _ .vmem, ⟨4, _⟩ => ⟨S2048x1024, .f32⟩
  | .local _ .vmem, ⟨5, _⟩ => ⟨S2048x1024, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== MatTnRefIdeal.lean ====
abbrev S8208x2048 : Shape := ⟨2, ![8208, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048x2048, .f32⟩
  | .hbm, ⟨2, _⟩ => ⟨S8208x2048, .f32⟩
  | .hbm, ⟨3, _⟩ => ⟨S8208x2048, .f32⟩
  | .hbm, ⟨4, _⟩ => ⟨S2048x2048, .f32⟩
  | .hbm, ⟨5, _⟩ => ⟨S2048x2048, .f32⟩
  | .hbm, ⟨6, _⟩ => ⟨S8208x2048, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DWin.lean ====
abbrev S8208x2048 : Shape := ⟨2, ![8208, 2048]⟩
abbrev S2048x14336 : Shape := ⟨2, ![2048, 14336]⟩
abbrev S8208x14336 : Shape := ⟨2, ![8208, 14336]⟩
abbrev S4x2048x3584 : Shape := ⟨3, ![4, 2048, 3584]⟩
abbrev S912x2048 : Shape := ⟨2, ![912, 2048]⟩
abbrev S912x512 : Shape := ⟨2, ![912, 512]⟩
abbrev S1x2048x512 : Shape := ⟨3, ![1, 2048, 512]⟩
abbrev S2048x512 : Shape := ⟨2, ![2048, 512]⟩

abbrev nBuf : Space → Nat
  | .hbm => 13
  | .vmem => 18
  | .smem => 0
  | _ => 0

abbrev bufTy : (tb : Table) → Fin (tcTables nBuf tb) → BufTy
  | .hbm, ⟨0, _⟩ => ⟨S8208x2048, .f32⟩
  | .hbm, ⟨1, _⟩ => ⟨S2048x14336, .f32⟩
  | .hbm, ⟨2, _⟩ => ⟨S8208x14336, .f32⟩
  | .hbm, ⟨3, _⟩ => ⟨S8208x2048, .bf16⟩
  | .hbm, ⟨4, _⟩ => ⟨S8208x14336, .bf16⟩
  | .hbm, ⟨5, _⟩ => ⟨S8208x2048, .bf16⟩
  | .hbm, ⟨6, _⟩ => ⟨S8208x2048, .bf16⟩
  | .hbm, ⟨7, _⟩ => ⟨S8208x2048, .bf16⟩
  | .hbm, ⟨8, _⟩ => ⟨S8208x2048, .bf16⟩
  | .hbm, ⟨9, _⟩ => ⟨S8208x2048, .bf16⟩
  | .hbm, ⟨10, _⟩ => ⟨S8208x2048, .bf16⟩
  | .hbm, ⟨11, _⟩ => ⟨S8208x2048, .bf16⟩
  | .hbm, ⟨12, _⟩ => ⟨S4x2048x3584, .f32⟩
  | .local _ .vmem, ⟨0, _⟩ => ⟨S912x2048, .bf16⟩
  | .local _ .vmem, ⟨1, _⟩ => ⟨S912x2048, .bf16⟩
  | .local _ .vmem, ⟨2, _⟩ => ⟨S912x512, .bf16⟩
  | .local _ .vmem, ⟨3, _⟩ => ⟨S912x512, .bf16⟩
  | .local _ .vmem, ⟨4, _⟩ => ⟨S912x512, .bf16⟩
  | .local _ .vmem, ⟨5, _⟩ => ⟨S912x512, .bf16⟩
  | .local _ .vmem, ⟨6, _⟩ => ⟨S912x512, .bf16⟩
  | .local _ .vmem, ⟨7, _⟩ => ⟨S912x512, .bf16⟩
  | .local _ .vmem, ⟨8, _⟩ => ⟨S912x512, .bf16⟩
  | .local _ .vmem, ⟨9, _⟩ => ⟨S912x512, .bf16⟩
  | .local _ .vmem, ⟨10, _⟩ => ⟨S912x512, .bf16⟩
  | .local _ .vmem, ⟨11, _⟩ => ⟨S912x512, .bf16⟩
  | .local _ .vmem, ⟨12, _⟩ => ⟨S912x512, .bf16⟩
  | .local _ .vmem, ⟨13, _⟩ => ⟨S912x512, .bf16⟩
  | .local _ .vmem, ⟨14, _⟩ => ⟨S912x512, .bf16⟩
  | .local _ .vmem, ⟨15, _⟩ => ⟨S912x512, .bf16⟩
  | .local _ .vmem, ⟨16, _⟩ => ⟨S1x2048x512, .f32⟩
  | .local _ .vmem, ⟨17, _⟩ => ⟨S1x2048x512, .f32⟩
  | _, _ => ⟨S8208x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![28, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v4 : BitVec 1 := Scalar.cmpi .sgt arg0 c0_i32_1
  let v5 : BitVec 32 := Scalar.extui v4
  let c0_i32_2 : BitVec 32 := 0#32
  let v6 : BitVec 1 := Scalar.cmpi .slt arg0 c0_i32_2
  let v7 : BitVec 32 := Scalar.extui v6
  let v8 : BitVec 32 := Scalar.subi v5 v7
  let c4_i32 : BitVec 32 := 4#32
  let c0_i32_3 : BitVec 32 := 0#32
  let v9 : BitVec 1 := Scalar.cmpi .sgt c4_i32 c0_i32_3
  let v10 : BitVec 32 := Scalar.extui v9
  let c0_i32_4 : BitVec 32 := 0#32
  let v11 : BitVec 1 := Scalar.cmpi .slt c4_i32 c0_i32_4
  let v12 : BitVec 32 := Scalar.extui v11
  let v13 : BitVec 32 := Scalar.subi v10 v12
  let v14 : BitVec 1 := Scalar.cmpi .ne v8 v13
  let v15 : BitVec 32 := Scalar.remsi arg0 c4_i32
  let c0_i32_5 : BitVec 32 := 0#32
  let v16 : BitVec 1 := Scalar.cmpi .ne v15 c0_i32_5
  let v17 : BitVec 1 := Scalar.andi v14 v16
  let v3 : BitVec 32 := Scalar.divsi arg0 c4_i32
  let c1_i32 : BitVec 32 := 1#32
  let v18 : BitVec 32 := Scalar.subi v3 c1_i32
  let v19 : BitVec 32 := Scalar.select v17 v18 v3
  let c0_i32_6 : BitVec 32 := 0#32
  let v20 : BitVec 1 := Scalar.cmpi .eq v19 c0_i32_6
  let v21 : BitVec 32 := Scalar.extui v20
  let c0_i32_7 : BitVec 32 := 0#32
  let v22 : BitVec 1 := Scalar.cmpi .ne v21 c0_i32_7
  v22

def k0_cond3 (i : grid0.Coords) : BitVec 1 :=
  let arg0 : BitVec 32 := BitVec.ofNat 32 (i 0).val
  let c0_i32_9 : BitVec 32 := 0#32
  let v24 : BitVec 1 := Scalar.cmpi .sgt arg0 c0_i32_9
  let v25 : BitVec 32 := Scalar.extui v24
  let c0_i32_10 : BitVec 32 := 0#32
  let v26 : BitVec 1 := Scalar.cmpi .slt arg0 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi arg0 c4_i32_8
  let c0_i32_13 : BitVec 32 := 0#32
  let v36 : BitVec 1 := Scalar.cmpi .ne v35 c0_i32_13
  let v37 : BitVec 1 := Scalar.andi v34 v36
  let v23 : BitVec 32 := Scalar.divsi arg0 c4_i32_8
  let c1_i32_14 : BitVec 32 := 1#32
  let v38 : BitVec 32 := Scalar.subi v23 c1_i32_14
  let v39 : BitVec 32 := Scalar.select v37 v38 v23
  let c1_i32_15 : BitVec 32 := 1#32
  let v40 : BitVec 1 := Scalar.cmpi .eq v39 c1_i32_15
  let v41 : BitVec 32 := Scalar.extui v40
  let c0_i32_16 : BitVec 32 := 0#32
  let v42 : BitVec 1 := Scalar.cmpi .ne v41 c0_i32_16
  v42

def k0_cond4 (i : grid0.Coords) : BitVec 1 :=
  let arg0 : BitVec 32 := BitVec.ofNat 32 (i 0).val
  let c0_i32_18 : BitVec 32 := 0#32
  let v44 : BitVec 1 := Scalar.cmpi .sgt arg0 c0_i32_18
  let v45 : BitVec 32 := Scalar.extui v44
  let c0_i32_19 : BitVec 32 := 0#32
  let v46 : BitVec 1 := Scalar.cmpi .slt arg0 c0_i32_19
  let v47 : BitVec 32 := Scalar.extui v46
  let v48 : BitVec 32 := Scalar.subi v45 v47
  let c4_i32_17 : BitVec 32 := 4#32
  let c0_i32_20 : BitVec 32 := 0#32
  let v49 : BitVec 1 := Scalar.cmpi .sgt c4_i32_17 c0_i32_20
  let v50 : BitVec 32 := Scalar.extui v49
  let c0_i32_21 : BitVec 32 := 0#32
  let v51 : BitVec 1 := Scalar.cmpi .slt c4_i32_17 c0_i32_21
  let v52 : BitVec 32 := Scalar.extui v51
  let v53 : BitVec 32 := Scalar.subi v50 v52
  let v54 : BitVec 1 := Scalar.cmpi .ne v48 v53
  let v55 : BitVec 32 := Scalar.remsi arg0 c4_i32_17
  let c0_i32_22 : BitVec 32 := 0#32
  let v56 : BitVec 1 := Scalar.cmpi .ne v55 c0_i32_22
  let v57 : BitVec 1 := Scalar.andi v54 v56
  let v43 : BitVec 32 := Scalar.divsi arg0 c4_i32_17
  let c1_i32_23 : BitVec 32 := 1#32
  let v58 : BitVec 32 := Scalar.subi v43 c1_i32_23
  let v59 : BitVec 32 := Scalar.select v57 v58 v43
  let c2_i32 : BitVec 32 := 2#32
  let v60 : BitVec 1 := Scalar.cmpi .eq v59 c2_i32
  let v61 : BitVec 32 := Scalar.extui v60
  let c0_i32_24 : BitVec 32 := 0#32
  let v62 : BitVec 1 := Scalar.cmpi .ne v61 c0_i32_24
  v62

def k0_cond5 (i : grid0.Coords) : BitVec 1 :=
  let arg0 : BitVec 32 := BitVec.ofNat 32 (i 0).val
  let c0_i32_26 : BitVec 32 := 0#32
  let v64 : BitVec 1 := Scalar.cmpi .sgt arg0 c0_i32_26
  let v65 : BitVec 32 := Scalar.extui v64
  let c0_i32_27 : BitVec 32 := 0#32
  let v66 : BitVec 1 := Scalar.cmpi .slt arg0 c0_i32_27
  let v67 : BitVec 32 := Scalar.extui v66
  let v68 : BitVec 32 := Scalar.subi v65 v67
  let c4_i32_25 : BitVec 32 := 4#32
  let c0_i32_28 : BitVec 32 := 0#32
  let v69 : BitVec 1 := Scalar.cmpi .sgt c4_i32_25 c0_i32_28
  let v70 : BitVec 32 := Scalar.extui v69
  let c0_i32_29 : BitVec 32 := 0#32
  let v71 : BitVec 1 := Scalar.cmpi .slt c4_i32_25 c0_i32_29
  let v72 : BitVec 32 := Scalar.extui v71
  let v73 : BitVec 32 := Scalar.subi v70 v72
  let v74 : BitVec 1 := Scalar.cmpi .ne v68 v73
  let v75 : BitVec 32 := Scalar.remsi arg0 c4_i32_25
  let c0_i32_30 : BitVec 32 := 0#32
  let v76 : BitVec 1 := Scalar.cmpi .ne v75 c0_i32_30
  let v77 : BitVec 1 := Scalar.andi v74 v76
  let v63 : BitVec 32 := Scalar.divsi arg0 c4_i32_25
  let c1_i32_31 : BitVec 32 := 1#32
  let v78 : BitVec 32 := Scalar.subi v63 c1_i32_31
  let v79 : BitVec 32 := Scalar.select v77 v78 v63
  let c3_i32 : BitVec 32 := 3#32
  let v80 : BitVec 1 := Scalar.cmpi .eq v79 c3_i32
  let v81 : BitVec 32 := Scalar.extui v80
  let c0_i32_32 : BitVec 32 := 0#32
  let v82 : BitVec 1 := Scalar.cmpi .ne v81 c0_i32_32
  v82

def k0_cond6 (i : grid0.Coords) : BitVec 1 :=
  let arg0 : BitVec 32 := BitVec.ofNat 32 (i 0).val
  let c0_i32_34 : BitVec 32 := 0#32
  let v84 : BitVec 1 := Scalar.cmpi .sgt arg0 c0_i32_34
  let v85 : BitVec 32 := Scalar.extui v84
  let c0_i32_35 : BitVec 32 := 0#32
  let v86 : BitVec 1 := Scalar.cmpi .slt arg0 c0_i32_35
  let v87 : BitVec 32 := Scalar.extui v86
  let v88 : BitVec 32 := Scalar.subi v85 v87
  let c4_i32_33 : BitVec 32 := 4#32
  let c0_i32_36 : BitVec 32 := 0#32
  let v89 : BitVec 1 := Scalar.cmpi .sgt c4_i32_33 c0_i32_36
  let v90 : BitVec 32 := Scalar.extui v89
  let c0_i32_37 : BitVec 32 := 0#32
  let v91 : BitVec 1 := Scalar.cmpi .slt c4_i32_33 c0_i32_37
  let v92 : BitVec 32 := Scalar.extui v91
  let v93 : BitVec 32 := Scalar.subi v90 v92
  let v94 : BitVec 1 := Scalar.cmpi .ne v88 v93
  let v95 : BitVec 32 := Scalar.remsi arg0 c4_i32_33
  let c0_i32_38 : BitVec 32 := 0#32
  let v96 : BitVec 1 := Scalar.cmpi .ne v95 c0_i32_38
  let v97 : BitVec 1 := Scalar.andi v94 v96
  let v83 : BitVec 32 := Scalar.divsi arg0 c4_i32_33
  let c1_i32_39 : BitVec 32 := 1#32
  let v98 : BitVec 32 := Scalar.subi v83 c1_i32_39
  let v99 : BitVec 32 := Scalar.select v97 v98 v83
  let c4_i32_40 : BitVec 32 := 4#32
  let v100 : BitVec 1 := Scalar.cmpi .eq v99 c4_i32_40
  let v101 : BitVec 32 := Scalar.extui v100
  let c0_i32_41 : BitVec 32 := 0#32
  let v102 : BitVec 1 := Scalar.cmpi .ne v101 c0_i32_41
  v102

def k0_cond7 (i : grid0.Coords) : BitVec 1 :=
  let arg0 : BitVec 32 := BitVec.ofNat 32 (i 0).val
  let c0_i32_43 : BitVec 32 := 0#32
  let v104 : BitVec 1 := Scalar.cmpi .sgt arg0 c0_i32_43
  let v105 : BitVec 32 := Scalar.extui v104
  let c0_i32_44 : BitVec 32 := 0#32
  let v106 : BitVec 1 := Scalar.cmpi .slt arg0 c0_i32_44
  let v107 : BitVec 32 := Scalar.extui v106
  let v108 : BitVec 32 := Scalar.subi v105 v107
  let c4_i32_42 : BitVec 32 := 4#32
  let c0_i32_45 : BitVec 32 := 0#32
  let v109 : BitVec 1 := Scalar.cmpi .sgt c4_i32_42 c0_i32_45
  let v110 : BitVec 32 := Scalar.extui v109
  let c0_i32_46 : BitVec 32 := 0#32
  let v111 : BitVec 1 := Scalar.cmpi .slt c4_i32_42 c0_i32_46
  let v112 : BitVec 32 := Scalar.extui v111
  let v113 : BitVec 32 := Scalar.subi v110 v112
  let v114 : BitVec 1 := Scalar.cmpi .ne v108 v113
  let v115 : BitVec 32 := Scalar.remsi arg0 c4_i32_42
  let c0_i32_47 : BitVec 32 := 0#32
  let v116 : BitVec 1 := Scalar.cmpi .ne v115 c0_i32_47
  let v117 : BitVec 1 := Scalar.andi v114 v116
  let v103 : BitVec 32 := Scalar.divsi arg0 c4_i32_42
  let c1_i32_48 : BitVec 32 := 1#32
  let v118 : BitVec 32 := Scalar.subi v103 c1_i32_48
  let v119 : BitVec 32 := Scalar.select v117 v118 v103
  let c5_i32 : BitVec 32 := 5#32
  let v120 : BitVec 1 := Scalar.cmpi .eq v119 c5_i32
  let v121 : BitVec 32 := Scalar.extui v120
  let c0_i32_49 : BitVec 32 := 0#32
  let v122 : BitVec 1 := Scalar.cmpi .ne v121 c0_i32_49
  v122

def k0_cond8 (i : grid0.Coords) : BitVec 1 :=
  let arg0 : BitVec 32 := BitVec.ofNat 32 (i 0).val
  let c0_i32_51 : BitVec 32 := 0#32
  let v124 : BitVec 1 := Scalar.cmpi .sgt arg0 c0_i32_51
  let v125 : BitVec 32 := Scalar.extui v124
  let c0_i32_52 : BitVec 32 := 0#32
  let v126 : BitVec 1 := Scalar.cmpi .slt arg0 c0_i32_52
  let v127 : BitVec 32 := Scalar.extui v126
  let v128 : BitVec 32 := Scalar.subi v125 v127
  let c4_i32_50 : BitVec 32 := 4#32
  let c0_i32_53 : BitVec 32 := 0#32
  let v129 : BitVec 1 := Scalar.cmpi .sgt c4_i32_50 c0_i32_53
  let v130 : BitVec 32 := Scalar.extui v129
  let c0_i32_54 : BitVec 32 := 0#32
  let v131 : BitVec 1 := Scalar.cmpi .slt c4_i32_50 c0_i32_54
  let v132 : BitVec 32 := Scalar.extui v131
  let v133 : BitVec 32 := Scalar.subi v130 v132
  let v134 : BitVec 1 := Scalar.cmpi .ne v128 v133
  let v135 : BitVec 32 := Scalar.remsi arg0 c4_i32_50
  let c0_i32_55 : BitVec 32 := 0#32
  let v136 : BitVec 1 := Scalar.cmpi .ne v135 c0_i32_55
  let v137 : BitVec 1 := Scalar.andi v134 v136
  let v123 : BitVec 32 := Scalar.divsi arg0 c4_i32_50
  let c1_i32_56 : BitVec 32 := 1#32
  let v138 : BitVec 32 := Scalar.subi v123 c1_i32_56
  let v139 : BitVec 32 := Scalar.select v137 v138 v123
  let c6_i32 : BitVec 32 := 6#32
  let v140 : BitVec 1 := Scalar.cmpi .eq v139 c6_i32
  let v141 : BitVec 32 := Scalar.extui v140
  let c0_i32_57 : BitVec 32 := 0#32
  let v142 : BitVec 1 := Scalar.cmpi .ne v141 c0_i32_57
  v142

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 1 := Scalar.cmpi .eq v16 c1_i32_4
  let c0_i32_5 : BitVec 32 := 0#32
  let v18 : BitVec 32 := Scalar.select v17 arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 1 := Scalar.cmpi .eq v16 c2_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let v17 : BitVec 1 := Scalar.cmpi .eq v16 c3_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let v17 : BitVec 1 := Scalar.cmpi .eq v16 c4_i32_4
  let c0_i32_5 : BitVec 32 := 0#32
  let v18 : BitVec 32 := Scalar.select v17 arg1 c0_i32_5
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi arg0 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let v29 : BitVec 32 := Scalar.select v17 v28 c0_i32_12
  let c0_i32_13 : BitVec 32 := 0#32
  ![v18.toNat, v29.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let v17 : BitVec 1 := Scalar.cmpi .eq v16 c5_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 1 := Scalar.cmpi .eq v16 c6_i32
  let c0_i32_4 : BitVec 32 := 0#32
  let v18 : BitVec 32 := Scalar.select v17 arg1 c0_i32_4
  let c4_i32_5 : BitVec 32 := 4#32
  let c0_i32_6 : BitVec 32 := 0#32
  let v19 : BitVec 1 := Scalar.cmpi .eq c4_i32_5 c0_i32_6
  let c1_i32_7 : BitVec 32 := 1#32
  let v20 : BitVec 32 := Scalar.select v19 c1_i32_7 c4_i32_5
  let v21 : BitVec 32 := Scalar.remsi arg0 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let v29 : BitVec 32 := Scalar.select v17 v28 c0_i32_11
  let c0_i32_12 : BitVec 32 := 0#32
  ![v18.toNat, v29.toNat]

def cc0_transform_8 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.divsi arg0 c7_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c7_i32 c0_i32_1
  let v7 : BitVec 32 := Scalar.extui v6
  let c0_i32_2 : BitVec 32 := 0#32
  let v8 : BitVec 1 := Scalar.cmpi .slt c7_i32 c0_i32_2
  let v9 : BitVec 32 := Scalar.extui v8
  let v10 : BitVec 32 := Scalar.subi v7 v9
  let v11 : BitVec 1 := Scalar.cmpi .ne v5 v10
  let v12 : BitVec 32 := Scalar.remsi arg0 c7_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32_4 : BitVec 32 := 7#32
  let c0_i32_5 : BitVec 32 := 0#32
  let v17 : BitVec 1 := Scalar.cmpi .eq c7_i32_4 c0_i32_5
  let c1_i32_6 : BitVec 32 := 1#32
  let v18 : BitVec 32 := Scalar.select v17 c1_i32_6 c7_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S912x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S912x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S912x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S912x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S912x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S912x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== DWinRefIdeal.lean ====
abbrev S8208x2048 : Shape := ⟨2, ![8208, 2048]⟩
abbrev S2048x14336 : Shape := ⟨2, ![2048, 14336]⟩
abbrev S8208x14336 : Shape := ⟨2, ![8208, 14336]⟩
abbrev S14336x2048 : Shape := ⟨2, ![14336, 2048]⟩
abbrev S2048x4x3584 : Shape := ⟨3, ![2048, 4, 3584]⟩
abbrev S4x2048x3584 : Shape := ⟨3, ![4, 2048, 3584]⟩

abbrev nBuf : Space → Nat
  | .hbm => 9
  | .vmem => 0
  | .smem => 0
  | _ => 0

abbrev bufTy : (tb : Table) → Fin (tcTables nBuf tb) → BufTy
  | .hbm, ⟨0, _⟩ => ⟨S8208x2048, .f32⟩
  | .hbm, ⟨1, _⟩ => ⟨S2048x14336, .f32⟩
  | .hbm, ⟨2, _⟩ => ⟨S8208x14336, .f32⟩
  | .hbm, ⟨3, _⟩ => ⟨S8208x14336, .f32⟩
  | .hbm, ⟨4, _⟩ => ⟨S14336x2048, .f32⟩
  | .hbm, ⟨5, _⟩ => ⟨S2048x14336, .f32⟩
  | .hbm, ⟨6, _⟩ => ⟨S8208x2048, .f32⟩
  | .hbm, ⟨7, _⟩ => ⟨S2048x4x3584, .f32⟩
  | .hbm, ⟨8, _⟩ => ⟨S4x2048x3584, .f32⟩
  | _, _ => ⟨S8208x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Slots.lean ====
abbrev S4x1024x3584 : Shape := ⟨3, ![4, 1024, 3584]⟩
abbrev S1024x3584 : Shape := ⟨2, ![1024, 3584]⟩
abbrev S4x32x3584 : Shape := ⟨3, ![4, 32, 3584]⟩
abbrev S32x3584 : Shape := ⟨2, ![32, 3584]⟩
abbrev S1x32x3584 : Shape := ⟨3, ![1, 32, 3584]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x3584, .bf16⟩
  | .hbm, ⟨1, _⟩ => ⟨S1024x3584, .f32⟩
  | .local _ .vmem, ⟨0, _⟩ => ⟨S4x32x3584, .bf16⟩
  | .local _ .vmem, ⟨1, _⟩ => ⟨S4x32x3584, .bf16⟩
  | .local _ .vmem, ⟨2, _⟩ => ⟨S32x3584, .f32⟩
  | .local _ .vmem, ⟨3, _⟩ => ⟨S32x3584, .f32⟩
  | _, _ => ⟨S4x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x32x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotsRefIdeal.lean ====
abbrev S4x1024x3584 : Shape := ⟨3, ![4, 1024, 3584]⟩
abbrev S_ : Shape := ⟨0, ![]⟩
abbrev S1024x3584 : Shape := ⟨2, ![1024, 3584]⟩

abbrev nBuf : Space → Nat
  | .hbm => 4
  | .vmem => 0
  | .smem => 0
  | _ => 0

abbrev bufTy : (tb : Table) → Fin (tcTables nBuf tb) → BufTy
  | .hbm, ⟨0, _⟩ => ⟨S4x1024x3584, .bf16⟩
  | .hbm, ⟨1, _⟩ => ⟨S4x1024x3584, .f32⟩
  | .hbm, ⟨2, _⟩ => ⟨S_, .f32⟩
  | .hbm, ⟨3, _⟩ => ⟨S1024x3584, .f32⟩
  | _, _ => ⟨S4x1024x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S4x16x128x128 : Shape := ⟨4, ![4, 16, 128, 128]⟩
abbrev S8192x128 : Shape := ⟨2, ![8192, 128]⟩
abbrev S4096x128 : Shape := ⟨2, ![4096, 128]⟩

abbrev nBuf : Space → Nat
  | .hbm => 12
  | .vmem => 16
  | .smem => 0
  | _ => 0

abbrev bufTy : (tb : Table) → Fin (tcTables nBuf tb) → BufTy
  | .hbm, ⟨0, _⟩ => ⟨S4x16x128x128, .f32⟩
  | .hbm, ⟨1, _⟩ => ⟨S4x16x128x128, .f32⟩
  | .hbm, ⟨2, _⟩ => ⟨S4x16x128x128, .f32⟩
  | .hbm, ⟨3, _⟩ => ⟨S4x16x128x128, .f32⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S8192x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S8192x128, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | _, _ => ⟨S4x16x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S4x16x128x128 : Shape := ⟨4, ![4, 16, 128, 128]⟩
abbrev S_ : Shape := ⟨0, ![]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S4x16x128x128, .f32⟩
  | .hbm, ⟨1, _⟩ => ⟨S4x16x128x128, .f32⟩
  | .hbm, ⟨2, _⟩ => ⟨S4x16x128x128, .f32⟩
  | .hbm, ⟨3, _⟩ => ⟨S4x16x128x128, .f32⟩
  | .hbm, ⟨4, _⟩ => ⟨S_, .f32⟩
  | .hbm, ⟨5, _⟩ => ⟨S4x16x128x128, .f32⟩
  | .hbm, ⟨6, _⟩ => ⟨S4x16x128x128, .f32⟩
  | .hbm, ⟨7, _⟩ => ⟨S_, .f32⟩
  | .hbm, ⟨8, _⟩ => ⟨S4x16x128x128, .f32⟩
  | .hbm, ⟨9, _⟩ => ⟨S4x16x128x128, .f32⟩
  | .hbm, ⟨10, _⟩ => ⟨S4x16x128x128, .f32⟩
  | .hbm, ⟨11, _⟩ => ⟨S_, .f32⟩
  | .hbm, ⟨12, _⟩ => ⟨S4x16x128x128, .f32⟩
  | .hbm, ⟨13, _⟩ => ⟨S4x16x128x128, .f32⟩
  | .hbm, ⟨14, _⟩ => ⟨S4x16x128x128, .f32⟩
  | .hbm, ⟨15, _⟩ => ⟨S_, .f32⟩
  | .hbm, ⟨16, _⟩ => ⟨S4x16x128x128, .f32⟩
  | .hbm, ⟨17, _⟩ => ⟨S4x16x128x128, .f32⟩
  | .hbm, ⟨18, _⟩ => ⟨S4x16x128x128, .f32⟩
  | .hbm, ⟨19, _⟩ => ⟨S_, .f32⟩
  | .hbm, ⟨20, _⟩ => ⟨S4x16x128x128, .f32⟩
  | .hbm, ⟨21, _⟩ => ⟨S4x16x128x128, .f32⟩
  | .hbm, ⟨22, _⟩ => ⟨S_, .f32⟩
  | .hbm, ⟨23, _⟩ => ⟨S4x16x128x128, .f32⟩
  | .hbm, ⟨24, _⟩ => ⟨S4x16x128x128, .f32⟩
  | .hbm, ⟨25, _⟩ => ⟨S4x16x128x128, .f32⟩
  | .hbm, ⟨26, _⟩ => ⟨S_, .f32⟩
  | .hbm, ⟨27, _⟩ => ⟨S4x16x128x128, .f32⟩
  | .hbm, ⟨28, _⟩ => ⟨S4x16x128x128, .f32⟩
  | .hbm, ⟨29, _⟩ => ⟨S4x16x128x128, .f32⟩
  | .hbm, ⟨30, _⟩ => ⟨S_, .f32⟩
  | .hbm, ⟨31, _⟩ => ⟨S4x16x128x128, .f32⟩
  | .hbm, ⟨32, _⟩ => ⟨S4x16x128x128, .f32⟩
  | .hbm, ⟨33, _⟩ => ⟨S4x16x128x128, .f32⟩
  | .hbm, ⟨34, _⟩ => ⟨S_, .f32⟩
  | .hbm, ⟨35, _⟩ => ⟨S4x16x128x128, .f32⟩
  | .hbm, ⟨36, _⟩ => ⟨S4x16x128x128, .f32⟩
  | .hbm, ⟨37, _⟩ => ⟨S8192x128, .f32⟩
  | .hbm, ⟨38, _⟩ => ⟨S8192x128, .f32⟩
  | .hbm, ⟨39, _⟩ => ⟨S8192x128, .f32⟩
  | .hbm, ⟨40, _⟩ => ⟨S8192x128, .f32⟩
  | _, _ => ⟨S4x16x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== SHalf.lean ====
abbrev S4x2048x3584 : Shape := ⟨3, ![4, 2048, 3584]⟩
abbrev S4x1024x3584 : Shape := ⟨3, ![4, 1024, 3584]⟩
abbrev S1 : Shape := ⟨1, ![1]⟩
abbrev S1x128x3584 : Shape := ⟨3, ![1, 128, 3584]⟩
abbrev S128x3584 : Shape := ⟨2, ![128, 3584]⟩

abbrev nBuf : Space → Nat
  | .hbm => 3
  | .vmem => 6
  | .smem => 1
  | _ => 0

abbrev bufTy : (tb : Table) → Fin (tcTables nBuf tb) → BufTy
  | .hbm, ⟨0, _⟩ => ⟨S4x2048x3584, .f32⟩
  | .hbm, ⟨1, _⟩ => ⟨S4x1024x3584, .f32⟩
  | .hbm, ⟨2, _⟩ => ⟨S4x1024x3584, .bf16⟩
  | .local _ .vmem, ⟨0, _⟩ => ⟨S1x128x3584, .f32⟩
  | .local _ .vmem, ⟨1, _⟩ => ⟨S1x128x3584, .f32⟩
  | .local _ .vmem, ⟨2, _⟩ => ⟨S1x128x3584, .f32⟩
  | .local _ .vmem, ⟨3, _⟩ => ⟨S1x128x3584, .f32⟩
  | .local _ .vmem, ⟨4, _⟩ => ⟨S1x128x3584, .bf16⟩
  | .local _ .vmem, ⟨5, _⟩ => ⟨S1x128x3584, .bf16⟩
  | .local _ .smem, ⟨0, _⟩ => ⟨S1, .i32⟩
  | _, _ => ⟨S4x2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c8_i32 : BitVec 32 := 8#32
  let v1 : BitVec 32 := Scalar.muli v0 c8_i32
  let v2 : BitVec 32 := Scalar.addi v1 arg1
  let c0_i32 : BitVec 32 := 0#32
  let c0_i32_0 : BitVec 32 := 0#32
  ![arg0.toNat, v2.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== SHalfRefIdeal.lean ====
abbrev S4x2048x3584 : Shape := ⟨3, ![4, 2048, 3584]⟩
abbrev S4x1024x3584 : Shape := ⟨3, ![4, 1024, 3584]⟩
abbrev S1 : Shape := ⟨1, ![1]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x3584, .f32⟩
  | .hbm, ⟨1, _⟩ => ⟨S4x1024x3584, .f32⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1024x3584, .f32⟩
  | .hbm, ⟨7, _⟩ => ⟨S4x1024x3584, .f32⟩
  | .hbm, ⟨8, _⟩ => ⟨S4x1024x3584, .f32⟩
  | .hbm, ⟨9, _⟩ => ⟨S4x1024x3584, .f32⟩
  | .hbm, ⟨10, _⟩ => ⟨S4x1024x3584, .bf16⟩
  | _, _ => ⟨S4x2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Ext.lean ====
module

public import Idealize.ShloMosaic.Lib.Pointwise
public import Idealize.ShloMosaic.Lib.IdealHost

@[expose] public section

/-!
# Extended reals

What the proofs use of sums and products of extended reals: a finite non-negative factor goes through a sum, a row's
reciprocal root mean square is a finite non-negative number, and the literals of the programs as reals.
-/

namespace Cert.Ext

open Idealize.ShloMosaic

/-- A finite non-negative factor goes through an addition. -/
theorem coe_mul_add {c : ℝ} (hc : 0 ≤ c) (x y : EReal) : (c : EReal) * (x + y) = c * x + c * y :=
  EReal.left_distrib_of_nonneg_of_ne_top (EReal.coe_nonneg.2 hc) (EReal.coe_ne_top c) x y

/-- A finite non-negative factor goes through a difference. -/
theorem coe_mul_sub {c : ℝ} (hc : 0 ≤ c) (x y : EReal) : (c : EReal) * (x - y) = c * x - c * y := by
  rw [sub_eq_add_neg, coe_mul_add hc, mul_neg, ← sub_eq_add_neg]

/-- A finite non-negative factor goes through a finite sum. -/
theorem coe_mul_sum {ι : Type*} {c : ℝ} (hc : 0 ≤ c) (s : Finset ι) (f : ι → EReal) :
    (c : EReal) * ∑ i ∈ s, f i = ∑ i ∈ s, (c : EReal) * f i := by
  classical
  induction s using Finset.induction_on with
  | empty => simp
  | insert a s ha ih => rw [Finset.sum_insert ha, Finset.sum_insert ha, coe_mul_add hc, ih]

/-- A finite non-negative factor goes through a finite sum, on the right. -/
theorem sum_mul_coe {ι : Type*} {c : ℝ} (hc : 0 ≤ c) (s : Finset ι) (f : ι → EReal) :
    (∑ i ∈ s, f i) * (c : EReal) = ∑ i ∈ s, f i * (c : EReal) := by
  rw [mul_comm, coe_mul_sum hc]
  exact Finset.sum_congr rfl fun i _ => mul_comm _ _

/-- Twice the same addend is the addend times two. -/
theorem add_self (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul]; congr 1; ring

/-- A square is not negative. -/
theorem mul_self_nonneg (a : EReal) : 0 ≤ a * a := by
  induction a with
  | bot => simp
  | top => simp
  | coe r => rw [← EReal.coe_mul]; exact EReal.coe_nonneg.2 (_root_.mul_self_nonneg r)

/-! ## The literals -/

theorem lit_2048 : Ideal.ofBits .f32 0x45000000#32 = ((2048 : ℝ) : EReal) := by
  simp [Ideal.ofBits, Ideal.ieee]; norm_num; rw [← EReal.coe_mul]; norm_num

theorem lit_inv2048 : Ideal.ofBits .f32 0x3A000000#32 = ((1 / 2048 : ℝ) : EReal) := by
  simp [Ideal.ofBits, Ideal.ieee]; norm_num; rw [← EReal.coe_mul]; norm_num

theorem lit_inv4096 : Ideal.ofBits .f32 0x39800000#32 = ((1 / 4096 : ℝ) : EReal) := by
  simp [Ideal.ofBits, Ideal.ieee]; norm_num; rw [← EReal.coe_mul]; norm_num

theorem lit_half : Ideal.ofBits .f32 0x3F000000#32 = ((1 / 2 : ℝ) : EReal) := by
  simp [Ideal.ofBits, Ideal.ieee]; norm_num; rw [← EReal.coe_mul]; norm_num

theorem lit_neg_half : Ideal.ofBits .f32 0xBF000000#32 = ((-(1 / 2) : ℝ) : EReal) := by
  simp [Ideal.ofBits, Ideal.ieee]; norm_num; rw [← EReal.coe_mul]; norm_num

theorem lit_two : Ideal.ofBits .f32 0x40000000#32 = ((2 : ℝ) : EReal) := by
  simp [Ideal.ofBits, Ideal.ieee]; rw [← EReal.coe_mul]; norm_num

/-- The addend under the root is a positive real. -/
theorem lit_eps : ∃ e : ℝ, 0 < e ∧ Ideal.ofBits .f32 0x358637BD#32 = (e : EReal) := by
  refine ⟨8796093 * (2 : ℝ) ^ (-43 : ℤ), by positivity, ?_⟩
  simp [Ideal.ofBits, Ideal.ieee]

/-! ## The reciprocal root mean square -/

/-- What a row of mean square `q / 2048` is divided by: `1 / sqrt (q / 2048 + ε)`. -/
noncomputable def rinv (q : EReal) : EReal :=
  Ideal.rsqrt (Ideal.div q (Ideal.ofBits .f32 0x45000000#32) + Ideal.ofBits .f32 0x358637BD#32)

/-- Of a sum of squares the reciprocal root is a finite number `ρ ≥ 0`, and divided once more by its radicand it is its
cube. (An infinite sum of squares gives `ρ = 0`.) -/
theorem rinv_real {q : EReal} (hq : 0 ≤ q) : ∃ ρ : ℝ, 0 ≤ ρ ∧ rinv q = (ρ : EReal)
    ∧ Ideal.div (rinv q) (Ideal.div q (Ideal.ofBits .f32 0x45000000#32) + Ideal.ofBits .f32 0x358637BD#32)
      = ((ρ * ρ * ρ : ℝ) : EReal) := by
  obtain ⟨e, he, heps⟩ := lit_eps
  unfold rinv
  rw [heps, lit_2048, Ideal.div_coe (by norm_num)]
  induction q with
  | bot => simp at hq
  | top =>
    refine ⟨0, le_refl _, ?_, ?_⟩
    · rw [EReal.top_mul_coe_of_pos (by norm_num), EReal.top_add_coe]; rfl
    · rw [EReal.top_mul_coe_of_pos (by norm_num), EReal.top_add_coe]; simp [Ideal.div]
  | coe r =>
    have hr : 0 ≤ r := EReal.coe_nonneg.1 hq
    have hp : 0 < r * (1 / 2048) + e := by positivity
    rw [← EReal.coe_mul, ← EReal.coe_add, Ideal.rsqrt_coe, if_neg (not_lt.2 hp.le), if_neg hp.ne', Ideal.div_coe hp.ne',
      ← EReal.coe_mul]
    refine ⟨_, by positivity, rfl, ?_⟩
    congr 1
    set s := Real.sqrt (r * (1 / 2048) + e) with hs
    have hs0 : 0 < s := Real.sqrt_pos.2 hp
    have : r * (1 / 2048) + e = s * s := (Real.mul_self_sqrt hp.le).symm
    rw [this]; field_simp

theorem lit_one : Ideal.ofBits .f32 0x3F800000#32 = 1 := by
  simp [Ideal.ofBits, Ideal.ieee]; norm_num; rw [← EReal.coe_mul]; norm_num

/-- The logistic function, as the reference spells it. -/
noncomputable def sig (v : EReal) : EReal := Ideal.logistic v

/-- The reference's spelling of the logistic function. -/
theorem sig_exp (v : EReal) :
    Ideal.div (Ideal.ofBits .f32 0x3F800000#32) (Ideal.ofBits .f32 0x3F800000#32 + Ideal.exp (-v)) = sig v := by
  rw [lit_one]; rfl

/-- The kernels' spelling of the logistic function. -/
theorem sig_tanh (v : EReal) :
    Ideal.ofBits .f32 0x3F000000#32 * Ideal.tanh (Ideal.ofBits .f32 0x3F000000#32 * v) + Ideal.ofBits .f32 0x3F000000#32
      = sig v := by
  rw [lit_half]
  unfold sig
  induction v with
  | bot =>
    rw [EReal.coe_mul_bot_of_pos (by norm_num), Ideal.tanh_bot, Ideal.logistic_bot, show (-1 : EReal) = ((-1 : ℝ) : EReal) from rfl,
      ← EReal.coe_mul, ← EReal.coe_add]
    norm_num
  | top =>
    rw [EReal.coe_mul_top_of_pos (by norm_num), Ideal.tanh_top, Ideal.logistic_top, mul_one, ← EReal.coe_add]
    norm_num
  | coe r =>
    rw [← EReal.coe_mul, Ideal.tanh_coe, Ideal.logistic_coe, ← EReal.coe_mul, ← EReal.coe_add]
    congr 1
    have h1 := Real.exp_pos (1 / 2 * r)
    have h2 : Real.exp (-(1 / 2 * r)) = (Real.exp (1 / 2 * r))⁻¹ := Real.exp_neg _
    have h3 : Real.exp (-r) = (Real.exp (1 / 2 * r))⁻¹ * (Real.exp (1 / 2 * r))⁻¹ := by
      rw [← h2, ← Real.exp_add]; congr 1; ring
    rw [Real.tanh_eq_sinh_div_cosh, Real.sinh_eq, Real.cosh_eq, h2, h3]
    field_simp
    ring

end Cert.Ext

end
-- ==== Proof.NormForm.lean ====
/- The reciprocal root of a row's mean square, and the two spellings of its gradient. -/
module

public import proofs.«01_k».proof.Proof.Ext

@[expose] public section

set_option maxRecDepth 16384

noncomputable section

namespace Cert.NormForm

open Idealize.ShloMosaic

variable (x : FVec Ideal ⟨2, ![8208, 2048]⟩ .f32)

/-- Row `r`'s reciprocal root mean square. -/
def ri (r : Fin 8208) : EReal := Ext.rinv (∑ k : Fin 2048, x (ix2 r k) * x (ix2 r k))

/-- The sum of a row's squares is not negative. -/
theorem sq_nonneg (r : Fin 8208) : 0 ≤ ∑ k : Fin 2048, x (ix2 r k) * x (ix2 r k) :=
  Finset.sum_nonneg fun k _ => Ext.mul_self_nonneg _

/-- The two spellings of a row's normalization gradient, over a finite reciprocal root `ρ`: the derivative's, in which the
row's part is added twice, and the one in which it is subtracted once. -/
theorem row_gradient {ρ : ℝ} (h0 : 0 ≤ ρ) (a y : EReal) (u d : Fin 2048 → EReal) :
    a * (ρ : EReal) + y * Ideal.div ((∑ j, u j * d j) * (((-(1 / 2) : ℝ) : EReal) * ((ρ * ρ * ρ : ℝ) : EReal))) ((2048 : ℝ) : EReal)
      + Ideal.div ((∑ j, u j * d j) * (((-(1 / 2) : ℝ) : EReal) * ((ρ * ρ * ρ : ℝ) : EReal))) ((2048 : ℝ) : EReal) * y
    = (ρ : EReal) * (a - y * (ρ : EReal) * Ideal.div (∑ j, d j * (u j * (ρ : EReal))) ((2048 : ℝ) : EReal)) := by
  have hs : ∑ j, d j * (u j * (ρ : EReal)) = (∑ j, u j * d j) * (ρ : EReal) := by
    rw [Ext.sum_mul_coe h0]
    exact Finset.sum_congr rfl fun j _ => by rw [← mul_assoc, mul_comm (d j)]
  rw [hs, Ideal.div_coe (by norm_num), Ideal.div_coe (by norm_num)]
  generalize (∑ j, u j * d j) = S
  rw [add_assoc, mul_comm (S * _ * _) y, Ext.add_self, Ext.coe_mul_sub h0, sub_eq_add_neg, mul_comm a]
  congr 1
  have e1 : ∀ c : ℝ, (S * (c : EReal)) = (c : EReal) * S := fun c => mul_comm _ _
  rw [← EReal.coe_mul, mul_assoc S, ← EReal.coe_mul, e1, mul_assoc S, ← EReal.coe_mul, e1, mul_assoc y, mul_left_comm y,
    mul_left_comm y, ← mul_assoc (ρ : EReal), mul_left_comm y _ S, ← EReal.coe_mul, ← mul_assoc, ← mul_assoc (_ : EReal) _ (y * S),
    ← EReal.coe_mul, ← EReal.coe_mul, ← EReal.neg_mul, ← EReal.coe_neg]
  ring_nf

/-- The same over a block of `n` rows. -/
def rb {n : ℕ} (H : FVec Ideal ⟨2, ![n, 2048]⟩ .f32) (r : Fin n) : EReal :=
  Ext.rinv (∑ k : Fin 2048, H (ix2 r k) * H (ix2 r k))

/-- A row's part of the gain's gradient, over a block of `n` rows and the gradients `D` at the norm's output. -/
def gainPart {n : ℕ} (H D : FVec Ideal ⟨2, ![n, 2048]⟩ .f32) (r : Fin n) (j : Fin 2048) : EReal :=
  D (ix2 r j) * (H (ix2 r j) * rb H r)

/-- The gradient of the normalized row, onto the gradient `o` of the skip connection. -/
def rowGrad {n : ℕ} (H : FVec Ideal ⟨2, ![n, 2048]⟩ .f32) (g : FVec Ideal ⟨2, ![1, 2048]⟩ .f32)
    (O D : FVec Ideal ⟨2, ![n, 2048]⟩ .f32) (r : Fin n) (k : Fin 2048) : EReal :=
  O (ix2 r k) + rb H r * (D (ix2 r k) * g (ix2 0 k) - H (ix2 r k) * rb H r
    * Ideal.div (∑ j : Fin 2048, D (ix2 r j) * g (ix2 0 j) * (H (ix2 r j) * rb H r)) (Ideal.ofBits .f32 0x45000000#32))

end Cert.NormForm
end
-- ==== Proof.LossForm.lean ====
module

public import proofs.«01_k».proof.Proof.NormForm

@[expose] public section

set_option maxRecDepth 16384

noncomputable section

/-!
# The loss head as sums over rows and lanes

The three results both programs are compared with: the loss, the gradient of the hidden state and the gradient of the
final norm's gain, of the hidden state `x`, the gain `g` and the target `t` (which has no rows for the 16 meta tokens).
-/

namespace Cert.LossForm

open Idealize.ShloMosaic
open Cert.NormForm (ri)

variable (x : FVec Ideal ⟨2, ![8208, 2048]⟩ .f32) (g : FVec Ideal ⟨1, ![2048]⟩ .f32)
  (t : FVec Ideal ⟨3, ![1, 8192, 2048]⟩ .f32)

/-- Output minus target at row `r`, lane `k`; zero at the meta tokens' rows. -/
def diff (r : Fin 8208) (k : Fin 2048) : EReal :=
  if h : (r : ℕ) < 16 then 0
  else x (ix2 r k) * ri x r * g (ix1 k) - t (ix3 0 ⟨(r : ℕ) - 16, by omega⟩ k)

/-- The cotangent of the norm's output: the difference over the width. -/
def dy (r : Fin 8208) (k : Fin 2048) : EReal := diff x g t r k * Ideal.ofBits .f32 0x3A000000#32

/-- The loss of one lane: half its squared differences over the width. -/
def lane (k : Fin 2048) : EReal :=
  Ideal.ofBits .f32 0x39800000#32 * ∑ r : Fin 8208, diff x g t r k * diff x g t r k

/-- The gradient of the gain. -/
def dg (k : Fin 2048) : EReal := ∑ r : Fin 8208, dy x g t r k * (x (ix2 r k) * ri x r)

/-- The gradient of the hidden state. -/
def dh (r : Fin 8208) (k : Fin 2048) : EReal :=
  ri x r * (dy x g t r k * g (ix1 k) - x (ix2 r k) * ri x r
    * Ideal.div (∑ j : Fin 2048, dy x g t r j * g (ix1 j) * (x (ix2 r j) * ri x r)) (Ideal.ofBits .f32 0x45000000#32))

end Cert.LossForm

end
-- ==== Proof.LossKernel.lean ====
module

public import proofs.«01_k».proof.Proof.LossForm
public import proofs.«01_k».proof.Proof.Gen.KernelIdeal.Frame
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

/-!
# What the loss head's kernel leaves in its three arrays
-/

namespace Cert.KernelIdeal.Value

open Cert.KernelIdeal Cert.KernelIdeal.Gen

variable (m : (ℓ : Loc nD τ sig) → Buf (Elt Ideal) ℓ)

abbrev X (c : Dev nD) : FVec Ideal ⟨2, ![8208, 2048]⟩ .f32 := m ((c : Thread nD τ).loc main_arg0)
abbrev G (c : Dev nD) : FVec Ideal ⟨1, ![2048]⟩ .f32 := m ((c : Thread nD τ).loc main_arg1)
abbrev T (c : Dev nD) : FVec Ideal ⟨3, ![1, 8192, 2048]⟩ .f32 := m ((c : Thread nD τ).loc main_arg2)

/-- The windows' block indices at a grid point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ (grid0.coords t 0).val = t.val
    ∧ t.val < 57 :=
  (by decide +kernel : ∀ t : Fin grid0.N, _)

/-- The row of the whole array that row `r` of tile `t` is. -/
abbrev row (t : Fin cfg0.N) (r : Fin 144) : Fin 8208 := ⟨t.val * 144 + r, by have := (idx t).2.2.2.2.2.2.2; omega⟩

theorem x_at (c : Dev nD) (t : Fin cfg0.N) (r : Fin 144) (k : Fin 2048) :
    (show EReal from iblk m c 0 t (ix2 r k)) = X m c (ix2 (row t r) k) := by
  blk_ext [iblk, V, idx t]

theorem V_gain (c : Dev nD) : V m c main_v3 = broadcastInDim S1x2048 ![1] bcast_S2048_S1x2048_1 (G m c) := by
  unfold V; after_results_simp <;> rfl

theorem V_target (c : Dev nD) : V m c main_v2 = concatenate S8208x2048 0
    [⟨S16x2048, broadcastInDim S16x2048 ![] bcast_S_S16x2048 (constant (F := Ideal) S_ .f32 0x00000000#32)⟩,
      ⟨S8192x2048, shapeCast S8192x2048 (T m c) shapeCasts_S1x8192x2048_S8192x2048⟩]
    concatenates_S16x2048_S8192x2048_S8208x2048_d0 := by
  unfold V; after_results_simp <;> rfl

theorem g_at (c : Dev nD) (t : Fin cfg0.N) (k : Fin 2048) :
    (show EReal from iblk m c 1 t (ix2 0 k)) = G m c (ix1 k) := by
  trans V m c main_v3 (ix2 0 k)
  · blk_ext [iblk, idx t]
  · rw [V_gain]; pointwise

theorem t_at (c : Dev nD) (t : Fin cfg0.N) (r : Fin 144) (k : Fin 2048) :
    (show EReal from iblk m c 2 t (ix2 r k))
      = if h : (row t r : ℕ) < 16 then 0 else T m c (ix3 0 ⟨(row t r : ℕ) - 16, by have := (idx t).2.2.2.2.2.2.2; omega⟩ k) := by
  trans V m c main_v2 (ix2 (row t r) k)
  · blk_ext [iblk, idx t]
  · rw [V_target]; pointwise

open Cert.LossForm (diff dy lane dg dh)
open Cert.NormForm (ri)

theorem rinv_at (c : Dev nD) (t : Fin cfg0.N) (r : Fin 144) :
    k0_pay7 (F := Ideal) (iblk m c 0 t) (ix2 r 0) = ri (X m c) (row t r) := by
  unfold ri Ext.rinv
  pointwise [k0_pay7]
  blk_point [iblk, V, idx t]

theorem xhat_at (c : Dev nD) (t : Fin cfg0.N) (r : Fin 144) (k : Fin 2048) :
    k0_pay8 (F := Ideal) (iblk m c 0 t) (ix2 r k) = X m c (ix2 (row t r) k) * ri (X m c) (row t r) := by
  pointwise [k0_pay8]
  rw [rinv_at]
  exact congrArg (· * _) (x_at m c t r k)

/-- The row number the mask compares, as a word. -/
theorem row_word (a b : ℕ) : IntOp.addi (Scalar.muli (BitVec.ofNat 32 a) 144#32) (BitVec.ofNat 32 b)
    = BitVec.ofNat 32 (a * 144 + b) := by
  show BitVec.ofNat 32 a * BitVec.ofNat 32 144 + BitVec.ofNat 32 b = _
  rw [← BitVec.ofNat_mul, ← BitVec.ofNat_add]

/-- The masked difference a point computes, as the whole arrays' difference at that row. -/
theorem diff_at (c : Dev nD) (t : Fin cfg0.N) (r : Fin 144) (k : Fin 2048) :
    k0_pay9 (F := Ideal) (grid0.coords t) (iblk m c 0 t) (iblk m c 1 t) (iblk m c 2 t) (ix2 r k)
      = diff (X m c) (G m c) (T m c) (row t r) k := by
  have ht := (idx t).2.2.2.2.2.2
  pointwise [k0_pay9, k0_pay6, xhat_at]
  rw [ht.1, row_word]
  have hr := r.isLt
  word_cmp
  unfold diff
  by_cases h : t.val * 144 + r.val < 16
  · rw [if_neg (by omega), dif_pos h]
  · rw [if_pos (by omega), dif_neg h]
    have h2 := t_at m c t r k
    rw [dif_neg h] at h2
    exact congrArg₂ (· - ·) (congrArg (_ * ·) (g_at m c t k)) h2

/-- What the first accumulating store adds to. -/
theorem lane_at (c : Dev nD) (t : Fin cfg0.N) (a : FVec Ideal S1x2048 .f32) (k : Fin 2048) :
    k0_pay10 (F := Ideal) (grid0.coords t) (iblk m c 0 t) (iblk m c 1 t) (iblk m c 2 t) a (ix2 0 k)
      = a (ix2 0 k) + Ideal.ofBits .f32 0x39800000#32
        * ∑ r : Fin 144, diff (X m c) (G m c) (T m c) (row t r) k * diff (X m c) (G m c) (T m c) (row t r) k := by
  pointwise [k0_pay10, diff_at]

/-- What the second accumulating store adds to. -/
theorem dg_at (c : Dev nD) (t : Fin cfg0.N) (a : FVec Ideal S1x2048 .f32) (k : Fin 2048) :
    k0_pay2 (F := Ideal) (k0_pay8 (iblk m c 0 t)) (k0_pay9 (grid0.coords t) (iblk m c 0 t) (iblk m c 1 t) (iblk m c 2 t)) a
        (ix2 0 k)
      = a (ix2 0 k) + ∑ r : Fin 144, dy (X m c) (G m c) (T m c) (row t r) k
        * (X m c (ix2 (row t r) k) * ri (X m c) (row t r)) := by
  unfold dy
  pointwise [k0_pay2, k0_pay1, diff_at, xhat_at]

/-- What the plain store writes. -/
theorem dh_at (c : Dev nD) (t : Fin cfg0.N) (r : Fin 144) (k : Fin 2048) :
    k0_pay3 (F := Ideal) (k0_pay6 (iblk m c 1 t)) (k0_pay7 (iblk m c 0 t)) (k0_pay8 (iblk m c 0 t))
        (k0_pay9 (grid0.coords t) (iblk m c 0 t) (iblk m c 1 t) (iblk m c 2 t)) (ix2 r k)
      = dh (X m c) (G m c) (T m c) (row t r) k := by
  unfold dh dy
  have hg : ∀ k : Fin 2048, k0_pay6 (F := Ideal) (iblk m c 1 t) (ix2 0 k) = G m c (ix1 k) := fun k => by
    pointwise [k0_pay6]; exact g_at m c t k
  pointwise [k0_pay3, k0_pay1, diff_at, xhat_at, rinv_at, hg]

/-- The gradient of the hidden state, tile by tile. -/
theorem final_dh (c : Dev nD) : (dats m 0 c).arrAt 4 (cfgs 0).N
    = fun i : S8208x2048.Idx => dh (X m c) (G m c) (T m c) (i 0) (i 1) := by
  refine (dats m 0 c).arrAt_eq_of_covers 4 _ (by decide +kernel) fun t _ y => ?_
  idx_vars y
  blk_simp
  rw [after0_4]
  have e : dh (X m c) (G m c) (T m c) (row t y0) y1 = dh (X m c) (G m c) (T m c)
      (((View.whole main_v4_1).slice (win0_4.rect t)).emb (ix2 y0 y1) 0)
      (((View.whole main_v4_1).slice (win0_4.rect t)).emb (ix2 y0 y1) 1) := by
    refine congrArg₂ (dh (X m c) (G m c) (T m c)) (Fin.ext ?_) (Fin.ext ?_)
    · symm; blk_simp [idx t]
    · symm; blk_simp [idx t]
  by_cases h : t.val % 57 = 0
  · rw [outsAt0_A m c t h]; frame_out
    exact (dh_at m c t y0 y1).trans e
  · rw [outsAt0_B m c t h]; frame_out
    exact (dh_at m c t y0 y1).trans e

/-- A sum over the tiles and the rows of each is the sum over all rows. -/
theorem sum_rows (t : Fin cfg0.N) (hf : (win0 3).flush t = true) (F : Fin 8208 → EReal) :
    ∑ s : Fin 57, ∑ r : Fin 144, F (row ⟨57 * (t.val / 57) + s, Pipeline.run_point_lt_of_flush t ((flush0_3 t).mp hf) s⟩ r)
      = ∑ l, F l := by
  refine Fin.sum_mul_add_congr fun s r hl => congrArg F (Fin.ext ?_)
  have := (idx t).2.2.2.2.2.2.2
  show (57 * (t.val / 57) + s.val) * 144 + r.val = s.val * 144 + r.val
  omega

/-- A lane of the loss, tile by tile. -/
theorem lane_rows (c : Dev nD) (t : Fin cfg0.N) (hf : (win0 3).flush t = true) (k : Fin 2048) :
    ∑ s : Fin 57, Ideal.ofBits .f32 0x39800000#32 * ∑ r : Fin 144,
        diff (X m c) (G m c) (T m c) (row ⟨57 * (t.val / 57) + s, Pipeline.run_point_lt_of_flush t ((flush0_3 t).mp hf) s⟩ r) k
          * diff (X m c) (G m c) (T m c) (row ⟨57 * (t.val / 57) + s, Pipeline.run_point_lt_of_flush t ((flush0_3 t).mp hf) s⟩ r) k
      = lane (X m c) (G m c) (T m c) k := by
  unfold lane
  rw [← sum_rows t hf fun l => diff (X m c) (G m c) (T m c) l k * diff (X m c) (G m c) (T m c) l k, Ext.lit_inv4096,
    Ext.coe_mul_sum (by norm_num)]

/-- The lanes of the loss, accumulated over the tiles. -/
theorem final_lane (c : Dev nD) : (dats m 0 c).arrAt 3 (cfgs 0).N
    = fun i : S1x2048.Idx => lane (X m c) (G m c) (T m c) (i 1) := by
  refine (dats m 0 c).arrAt_eq_of_covers 3 _ (by decide +kernel) fun t hf y => ?_
  idx_vars y
  blk_simp
  rw [after0_3, Pipeline.eq_sum_fin_of_reset_step_apply_of_flush (fun n h => (outsAt0 m c n h).1) 57 (fun _ => 0)
    (fun p j => Ideal.ofBits .f32 0x39800000#32 * ∑ r : Fin 144,
      diff (X m c) (G m c) (T m c) (row p r) (j 1) * diff (X m c) (G m c) (T m c) (row p r) (j 1))
    (fun t h j => by
      idx_vars j; rw [outsAt0_A m c t h]; frame_out
      obtain rfl : j0 = 0 := Subsingleton.elim _ _
      rw [lane_at]; exact congrArg (· + _) (by pointwise [k0_pay4]))
    (fun t h j => by
      idx_vars j; rw [outsAt0_B m c t h]; frame_out
      obtain rfl : j0 = 0 := Subsingleton.elim _ _
      exact lane_at m c t _ j1)
    t ((flush0_3 t).mp hf) _, zero_add]
  have e : ((win0_3.blk t).view.emb (ix2 y0 y1) 1) = y1 := Fin.ext (by blk_simp [idx t])
  rw [e]
  exact lane_rows m c t hf y1

/-- The gradient of the gain, accumulated over the tiles. -/
theorem final_dg (c : Dev nD) : (dats m 0 c).arrAt 5 (cfgs 0).N
    = fun i : S1x2048.Idx => dg (X m c) (G m c) (T m c) (i 1) := by
  refine (dats m 0 c).arrAt_eq_of_covers 5 _ (by decide +kernel) fun t hf y => ?_
  idx_vars y
  blk_simp
  rw [after0_5, Pipeline.eq_sum_fin_of_reset_step_apply_of_flush (fun n h => (outsAt0 m c n h).2.2) 57 (fun _ => 0)
    (fun p j => ∑ r : Fin 144, dy (X m c) (G m c) (T m c) (row p r) (j 1)
      * (X m c (ix2 (row p r) (j 1)) * ri (X m c) (row p r)))
    (fun t h j => by
      idx_vars j; rw [outsAt0_A m c t h]; frame_out
      obtain rfl : j0 = 0 := Subsingleton.elim _ _
      rw [dg_at]; exact congrArg (· + _) (by pointwise [k0_pay5]))
    (fun t h j => by
      idx_vars j; rw [outsAt0_B m c t h]; frame_out
      obtain rfl : j0 = 0 := Subsingleton.elim _ _
      exact dg_at m c t _ j1)
    t ((flush0_5 t).mp hf) _, zero_add]
  have e : ((win0_5.blk t).view.emb (ix2 y0 y1) 1) = y1 := Fin.ext (by blk_simp [idx t])
  rw [e]
  exact sum_rows t ((flush0_3 t).mpr ((flush0_5 t).mp hf))
    fun l => dy (X m c) (G m c) (T m c) l y1 * (X m c (ix2 l y1) * ri (X m c) l)

end Cert.KernelIdeal.Value
end
-- ==== Proof.UnitSums.lean ====
module

public import Idealize.ShloMosaic.Lib.Pointwise

@[expose] public section

/-!
# Sums over several axes of which some have one element
-/

namespace Cert.UnitSums

open Idealize.ShloMosaic

/-- A sum over the outer and the inner axis of `1 × n × 1`. -/
theorem outer_inner {n : ℕ} (h : (⟨3, ![1, n, 1]⟩ : Shape).ReducesTo [0, 2] ⟨1, ![n]⟩)
    (v : (⟨3, ![1, n, 1]⟩ : Shape).Idx → EReal) (init : EReal) (k : Fin n) :
    Ideal.hostReduceAdd h v init (ix1 k) = init + v (ix3 0 k 0) := by
  unfold Ideal.hostReduceAdd
  refine congrArg (init + ·) (Finset.sum_eq_single_of_mem (ix3 0 k 0) ?_ fun i hi hne => (hne ?_).elim)
  · refine Finset.mem_filter.2 ⟨Finset.mem_univ _, ?_⟩
    funext b
    obtain rfl : b = 0 := Subsingleton.elim (α := Fin 1) _ _
    exact Fin.ext rfl
  · have e := (congrArg Fin.val (congrFun (Finset.mem_filter.1 hi).2 0)).symm.trans (show (h.drop i 0).val = (i 1).val from rfl)
    funext a
    refine Fin.ext ?_
    match a with
    | ⟨0, h0⟩ => have : (i ⟨0, h0⟩).val < 1 := (i ⟨0, h0⟩).isLt; show (i ⟨0, h0⟩).val = 0; omega
    | ⟨1, h1⟩ => exact e.symm
    | ⟨2, h2⟩ => have : (i ⟨2, h2⟩).val < 1 := (i ⟨2, h2⟩).isLt; show (i ⟨2, h2⟩).val = 0; omega

/-- A sum over the two outer axes of `1 × T × n`. -/
theorem outer_middle {T n : ℕ} (h : (⟨3, ![1, T, n]⟩ : Shape).ReducesTo [0, 1] ⟨1, ![n]⟩)
    (v : (⟨3, ![1, T, n]⟩ : Shape).Idx → EReal) (init : EReal) (k : Fin n) :
    Ideal.hostReduceAdd h v init (ix1 k) = init + ∑ r : Fin T, v (ix3 0 r k) := by
  unfold Ideal.hostReduceAdd
  refine congrArg (init + ·) (Finset.sum_bij (fun (i : (⟨3, ![1, T, n]⟩ : Shape).Idx) _ => (i 1 : Fin T)) (fun _ _ => Finset.mem_univ _) ?_ ?_ ?_)
  · intro i hi j hj e
    have ei := (congrArg Fin.val (congrFun (Finset.mem_filter.1 hi).2 0)).symm.trans (show (h.drop i 0).val = (i 2).val from rfl)
    have ej := (congrArg Fin.val (congrFun (Finset.mem_filter.1 hj).2 0)).symm.trans (show (h.drop j 0).val = (j 2).val from rfl)
    funext a
    refine Fin.ext ?_
    match a with
    | ⟨0, h0⟩ =>
      have h1 : (i ⟨0, h0⟩).val < 1 := (i ⟨0, h0⟩).isLt
      have h2 : (j ⟨0, h0⟩).val < 1 := (j ⟨0, h0⟩).isLt
      omega
    | ⟨1, _⟩ => exact congrArg Fin.val e
    | ⟨2, _⟩ => exact ei.symm.trans ej
  · intro r _
    refine ⟨ix3 0 r k, Finset.mem_filter.2 ⟨Finset.mem_univ _, ?_⟩, rfl⟩
    funext b
    obtain rfl : b = 0 := Subsingleton.elim (α := Fin 1) _ _
    exact Fin.ext rfl
  · intro i hi
    have ei := (congrArg Fin.val (congrFun (Finset.mem_filter.1 hi).2 0)).symm.trans (show (h.drop i 0).val = (i 2).val from rfl)
    refine congrArg v (funext fun a => Fin.ext ?_)
    match a with
    | ⟨0, h0⟩ => have : (i ⟨0, h0⟩).val < 1 := (i ⟨0, h0⟩).isLt; show (i ⟨0, h0⟩).val = 0; omega
    | ⟨1, _⟩ => rfl
    | ⟨2, _⟩ => exact ei.symm

end Cert.UnitSums

end
-- ==== Proof.LossReference.lean ====
module

public import proofs.«01_k».proof.Proof.LossForm
public import proofs.«01_k».proof.Proof.UnitSums
public import proofs.«01_k».proof.Proof.Gen.ReferenceIdeal.Read

@[expose] public section

set_option maxRecDepth 16384

noncomputable section

open Idealize.ShloMosaic Idealize.ShloMosaic.TcCoe

/-!
# The reference's loss and gradients as sums over rows and lanes
-/

namespace Cert.ReferenceIdeal.Loss

open Cert.ReferenceIdeal Cert.ReferenceIdeal.Gen Cert.ReferenceIdeal.Read
open Cert.LossForm (diff dy lane dg dh)
open Cert.NormForm (ri)

variable (x : FVec Ideal S8208x2048 .f32) (g : FVec Ideal S2048 .f32) (t : FVec Ideal S1x8192x2048 .f32)

theorem ms_at (r : Fin 8208) : val_main_v7 (F := Ideal) x (ix3 0 r 0)
    = Ideal.div (∑ k : Fin 2048, x (ix2 r k) * x (ix2 r k)) (Ideal.ofBits .f32 0x45000000#32)
      + Ideal.ofBits .f32 0x358637BD#32 := by
  pointwise [val_main_v7, val_main_v6, val_main_cst_1, val_main_v5, val_main_v4, val_main_cst_0, val_main_v3, val_main_v2,
    val_main_cst, val_main_v1, val_main_v0]

theorem ri_at (r : Fin 8208) : val_main_v8 (F := Ideal) x (ix3 0 r 0) = ri x r := by
  unfold ri Ext.rinv
  pointwise [val_main_v8, ms_at]

theorem xhat_at (r : Fin 8208) (k : Fin 2048) : val_main_v13 (F := Ideal) x (ix3 0 r k) = x (ix2 r k) * ri x r := by
  pointwise [val_main_v13, val_main_v0, val_main_v12, ri_at]

theorem diff_at (r : Fin 8192) (k : Fin 2048) :
    val_main_v18 (F := Ideal) x g t (ix3 0 r k) = diff x g t ⟨16 + r, by omega⟩ k := by
  unfold diff
  rw [dif_neg (by simp)]
  pointwise [val_main_v18, val_main_v17, val_main_v16, val_main_v15, val_main_v14, xhat_at]

/-- At the meta tokens' rows the difference is zero. -/
theorem diff_low (r : Fin 8208) (k : Fin 2048) (h : (r : ℕ) < 16) : diff x g t r k = 0 := dif_pos h

/-- The reference's factor of the cotangent: a half over the width, times two. -/
theorem dy_factor (d : EReal) :
    Ideal.div (Ideal.ofBits .f32 0x3F000000#32) (Ideal.ofBits .f32 0x45000000#32) * (Ideal.ofBits .f32 0x40000000#32 * d)
      = d * Ideal.ofBits .f32 0x3A000000#32 := by
  rw [Ext.lit_2048, Ext.lit_half, Ext.lit_two, Ext.lit_inv2048, Ideal.div_coe (by norm_num), ← mul_assoc, ← EReal.coe_mul,
    ← EReal.coe_mul, mul_comm]
  norm_num

theorem dy_at (r : Fin 8208) (k : Fin 2048) : val_main_v33 (F := Ideal) x g t (ix3 0 r k) = dy x g t r k := by
  unfold dy
  pointwise [val_main_v33, val_main_v32, val_main_v31, val_main_v30, val_main_v29, val_main_v28, val_main_v27, val_main_cst_8,
    val_main_cst_9, val_main_cst_10, val_main_v21, val_main_v20, val_main_cst_3, val_main_cst_11, diff_at]
  by_cases h : 16 ≤ (r : ℕ)
  · rw [dif_pos ⟨h, by omega⟩, dy_factor]
    exact congrArg (diff x g t · k * _) (Fin.ext (by show 16 + ((r : ℕ) - 16) = r; omega))
  · rw [dif_neg fun hh => h hh.1, diff_low x g t r k (by omega), zero_mul]

theorem dg_at (k : Fin 2048) : val_main_v39 (F := Ideal) x g t (ix1 k) = dg x g t k := by
  have e : ∀ a : Fin 1, val_main_v36 (F := Ideal) x g t (ix3 0 a k) = dg x g t k := fun a => by
    obtain rfl : a = 0 := Subsingleton.elim _ _
    unfold dg
    pointwise [val_main_v36, val_main_v35, val_main_v34, val_main_cst_12, xhat_at, dy_at]
    exact Finset.sum_congr rfl fun r _ => mul_comm _ _
  unfold val_main_v39
  refine (UnitSums.outer_middle reducesTo_S1x1x2048_S2048_d0_1 _ (Ideal.ofBits .f32 0x00000000#32) k).trans ?_
  simp only [e]
  simp

theorem lane_at (i : S_.Idx) : val_main_v26 (F := Ideal) x g t i = ∑ k : Fin 2048, lane x g t k := by
  have hl : ∀ k, lane x g t k = ((1 / 4096 : ℝ) : EReal) * ∑ r : Fin 8192,
      diff x g t ⟨16 + r, by omega⟩ k * diff x g t ⟨16 + r, by omega⟩ k := fun k => by
    unfold lane
    rw [Ext.lit_inv4096, Fin.sum_univ_two_halves 16 8192 rfl,
      Finset.sum_eq_zero fun (r : Fin 16) _ => by rw [diff_low x g t _ k r.isLt, zero_mul], zero_add]
  simp only [hl]
  pointwise [val_main_v26, val_main_v25, val_main_v24, val_main_v23, val_main_v22, val_main_v19, val_main_cst_7, val_main_cst_6,
    val_main_cst_5, val_main_cst_4, diff_at]
  rw [Ext.lit_2048, Ext.lit_half]
  simp only [Ideal.div_coe (show (2048 : ℝ) ≠ 0 by norm_num)]
  rw [Fin.sum_univ_one, ← Ext.coe_mul_sum (by norm_num), ← Ext.sum_mul_coe (by norm_num), mul_comm, mul_assoc,
    ← EReal.coe_mul, mul_comm, Finset.sum_comm]
  norm_num

/-- Reading the reference's row sum. -/
theorem v48_at (r : Fin 8208) : val_main_v48 (F := Ideal) x g t (ix1 r) = val_main_v47 (F := Ideal) x g t (ix3 0 r 0) := by
  unfold val_main_v48
  refine (UnitSums.outer_inner reducesTo_S1x8208x1_S8208_d0_2 _ (Ideal.ofBits .f32 0x00000000#32) r).trans ?_
  simp

theorem dh_at (r : Fin 8208) (k : Fin 2048) : val_main_v55 (F := Ideal) x g t (ix2 r k) = dh x g t r k := by
  have e : val_main_v54 (F := Ideal) x g t (ix3 0 r k) = dh x g t r k := by
    pointwise [val_main_v54, val_main_v53, val_main_v52, val_main_v51, val_main_v50, val_main_v49, v48_at, val_main_v47,
      val_main_v46, val_main_v45, val_main_v44, val_main_v43, val_main_v42, val_main_v41, val_main_v40, val_main_v38,
      val_main_v37, val_main_v14, val_main_v11, val_main_v10, val_main_cst_15, val_main_cst_14, val_main_cst_2, val_main_v9,
      val_main_v0, ri_at, dy_at, ms_at]
    unfold dh
    rw [show ri x r = Ext.rinv (∑ k : Fin 2048, x (ix2 r k) * x (ix2 r k)) from rfl]
    obtain ⟨ρ, h0, hρ, h3⟩ := Ext.rinv_real (NormForm.sq_nonneg x r)
    rw [h3, hρ, Ext.lit_2048, Ext.lit_neg_half]
    exact NormForm.row_gradient h0 _ _ (fun j => x (ix2 r j)) fun j => dy x g t r j * g (ix1 j)
  pointwise [val_main_v55, val_main_cst_17]
  rw [Fin.sum_univ_one, e]

/-- The reference's three results, whole. -/
theorem loss_out : val_main_v26 (F := Ideal) x g t = fun _ => ∑ k : Fin 2048, lane x g t k := funext fun i => lane_at x g t i

theorem dh_out : val_main_v55 (F := Ideal) x g t = fun i : S8208x2048.Idx => dh x g t (i 0) (i 1) := by
  funext i
  idx_vars i
  exact dh_at x g t _ _

theorem dg_out : val_main_v39 (F := Ideal) x g t = fun i : S2048.Idx => dg x g t (i 0) := by
  funext i
  idx_vars i
  exact dg_at x g t _

end Cert.ReferenceIdeal.Loss
end
-- ==== Proof.LossPair.lean ====
/- The loss head's value claim: the kernel's final arrays and the reference's results are the same forms of the arguments. -/
module

public import proofs.«01_k».proof.Defs
public import proofs.«01_k».proof.Proof.LossKernel
public import proofs.«01_k».proof.Proof.LossReference
public import proofs.«01_k».proof.Proof.Gen.ReferenceIdeal.Run
public import Idealize.ShloMosaic.Lib.Claim

@[expose] public section

set_option maxRecDepth 16384

noncomputable section

namespace Cert.LossPair

open Idealize.ShloMosaic Idealize.SL.Sem
open Cert.KernelIdeal.Value Cert.LossForm

section
open Cert.KernelIdeal Cert.KernelIdeal.Gen

variable (m : (ℓ : Loc nD τ sig) → Buf (Elt Ideal) ℓ)

/-- The exit contents of the region's window `w`. -/
theorem exit_arr (c : Dev nD) (w : Fin 6) :
    Pipeline.withArrays cfg0.spec c (V0 m c) (fun w => (dats m 0 c).arrAt w cfg0.N) (Proc.devRef .tc (Pipeline.arrRef cfg0.spec w))
      = (dats m 0 c).arrAt w cfg0.N :=
  Pipeline.withArrays_arr _ launch0.win.arr_inj c _ _ w

/-- The host's sum over the lanes. -/
theorem reduce_lanes {v : FVec Ideal S1x2048 .f32} {f : Fin 2048 → EReal} (h : v = fun i : S1x2048.Idx => f (i 1)) :
    Host.reduceAdd v (constant S_ .f32 0x00000000#32) reducesTo_S1x2048_S_d0_1 h_S_ = fun _ => ∑ k, f k := by
  subst h
  funext i
  pointwise
  exact Fin.sum_univ_one _

/-- The host's view of a one-row array as a vector. -/
theorem read_lanes {v : FVec Ideal S1x2048 .f32} {f : Fin 2048 → EReal} (h : v = fun i : S1x2048.Idx => f (i 1)) :
    shapeCast S2048 v shapeCasts_S1x2048_S2048 = fun i : S2048.Idx => f (i 0) := by
  subst h
  funext i
  idx_vars i
  pointwise

theorem tail_loss (c : Dev nD) : Pipeline.afterTail₀ cfgs (dats m) 0 (V0 m) [hostOps1] c main_v5
    = fun _ => ∑ k : Fin 2048, lane (X m c) (G m c) (T m c) k := by
  show StableHlo.after hostOps1 _ _ = _
  after_results
  erw [exit_arr m c 3]
  exact reduce_lanes (final_lane m c)

theorem tail_dg (c : Dev nD) : Pipeline.afterTail₀ cfgs (dats m) 0 (V0 m) [hostOps1] c main_v6
    = fun i : S2048.Idx => dg (X m c) (G m c) (T m c) (i 0) := by
  show StableHlo.after hostOps1 _ _ = _
  after_results
  erw [exit_arr m c 5]
  exact read_lanes (final_dg m c)

end

theorem reference_frame : Cert.quiescent_ReferenceIdeal := by
  intro m g _
  refine (θ_run _ _ _).mono (fun r h => ⟨fun c => (h c).2.2.2, funext fun s => ?_⟩) (Cert.ReferenceIdeal.Value.run m g)
  exact ((by decide : ∀ _ : SemLoc Cert.ReferenceIdeal.sig, False) s.2).elim

theorem algebraic : Cert.algebraic_KernelIdeal_ReferenceIdeal := by
  pair_intro
  · run_from Cert.KernelIdeal.Gen.run_main m g & Cert.KernelIdeal.Gen.unchanged m g
  · run_from Cert.ReferenceIdeal.Value.run m' g'
    · exact (ReferenceIdeal.Loss.loss_out _ _ _).trans (tail_loss m c).symm
    · rw [ReferenceIdeal.Read.val_main_v55_eq, (hagree c).1, (hagree c).2.1, (hagree c).2.2]
      exact (ReferenceIdeal.Loss.dh_out _ _ _).trans (final_dh m c).symm
    · exact (ReferenceIdeal.Loss.dg_out _ _ _).trans (tail_dg m c).symm

end Cert.LossPair
end
-- ==== Proof.MergeForm.lean ====
/- The gradients of the gated merge, as forms of the arrays. -/
module

public import proofs.«01_k».proof.Proof.Ext
public import Idealize.ShloMosaic.Lib.Pointwise

@[expose] public section

noncomputable section

namespace Cert.MergeForm

open Idealize.ShloMosaic

variable (ya yb : FVec Ideal ⟨2, ![8208, 2048]⟩ .f32) (z : FVec Ideal ⟨2, ![8208, 14336]⟩ .f32)
  (wa wb wo : FVec Ideal ⟨2, ![2048, 2048]⟩ .f32) (dho : FVec Ideal ⟨2, ![8208, 2048]⟩ .f32)

/-- A branch's projection. -/
def proj (y : FVec Ideal ⟨2, ![8208, 2048]⟩ .f32) (w : FVec Ideal ⟨2, ![2048, 2048]⟩ .f32) (r : Fin 8208) (k : Fin 2048) : EReal :=
  ∑ j : Fin 2048, y (ix2 r j) * w (ix2 j k)

/-- The gates of the two branches: columns 10240… and 12288… of the joint projection. -/
def gateA (r : Fin 8208) (k : Fin 2048) : EReal := Ext.sig (z (ix2 r ⟨10240 + k, by omega⟩))
def gateB (r : Fin 8208) (k : Fin 2048) : EReal := Ext.sig (z (ix2 r ⟨12288 + k, by omega⟩))

/-- The gradient at the merged value. -/
def dm (r : Fin 8208) (k : Fin 2048) : EReal := ∑ j : Fin 2048, dho (ix2 r j) * wo (ix2 k j)

/-- The gradient at a projection, given its gate, and at the gate's argument. -/
def dproj (g : EReal) (r : Fin 8208) (k : Fin 2048) : EReal := dm wo dho r k * g
def dgate (p g : EReal) (r : Fin 8208) (k : Fin 2048) : EReal := dm wo dho r k * p * (g * (1 - g))

end Cert.MergeForm
end
-- ==== Proof.MergeKernel.lean ====
/- What the merge's gradient kernel leaves in its four arrays. -/
module

public import proofs.«01_k».proof.Proof.MergeForm
public import proofs.«01_k».proof.Proof.Gen.MergeIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.MergeIdeal.Grad

open Cert.MergeIdeal Cert.MergeIdeal.Gen Cert.MergeForm

variable (m : (ℓ : Loc nD τ sig) → Buf (Elt Ideal) ℓ)

abbrev Ya (c : Dev nD) : FVec Ideal ⟨2, ![8208, 2048]⟩ .f32 := m ((c : Thread nD τ).loc main_arg0)
abbrev Yb (c : Dev nD) : FVec Ideal ⟨2, ![8208, 2048]⟩ .f32 := m ((c : Thread nD τ).loc main_arg1)
abbrev Z (c : Dev nD) : FVec Ideal ⟨2, ![8208, 14336]⟩ .f32 := m ((c : Thread nD τ).loc main_arg2)
abbrev Wa (c : Dev nD) : FVec Ideal ⟨2, ![2048, 2048]⟩ .f32 := m ((c : Thread nD τ).loc main_arg3)
abbrev Wb (c : Dev nD) : FVec Ideal ⟨2, ![2048, 2048]⟩ .f32 := m ((c : Thread nD τ).loc main_arg4)
abbrev Wo (c : Dev nD) : FVec Ideal ⟨2, ![2048, 2048]⟩ .f32 := m ((c : Thread nD τ).loc main_arg5)
abbrev Dh (c : Dev nD) : FVec Ideal ⟨2, ![8208, 2048]⟩ .f32 := m ((c : Thread nD τ).loc main_arg6)

/-- The windows' block indices at a grid point. -/
theorem idx : ∀ t : Fin cfg0.N, win0_0.index t = ![t.val / 4, 0] ∧ win0_1.index t = ![t.val % 4, 0]
    ∧ win0_2.index t = ![t.val / 4, 20 + t.val % 4] ∧ win0_3.index t = ![t.val / 4, 24 + t.val % 4]
    ∧ win0_4.index t = ![t.val / 4, t.val % 4] ∧ win0_5.index t = ![t.val / 4, t.val % 4]
    ∧ win0_6.index t = ![t.val / 4, t.val % 4] ∧ win0_7.index t = ![t.val / 4, t.val % 4]
    ∧ win0_8.index t = ![t.val / 4, t.val % 4] ∧ win0_9.index t = ![t.val / 4, t.val % 4] ∧ t.val < 36 :=
  (by decide +kernel : ∀ t : Fin grid0.N, _)

theorem lt36 (t : Fin cfg0.N) : t.val < 36 := (idx t).2.2.2.2.2.2.2.2.2.2

/-- The row and the column of the whole array that a tile's row and column are. -/
abbrev row (t : Fin cfg0.N) (r : Fin 912) : Fin 8208 := ⟨t.val / 4 * 912 + r, by have := lt36 t; omega⟩
abbrev col (t : Fin cfg0.N) (k : Fin 512) : Fin 2048 := ⟨t.val % 4 * 512 + k, by omega⟩

theorem V_wo (c : Dev nD) : V m c main_v4 = truncf .bf16 (Wo m c) bitsLt_bf16_f32 := by
  unfold V; after_results_simp <;> rfl

theorem V_pa (c : Dev nD) : V m c main_v1 = truncf .bf16 (Host.dotGeneral (φ₂ := .f32)
    dot_S8208x2048_S2048x2048_S8208x2048_1_0_0_1_n_n none (Ya m c) (Wa m c)) bitsLt_bf16_f32 := by
  unfold V; after_results_simp <;> rfl

theorem V_pb (c : Dev nD) : V m c main_v3 = truncf .bf16 (Host.dotGeneral (φ₂ := .f32)
    dot_S8208x2048_S2048x2048_S8208x2048_1_0_0_1_n_n none (Yb m c) (Wb m c)) bitsLt_bf16_f32 := by
  unfold V; after_results_simp <;> rfl

theorem dho_at (c : Dev nD) (t : Fin cfg0.N) (r : Fin 912) (j : Fin 2048) :
    (show EReal from iblk m c 0 t (ix2 r j)) = Dh m c (ix2 (row t r) j) := by
  blk_ext [iblk, V, idx t]

theorem wo_at (c : Dev nD) (t : Fin cfg0.N) (k : Fin 512) (j : Fin 2048) :
    (show EReal from iblk m c 1 t (ix2 k j)) = Wo m c (ix2 (col t k) j) := by
  trans V m c main_v4 (ix2 (col t k) j)
  · blk_ext [iblk, idx t]
  · rw [V_wo]; pointwise

theorem ma_at (c : Dev nD) (t : Fin cfg0.N) (r : Fin 912) (k : Fin 512) :
    (show EReal from iblk m c 2 t (ix2 r k)) = Z m c (ix2 (row t r) ⟨10240 + col t k, by have := (col t k).isLt; omega⟩) := by
  blk_ext [iblk, V, idx t]

theorem mb_at (c : Dev nD) (t : Fin cfg0.N) (r : Fin 912) (k : Fin 512) :
    (show EReal from iblk m c 3 t (ix2 r k)) = Z m c (ix2 (row t r) ⟨12288 + col t k, by have := (col t k).isLt; omega⟩) := by
  blk_ext [iblk, V, idx t]

theorem pa_at (c : Dev nD) (t : Fin cfg0.N) (r : Fin 912) (k : Fin 512) :
    (show EReal from iblk m c 4 t (ix2 r k)) = proj (Ya m c) (Wa m c) (row t r) (col t k) := by
  trans V m c main_v1 (ix2 (row t r) (col t k))
  · blk_ext [iblk, idx t]
  · rw [V_pa]; unfold proj; pointwise

theorem pb_at (c : Dev nD) (t : Fin cfg0.N) (r : Fin 912) (k : Fin 512) :
    (show EReal from iblk m c 5 t (ix2 r k)) = proj (Yb m c) (Wb m c) (row t r) (col t k) := by
  trans V m c main_v3 (ix2 (row t r) (col t k))
  · blk_ext [iblk, idx t]
  · rw [V_pb]; unfold proj; pointwise

/-- The scratch holds the tile's rows of the incoming gradient. -/
theorem scratch (c : Dev nD) : ∀ n (h : n < cfg0.N) (r : Fin 912) (j : Fin 2048),
    (show EReal from (outsAt0 m c n h).2.2.2.2 (ix2 r j)) = Dh m c (ix2 (row ⟨n, h⟩ r) j) := by
  have first : ∀ t : Fin cfg0.N, t.val % 4 = 0 → ∀ (r : Fin 912) (j : Fin 2048),
      (show EReal from (outsAt0 m c t.val t.isLt).2.2.2.2 (ix2 r j)) = Dh m c (ix2 (row t r) j) := by
    intro t h r j
    rw [outsAt0_A m c t h]; frame_out
    pointwise [k0_pay3]
    exact dho_at m c t r j
  intro n
  induction n with
  | zero => exact fun h => first ⟨0, h⟩ rfl
  | succ n ih =>
    intro h r j
    by_cases h4 : (n + 1) % 4 = 0
    · exact first ⟨n + 1, h⟩ h4 r j
    · rw [outsAt0_B m c ⟨n + 1, h⟩ h4]; frame_out
      refine (ih (by omega) r j).trans (congrArg (fun a => Dh m c (ix2 a j)) (Fin.ext ?_))
      show n / 4 * 912 + r.val = (n + 1) / 4 * 912 + r.val
      omega

variable {m} in
/-- What the four stores write, over any staged rows that are the tile's. -/
theorem dm_at {c : Dev nD} {t : Fin cfg0.N} {v : FVec Ideal S912x2048 .bf16}
    (hv : ∀ r j, v (ix2 r j) = Dh m c (ix2 (row t r) j)) (r : Fin 912) (k : Fin 512) :
    k0_pay4 (F := Ideal) v (iblk m c 1 t) (ix2 r k) = dm (Wo m c) (Dh m c) (row t r) (col t k) := by
  unfold dm
  pointwise [k0_pay4, hv]
  exact Finset.sum_congr rfl fun j _ => congrArg (_ * ·) (wo_at m c t k j)

theorem gateA_at (c : Dev nD) (t : Fin cfg0.N) (r : Fin 912) (k : Fin 512) :
    k0_pay5 (F := Ideal) (iblk m c 2 t) (ix2 r k) = gateA (Z m c) (row t r) (col t k) := by
  unfold gateA
  rw [← ma_at]
  pointwise [k0_pay5]
  exact Ext.sig_tanh _

theorem gateB_at (c : Dev nD) (t : Fin cfg0.N) (r : Fin 912) (k : Fin 512) :
    k0_pay6 (F := Ideal) (iblk m c 3 t) (ix2 r k) = gateB (Z m c) (row t r) (col t k) := by
  unfold gateB
  rw [← mb_at]
  pointwise [k0_pay6]
  exact Ext.sig_tanh _

/-- A point's four stores, over any staged rows that are the tile's. -/
structure Stored (c : Dev nD) (t : Fin cfg0.N) (o : Vec Ideal S912x512 .bf16 × Vec Ideal S912x512 .bf16
    × Vec Ideal S912x512 .bf16 × Vec Ideal S912x512 .bf16 × Vec Ideal S912x2048 .bf16) : Prop where
  pa : ∀ r k, (show EReal from o.1 (ix2 r k)) = dproj (Wo m c) (Dh m c) (gateA (Z m c) (row t r) (col t k)) (row t r) (col t k)
  pb : ∀ r k, (show EReal from o.2.1 (ix2 r k)) = dproj (Wo m c) (Dh m c) (gateB (Z m c) (row t r) (col t k)) (row t r) (col t k)
  ma : ∀ r k, (show EReal from o.2.2.1 (ix2 r k)) = dgate (Wo m c) (Dh m c) (proj (Ya m c) (Wa m c) (row t r) (col t k))
    (gateA (Z m c) (row t r) (col t k)) (row t r) (col t k)
  mb : ∀ r k, (show EReal from o.2.2.2.1 (ix2 r k)) = dgate (Wo m c) (Dh m c) (proj (Yb m c) (Wb m c) (row t r) (col t k))
    (gateB (Z m c) (row t r) (col t k)) (row t r) (col t k)

variable {m} in
theorem stores_of {c : Dev nD} {t : Fin cfg0.N} {v w : FVec Ideal S912x2048 .bf16}
    (hv : ∀ r j, v (ix2 r j) = Dh m c (ix2 (row t r) j)) :
    Stored m c t (k0_pay7 v (iblk m c 1 t) (iblk m c 2 t), k0_pay8 v (iblk m c 1 t) (iblk m c 3 t),
      k0_pay1 (k0_pay4 v (iblk m c 1 t)) (k0_pay5 (iblk m c 2 t)) (k0_pay9 (iblk m c 4 t)),
      k0_pay2 (k0_pay4 v (iblk m c 1 t)) (k0_pay6 (iblk m c 3 t)) (iblk m c 5 t), w) where
  pa r k := by unfold dproj; pointwise [k0_pay7, dm_at hv, gateA_at]
  pb r k := by unfold dproj; pointwise [k0_pay8, dm_at hv, gateB_at]
  ma r k := by
    unfold dgate; rw [← pa_at]; pointwise [k0_pay1, k0_pay9, dm_at hv, gateA_at, Ext.lit_one]
  mb r k := by
    unfold dgate; rw [← pb_at]; pointwise [k0_pay2, dm_at hv, gateB_at, Ext.lit_one]

theorem stored (c : Dev nD) (t : Fin cfg0.N) : Stored m c t (outsAt0 m c t.val t.isLt) := by
  by_cases h : t.val % 4 = 0
  · have hv : ∀ (r : Fin 912) (j : Fin 2048), k0_pay3 (F := Ideal) (iblk m c 0 t) (ix2 r j) = Dh m c (ix2 (row t r) j) :=
      fun r j => by pointwise [k0_pay3]; exact dho_at m c t r j
    have s := stores_of hv (w := k0_pay3 (F := Ideal) (iblk m c 0 t))
    rw [outsAt0_A m c t h]
    exact ⟨fun r k => by frame_out; exact s.pa r k, fun r k => by frame_out; exact s.pb r k,
      fun r k => by frame_out; exact s.ma r k, fun r k => by frame_out; exact s.mb r k⟩
  · have hv : ∀ (r : Fin 912) (j : Fin 2048), (show EReal from (outsAt0 m c (t.val - 1)
        (Nat.lt_of_le_of_lt (Nat.sub_le _ _) t.isLt)).2.2.2.2 (ix2 r j)) = Dh m c (ix2 (row t r) j) :=
      fun r j => (scratch m c _ _ r j).trans (congrArg (fun a => Dh m c (ix2 a j)) (Fin.ext (by
        show (t.val - 1) / 4 * 912 + r.val = t.val / 4 * 912 + r.val
        omega)))
    have s := stores_of hv (w := k0_pay3 (F := Ideal) (iblk m c 0 t))
    rw [outsAt0_B m c t h]
    exact ⟨fun r k => by frame_out; rw [read_unread_whole]; exact s.pa r k, fun r k => by frame_out; rw [read_unread_whole]; exact s.pb r k,
      fun r k => by frame_out; rw [read_unread_whole]; exact s.ma r k, fun r k => by frame_out; rw [read_unread_whole]; exact s.mb r k⟩

/-- The gradients of the two projections and of the two gates' arguments, tile by tile. -/
theorem final_pa (c : Dev nD) : (dats m 0 c).arrAt 6 (cfgs 0).N
    = fun i : S8208x2048.Idx => dproj (Wo m c) (Dh m c) (gateA (Z m c) (i 0) (i 1)) (i 0) (i 1) := by
  refine (dats m 0 c).arrAt_eq_of_covers 6 _ (by decide +kernel) fun t _ y => ?_
  idx_vars y
  blk_simp
  rw [after0_6]
  refine ((stored m c t).pa y0 y1).trans ?_
  exact congrArg₂ (fun a b => dproj (Wo m c) (Dh m c) (gateA (Z m c) a b) a b)
    (Fin.ext (by symm; blk_simp [idx t])) (Fin.ext (by symm; blk_simp [idx t]))

theorem final_pb (c : Dev nD) : (dats m 0 c).arrAt 7 (cfgs 0).N
    = fun i : S8208x2048.Idx => dproj (Wo m c) (Dh m c) (gateB (Z m c) (i 0) (i 1)) (i 0) (i 1) := by
  refine (dats m 0 c).arrAt_eq_of_covers 7 _ (by decide +kernel) fun t _ y => ?_
  idx_vars y
  blk_simp
  rw [after0_7]
  refine ((stored m c t).pb y0 y1).trans ?_
  exact congrArg₂ (fun a b => dproj (Wo m c) (Dh m c) (gateB (Z m c) a b) a b)
    (Fin.ext (by symm; blk_simp [idx t])) (Fin.ext (by symm; blk_simp [idx t]))

theorem final_ma (c : Dev nD) : (dats m 0 c).arrAt 8 (cfgs 0).N = fun i : S8208x2048.Idx =>
    dgate (Wo m c) (Dh m c) (proj (Ya m c) (Wa m c) (i 0) (i 1)) (gateA (Z m c) (i 0) (i 1)) (i 0) (i 1) := by
  refine (dats m 0 c).arrAt_eq_of_covers 8 _ (by decide +kernel) fun t _ y => ?_
  idx_vars y
  blk_simp
  rw [after0_8]
  refine ((stored m c t).ma y0 y1).trans ?_
  exact congrArg₂ (fun a b => dgate (Wo m c) (Dh m c) (proj (Ya m c) (Wa m c) a b) (gateA (Z m c) a b) a b)
    (Fin.ext (by symm; blk_simp [idx t])) (Fin.ext (by symm; blk_simp [idx t]))

theorem final_mb (c : Dev nD) : (dats m 0 c).arrAt 9 (cfgs 0).N = fun i : S8208x2048.Idx =>
    dgate (Wo m c) (Dh m c) (proj (Yb m c) (Wb m c) (i 0) (i 1)) (gateB (Z m c) (i 0) (i 1)) (i 0) (i 1) := by
  refine (dats m 0 c).arrAt_eq_of_covers 9 _ (by decide +kernel) fun t _ y => ?_
  idx_vars y
  blk_simp
  rw [after0_9]
  refine ((stored m c t).mb y0 y1).trans ?_
  exact congrArg₂ (fun a b => dgate (Wo m c) (Dh m c) (proj (Yb m c) (Wb m c) a b) (gateB (Z m c) a b) a b)
    (Fin.ext (by symm; blk_simp [idx t])) (Fin.ext (by symm; blk_simp [idx t]))

end Cert.MergeIdeal.Grad
end
-- ==== Proof.MergeReference.lean ====
/- What the merge's reference leaves in its four results. -/
module

public import proofs.«01_k».proof.Proof.MergeForm
public import proofs.«01_k».proof.Proof.Gen.MergeRefIdeal.Read

@[expose] public section

set_option maxRecDepth 16384

noncomputable section

open Idealize.ShloMosaic

namespace Cert.MergeRefIdeal.Grad

open Cert.MergeRefIdeal Cert.MergeRefIdeal.Gen Cert.MergeRefIdeal.Read Cert.MergeForm

variable (ya yb : FVec Ideal S8208x2048 .f32) (z : FVec Ideal S8208x14336 .f32)
  (wa wb wo : FVec Ideal S2048x2048 .f32) (dho : FVec Ideal S8208x2048 .f32)

theorem projA_at (r : Fin 8208) (k : Fin 2048) : val_main_v9 (F := Ideal) ya wa (ix2 r k) = proj ya wa r k := by
  unfold proj
  pointwise [val_main_v9, val_main_v8, val_main_v7]

theorem projB_at (r : Fin 8208) (k : Fin 2048) : val_main_v12 (F := Ideal) yb wb (ix2 r k) = proj yb wb r k := by
  unfold proj
  pointwise [val_main_v12, val_main_v11, val_main_v10]

theorem gateA_at (r : Fin 8208) (k : Fin 2048) : val_main_v18 (F := Ideal) z (ix2 r k) = gateA z r k := by
  unfold gateA
  rw [← Ext.sig_exp]
  pointwise [val_main_v18, val_main_v17, val_main_v16, val_main_v15, val_main_v14, val_main_v13, val_main_v5, val_main_cst,
    val_main_cst_0]

theorem gateB_at (r : Fin 8208) (k : Fin 2048) : val_main_v28 (F := Ideal) z (ix2 r k) = gateB z r k := by
  unfold gateB
  rw [← Ext.sig_exp]
  pointwise [val_main_v28, val_main_v27, val_main_v26, val_main_v25, val_main_v24, val_main_v23, val_main_v6, val_main_cst_2,
    val_main_cst_3]

theorem dm_at (r : Fin 8208) (k : Fin 2048) : val_main_v39 (F := Ideal) wo dho (ix2 r k) = dm wo dho r k := by
  unfold dm
  pointwise [val_main_v39, val_main_v38, val_main_v37, val_main_cst_5]
  exact Fin.sum_univ_one _

theorem dpa_out : val_main_v46 (F := Ideal) z wo dho = fun i : S8208x2048.Idx => dproj wo dho (gateA z (i 0) (i 1)) (i 0) (i 1) := by
  funext i
  idx_vars i
  unfold dproj
  pointwise [val_main_v46, val_main_v43, gateA_at, dm_at]
  exact mul_comm _ _

theorem dpb_out : val_main_v47 (F := Ideal) z wo dho = fun i : S8208x2048.Idx => dproj wo dho (gateB z (i 0) (i 1)) (i 0) (i 1) := by
  funext i
  idx_vars i
  unfold dproj
  pointwise [val_main_v47, val_main_v40, gateB_at, dm_at]
  exact mul_comm _ _

theorem dma_out : val_main_v48 (F := Ideal) ya z wa wo dho
    = fun i : S8208x2048.Idx => dgate wo dho (proj ya wa (i 0) (i 1)) (gateA z (i 0) (i 1)) (i 0) (i 1) := by
  funext i
  idx_vars i
  unfold dgate
  pointwise [val_main_v48, val_main_v45, val_main_v44, val_main_v21, val_main_v20, val_main_v19, val_main_cst_1, gateA_at, dm_at,
    projA_at]

theorem dmb_out : val_main_v49 (F := Ideal) yb z wb wo dho
    = fun i : S8208x2048.Idx => dgate wo dho (proj yb wb (i 0) (i 1)) (gateB z (i 0) (i 1)) (i 0) (i 1) := by
  funext i
  idx_vars i
  unfold dgate
  pointwise [val_main_v49, val_main_v42, val_main_v41, val_main_v31, val_main_v30, val_main_v29, val_main_cst_4, gateB_at, dm_at,
    projB_at]

end Cert.MergeRefIdeal.Grad
end
-- ==== Proof.MergePair.lean ====
/- The merge's gradient kernel and its reference side by side. -/
module

public import proofs.«01_k».proof.Proof.MergeKernel
public import proofs.«01_k».proof.Proof.MergeReference
public import proofs.«01_k».proof.Defs
public import proofs.«01_k».proof.Proof.Gen.MergeRefIdeal.Run
public import Idealize.ShloMosaic.Lib.Claim

@[expose] public section

set_option maxRecDepth 16384

noncomputable section

open Idealize.ShloMosaic Idealize.ShloMosaic.TcCoe Idealize.SL.Sem

namespace Cert.MergePair

open Cert.MergeIdeal.Grad Cert.MergeRefIdeal.Grad

theorem reference_frame : Cert.quiescent_MergeRefIdeal := by
  intro m g _
  refine (θ_run _ _ _).mono (fun r h => ⟨fun c => (h c).2.2.2.2, funext fun s => ?_⟩) (Cert.MergeRefIdeal.Value.run m g)
  exact ((by decide : ∀ _ : SemLoc Cert.MergeRefIdeal.sig, False) s.2).elim

theorem algebraic : Cert.algebraic_MergeIdeal_MergeRefIdeal := by
  pair_intro
  · run_from Cert.MergeIdeal.Gen.run_main m g
  · run_from Cert.MergeRefIdeal.Value.run m' g'
    · exact (dpa_out _ _ _).trans (final_pa m c).symm
    · exact (dpb_out _ _ _).trans (final_pb m c).symm
    · exact (dma_out _ _ _ _ _).trans (final_ma m c).symm
    · exact (dmb_out _ _ _ _ _).trans (final_mb m c).symm

end Cert.MergePair
end
-- ==== Proof.DinForm.lean ====
/- The gradients of the normalized joint projection, as forms of the arrays. -/
module

public import proofs.«01_k».proof.Proof.NormForm

@[expose] public section

set_option maxRecDepth 16384

noncomputable section

namespace Cert.DinForm

open Idealize.ShloMosaic
open Cert.NormForm (ri)

variable (h : FVec Ideal ⟨2, ![8208, 2048]⟩ .f32) (g : FVec Ideal ⟨1, ![2048]⟩ .f32)
  (w : FVec Ideal ⟨2, ![2048, 14336]⟩ .f32) (dz : FVec Ideal ⟨2, ![8208, 14336]⟩ .f32)
  (dho : FVec Ideal ⟨2, ![8208, 2048]⟩ .f32)

/-- The gradient at the norm's output. -/
def dy (r : Fin 8208) (k : Fin 2048) : EReal := ∑ l : Fin 14336, dz (ix2 r l) * w (ix2 k l)

/-- The gradient of the gain. -/
def dg (k : Fin 2048) : EReal := ∑ r : Fin 8208, dy w dz r k * (h (ix2 r k) * ri h r)

/-- The gradient of the hidden state: the skip connection's and the normalization's. -/
def dh (r : Fin 8208) (k : Fin 2048) : EReal :=
  dho (ix2 r k) + ri h r * (dy w dz r k * g (ix1 k) - h (ix2 r k) * ri h r
    * Ideal.div (∑ j : Fin 2048, dy w dz r j * g (ix1 j) * (h (ix2 r j) * ri h r)) (Ideal.ofBits .f32 0x45000000#32))

/-- A block's row gradient is the array's. -/
theorem rowGrad_eq {n : ℕ} (H O D : FVec Ideal ⟨2, ![n, 2048]⟩ .f32) (G : FVec Ideal ⟨2, ![1, 2048]⟩ .f32) (r : Fin n) (R : Fin 8208)
    (hH : ∀ j, H (ix2 r j) = h (ix2 R j)) (hG : ∀ j, G (ix2 0 j) = g (ix1 j)) (hO : ∀ j, O (ix2 r j) = dho (ix2 R j))
    (hD : ∀ j, D (ix2 r j) = dy w dz R j) (k : Fin 2048) : Cert.NormForm.rowGrad H G O D r k = dh h g w dz dho R k := by
  unfold Cert.NormForm.rowGrad dh Cert.NormForm.rb ri
  simp only [hH, hG, hO, hD]

end Cert.DinForm
end
-- ==== Proof.DinRows.lean ====
/- The joint projection's gradient kernel: what its loop over sixteen-row slabs leaves. -/
module

public import proofs.«01_k».proof.Proof.NormForm
public import proofs.«01_k».proof.Proof.Gen.DinIdeal.Loops
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.DinIdeal.Grad

open Cert.DinIdeal Cert.DinIdeal.Gen
open Cert.NormForm (rb gainPart rowGrad)

variable (u v o : FVec Ideal S16x2048 .f32) (g : FVec Ideal S1x2048 .f32) (d : FVec Ideal S8x2048 .f32)

/-! ### One slab: three spellings of the same two values -/

theorem ri0 (a : Fin 16) : k0_pay6 (F := Ideal) u (ix2 a 0) = rb u a := by
  unfold rb Ext.rinv; pointwise [k0_pay6]

theorem ri1 (a : Fin 16) : k0_pay14 (F := Ideal) u (ix2 a 0) = rb u a := by
  unfold rb Ext.rinv; pointwise [k0_pay14]

theorem ri2 (a : Fin 16) : k0_pay20 (F := Ideal) u (ix2 a 0) = rb u a := by
  unfold rb Ext.rinv; pointwise [k0_pay20]

theorem grad0 (a : Fin 16) (j : Fin 2048) :
    k0_pay13 (F := Ideal) (k0_pay6 u) (k0_pay7 u) (k0_pay10 v g) o (k0_pay11 u v g) k0_pay12 (ix2 a j) = rowGrad u g o v a j := by
  unfold rowGrad; pointwise [k0_pay13, k0_pay7, k0_pay10, k0_pay8, k0_pay11, k0_pay12, ri0]

theorem grad1 (a : Fin 16) (j : Fin 2048) :
    k0_pay19 (F := Ideal) (k0_pay14 u) (k0_pay15 u) (k0_pay16 v) (k0_pay18 g) o (ix2 a j) = rowGrad u g o v a j := by
  unfold rowGrad; pointwise [k0_pay19, k0_pay15, k0_pay16, k0_pay18, ri1]

theorem grad2 (a : Fin 16) (j : Fin 2048) :
    k0_pay4 (F := Ideal) (k0_pay20 u) (k0_pay21 u) (k0_pay22 v) g o (ix2 a j) = rowGrad u g o v a j := by
  unfold rowGrad; pointwise [k0_pay4, k0_pay21, k0_pay22, ri2]

theorem part0 (a : Fin 8) (j : Fin 2048) : k0_pay9 (F := Ideal) u v d (ix2 a j)
    = d (ix2 a j) + (gainPart u v ⟨a, by omega⟩ j + gainPart u v ⟨8 + a, by omega⟩ j) := by
  unfold gainPart; pointwise [k0_pay9, k0_pay8, k0_pay7, ri0]

theorem part1 (a : Fin 8) (j : Fin 2048) : k0_pay17 (F := Ideal) u v d (ix2 a j)
    = d (ix2 a j) + (gainPart u v ⟨a, by omega⟩ j + gainPart u v ⟨8 + a, by omega⟩ j) := by
  unfold gainPart; pointwise [k0_pay17, k0_pay16, k0_pay15, ri1]

theorem part2 (a : Fin 8) (j : Fin 2048) : k0_pay3 (F := Ideal) (k0_pay23 u v d) (ix2 a j)
    = d (ix2 a j) + (gainPart u v ⟨a, by omega⟩ j + gainPart u v ⟨8 + a, by omega⟩ j) := by
  unfold gainPart; pointwise [k0_pay3, k0_pay23, k0_pay22, k0_pay21, ri2]

/-! ### The loop -/

theorem trips_lt (k : Fin k0_t1_loop.trips) : k.val < 19 := Nat.lt_of_lt_of_le k.isLt k0_t1_abs.2.1

/-- The row of the block that a slab's row is. -/
abbrev slabRow (k : Fin k0_t1_loop.trips) (s : Fin 3) (a : Fin 16) : Fin 912 :=
  ⟨48 * k.val + 16 * s.val + a.val, by have := trips_lt k; omega⟩

/-- The sixteen rows of a block that a slab holds. -/
def slab (X : FVec Ideal S912x2048 .f32) (k : Fin k0_t1_loop.trips) (s : Fin 3) : FVec Ideal S16x2048 .f32 :=
  fun y => X (ix2 (slabRow k s (y 0)) (y 1))

/-- A load at a slab's offset reads the slab. -/
theorem load_slab (V : View sig .tc .vmem S912x2048 .f32) (f : V.ty.Contents (Elt Ideal)) (k : Fin k0_t1_loop.trips) (s : Fin 3)
    (inb : ∀ a, (k0_off1 k (BitVec.ofNat 32 s.val)) a + S16x2048.size a ≤ S912x2048.size a) :
    V.readAt (Elt Ideal) (Rect.unit (s := S912x2048) (k0_off1 k (BitVec.ofNat 32 s.val)) S16x2048.size inb).toLoadRect f
      = slab (V.read (Elt Ideal) f) k s := by
  rw [V.readAt_unit f inb (k0_off1_eq k s) (by rw [← k0_off1_eq k s]; exact inb)]
  funext y
  exact congrArg (V.read (Elt Ideal) f) (funext fun a => by
    match a with
    | 0 => exact Fin.ext (by show 48 * k.val + 16 * s.val + 1 * (y 0).val = 48 * k.val + 16 * s.val + (y 0).val; omega)
    | 1 => exact Fin.ext (by show 0 + 1 * (y 1).val = (y 1).val; omega))

theorem gainPart_slab {H D : FVec Ideal S912x2048 .f32} {k : Fin k0_t1_loop.trips} {s : Fin 3} {u v : FVec Ideal S16x2048 .f32}
    (hu : u = slab H k s) (hv : v = slab D k s) (a : Fin 16) (j : Fin 2048) :
    gainPart u v a j = gainPart H D (slabRow k s a) j := by
  subst hu hv; rfl

theorem rowGrad_slab {H O D : FVec Ideal S912x2048 .f32} {g g' : FVec Ideal S1x2048 .f32} {k : Fin k0_t1_loop.trips} {s : Fin 3}
    {u o v : FVec Ideal S16x2048 .f32} (hu : u = slab H k s) (hg : g' = g) (ho : o = slab O k s) (hv : v = slab D k s)
    (a : Fin 16) (j : Fin 2048) : rowGrad u g' o v a j = rowGrad H g O D (slabRow k s a) j := by
  subst hu hg ho hv; rfl

/-- What a trip's pieces leave, over the contents it finds: the rows of its three slabs become gradients, and the parts of the
gain's gradient gain the slabs' rows. -/
structure Trip (arg13 : Memref sig .tc .vmem S912x2048 .f32) (arg15 : Memref sig .tc .vmem S8x2048 .f32)
    (H O : FVec Ideal S912x2048 .f32) (g : FVec Ideal S1x2048 .f32) (k : Fin k0_t1_loop.trips)
    (f13 : BufTy.Contents (Elt Ideal) arg13.view.ty) (f15 : BufTy.Contents (Elt Ideal) arg15.view.ty)
    (L : List (View.Piece (Elt Ideal) S912x2048 .f32) × List (View.Piece (Elt Ideal) S8x2048 .f32)) : Prop where
  new : ∀ s a j, arg13.view.read (Elt Ideal) (arg13.view.writes (Elt Ideal) f13 L.1) (ix2 (slabRow k s a) j)
    = rowGrad H g O (arg13.view.read (Elt Ideal) f13) (slabRow k s a) j
  old : ∀ (r : Fin 912) j, r.val < 48 * k.val ∨ 48 * k.val + 48 ≤ r.val →
    arg13.view.read (Elt Ideal) (arg13.view.writes (Elt Ideal) f13 L.1) (ix2 r j) = arg13.view.read (Elt Ideal) f13 (ix2 r j)
  gain : ∀ (a : Fin 8) j, arg15.view.read (Elt Ideal) (arg15.view.writes (Elt Ideal) f15 L.2) (ix2 a j)
    = arg15.view.read (Elt Ideal) f15 (ix2 a j)
      + ∑ s : Fin 3, (gainPart H (arg13.view.read (Elt Ideal) f13) (slabRow k s ⟨a, by omega⟩) j
        + gainPart H (arg13.view.read (Elt Ideal) f13) (slabRow k s ⟨8 + a, by omega⟩) j)

theorem trip (𝒱 : Variants) (c : Dev nD) (bd : Option 𝒱.V) (i : grid0.Coords) (arg2 : Memref sig .tc .vmem S912x512 .bf16)
  (harg2 : arg2.IsWhole) (arg3 : Memref sig .tc .vmem S912x512 .bf16) (harg3 : arg3.IsWhole)
  (arg4 : Memref sig .tc .vmem S912x512 .bf16) (harg4 : arg4.IsWhole) (arg5 : Memref sig .tc .vmem S912x512 .bf16)
  (harg5 : arg5.IsWhole) (arg6 : Memref sig .tc .vmem S912x512 .bf16) (harg6 : arg6.IsWhole)
  (arg7 : Memref sig .tc .vmem S912x512 .bf16) (harg7 : arg7.IsWhole) (arg8 : Memref sig .tc .vmem S912x512 .bf16)
  (harg8 : arg8.IsWhole) (arg9 : Memref sig .tc .vmem S1x2048x512 .bf16) (harg9 : arg9.IsWhole)
  (arg10 : Memref sig .tc .vmem S912x2048 .f32) (harg10 : arg10.IsWhole) (arg11 : Memref sig .tc .vmem S1x2048 .f32)
  (harg11 : arg11.IsWhole) (arg12 : Memref sig .tc .vmem S912x2048 .f32) (harg12 : arg12.IsWhole)
  (arg13 : Memref sig .tc .vmem S912x2048 .f32) (harg13 : arg13.IsWhole) (arg14 : Memref sig .tc .vmem S1x2048 .f32)
  (harg14 : arg14.IsWhole) (arg15 : Memref sig .tc .vmem S8x2048 .f32) (harg15 : arg15.IsWhole) (k0_h10 : k0_cond10 i = 1#1)
  (X_arg10 : BufTy.Contents (Elt Ideal) arg10.view.ty) (X_arg11 : BufTy.Contents (Elt Ideal) arg11.view.ty)
  (X_arg12 : BufTy.Contents (Elt Ideal) arg12.view.ty)
  (k : Fin k0_t1_loop.trips) (f_arg13 : BufTy.Contents (Elt Ideal) arg13.view.ty)
  (f_arg15 : BufTy.Contents (Elt Ideal) arg15.view.ty) :
    Trip arg13 arg15 (arg10.view.read (Elt Ideal) X_arg10) (arg12.view.read (Elt Ideal) X_arg12)
      (arg11.view.read (Elt Ideal) X_arg11) k f_arg13 f_arg15
      (tripL_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 k0_h10 X_arg10 X_arg11 X_arg12
        k f_arg13 f_arg15) := by
  have hk := trips_lt k
  have e11 : ∀ inb, arg11.view.readAt (Elt Ideal) (Rect.unit (s := S1x2048) ![0, 0] S1x2048.size inb).toLoadRect X_arg11
      = arg11.view.read (Elt Ideal) X_arg11 := fun inb => arg11.view.readAt_full X_arg11 inb
  have e15 : ∀ inb, arg15.view.readAt (Elt Ideal) (Rect.unit (s := S8x2048) ![0, 0] S8x2048.size inb).toLoadRect f_arg15
      = arg15.view.read (Elt Ideal) f_arg15 := fun inb => arg15.view.readAt_full f_arg15 inb
  refine ⟨fun s a j => ?_, fun r j hr => ?_, fun a j => ?_⟩
  · dsimp only [tripL_k0_t1]; unfold trip_k0_t1; dsimp only
    match s with
    | 0 =>
      rw [View.read_writes_cons_unit_of_not_mem _ _ _ _ _ _ (k0_off1_eq k 2) 0 (.inl (by show 48 * k.val + 16 * 0 + a.val < 48 * k.val + 16 * 2; omega)),
        View.read_writes_cons_unit_of_not_mem _ _ _ _ _ _ (k0_off1_eq k 1) 0 (.inl (by show 48 * k.val + 16 * 0 + a.val < 48 * k.val + 16 * 1; omega)),
        View.read_writes_cons_unit_of_mem _ _ _ _ _ _ (ix2 a j) (k0_off1_eq k 0) (fun x => by match x with | 0 => rfl | 1 => exact (Nat.zero_add _).symm)]
      exact (grad0 _ _ _ _ a j).trans (rowGrad_slab (load_slab _ _ k 0 _) (e11 _) (load_slab _ _ k 0 _) (load_slab _ _ k 0 _) a j)
    | 1 =>
      rw [View.read_writes_cons_unit_of_not_mem _ _ _ _ _ _ (k0_off1_eq k 2) 0 (.inl (by show 48 * k.val + 16 * 1 + a.val < 48 * k.val + 16 * 2; omega)),
        View.read_writes_cons_unit_of_mem _ _ _ _ _ _ (ix2 a j) (k0_off1_eq k 1) (fun x => by match x with | 0 => rfl | 1 => exact (Nat.zero_add _).symm)]
      exact (grad1 _ _ _ _ a j).trans (rowGrad_slab (load_slab _ _ k 1 _) (e11 _) (load_slab _ _ k 1 _) (load_slab _ _ k 1 _) a j)
    | 2 =>
      rw [View.read_writes_cons_unit_of_mem _ _ _ _ _ _ (ix2 a j) (k0_off1_eq k 2) (fun x => by match x with | 0 => rfl | 1 => exact (Nat.zero_add _).symm)]
      exact (grad2 _ _ _ _ a j).trans (rowGrad_slab (load_slab _ _ k 2 _) (e11 _) (load_slab _ _ k 2 _) (load_slab _ _ k 2 _) a j)
  · dsimp only [tripL_k0_t1]; unfold trip_k0_t1; dsimp only
    have out : ∀ s : Fin 3, (ix2 r j (0 : Fin 2)).val < (![48 * k.val + 16 * s.val, 0] : Fin 2 → ℕ) 0
        ∨ (![48 * k.val + 16 * s.val, 0] : Fin 2 → ℕ) 0 + S16x2048.size 0 ≤ (ix2 r j (0 : Fin 2)).val := fun s => by
      show r.val < 48 * k.val + 16 * s.val ∨ 48 * k.val + 16 * s.val + 16 ≤ r.val
      omega
    rw [View.read_writes_cons_unit_of_not_mem _ _ _ _ _ _ (k0_off1_eq k 2) 0 (out 2),
      View.read_writes_cons_unit_of_not_mem _ _ _ _ _ _ (k0_off1_eq k 1) 0 (out 1),
      View.read_writes_cons_unit_of_not_mem _ _ _ _ _ _ (k0_off1_eq k 0) 0 (out 0)]
    rfl
  · dsimp only [tripL_k0_t1]; unfold trip_k0_t1; dsimp only
    rw [View.read_writes_full, Fin.sum_univ_three]
    have sum3 : ∀ x A B C : EReal, x + A + B + C = x + (A + B + C) := fun x A B C => by simp only [add_assoc]
    refine (part2 _ _ _ a j).trans (Eq.trans ?_ (sum3 _ _ _ _))
    refine congrArg₂ (· + ·) ?_ (congrArg₂ (· + ·) (gainPart_slab (load_slab _ _ k 2 _) (load_slab _ _ k 2 _) _ _)
      (gainPart_slab (load_slab _ _ k 2 _) (load_slab _ _ k 2 _) _ _))
    sl_unfold_words
    rw [View.readCov_full]
    refine (part1 _ _ _ a j).trans ?_
    refine congrArg₂ (· + ·) ?_ (congrArg₂ (· + ·) (gainPart_slab (load_slab _ _ k 1 _) (load_slab _ _ k 1 _) _ _)
      (gainPart_slab (load_slab _ _ k 1 _) (load_slab _ _ k 1 _) _ _))
    rw [View.readCov_full]
    refine (part0 _ _ _ a j).trans ?_
    exact congrArg₂ (· + ·) (congrFun (e15 _) (ix2 a j)) (congrArg₂ (· + ·) (gainPart_slab (load_slab _ _ k 0 _) (load_slab _ _ k 0 _) _ _)
      (gainPart_slab (load_slab _ _ k 0 _) (load_slab _ _ k 0 _) _ _))

/-- A row of the parts of the gain's gradient, by its number. -/
def part (H D : FVec Ideal S912x2048 .f32) (a : Fin 8) (j : Fin 2048) (q : ℕ) : EReal :=
  if h : 8 * q + a.val < 912 then gainPart H D ⟨8 * q + a.val, h⟩ j else 0

theorem gainPart_congr {H D D' : FVec Ideal S912x2048 .f32} {r : Fin 912} (h : ∀ j, D (ix2 r j) = D' (ix2 r j)) (j : Fin 2048) :
    gainPart H D r j = gainPart H D' r j := by
  unfold gainPart; rw [h]

theorem rowGrad_congr {H O D D' : FVec Ideal S912x2048 .f32} {g : FVec Ideal S1x2048 .f32} {r : Fin 912}
    (h : ∀ j, D (ix2 r j) = D' (ix2 r j)) (j : Fin 2048) : rowGrad H g O D r j = rowGrad H g O D' r j := by
  unfold rowGrad; simp only [h]

/-- The two buffers after the trips before `n`, over what they held at entry. -/
structure Held (arg13 : Memref sig .tc .vmem S912x2048 .f32) (arg15 : Memref sig .tc .vmem S8x2048 .f32)
    (H O : FVec Ideal S912x2048 .f32) (g : FVec Ideal S1x2048 .f32)
    (f13 : BufTy.Contents (Elt Ideal) arg13.view.ty) (f15 : BufTy.Contents (Elt Ideal) arg15.view.ty) (n : ℕ)
    (L : List (View.Piece (Elt Ideal) S912x2048 .f32) × List (View.Piece (Elt Ideal) S8x2048 .f32)) : Prop where
  new : ∀ (r : Fin 912) j, r.val < 48 * n → arg13.view.read (Elt Ideal) (arg13.view.writes (Elt Ideal) f13 L.1) (ix2 r j)
    = rowGrad H g O (arg13.view.read (Elt Ideal) f13) r j
  old : ∀ (r : Fin 912) j, 48 * n ≤ r.val → arg13.view.read (Elt Ideal) (arg13.view.writes (Elt Ideal) f13 L.1) (ix2 r j)
    = arg13.view.read (Elt Ideal) f13 (ix2 r j)
  gain : ∀ (a : Fin 8) j, arg15.view.read (Elt Ideal) (arg15.view.writes (Elt Ideal) f15 L.2) (ix2 a j)
    = arg15.view.read (Elt Ideal) f15 (ix2 a j) + ∑ q ∈ Finset.range (6 * n), part H (arg13.view.read (Elt Ideal) f13) a j q

/-- A trip takes the buffers from one state to the next. -/
theorem Held.step {arg13 : Memref sig .tc .vmem S912x2048 .f32} {arg15 : Memref sig .tc .vmem S8x2048 .f32}
    {H O : FVec Ideal S912x2048 .f32} {g : FVec Ideal S1x2048 .f32}
    {f13 : BufTy.Contents (Elt Ideal) arg13.view.ty} {f15 : BufTy.Contents (Elt Ideal) arg15.view.ty} {k : Fin k0_t1_loop.trips}
    {L L' : List (View.Piece (Elt Ideal) S912x2048 .f32) × List (View.Piece (Elt Ideal) S8x2048 .f32)}
    (h : Held arg13 arg15 H O g f13 f15 k.val L)
    (ht : Trip arg13 arg15 H O g k (arg13.view.writes (Elt Ideal) f13 L.1) (arg15.view.writes (Elt Ideal) f15 L.2) L') :
    Held arg13 arg15 H O g f13 f15 (k.val + 1) (L'.1 ++ L.1, L'.2 ++ L.2) := by
  have hk := trips_lt k
  have inner : ∀ s a j, arg13.view.read (Elt Ideal) (arg13.view.writes (Elt Ideal) f13 L.1) (ix2 (slabRow k s a) j)
      = arg13.view.read (Elt Ideal) f13 (ix2 (slabRow k s a) j) := fun s a j =>
    h.old _ j (by show 48 * k.val ≤ 48 * k.val + 16 * s.val + a.val; omega)
  refine ⟨fun r j hr => ?_, fun r j hr => ?_, fun a j => ?_⟩
  · rw [View.writes_append]
    by_cases hlt : r.val < 48 * k.val
    · exact (ht.old r j (.inl hlt)).trans (h.new r j hlt)
    · obtain ⟨s, a, rfl⟩ : ∃ s a, r = slabRow k s a :=
        ⟨⟨(r.val - 48 * k.val) / 16, by omega⟩, ⟨(r.val - 48 * k.val) % 16, by omega⟩,
          Fin.ext (by show r.val = 48 * k.val + 16 * ((r.val - 48 * k.val) / 16) + (r.val - 48 * k.val) % 16; omega)⟩
      exact (ht.new s a j).trans (rowGrad_congr (inner s a) j)
  · rw [View.writes_append]
    exact (ht.old r j (.inr (by omega))).trans (h.old r j (by omega))
  · rw [View.writes_append]
    refine (ht.gain a j).trans ?_
    rw [h.gain a j, show 6 * (k.val + 1) = 6 * k.val + 1 + 1 + 1 + 1 + 1 + 1 by omega]
    simp only [Finset.sum_range_succ, Fin.sum_univ_three]
    have e : ∀ (s : Fin 3) (b : Fin 16) (q : ℕ) (hq : 8 * q + a.val = 48 * k.val + 16 * s.val + b.val),
        gainPart H (arg13.view.read (Elt Ideal) (arg13.view.writes (Elt Ideal) f13 L.1)) (slabRow k s b) j
          = part H (arg13.view.read (Elt Ideal) f13) a j q := fun s b q hq => by
      rw [part, dif_pos (show 8 * q + a.val < 912 by omega)]
      refine (gainPart_congr (inner s b) j).trans (congrArg (fun r => gainPart H _ r j) (Fin.ext hq.symm))
    rw [e 0 ⟨a, by omega⟩ (6 * k.val) (by show 8 * (6 * k.val) + a.val = 48 * k.val + 16 * 0 + a.val; omega),
      e 0 ⟨8 + a, by omega⟩ (6 * k.val + 1) (by show 8 * (6 * k.val + 1) + a.val = 48 * k.val + 16 * 0 + (8 + a.val); omega),
      e 1 ⟨a, by omega⟩ (6 * k.val + 1 + 1) (by show 8 * (6 * k.val + 1 + 1) + a.val = 48 * k.val + 16 * 1 + a.val; omega),
      e 1 ⟨8 + a, by omega⟩ (6 * k.val + 1 + 1 + 1) (by show 8 * (6 * k.val + 1 + 1 + 1) + a.val = 48 * k.val + 16 * 1 + (8 + a.val); omega),
      e 2 ⟨a, by omega⟩ (6 * k.val + 1 + 1 + 1 + 1) (by show 8 * (6 * k.val + 1 + 1 + 1 + 1) + a.val = 48 * k.val + 16 * 2 + a.val; omega),
      e 2 ⟨8 + a, by omega⟩ (6 * k.val + 1 + 1 + 1 + 1 + 1) (by show 8 * (6 * k.val + 1 + 1 + 1 + 1 + 1) + a.val = 48 * k.val + 16 * 2 + (8 + a.val); omega)]
    simp only [add_assoc]
    rfl

/-- The loop's pieces leave the state after its last trip. -/
theorem loop (𝒱 : Variants) (c : Dev nD) (bd : Option 𝒱.V) (i : grid0.Coords) (arg2 : Memref sig .tc .vmem S912x512 .bf16)
  (harg2 : arg2.IsWhole) (arg3 : Memref sig .tc .vmem S912x512 .bf16) (harg3 : arg3.IsWhole)
  (arg4 : Memref sig .tc .vmem S912x512 .bf16) (harg4 : arg4.IsWhole) (arg5 : Memref sig .tc .vmem S912x512 .bf16)
  (harg5 : arg5.IsWhole) (arg6 : Memref sig .tc .vmem S912x512 .bf16) (harg6 : arg6.IsWhole)
  (arg7 : Memref sig .tc .vmem S912x512 .bf16) (harg7 : arg7.IsWhole) (arg8 : Memref sig .tc .vmem S912x512 .bf16)
  (harg8 : arg8.IsWhole) (arg9 : Memref sig .tc .vmem S1x2048x512 .bf16) (harg9 : arg9.IsWhole)
  (arg10 : Memref sig .tc .vmem S912x2048 .f32) (harg10 : arg10.IsWhole) (arg11 : Memref sig .tc .vmem S1x2048 .f32)
  (harg11 : arg11.IsWhole) (arg12 : Memref sig .tc .vmem S912x2048 .f32) (harg12 : arg12.IsWhole)
  (arg13 : Memref sig .tc .vmem S912x2048 .f32) (harg13 : arg13.IsWhole) (arg14 : Memref sig .tc .vmem S1x2048 .f32)
  (harg14 : arg14.IsWhole) (arg15 : Memref sig .tc .vmem S8x2048 .f32) (harg15 : arg15.IsWhole) (k0_h10 : k0_cond10 i = 1#1)
  (X_arg10 : BufTy.Contents (Elt Ideal) arg10.view.ty) (X_arg11 : BufTy.Contents (Elt Ideal) arg11.view.ty)
  (X_arg12 : BufTy.Contents (Elt Ideal) arg12.view.ty)
  (f_arg13 : BufTy.Contents (Elt Ideal) arg13.view.ty) (f_arg15 : BufTy.Contents (Elt Ideal) arg15.view.ty) :
    ∀ n, n ≤ k0_t1_loop.trips → Held arg13 arg15 (arg10.view.read (Elt Ideal) X_arg10) (arg12.view.read (Elt Ideal) X_arg12)
      (arg11.view.read (Elt Ideal) X_arg11) f_arg13 f_arg15 n
      (pb_k0_t1 (F := Ideal) 𝒱 c bd i arg2 harg2 arg3 harg3 arg4 harg4 arg5 harg5 arg6 harg6 arg7 harg7 arg8 harg8 arg9 harg9 arg10 harg10 arg11
      harg11 arg12 harg12 arg13 harg13 arg14 harg14 arg15 harg15 k0_h10 X_arg10 X_arg11 X_arg12 f_arg13 f_arg15 n)
  | 0, _ => ⟨fun r j hr => absurd hr (by omega), fun r j _ => rfl, fun a j => by
      show _ = _ + ∑ q ∈ Finset.range 0, _
      rw [Finset.sum_range_zero, add_zero]; rfl⟩
  | n + 1, h => by
      rw [pb_k0_t1_succ (F := Ideal) 𝒱 c bd i arg2 harg2 arg3 harg3 arg4 harg4 arg5 harg5 arg6 harg6 arg7 harg7 arg8 harg8 arg9 harg9 arg10 harg10 arg11
        harg11 arg12 harg12 arg13 harg13 arg14 harg14 arg15 harg15 k0_h10 X_arg10 X_arg11 X_arg12 f_arg13 f_arg15 ⟨n, h⟩]
      exact (loop 𝒱 c bd i arg2 harg2 arg3 harg3 arg4 harg4 arg5 harg5 arg6 harg6 arg7 harg7 arg8 harg8 arg9 harg9 arg10 harg10 arg11
        harg11 arg12 harg12 arg13 harg13 arg14 harg14 arg15 harg15 k0_h10 X_arg10 X_arg11 X_arg12 f_arg13 f_arg15 n (by omega)).step (k := ⟨n, h⟩)
        (trip 𝒱 c bd i arg2 harg2 arg3 harg3 arg4 harg4 arg5 harg5 arg6 harg6 arg7 harg7 arg8 harg8 arg9 harg9 arg10 harg10 arg11
        harg11 arg12 harg12 arg13 harg13 arg14 harg14 arg15 harg15 k0_h10 X_arg10 X_arg11 X_arg12 ⟨n, h⟩ _ _)

end Cert.DinIdeal.Grad
end
-- ==== Proof.DinBlocks.lean ====
/- What the joint projection's gradient kernel reads at a grid point, and the sums it builds from it. -/
module

public import proofs.«01_k».proof.Proof.DinForm
public import proofs.«01_k».proof.Proof.DinRows
public import proofs.«01_k».proof.Proof.Gen.DinIdeal.Frame.Runs
public import Idealize.ShloMosaic.Lib.Pipeline.ValueKit

@[expose] public section

set_option maxRecDepth 16384

noncomputable section

open Idealize.ShloMosaic Idealize.ShloMosaic.TcCoe Idealize.SL.Sem

namespace Cert.DinIdeal.Grad

open Cert.DinIdeal Cert.DinIdeal.Gen
open Cert.DinForm (dy)

variable (m : (ℓ : Loc nD τ sig) → Buf (Elt Ideal) ℓ)

abbrev Hs (c : Dev nD) : FVec Ideal ⟨2, ![8208, 2048]⟩ .f32 := m ((c : Thread nD τ).loc main_arg0)
abbrev Gn (c : Dev nD) : FVec Ideal ⟨1, ![2048]⟩ .f32 := m ((c : Thread nD τ).loc main_arg1)
abbrev Wi (c : Dev nD) : FVec Ideal ⟨2, ![2048, 14336]⟩ .f32 := m ((c : Thread nD τ).loc main_arg2)
abbrev Dz (c : Dev nD) : FVec Ideal ⟨2, ![8208, 14336]⟩ .f32 := m ((c : Thread nD τ).loc main_arg3)
abbrev Dh (c : Dev nD) : FVec Ideal ⟨2, ![8208, 2048]⟩ .f32 := m ((c : Thread nD τ).loc main_arg4)

/-- The windows' block indices at a grid point. -/
theorem idx : ∀ t : Fin cfg0.N, win0_0.index t = ![t.val / 28, min (t.val % 28) 3] ∧ win0_1.index t = ![t.val / 28, min (t.val % 28 - 4) 3]
    ∧ win0_2.index t = ![t.val / 28, min (t.val % 28 - 8) 3] ∧ win0_3.index t = ![t.val / 28, min (t.val % 28 - 12) 3]
    ∧ win0_4.index t = ![t.val / 28, min (t.val % 28 - 16) 3] ∧ win0_5.index t = ![t.val / 28, min (t.val % 28 - 20) 3]
    ∧ win0_6.index t = ![t.val / 28, min (t.val % 28 - 24) 3] ∧ win0_7.index t = ![t.val % 28 / 7, 0, t.val % 28 % 7]
    ∧ win0_8.index t = ![t.val / 28, 0] ∧ win0_9.index t = ![0, 0] ∧ win0_10.index t = ![t.val / 28, 0]
    ∧ win0_11.index t = ![t.val / 28, 0] ∧ win0_12.index t = ![0, 0] ∧ t.val < 252 :=
  (by decide +kernel : ∀ t : Fin grid0.N, _)

theorem lt252 (t : Fin cfg0.N) : t.val < 252 := (idx t).2.2.2.2.2.2.2.2.2.2.2.2.2

/-- The row of the whole array that a tile's row is. -/
abbrev row (t : Fin cfg0.N) (r : Fin 912) : Fin 8208 := ⟨t.val / 28 * 912 + r, by have := lt252 t; omega⟩

/-- The column of the joint projection that a point's block column is. -/
abbrev kcol (t : Fin cfg0.N) (l : Fin 512) : Fin 14336 := ⟨t.val % 28 * 512 + l, by omega⟩

theorem V_w (c : Dev nD) : V m c main_v16 = transpose S4x2048x3584 [1, 0, 2] (shapeCast S2048x4x3584
    (truncf .bf16 (Wi m c) bitsLt_bf16_f32) shapeCasts_S2048x14336_S2048x4x3584) transposes_S2048x4x3584_S4x2048x3584_1_0_2 := by
  unfold V; after_results_simp <;> rfl

theorem V_g (c : Dev nD) : V m c main_v17 = broadcastInDim S1x2048 ![1] bcast_S2048_S1x2048_1 (Gn m c) := by
  unfold V; after_results_simp <;> rfl

theorem w_at (c : Dev nD) (t : Fin cfg0.N) (j : Fin 2048) (l : Fin 512) :
    (show EReal from iblk m c 7 t (ix3 0 j l)) = Wi m c (ix2 j (kcol t l)) := by
  trans V m c main_v16 (ix3 (⟨t.val % 28 / 7, by omega⟩ : Fin 4) j (⟨t.val % 28 % 7 * 512 + l, by omega⟩ : Fin 3584))
  · blk_ext [iblk, idx t]
  · rw [V_w]; pointwise
    exact congrArg (fun a => Wi m c (ix2 j a)) (Fin.ext (by
      show t.val % 28 / 7 * 3584 + (t.val % 28 % 7 * 512 + l.val) = t.val % 28 * 512 + l.val
      omega))

theorem g_at (c : Dev nD) (t : Fin cfg0.N) (j : Fin 2048) : (show EReal from iblk m c 9 t (ix2 0 j)) = Gn m c (ix1 j) := by
  trans V m c main_v17 (ix2 0 j)
  · blk_ext [iblk, idx t]
  · rw [V_g]; pointwise

theorem h_at (c : Dev nD) (t : Fin cfg0.N) (r : Fin 912) (j : Fin 2048) :
    (show EReal from iblk m c 8 t (ix2 r j)) = Hs m c (ix2 (row t r) j) := by
  blk_ext [iblk, V, idx t]

theorem dho_at (c : Dev nD) (t : Fin cfg0.N) (r : Fin 912) (j : Fin 2048) :
    (show EReal from iblk m c 10 t (ix2 r j)) = Dh m c (ix2 (row t r) j) := by
  blk_ext [iblk, V, idx t]

theorem dz0_at (c : Dev nD) (t : Fin cfg0.N) (hk : t.val % 28 ≤ 3) (r : Fin 912) (l : Fin 512) :
    (show EReal from iblk m c 0 t (ix2 r l)) = Dz m c (ix2 (row t r) (kcol t l)) := by
  have e : V m c main_v1 = truncf .bf16 (extractStridedSlice S8208x2048 ![0, 0] (Dz m c) slices_S8208x14336_S8208x2048_0_0) bitsLt_bf16_f32 := by
    unfold V; after_results_simp <;> rfl
  trans V m c main_v1 (ix2 (row t r) (⟨min (t.val % 28) 3 * 512 + l, by omega⟩ : Fin 2048))
  · blk_ext [iblk, idx t]
  · rw [e]; pointwise
    exact congrArg (fun a => Dz m c (ix2 (row t r) a)) (Fin.ext (by
      show _ = t.val % 28 * 512 + l.val
      simp only []
      omega))

theorem dz1_at (c : Dev nD) (t : Fin cfg0.N) (hk : 4 ≤ t.val % 28 ∧ t.val % 28 ≤ 7) (r : Fin 912) (l : Fin 512) :
    (show EReal from iblk m c 1 t (ix2 r l)) = Dz m c (ix2 (row t r) (kcol t l)) := by
  have e : V m c main_v3 = truncf .bf16 (extractStridedSlice S8208x2048 ![0, 2048] (Dz m c) slices_S8208x14336_S8208x2048_0_2048) bitsLt_bf16_f32 := by
    unfold V; after_results_simp <;> rfl
  trans V m c main_v3 (ix2 (row t r) (⟨min (t.val % 28 - 4) 3 * 512 + l, by omega⟩ : Fin 2048))
  · blk_ext [iblk, idx t]
  · rw [e]; pointwise
    exact congrArg (fun a => Dz m c (ix2 (row t r) a)) (Fin.ext (by
      show _ = t.val % 28 * 512 + l.val
      simp only []
      omega))

theorem dz2_at (c : Dev nD) (t : Fin cfg0.N) (hk : 8 ≤ t.val % 28 ∧ t.val % 28 ≤ 11) (r : Fin 912) (l : Fin 512) :
    (show EReal from iblk m c 2 t (ix2 r l)) = Dz m c (ix2 (row t r) (kcol t l)) := by
  have e : V m c main_v5 = truncf .bf16 (extractStridedSlice S8208x2048 ![0, 4096] (Dz m c) slices_S8208x14336_S8208x2048_0_4096) bitsLt_bf16_f32 := by
    unfold V; after_results_simp <;> rfl
  trans V m c main_v5 (ix2 (row t r) (⟨min (t.val % 28 - 8) 3 * 512 + l, by omega⟩ : Fin 2048))
  · blk_ext [iblk, idx t]
  · rw [e]; pointwise
    exact congrArg (fun a => Dz m c (ix2 (row t r) a)) (Fin.ext (by
      show _ = t.val % 28 * 512 + l.val
      simp only []
      omega))

theorem dz3_at (c : Dev nD) (t : Fin cfg0.N) (hk : 12 ≤ t.val % 28 ∧ t.val % 28 ≤ 15) (r : Fin 912) (l : Fin 512) :
    (show EReal from iblk m c 3 t (ix2 r l)) = Dz m c (ix2 (row t r) (kcol t l)) := by
  have e : V m c main_v7 = truncf .bf16 (extractStridedSlice S8208x2048 ![0, 6144] (Dz m c) slices_S8208x14336_S8208x2048_0_6144) bitsLt_bf16_f32 := by
    unfold V; after_results_simp <;> rfl
  trans V m c main_v7 (ix2 (row t r) (⟨min (t.val % 28 - 12) 3 * 512 + l, by omega⟩ : Fin 2048))
  · blk_ext [iblk, idx t]
  · rw [e]; pointwise
    exact congrArg (fun a => Dz m c (ix2 (row t r) a)) (Fin.ext (by
      show _ = t.val % 28 * 512 + l.val
      simp only []
      omega))

theorem dz4_at (c : Dev nD) (t : Fin cfg0.N) (hk : 16 ≤ t.val % 28 ∧ t.val % 28 ≤ 19) (r : Fin 912) (l : Fin 512) :
    (show EReal from iblk m c 4 t (ix2 r l)) = Dz m c (ix2 (row t r) (kcol t l)) := by
  have e : V m c main_v9 = truncf .bf16 (extractStridedSlice S8208x2048 ![0, 8192] (Dz m c) slices_S8208x14336_S8208x2048_0_8192) bitsLt_bf16_f32 := by
    unfold V; after_results_simp <;> rfl
  trans V m c main_v9 (ix2 (row t r) (⟨min (t.val % 28 - 16) 3 * 512 + l, by omega⟩ : Fin 2048))
  · blk_ext [iblk, idx t]
  · rw [e]; pointwise
    exact congrArg (fun a => Dz m c (ix2 (row t r) a)) (Fin.ext (by
      show _ = t.val % 28 * 512 + l.val
      simp only []
      omega))

theorem dz5_at (c : Dev nD) (t : Fin cfg0.N) (hk : 20 ≤ t.val % 28 ∧ t.val % 28 ≤ 23) (r : Fin 912) (l : Fin 512) :
    (show EReal from iblk m c 5 t (ix2 r l)) = Dz m c (ix2 (row t r) (kcol t l)) := by
  have e : V m c main_v11 = truncf .bf16 (extractStridedSlice S8208x2048 ![0, 10240] (Dz m c) slices_S8208x14336_S8208x2048_0_10240) bitsLt_bf16_f32 := by
    unfold V; after_results_simp <;> rfl
  trans V m c main_v11 (ix2 (row t r) (⟨min (t.val % 28 - 20) 3 * 512 + l, by omega⟩ : Fin 2048))
  · blk_ext [iblk, idx t]
  · rw [e]; pointwise
    exact congrArg (fun a => Dz m c (ix2 (row t r) a)) (Fin.ext (by
      show _ = t.val % 28 * 512 + l.val
      simp only []
      omega))

theorem dz6_at (c : Dev nD) (t : Fin cfg0.N) (hk : 24 ≤ t.val % 28) (r : Fin 912) (l : Fin 512) :
    (show EReal from iblk m c 6 t (ix2 r l)) = Dz m c (ix2 (row t r) (kcol t l)) := by
  have e : V m c main_v13 = truncf .bf16 (extractStridedSlice S8208x2048 ![0, 12288] (Dz m c) slices_S8208x14336_S8208x2048_0_12288) bitsLt_bf16_f32 := by
    unfold V; after_results_simp <;> rfl
  trans V m c main_v13 (ix2 (row t r) (⟨min (t.val % 28 - 24) 3 * 512 + l, by omega⟩ : Fin 2048))
  · blk_ext [iblk, idx t]
  · rw [e]; pointwise
    exact congrArg (fun a => Dz m c (ix2 (row t r) a)) (Fin.ext (by
      show _ = t.val % 28 * 512 + l.val
      simp only []
      omega))

end Cert.DinIdeal.Grad
end
-- ==== Proof.DinKernel.lean ====
/- What the joint projection's gradient kernel leaves in its two arrays. -/
module

public import proofs.«01_k».proof.Proof.DinBlocks
public import proofs.«01_k».proof.Proof.Gen.DinIdeal.Frame
public import Idealize.ShloMosaic.Lib.Pipeline.ReadBack

@[expose] public section

set_option maxRecDepth 16384

noncomputable section

open Idealize.ShloMosaic Idealize.ShloMosaic.TcCoe Idealize.SL.Sem

namespace Cert.DinIdeal.Grad

open Cert.DinIdeal Cert.DinIdeal.Gen
open Cert.DinForm (dy dg dh)
open Cert.NormForm (ri rb gainPart rowGrad)

variable (m : (ℓ : Loc nD τ sig) → Buf (Elt Ideal) ℓ)

/-! ### The product, one block of 512 columns at a time -/

/-- The part of the gradient at the norm's output that block `k` of the columns adds. -/
def chunk (w : FVec Ideal ⟨2, ![2048, 14336]⟩ .f32) (dz : FVec Ideal ⟨2, ![8208, 14336]⟩ .f32) (r : Fin 8208) (j : Fin 2048)
    (k : ℕ) : EReal :=
  if h : k < 28 then ∑ l : Fin 512, dz (ix2 r ⟨k * 512 + l, by omega⟩) * w (ix2 j ⟨k * 512 + l, by omega⟩) else 0

theorem dy_chunks (w : FVec Ideal ⟨2, ![2048, 14336]⟩ .f32) (dz : FVec Ideal ⟨2, ![8208, 14336]⟩ .f32) (r : Fin 8208)
    (j : Fin 2048) : ∑ k ∈ Finset.range 28, chunk w dz r j k = dy w dz r j := by
  unfold dy
  rw [Fin.sum_univ_tiles 28 512 rfl, Finset.sum_range]
  exact Finset.sum_congr rfl fun k _ => dif_pos k.isLt

/-- One product step. -/
theorem prod_at (X : FVec Ideal S912x2048 .f32) (A : FVec Ideal S912x512 .bf16) (W : FVec Ideal S1x2048x512 .bf16) (r : Fin 912)
    (j : Fin 2048) : k0_pay26 (F := Ideal) X A W (ix2 r j) = X (ix2 r j) + ∑ l : Fin 512, A (ix2 r l) * W (ix3 0 j l) := by
  pointwise [k0_pay26]

variable {m} in
theorem chunk_at {c : Dev nD} {t : Fin cfg0.N} {A : FVec Ideal S912x512 .bf16}
    (hA : ∀ r l, A (ix2 r l) = Dz m c (ix2 (row t r) (kcol t l))) (X : FVec Ideal S912x2048 .f32) (r : Fin 912) (j : Fin 2048) :
    k0_pay26 (F := Ideal) X A (iblk m c 7 t) (ix2 r j) = X (ix2 r j) + chunk (Wi m c) (Dz m c) (row t r) j (t.val % 28) := by
  rw [prod_at, chunk, dif_pos (Nat.mod_lt _ (by omega))]
  exact congrArg (_ + ·) (Finset.sum_congr rfl fun l _ => congrArg₂ (· * ·) (hA r l) (w_at m c t j l))

theorem zero_at (r : Fin 912) (j : Fin 2048) : k0_pay24 (F := Ideal) (ix2 r j) = 0 := by
  pointwise [k0_pay24]

/-- One point of the accumulation: at the first point of a tile the product starts from zero, at the others from what the
point before left. -/
theorem acc_step (c : Dev nD) (t : Fin cfg0.N) (h : t.val % 28 < 27) (hp : t.val % 28 ≠ 0 → ∀ r j,
      (show EReal from (outsAt0 m c (t.val - 1) (Nat.lt_of_le_of_lt (Nat.sub_le _ _) t.isLt)).1 (ix2 r j))
        = ∑ k ∈ Finset.range (t.val % 28), chunk (Wi m c) (Dz m c) (row t r) j k) (r : Fin 912) (j : Fin 2048) :
    (show EReal from (outsAt0 m c t.val t.isLt).1 (ix2 r j))
      = ∑ k ∈ Finset.range (t.val % 28 + 1), chunk (Wi m c) (Dz m c) (row t r) j k := by
  have hN := lt252 t
  rw [Finset.sum_range_succ]
  have zero : t.val % 28 = 0 → k0_pay24 (F := Ideal) (ix2 r j)
      = ∑ k ∈ Finset.range (t.val % 28), chunk (Wi m c) (Dz m c) (row t r) j k := fun h0 => by
    rw [h0, Finset.sum_range_zero, zero_at]
  rcases (by omega : t.val = 0 ∨ (t.val % 28 = 0 ∧ t.val ≠ 0) ∨ (1 ≤ t.val % 28 ∧ t.val % 28 ≤ 3) ∨ (4 ≤ t.val % 28 ∧ t.val % 28 ≤ 7)
    ∨ (8 ≤ t.val % 28 ∧ t.val % 28 ≤ 11) ∨ (12 ≤ t.val % 28 ∧ t.val % 28 ≤ 15) ∨ (16 ≤ t.val % 28 ∧ t.val % 28 ≤ 19)
    ∨ (20 ≤ t.val % 28 ∧ t.val % 28 ≤ 23) ∨ 24 ≤ t.val % 28) with k | k | k | k | k | k | k | k | k
  · rw [outsAt0_A m c t (by omega) (by omega) (by omega) (by omega) (by omega) (by omega) (by omega) (by omega) (by omega) (by omega)]
    frame_out
    exact (chunk_at (dz0_at m c t (by omega)) _ r j).trans (congrArg (· + _) (zero (by omega)))
  · rw [outsAt0_J m c t (by omega) (by omega) (by omega) (by omega) (by omega) (by omega) (by omega) (by omega) (by omega) (by omega)]
    frame_out
    exact (chunk_at (dz0_at m c t (by omega)) _ r j).trans (congrArg (· + _) (zero (by omega)))
  · rw [outsAt0_B m c t (by omega) (by omega) (by omega) (by omega) (by omega) (by omega) (by omega) (by omega) (by omega) (by omega)]
    frame_out
    exact (chunk_at (dz0_at m c t (by omega)) _ r j).trans (congrArg (· + _) (hp (by omega) r j))
  · rw [outsAt0_C m c t (by omega) (by omega) (by omega) (by omega) (by omega) (by omega) (by omega) (by omega) (by omega) (by omega)]
    frame_out
    exact (chunk_at (dz1_at m c t k) _ r j).trans (congrArg (· + _) (hp (by omega) r j))
  · rw [outsAt0_D m c t (by omega) (by omega) (by omega) (by omega) (by omega) (by omega) (by omega) (by omega) (by omega) (by omega)]
    frame_out
    exact (chunk_at (dz2_at m c t k) _ r j).trans (congrArg (· + _) (hp (by omega) r j))
  · rw [outsAt0_E m c t (by omega) (by omega) (by omega) (by omega) (by omega) (by omega) (by omega) (by omega) (by omega) (by omega)]
    frame_out
    exact (chunk_at (dz3_at m c t k) _ r j).trans (congrArg (· + _) (hp (by omega) r j))
  · rw [outsAt0_F m c t (by omega) (by omega) (by omega) (by omega) (by omega) (by omega) (by omega) (by omega) (by omega) (by omega)]
    frame_out
    exact (chunk_at (dz4_at m c t k) _ r j).trans (congrArg (· + _) (hp (by omega) r j))
  · rw [outsAt0_G m c t (by omega) (by omega) (by omega) (by omega) (by omega) (by omega) (by omega) (by omega) (by omega) (by omega)]
    frame_out
    exact (chunk_at (dz5_at m c t k) _ r j).trans (congrArg (· + _) (hp (by omega) r j))
  · rw [outsAt0_H m c t (by omega) (by omega) (by omega) (by omega) (by omega) (by omega) (by omega) (by omega) (by omega) (by omega)]
    frame_out
    exact (chunk_at (dz6_at m c t k) _ r j).trans (congrArg (· + _) (hp (by omega) r j))

theorem acc (c : Dev nD) : ∀ n (h : n < cfg0.N), n % 28 < 27 → ∀ (r : Fin 912) (j : Fin 2048),
    (show EReal from (outsAt0 m c n h).1 (ix2 r j))
      = ∑ k ∈ Finset.range (n % 28 + 1), chunk (Wi m c) (Dz m c) (row ⟨n, h⟩ r) j k := by
  intro n
  induction n with
  | zero => exact fun h _ r j => acc_step m c ⟨0, h⟩ (by omega) (fun h0 => absurd rfl h0) r j
  | succ n ih =>
    intro h hlt r j
    refine acc_step m c ⟨n + 1, h⟩ hlt (fun h0 r j => ?_) r j
    refine (ih (by omega) (by dsimp only at h0; omega) r j).trans ?_
    rw [show n % 28 + 1 = (n + 1) % 28 by dsimp only at h0; omega,
      show row ⟨n, by omega⟩ r = row ⟨n + 1, h⟩ r from Fin.ext (by
        show n / 28 * 912 + r.val = (n + 1) / 28 * 912 + r.val
        dsimp only at h0; omega)]

/-- At a tile's last point the product is complete. -/
theorem full_at (c : Dev nD) (t : Fin cfg0.N) (h : t.val % 28 = 27) (r : Fin 912) (j : Fin 2048) :
    k0_pay2 (F := Ideal) (outsAt0 m c (t.val - 1) (Nat.lt_of_le_of_lt (Nat.sub_le _ _) t.isLt)).1 (iblk m c 6 t) (iblk m c 7 t) (ix2 r j)
      = dy (Wi m c) (Dz m c) (row t r) j := by
  refine (chunk_at (dz6_at m c t (by omega)) _ r j).trans ?_
  rw [← dy_chunks, h, Finset.sum_range_succ]
  refine congrArg (· + _) ((acc m c _ _ (by omega) r j).trans ?_)
  rw [show (t.val - 1) % 28 + 1 = 27 by omega, show row ⟨t.val - 1, Nat.lt_of_le_of_lt (Nat.sub_le _ _) t.isLt⟩ r = row t r from
    Fin.ext (by show (t.val - 1) / 28 * 912 + r.val = t.val / 28 * 912 + r.val; omega)]

/-- The output block at the slab loop's entry holds the product. -/
theorem product_read (c : Dev nD) (t : Fin cfg0.N) : (ms0_11 t).view.read (Elt Ideal) ((ms0_11 t).view.writes (Elt Ideal) (ms0_11 t).view.junk
    (kernelRun0_I.sl.H11_1 c (ms0_6 t) (hs0_6 t) (ms0_7 t) (hs0_7 t) (ms0_11 t) (hs0_11 t) (iblk m c 6 t) (iblk m c 7 t)
      (outsAt0 m c (t.val - 1) (Nat.lt_of_le_of_lt (Nat.sub_le _ _) t.isLt)).1))
    = k0_pay2 (F := Ideal) (outsAt0 m c (t.val - 1) (Nat.lt_of_le_of_lt (Nat.sub_le _ _) t.isLt)).1 (iblk m c 6 t) (iblk m c 7 t) := by
  unfold kernelRun0_I.sl.H11_1
  sl_unfold_words
  rw [View.read_writes_full, View.readAt_full, View.readAt_full, View.readAt_full, (hs0_6 t).read_unread, (hs0_7 t).read_unread,
    (hs0_11 t).read_unread]

/-- The slab loop's last trip makes every row a gradient. -/
theorem last_at (c : Dev nD) (t : Fin cfg0.N) (h : t.val % 28 = 27) (r : Fin 912) (j : Fin 2048) :
    (show EReal from (outsAt0 m c t.val t.isLt).1 (ix2 r j)) = rowGrad (iblk m c 8 t) (iblk m c 9 t) (iblk m c 10 t)
      (k0_pay2 (F := Ideal) (outsAt0 m c (t.val - 1) (Nat.lt_of_le_of_lt (Nat.sub_le _ _) t.isLt)).1 (iblk m c 6 t) (iblk m c 7 t)) r j := by
  have hN := lt252 t
  rw [outsAt0_I m c t (by omega) (by omega) (by omega) (by omega) (by omega) (by omega) (by omega) (by omega) (by omega) (by omega)]
  dsimp only
  unfold out0_I_11
  refine (View.read_writes_apply_eq _ _ (ms0_11 t).view (ms0_11 t).view.junk _ _ (by apply cover0_I_11)).trans ?_
  unfold kernelRun0_I
  dsimp only
  rw [View.writes_append]
  refine ((loop _ _ _ _ _ _ _ _ _ _ _ _ _ _ _ _ _ _ _ _ _ _ _ _ _ _ _ _ _ _ _ _ _ _ _ _ _ _ k0_t1_loop.trips le_rfl).new r j ?_).trans ?_
  · show r.val < 48 * 19
    omega
  · rw [(hs0_8 t).read_unread, (hs0_9 t).read_unread, (hs0_10 t).read_unread]
    exact rowGrad_congr (fun j => congrFun (product_read m c t) (ix2 r j)) j

/-! ### The gain's gradient -/

/-- Row `r`'s part of the gain's gradient, by its number. -/
def gpart (c : Dev nD) (j : Fin 2048) (r : ℕ) : EReal :=
  if h : r < 8208 then dy (Wi m c) (Dz m c) ⟨r, h⟩ j * (Hs m c (ix2 ⟨r, h⟩ j) * ri (Hs m c) ⟨r, h⟩) else 0

theorem rb_at (c : Dev nD) (t : Fin cfg0.N) (r : Fin 912) : rb (n := 912) (iblk m c 8 t) r = ri (Hs m c) (row t r) := by
  unfold rb ri
  exact congrArg Ext.rinv (Finset.sum_congr rfl fun k _ => congrArg₂ (· * ·) (h_at m c t r k) (h_at m c t r k))

theorem part_at (c : Dev nD) (t : Fin cfg0.N) (h : t.val % 28 = 27) (a : Fin 8) (j : Fin 2048) (q : ℕ) (hq : q < 114) :
    part (iblk m c 8 t) (k0_pay2 (F := Ideal) (outsAt0 m c (t.val - 1) (Nat.lt_of_le_of_lt (Nat.sub_le _ _) t.isLt)).1
      (iblk m c 6 t) (iblk m c 7 t)) a j q = gpart m c j (8 * (114 * (t.val / 28) + q) + a) := by
  have hN := lt252 t
  rw [part, gpart, dif_pos (by omega), dif_pos (by omega)]
  unfold gainPart
  rw [full_at m c t h, rb_at]
  refine (congrArg (fun x => _ * (x * _)) (h_at m c t _ j)).trans ?_
  exact congrArg (fun r => dy (Wi m c) (Dz m c) r j * (Hs m c (ix2 r j) * ri (Hs m c) r)) (Fin.ext (by
    show t.val / 28 * 912 + (8 * q + a.val) = 8 * (114 * (t.val / 28) + q) + a.val
    omega))

/-- The scratch at a point: the sums over the finished tiles, eight rows apart. -/
theorem scratch_step (c : Dev nD) (t : Fin cfg0.N) (hp : t.val ≠ 0 → ∀ a j,
      (show EReal from (outsAt0 m c (t.val - 1) (Nat.lt_of_le_of_lt (Nat.sub_le _ _) t.isLt)).2.2 (ix2 a j))
        = ∑ q ∈ Finset.range (114 * (t.val / 28)), gpart m c j (8 * q + a)) (a : Fin 8) (j : Fin 2048) :
    (show EReal from (outsAt0 m c t.val t.isLt).2.2 (ix2 a j))
      = ∑ q ∈ Finset.range (114 * ((t.val + 1) / 28)), gpart m c j (8 * q + a) := by
  have hN := lt252 t
  rcases (by omega : t.val = 0 ∨ (t.val % 28 = 0 ∧ t.val ≠ 0) ∨ (1 ≤ t.val % 28 ∧ t.val % 28 ≤ 3) ∨ (4 ≤ t.val % 28 ∧ t.val % 28 ≤ 7)
    ∨ (8 ≤ t.val % 28 ∧ t.val % 28 ≤ 11) ∨ (12 ≤ t.val % 28 ∧ t.val % 28 ≤ 15) ∨ (16 ≤ t.val % 28 ∧ t.val % 28 ≤ 19)
    ∨ (20 ≤ t.val % 28 ∧ t.val % 28 ≤ 23) ∨ (24 ≤ t.val % 28 ∧ t.val % 28 ≤ 26) ∨ t.val % 28 = 27) with k | k | k | k | k | k | k | k | k | k
  · rw [outsAt0_A m c t (by omega) (by omega) (by omega) (by omega) (by omega) (by omega) (by omega) (by omega) (by omega) (by omega)]
    frame_out
    rw [show 114 * ((t.val + 1) / 28) = 0 by omega, Finset.sum_range_zero]
    pointwise [k0_pay25]
  · rw [outsAt0_J m c t (by omega) (by omega) (by omega) (by omega) (by omega) (by omega) (by omega) (by omega) (by omega) (by omega)]
    frame_out
    exact (hp (by omega) a j).trans (by rw [show (t.val + 1) / 28 = t.val / 28 by omega])
  · rw [outsAt0_B m c t (by omega) (by omega) (by omega) (by omega) (by omega) (by omega) (by omega) (by omega) (by omega) (by omega)]
    frame_out
    exact (hp (by omega) a j).trans (by rw [show (t.val + 1) / 28 = t.val / 28 by omega])
  · rw [outsAt0_C m c t (by omega) (by omega) (by omega) (by omega) (by omega) (by omega) (by omega) (by omega) (by omega) (by omega)]
    frame_out
    exact (hp (by omega) a j).trans (by rw [show (t.val + 1) / 28 = t.val / 28 by omega])
  · rw [outsAt0_D m c t (by omega) (by omega) (by omega) (by omega) (by omega) (by omega) (by omega) (by omega) (by omega) (by omega)]
    frame_out
    exact (hp (by omega) a j).trans (by rw [show (t.val + 1) / 28 = t.val / 28 by omega])
  · rw [outsAt0_E m c t (by omega) (by omega) (by omega) (by omega) (by omega) (by omega) (by omega) (by omega) (by omega) (by omega)]
    frame_out
    exact (hp (by omega) a j).trans (by rw [show (t.val + 1) / 28 = t.val / 28 by omega])
  · rw [outsAt0_F m c t (by omega) (by omega) (by omega) (by omega) (by omega) (by omega) (by omega) (by omega) (by omega) (by omega)]
    frame_out
    exact (hp (by omega) a j).trans (by rw [show (t.val + 1) / 28 = t.val / 28 by omega])
  · rw [outsAt0_G m c t (by omega) (by omega) (by omega) (by omega) (by omega) (by omega) (by omega) (by omega) (by omega) (by omega)]
    frame_out
    exact (hp (by omega) a j).trans (by rw [show (t.val + 1) / 28 = t.val / 28 by omega])
  · rw [outsAt0_H m c t (by omega) (by omega) (by omega) (by omega) (by omega) (by omega) (by omega) (by omega) (by omega) (by omega)]
    frame_out
    exact (hp (by omega) a j).trans (by rw [show (t.val + 1) / 28 = t.val / 28 by omega])
  · rw [outsAt0_I m c t (by omega) (by omega) (by omega) (by omega) (by omega) (by omega) (by omega) (by omega) (by omega) (by omega)]
    dsimp only
    unfold sout0_I_0
    unfold kernelRun0_I
    dsimp only
    change scM0_0.view.read (Elt Ideal) (scM0_0.view.writes (Elt Ideal) _ _) (ix2 a j) = _
    refine ((loop _ _ _ _ _ _ _ _ _ _ _ _ _ _ _ _ _ _ _ _ _ _ _ _ _ _ _ _ _ _ _ _ _ _ _ _ _ _ k0_t1_loop.trips le_rfl).gain a j).trans ?_
    rw [(hs0_8 t).read_unread, product_read, Memref.IsWhole.read_unread,
      show 114 * ((t.val + 1) / 28) = 114 * (t.val / 28) + 114 by omega, Finset.sum_range_add]
    exact congrArg₂ (· + ·) (hp (by omega) a j) (Finset.sum_congr rfl fun q hq => part_at m c t k a j q (Finset.mem_range.mp hq))

theorem scratch (c : Dev nD) (n : ℕ) (hn : n < cfg0.N) : ∀ (a : Fin 8) (j : Fin 2048),
    (show EReal from (outsAt0 m c n hn).2.2 (ix2 a j)) = ∑ q ∈ Finset.range (114 * ((n + 1) / 28)), gpart m c j (8 * q + a) := by
  induction n with
  | zero => exact scratch_step m c ⟨0, hn⟩ (fun h => absurd rfl h)
  | succ n ih => exact scratch_step m c ⟨n + 1, hn⟩ (fun _ => ih (Nat.lt_of_succ_lt hn))

theorem sum_at (x : FVec Ideal S8x2048 .f32) (k : Fin 1) (j : Fin 2048) :
    (show EReal from k0_pay5 (F := Ideal) x (ix2 k j)) = ∑ a : Fin 8, (show EReal from x (ix2 a j)) := by
  pointwise [k0_pay5]

/-- The gain's gradient, stored at each tile's last chunk: the scratch summed over its eight rows. -/
theorem gain_at (c : Dev nD) (t : Fin cfg0.N) (h : t.val % 28 = 27) (k : Fin 1) (j : Fin 2048) :
    (show EReal from (outsAt0 m c t.val t.isLt).2.1 (ix2 k j)) = ∑ a : Fin 8, (show EReal from (outsAt0 m c t.val t.isLt).2.2 (ix2 a j)) := by
  have hN := lt252 t
  rw [outsAt0_I m c t (by omega) (by omega) (by omega) (by omega) (by omega) (by omega) (by omega) (by omega) (by omega) (by omega)]
  dsimp only
  unfold out0_I_12 sout0_I_0
  unfold kernelRun0_I
  dsimp only
  sl_unfold_words
  rw [View.read_writes_full, View.readAt_full]
  exact sum_at _ k j

/-! ### The final arrays -/

theorem flush11 : ∀ t : Fin (cfgs 0).N, ((cfgs 0).win 11).flush t = true → t.val % 28 = 27 := by decide +kernel

theorem flush12 : ∀ t : Fin (cfgs 0).N, ((cfgs 0).win 12).flush t = true → t.val = 251 := by decide +kernel

theorem final_dh (c : Dev nD) : (dats m 0 c).arrAt 11 (cfgs 0).N
    = fun i : S8208x2048.Idx => dh (Hs m c) (Gn m c) (Wi m c) (Dz m c) (Dh m c) (i 0) (i 1) := by
  refine (dats m 0 c).arrAt_eq_of_covers 11 _ (by decide +kernel) fun t hf y => ?_
  idx_vars y
  blk_simp
  rw [after0_11]
  have h := flush11 t hf
  refine (last_at m c t h y0 y1).trans ((Cert.DinForm.rowGrad_eq (Hs m c) (Gn m c) (Wi m c) (Dz m c) (Dh m c) _ _ _ _ y0 (row t y0) (h_at m c t y0) (g_at m c t)
    (dho_at m c t y0) (full_at m c t h y0) y1).trans ?_)
  exact congrArg₂ (dh (Hs m c) (Gn m c) (Wi m c) (Dz m c) (Dh m c)) (Fin.ext (by symm; blk_simp [idx t])) (Fin.ext (by symm; blk_simp [idx t]))

theorem gain_total (c : Dev nD) (j : Fin 2048) :
    (∑ a : Fin 8, ∑ q ∈ Finset.range (114 * ((251 + 1) / 28)), gpart m c j (8 * q + a)) = dg (Hs m c) (Wi m c) (Dz m c) j := by
  refine ((Fin.sum_univ_tiles 1026 8 (rfl : 1026 * 8 = 8208) _).trans ?_).symm
  rw [Finset.sum_comm, show 114 * ((251 + 1) / 28) = 1026 from rfl]
  refine Finset.sum_congr rfl fun a _ => ?_
  rw [Finset.sum_range]
  refine Finset.sum_congr rfl fun q _ => ?_
  rw [gpart, dif_pos (by omega)]
  exact congrArg (fun r => dy (Wi m c) (Dz m c) r j * (Hs m c (ix2 r j) * ri (Hs m c) r)) (Fin.ext (by
    show q.val * 8 + a.val = 8 * q.val + a.val
    omega))

theorem final_dg (c : Dev nD) : (dats m 0 c).arrAt 12 (cfgs 0).N
    = fun i : S1x2048.Idx => dg (Hs m c) (Wi m c) (Dz m c) (i 1) := by
  refine (dats m 0 c).arrAt_eq_of_covers 12 _ (by decide +kernel) fun t hf y => ?_
  idx_vars y
  blk_simp
  rw [after0_12]
  have h := flush12 t hf
  refine (gain_at m c t (by omega) y0 y1).trans ((Finset.sum_congr rfl fun a _ => scratch m c t.val t.isLt a y1).trans ?_)
  rw [h, gain_total]
  exact congrArg (dg (Hs m c) (Wi m c) (Dz m c)) (Fin.ext (by symm; blk_simp [idx t]))

end Cert.DinIdeal.Grad
end
-- ==== Proof.DinReference.lean ====
/- The joint projection's reference gradients as sums over rows and columns. -/
module

public import proofs.«01_k».proof.Proof.DinForm
public import proofs.«01_k».proof.Proof.UnitSums
public import proofs.«01_k».proof.Proof.Gen.DinRefIdeal.Read

@[expose] public section

set_option maxRecDepth 16384

noncomputable section

open Idealize.ShloMosaic Idealize.ShloMosaic.TcCoe

namespace Cert.DinRefIdeal.Grad

open Cert.DinRefIdeal Cert.DinRefIdeal.Gen Cert.DinRefIdeal.Read
open Cert.DinForm (dy dg dh)
open Cert.NormForm (ri)

variable (x : FVec Ideal S8208x2048 .f32) (g : FVec Ideal S2048 .f32) (w : FVec Ideal S2048x14336 .f32)
  (dz : FVec Ideal S8208x14336 .f32) (dho : FVec Ideal S8208x2048 .f32)

theorem ms_at (r : Fin 8208) : val_main_v7 (F := Ideal) x (ix3 0 r 0)
    = Ideal.div (∑ k : Fin 2048, x (ix2 r k) * x (ix2 r k)) (Ideal.ofBits .f32 0x45000000#32)
      + Ideal.ofBits .f32 0x358637BD#32 := by
  pointwise [val_main_v7, val_main_v6, val_main_cst_1, val_main_v5, val_main_v4, val_main_cst_0, val_main_v3, val_main_v2,
    val_main_cst, val_main_v1, val_main_v0]

theorem ri_at (r : Fin 8208) : val_main_v8 (F := Ideal) x (ix3 0 r 0) = ri x r := by
  unfold ri Ext.rinv
  pointwise [val_main_v8, ms_at]

theorem xhat_at (r : Fin 8208) (k : Fin 2048) : val_main_v13 (F := Ideal) x (ix3 0 r k) = x (ix2 r k) * ri x r := by
  pointwise [val_main_v13, val_main_v0, val_main_v12, ri_at]

theorem dy_at (r : Fin 8208) (k : Fin 2048) : val_main_v20 (F := Ideal) w dz (ix3 0 r k) = dy w dz r k := by
  unfold dy
  pointwise [val_main_v20, val_main_v19]

theorem dg_at (k : Fin 2048) : val_main_v26 (F := Ideal) x w dz (ix1 k) = dg x w dz k := by
  have e : ∀ a : Fin 1, val_main_v23 (F := Ideal) x w dz (ix3 0 a k) = dg x w dz k := fun a => by
    obtain rfl : a = 0 := Subsingleton.elim _ _
    unfold dg
    pointwise [val_main_v23, val_main_v22, val_main_v21, val_main_cst_3, xhat_at, dy_at]
    exact Finset.sum_congr rfl fun r _ => mul_comm _ _
  unfold val_main_v26
  refine (UnitSums.outer_middle reducesTo_S1x1x2048_S2048_d0_1 _ (Ideal.ofBits .f32 0x00000000#32) k).trans ?_
  simp only [e]
  simp

/-- Reading the reference's row sum. -/
theorem v35_at (r : Fin 8208) : val_main_v35 (F := Ideal) x g w dz (ix1 r) = val_main_v34 (F := Ideal) x g w dz (ix3 0 r 0) := by
  unfold val_main_v35
  refine (UnitSums.outer_inner reducesTo_S1x8208x1_S8208_d0_2 _ (Ideal.ofBits .f32 0x00000000#32) r).trans ?_
  simp

theorem dh_at (r : Fin 8208) (k : Fin 2048) : val_main_v43 (F := Ideal) x g w dz dho (ix2 r k) = dh x g w dz dho r k := by
  unfold dh
  pointwise [val_main_v43, val_main_v42, val_main_cst_8]
  refine congrArg (_ + ·) ((Fin.sum_univ_one _).trans ?_)
  pointwise [val_main_v41, val_main_v40, val_main_v39, val_main_v38, val_main_v37, val_main_v36, v35_at, val_main_v34,
    val_main_v33, val_main_v32, val_main_v31, val_main_v30, val_main_v29, val_main_v28, val_main_v27, val_main_v25,
    val_main_v24, val_main_v14, val_main_v11, val_main_v10, val_main_v9, val_main_cst_7, val_main_cst_6, val_main_cst_5,
    val_main_cst_2, val_main_v0, ri_at, dy_at, ms_at]
  rw [show ri x r = Ext.rinv (∑ k : Fin 2048, x (ix2 r k) * x (ix2 r k)) from rfl]
  obtain ⟨ρ, h0, hρ, h3⟩ := Ext.rinv_real (NormForm.sq_nonneg x r)
  rw [h3, hρ, Ext.lit_2048, Ext.lit_neg_half]
  exact NormForm.row_gradient h0 _ _ (fun j => x (ix2 r j)) fun j => dy w dz r j * g (ix1 j)

/-- The reference's two results, whole. -/
theorem dh_out : val_main_v43 (F := Ideal) x g w dz dho = fun i : S8208x2048.Idx => dh x g w dz dho (i 0) (i 1) := by
  funext i
  idx_vars i
  exact dh_at x g w dz dho i0 i1

theorem dg_out : val_main_v44 (F := Ideal) x w dz = fun i : S1x2048.Idx => dg x w dz (i 1) := by
  funext i
  idx_vars i
  pointwise [val_main_v44, dg_at]

end Cert.DinRefIdeal.Grad
end
-- ==== Proof.DinPair.lean ====
/- The normalized projection's gradient kernel and its reference side by side. -/
module

public import proofs.«01_k».proof.Proof.DinKernel
public import proofs.«01_k».proof.Proof.DinReference
public import proofs.«01_k».proof.Defs
public import proofs.«01_k».proof.Proof.Gen.DinRefIdeal.Run
public import Idealize.ShloMosaic.Lib.Claim

@[expose] public section

set_option maxRecDepth 16384

noncomputable section

open Idealize.ShloMosaic Idealize.ShloMosaic.TcCoe Idealize.SL.Sem

namespace Cert.DinPair

open Cert.DinIdeal.Grad Cert.DinRefIdeal.Grad

theorem reference_frame : Cert.quiescent_DinRefIdeal := by
  intro m g _
  refine (θ_run _ _ _).mono (fun r h => ⟨fun c => (h c).2.2, funext fun s => ?_⟩) (Cert.DinRefIdeal.Value.run m g)
  exact ((by decide : ∀ _ : SemLoc Cert.DinRefIdeal.sig, False) s.2).elim

theorem algebraic : Cert.algebraic_DinIdeal_DinRefIdeal := by
  pair_intro
  · run_from Cert.DinIdeal.Gen.run_main m g
  · run_from Cert.DinRefIdeal.Value.run m' g'
    · refine (dh_out _ _ _ _ _).trans ?_
      rw [(hagree c).1, (hagree c).2.1, (hagree c).2.2.1, (hagree c).2.2.2.1, (hagree c).2.2.2.2]
      exact (final_dh m c).symm
    · exact (dg_out _ _ _).trans (final_dg m c).symm

end Cert.DinPair
end
-- ==== Proof.AFwdRun.lean ====
/- The forward kernel of the gated recurrence run once at a grid point: what it leaves in its two output blocks and in the
row it carries to the next point, whatever the number type. -/
module

public import proofs.«01_k».proof.Proof.Gen.AFwdIdeal.Frame
public import proofs.«01_k».proof.Proof.Gen.AFwdIdeal.Loops
public import Idealize.ShloMosaic.Lib.Pipeline.FrameBody
public import Idealize.ShloMosaic.Lib.Ring
public import Idealize.ShloMosaic.Lib.Tactic
public import Idealize.ShloMosaic.Lib.WordCmp

@[expose] public section

set_option maxRecDepth 65536

noncomputable section

namespace Cert.AFwdIdeal.Step

open Cert.AFwdIdeal Cert.AFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg1 : Memref sig .tc .vmem S144x2048 .f32) (harg1 : arg1.IsWhole)
  (arg2 : Memref sig .tc .vmem S16x2048 .f32) (harg2 : arg2.IsWhole)
  (arg3 : Memref sig .tc .vmem S144x2048 .f32) (harg3 : arg3.IsWhole)
  (arg4 : Memref sig .tc .vmem S4x2048 .f32) (harg4 : arg4.IsWhole)
  (arg5 : Memref sig .tc .vmem S1x2048 .f32) (harg5 : arg5.IsWhole)
  (arg6 : Memref sig .tc .vmem S16x128x128 .bf16) (harg6 : arg6.IsWhole)
  (arg7 : Memref sig .tc .vmem S1x2048 .f32) (harg7 : arg7.IsWhole)
  (arg8 : Memref sig .tc .vmem S16x128x128 .bf16) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S144x2048 .bf16) (harg11 : arg11.IsWhole)
  (arg12 : Memref sig .tc .vmem S144x2048 .f32) (harg12 : arg12.IsWhole)
  (arg13 : Memref sig .tc .vmem S160x2048 .f32) (harg13 : arg13.IsWhole)
  (arg14 : Memref sig .tc .vmem S144x2048 .f32) (harg14 : arg14.IsWhole)
  (arg15 : Memref sig .tc .vmem S144x2048 .f32) (harg15 : arg15.IsWhole)
  (arg16 : Memref sig .tc .vmem S144x2048 .f32) (harg16 : arg16.IsWhole)
  (arg17 : Memref sig .tc .vmem S1x2048 .f32) (harg17 : arg17.IsWhole)
  (x1 : Vec F S144x2048 .f32) (x2 : Vec F S16x2048 .f32) (x3 : Vec F S144x2048 .f32) (x4 : Vec F S4x2048 .f32) (x5 : Vec F S1x2048 .f32) (x6 : Vec F S16x128x128 .bf16) (x7 : Vec F S1x2048 .f32) (x8 : Vec F S16x128x128 .bf16) (x9 : Vec F S1x2048 .f32) (x10 : Vec F S1x2048 .f32)

/-- The first point of the grid, where the carried row is cleared. -/
abbrev first (i : grid0.Coords) : Prop := Scalar.cmpi .ne (Scalar.extui (Scalar.cmpi .eq (BitVec.ofNat 32 (i 0).val) 0#32)) 0#32 = 1#1

/-- The staged operands, each at its contents. -/
def operands : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10)

/-- A buffer at unnamed contents. -/
def some' {s : Shape} {e : EltTy} (r : Memref sig .tc .vmem s e) : sProp 𝕄 := iprop(∃ d, owns (c : Thread nD τ) r fullShare d)

/-- A buffer at some contents overwritten by the pieces `L`. -/
def left {s : Shape} {e : EltTy} (r : Memref sig .tc .vmem s e) (L : List (View.Piece (Elt F) s e)) : sProp 𝕄 :=
  iprop(∃ f, r.view.loc (c : Thread nD τ) ↦[r.view.set]{fullShare} r.view.writes (Elt F) f L)

/-- A buffer at some contents. -/
def held {s : Shape} {e : EltTy} (r : Memref sig .tc .vmem s e) : sProp 𝕄 :=
  iprop(∃ f, r.view.loc (c : Thread nD τ) ↦[r.view.set]{fullShare} f)

/-- A held buffer is one at unnamed contents. -/
theorem held_some {s : Shape} {e : EltTy} (r : Memref sig .tc .vmem s e) : (held c r : sProp 𝕄) ⊢ some' (F := F) c r := by
  unfold held some' owns
  iintro ⟨%f, H⟩
  iexists (r.view.read (Elt F) f); iexists f
  isplitr
  · ipureintro; exact Eq.refl _
  iexact H

set_option maxHeartbeats 4000000 in
/-- The body at the first point: the pieces it leaves in the gated output, in the states and in the carried row. -/
def run_first (hc : first i) :
    Σ' (L11 : List (View.Piece (Elt F) S144x2048 .bf16)), Σ' (L12 : List (View.Piece (Elt F) S144x2048 .f32)), { L17 : List (View.Piece (Elt F) S1x2048 .f32) //
      ∀ (E : Set ℕ) (K : PUnit → sProp 𝕄),
        iprop(operands c arg1 arg2 arg3 arg4 arg5 arg6 arg7 arg8 arg9 arg10 x1 x2 x3 x4 x5 x6 x7 x8 x9 x10 ∗ some' c arg11 ∗ some' c arg12 ∗ some' c arg13 ∗ some' c arg14 ∗ some' c arg15 ∗ some' c arg16 ∗ some' c arg17
            ∗ (iprop(operands c arg1 arg2 arg3 arg4 arg5 arg6 arg7 arg8 arg9 arg10 x1 x2 x3 x4 x5 x6 x7 x8 x9 x10 ∗ left c arg11 L11 ∗ left c arg12 L12 ∗ held c arg13 ∗ held c arg14 ∗ held c arg15 ∗ held c arg16 ∗ left c arg17 L17) -∗ K ⟨⟩))
          ⊢ wp frame (wpE (defs₀ (F := F)) Variants.none c none) E (cc0_branch_a_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_branch_a_fwd_eq_skeleton]; unfold cc0_branch_a_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold operands some' left held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10
    sl_exec (disch := first | sl_exact hc)
    sl_step
    iapply Hk
    isplitl [H1 H2 H3 H4 H5 H6 H7 H8 H9 H10]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

set_option maxHeartbeats 4000000 in
/-- The body at a later point, the carried row at `x17`: the pieces it leaves in the gated output, in the states and in the carried row. -/
def run_next (hc : ¬first i) (x17 : Vec F S1x2048 .f32) :
    Σ' (L11 : List (View.Piece (Elt F) S144x2048 .bf16)), Σ' (L12 : List (View.Piece (Elt F) S144x2048 .f32)), { L17 : List (View.Piece (Elt F) S1x2048 .f32) //
      ∀ (E : Set ℕ) (K : PUnit → sProp 𝕄),
        iprop(operands c arg1 arg2 arg3 arg4 arg5 arg6 arg7 arg8 arg9 arg10 x1 x2 x3 x4 x5 x6 x7 x8 x9 x10 ∗ some' c arg11 ∗ some' c arg12 ∗ some' c arg13 ∗ some' c arg14 ∗ some' c arg15 ∗ some' c arg16 ∗ owns (c : Thread nD τ) arg17 fullShare x17
            ∗ (iprop(operands c arg1 arg2 arg3 arg4 arg5 arg6 arg7 arg8 arg9 arg10 x1 x2 x3 x4 x5 x6 x7 x8 x9 x10 ∗ left c arg11 L11 ∗ left c arg12 L12 ∗ held c arg13 ∗ held c arg14 ∗ held c arg15 ∗ held c arg16 ∗ left c arg17 L17) -∗ K ⟨⟩))
          ⊢ wp frame (wpE (defs₀ (F := F)) Variants.none c none) E (cc0_branch_a_fwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, fun E K => ?run⟩
  case run =>
    simp only [cc0_branch_a_fwd_eq_skeleton]; unfold cc0_branch_a_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold operands some' left held owns
    iintro ⟨⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%f17, %hf17, H17⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg17.eq_unread hf17
    sl_exec (disch := first | sl_exact hc)
    sl_step
    iapply Hk
    isplitl [H1 H2 H3 H4 H5 H6 H7 H8 H9 H10]
    · isplitl [H1]
      · iexists _; isplitr; · ipureintro; exact harg1.read_unread _
        iexact H1
      isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H8]
      · iexists _; isplitr; · ipureintro; exact harg8.read_unread _
        iexact H8
      isplitl [H9]
      · iexists _; isplitr; · ipureintro; exact harg9.read_unread _
        iexact H9
      iexists _; isplitr; · ipureintro; exact harg10.read_unread _
      iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.AFwdIdeal.Step

end
-- ==== Proof.AFwdFrame.lean ====
/- The forward call of the gated recurrence as a whole: what its two outputs and its carried row hold after each grid
point, the run of the pipeline over the grid, and its frame, whatever the number type. -/
module

public import proofs.«01_k».proof.Proof.Gen.AFwdIdeal.Frame
public import proofs.«01_k».proof.Proof.Gen.AFwdIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim
public import proofs.«01_k».proof.Proof.AFwdRun

@[expose] public section

set_option maxRecDepth 16384

noncomputable section

namespace Cert.AFwdIdeal.Step

open Cert.AFwdIdeal Cert.AFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The carried row is cleared at point 0 only. -/
theorem first_iff : ∀ t : Fin cfg0.N, first (grid0.coords t) ↔ t.val = 0 :=
  (fun t => by
    have ht : t.val < 57 := Nat.lt_of_lt_of_eq t.isLt N_0
    have e0 : (grid0.coords t 0).val = t.val / 1 % 57 := Pipeline.Grid.coords_val t 0 (by decide) rfl
    simp only [first, e0]
    word_cmp
   : ∀ t : Fin grid0.N, first (grid0.coords t) ↔ t.val = 0)

/-! ## The buffers the body is handed -/

abbrev ms0 (t : Fin cfg0.N) : Memref sig .tc .vmem S144x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S144x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S4x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x128x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x2048 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S16x128x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x2048 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S1x2048 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S144x2048 .bf16 := win0_10.stage (cfg0.slots t 10)
abbrev hs10 (t : Fin cfg0.N) : (ms10 t).IsWhole := hstage0_10 ((cfg0.slots t 10).cast nbuf0_10)
abbrev ms11 (t : Fin cfg0.N) : Memref sig .tc .vmem S144x2048 .f32 := win0_11.stage (cfg0.slots t 11)
abbrev hs11 (t : Fin cfg0.N) : (ms11 t).IsWhole := hstage0_11 ((cfg0.slots t 11).cast nbuf0_11)
abbrev sc0 : Memref sig .tc .vmem S160x2048 .f32 := Memref.whole cc0_scratch0
abbrev sc1 : Memref sig .tc .vmem S144x2048 .f32 := Memref.whole cc0_scratch1
abbrev sc2 : Memref sig .tc .vmem S144x2048 .f32 := Memref.whole cc0_scratch2
abbrev sc3 : Memref sig .tc .vmem S144x2048 .f32 := Memref.whole cc0_scratch3
abbrev sc4 : Memref sig .tc .vmem S1x2048 .f32 := Memref.whole cc0_scratch4

/-- A staging buffer of the gated output, one of the states, and the carried row, through which contents are stated. -/
abbrev VYa : View sig .tc .vmem S144x2048 .bf16 := (Memref.whole cc0_stg10_0 : Memref sig .tc .vmem S144x2048 .bf16).view
abbrev VHl : View sig .tc .vmem S144x2048 .f32 := (Memref.whole cc0_stg11_0 : Memref sig .tc .vmem S144x2048 .f32).view
abbrev VCa : View sig .tc .vmem S1x2048 .f32 := sc4.view

/-- What the launch hands the region: the scratch buffers at anything, the generator register. -/
theorem rest_eq (c : Dev nD) : (Pipeline.ΦA spec0 c : sProp 𝕄)
    = iprop((some' c sc0 ∗ some' c sc1 ∗ some' c sc2 ∗ some' c sc3 ∗ some' c sc4) ∗ (∃ r, prngReg c r)) := by
  unfold Pipeline.ΦA some'; rw [scopedRest0_eq]; simp only [owns_whole]; try rfl

/-- The runs at grid point `t`, on the buffers and blocks of that point. -/
abbrev atFirst (c : Dev nD) (t : Fin cfg0.N) (h : t.val = 0) :=
  run_first c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((first_iff t).mpr h)
abbrev atNext (c : Dev nD) (t : Fin cfg0.N) (h : ¬t.val = 0) (x : Vec F S1x2048 .f32) :=
  run_next c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun q => h ((first_iff t).mp q)) x

/-! ## The pieces cover the blocks -/

section
variable (c : Dev nD) (i : grid0.Coords)
  (arg1 : Memref sig .tc .vmem S144x2048 .f32) (harg1 : arg1.IsWhole)
  (arg2 : Memref sig .tc .vmem S16x2048 .f32) (harg2 : arg2.IsWhole)
  (arg3 : Memref sig .tc .vmem S144x2048 .f32) (harg3 : arg3.IsWhole)
  (arg4 : Memref sig .tc .vmem S4x2048 .f32) (harg4 : arg4.IsWhole)
  (arg5 : Memref sig .tc .vmem S1x2048 .f32) (harg5 : arg5.IsWhole)
  (arg6 : Memref sig .tc .vmem S16x128x128 .bf16) (harg6 : arg6.IsWhole)
  (arg7 : Memref sig .tc .vmem S1x2048 .f32) (harg7 : arg7.IsWhole)
  (arg8 : Memref sig .tc .vmem S16x128x128 .bf16) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S144x2048 .bf16) (harg11 : arg11.IsWhole)
  (arg12 : Memref sig .tc .vmem S144x2048 .f32) (harg12 : arg12.IsWhole)
  (arg13 : Memref sig .tc .vmem S160x2048 .f32) (harg13 : arg13.IsWhole)
  (arg14 : Memref sig .tc .vmem S144x2048 .f32) (harg14 : arg14.IsWhole)
  (arg15 : Memref sig .tc .vmem S144x2048 .f32) (harg15 : arg15.IsWhole)
  (arg16 : Memref sig .tc .vmem S144x2048 .f32) (harg16 : arg16.IsWhole)
  (arg17 : Memref sig .tc .vmem S1x2048 .f32) (harg17 : arg17.IsWhole)
  (x1 : Vec F S144x2048 .f32) (x2 : Vec F S16x2048 .f32) (x3 : Vec F S144x2048 .f32) (x4 : Vec F S4x2048 .f32) (x5 : Vec F S1x2048 .f32) (x6 : Vec F S16x128x128 .bf16) (x7 : Vec F S1x2048 .f32) (x8 : Vec F S16x128x128 .bf16) (x9 : Vec F S1x2048 .f32) (x10 : Vec F S1x2048 .f32)
theorem cover_first_ya (hc : first i) (y : S144x2048.Idx) : ∃ pc ∈ (run_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).1, y ∈ pc.1.set :=
  View.cover_of_tiledL (run_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).1 S144x2048.size (by sl_kernel_rfl) y
theorem cover_first_carry (hc : first i) (y : S1x2048.Idx) : ∃ pc ∈ (run_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).2.2.1, y ∈ pc.1.set :=
  View.cover_of_tiledL (run_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).2.2.1 S1x2048.size (by sl_kernel_rfl) y
theorem cover_first_hl (hc : first i) (y : S144x2048.Idx) : ∃ pc ∈ (run_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).2.1, y ∈ pc.1.set := by
  unfold run_first
  obtain ⟨pc, hp, hy⟩ := View.cover_of_tiledL (run_first.sl.H12_1 (F := F) c i arg1 harg1 arg2 harg2 arg4 harg4 arg5 harg5 arg6 harg6 arg7 harg7 arg8 harg8 arg9 harg9 arg10 harg10 arg13 arg14 arg15 x1 x2 x4 x5 x6 x7 x8 x9 x10) S144x2048.size (by sl_kernel_rfl) y
  exact ⟨pc, List.mem_append_right _ hp, hy⟩
theorem cover_next_ya (hc : ¬first i) (x17 : Vec F S1x2048 .f32) (y : S144x2048.Idx) : ∃ pc ∈ (run_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).1, y ∈ pc.1.set :=
  View.cover_of_tiledL (run_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).1 S144x2048.size (by sl_kernel_rfl) y
theorem cover_next_carry (hc : ¬first i) (x17 : Vec F S1x2048 .f32) (y : S1x2048.Idx) : ∃ pc ∈ (run_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).2.2.1, y ∈ pc.1.set :=
  View.cover_of_tiledL (run_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).2.2.1 S1x2048.size (by sl_kernel_rfl) y
theorem cover_next_hl (hc : ¬first i) (x17 : Vec F S1x2048 .f32) (y : S144x2048.Idx) : ∃ pc ∈ (run_next c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).2.1, y ∈ pc.1.set := by
  unfold run_next
  obtain ⟨pc, hp, hy⟩ := View.cover_of_tiledL (run_next.sl.H12_1 (F := F) c i arg1 harg1 arg2 harg2 arg4 harg4 arg5 harg5 arg6 harg6 arg7 harg7 arg8 harg8 arg9 harg9 arg10 harg10 arg13 arg14 arg15 x1 x2 x4 x5 x6 x7 x8 x9 x10) S144x2048.size (by sl_kernel_rfl) y
  exact ⟨pc, List.mem_append_right _ hp, hy⟩
end

/-! ## The grid, point by point -/

/-- A gated block, a state block and a carried row. -/
abbrev Out (F : FTy → Type) := Vec F S144x2048 .bf16 × Vec F S144x2048 .f32 × Vec F S1x2048 .f32

/-- What the pieces of a run leave. -/
def read3 (A : List (View.Piece (Elt F) S144x2048 .bf16)) (B : List (View.Piece (Elt F) S144x2048 .f32)) (C : List (View.Piece (Elt F) S1x2048 .f32)) : Out F :=
  (VYa.read (Elt F) (VYa.writes (Elt F) VYa.junk A), VHl.read (Elt F) (VHl.writes (Elt F) VHl.junk B), VCa.read (Elt F) (VCa.writes (Elt F) VCa.junk C))

/-- The gated block, the state block and the carried row after point `n`. -/
def outsAt (c : Dev nD) : (n : ℕ) → n < cfg0.N → Out F
  | 0, hn => read3 (atFirst m c ⟨0, hn⟩ rfl).1 (atFirst m c ⟨0, hn⟩ rfl).2.1 (atFirst m c ⟨0, hn⟩ rfl).2.2.1
  | n + 1, hn =>
    let x := (outsAt c n (by omega)).2.2
    read3 (atNext m c ⟨n + 1, hn⟩ (Nat.succ_ne_zero n) x).1 (atNext m c ⟨n + 1, hn⟩ (Nat.succ_ne_zero n) x).2.1 (atNext m c ⟨n + 1, hn⟩ (Nat.succ_ne_zero n) x).2.2.1

theorem outsAt_first (c : Dev nD) (t : Fin cfg0.N) (h : t.val = 0) :
    outsAt m c t.val t.isLt = read3 (atFirst m c t h).1 (atFirst m c t h).2.1 (atFirst m c t h).2.2.1 := by
  obtain ⟨n, hn⟩ := t
  cases n with
  | zero => exact rfl
  | succ n => exact absurd h (Nat.succ_ne_zero n)

theorem outsAt_next (c : Dev nD) (t : Fin cfg0.N) (h : ¬t.val = 0) :
    outsAt m c t.val t.isLt = read3 (atNext m c t h (outsAt m c (t.val - 1) (by omega)).2.2).1 (atNext m c t h (outsAt m c (t.val - 1) (by omega)).2.2).2.1 (atNext m c t h (outsAt m c (t.val - 1) (by omega)).2.2).2.2.1 := by
  obtain ⟨n, hn⟩ := t
  cases n with
  | zero => exact absurd rfl h
  | succ n => exact rfl

/-- Between points: the scratch buffers at anything, but the carried row at what the point before left. -/
def between (c : Dev nD) : (n : ℕ) → n ≤ cfg0.N → sProp 𝕄
  | 0, _ => Pipeline.ΦA spec0 c
  | n + 1, hn => iprop((some' c sc0 ∗ some' c sc1 ∗ some' c sc2 ∗ some' c sc3 ∗ owns (c : Thread nD τ) sc4 fullShare (outsAt m c n hn).2.2) ∗ (∃ r, prngReg c r))

theorem between_zero (c : Dev nD) (n : ℕ) (h : n ≤ cfg0.N) (hz : n = 0) : between m c n h = Pipeline.ΦA spec0 c := by
  subst hz; rfl

theorem between_succ (c : Dev nD) (n : ℕ) (hn : n < cfg0.N) :
    between m c (n + 1) hn = iprop((some' c sc0 ∗ some' c sc1 ∗ some' c sc2 ∗ some' c sc3 ∗ owns (c : Thread nD τ) sc4 fullShare (outsAt m c n hn).2.2) ∗ (∃ r, prngReg c r)) := rfl

theorem between_pos (c : Dev nD) (n : ℕ) (h : n ≤ cfg0.N) (hz : n ≠ 0) :
    between m c n h = iprop((some' c sc0 ∗ some' c sc1 ∗ some' c sc2 ∗ some' c sc3 ∗ owns (c : Thread nD τ) sc4 fullShare (outsAt m c (n - 1) (by omega)).2.2) ∗ (∃ r, prngReg c r)) := by
  cases n with
  | zero => exact absurd rfl hz
  | succ n => rfl

/-- The proof data of the pipeline: inputs keep their blocks, the outputs are at `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outsAt m c t.val t.isLt).1
    | ⟨11, _⟩ => (outsAt m c t.val t.isLt).2.1
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt m c t.val t.isLt).1 := by dsimp only [dats]
theorem after0_11 (c : Dev nD) (t : Fin cfg0.N) : (dats m 0 c).after 11 t = (outsAt m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

/-- Covering pieces leave the same contents in any buffer. -/
theorem left_owns {s : Shape} {e : EltTy} (c : Dev nD) (r : Memref sig .tc .vmem s e) (v : View sig .tc .vmem s e)
    (L : List (View.Piece (Elt F) s e)) (h : ∀ y : s.Idx, ∃ pc ∈ L, y ∈ pc.1.set) :
    (left c r L : sProp 𝕄) ⊢ owns (c : Thread nD τ) r fullShare (v.read (Elt F) (v.writes (Elt F) v.junk L)) := by
  unfold left owns
  iintro ⟨%f, H⟩
  iexists _; isplitr
  swap; · iexact H
  ipureintro; exact View.read_writes_of_cover _ _ _ _ _ h

set_option maxHeartbeats 6400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = between m c (t.val + 1) t.isLt from rfl, between_succ]
  by_cases h0 : t.val = 0
  · rw [between_castSucc m c t, between_zero m c _ _ h0, rest_eq, outsAt_first m c t h0]
    unfold read3; dsimp only
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atFirst m c t h0).2.2.2 Set.univ _)
    isplitl [H0 H1 H2 H3 H4 H5 H6 H7 H8 H9]
    · unfold operands
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · unfold some'; iexists _; iexact H10
    isplitl [H11]; · unfold some'; iexists _; iexact H11
    isplitl [S0]; · iexact S0
    isplitl [S1]; · iexact S1
    isplitl [S2]; · iexact S2
    isplitl [S3]; · iexact S3
    isplitl [S4]; · iexact S4
    unfold operands
    iintro ⟨⟨H0, H1, H2, H3, H4, H5, H6, H7, H8, H9⟩, H10, H11, S0, S1, S2, S3, S4⟩
    isplitl [S0 S1 S2 S3 S4 Hg]
    · isplitl [S0 S1 S2 S3 S4]
      · isplitl [S0]; · iapply (held_some c sc0); iexact S0
        isplitl [S1]; · iapply (held_some c sc1); iexact S1
        isplitl [S2]; · iapply (held_some c sc2); iexact S2
        isplitl [S3]; · iapply (held_some c sc3); iexact S3
        iapply (left_owns c sc4 VCa _ (cover_first_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((first_iff t).mpr h0))); iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (left_owns c (ms10 t) VYa _ (cover_first_ya c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((first_iff t).mpr h0))); iexact H10
    iapply (left_owns c (ms11 t) VHl _ (cover_first_hl c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((first_iff t).mpr h0))); iexact H11
  · rw [between_castSucc m c t, between_pos m c _ _ h0, outsAt_next m c t h0]
    unfold read3; dsimp only
    iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atNext m c t h0 (outsAt m c (t.val - 1) (by omega)).2.2).2.2.2 Set.univ _)
    isplitl [H0 H1 H2 H3 H4 H5 H6 H7 H8 H9]
    · unfold operands
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · unfold some'; iexists _; iexact H10
    isplitl [H11]; · unfold some'; iexists _; iexact H11
    isplitl [S0]; · iexact S0
    isplitl [S1]; · iexact S1
    isplitl [S2]; · iexact S2
    isplitl [S3]; · iexact S3
    isplitl [S4]; · iexact S4
    unfold operands
    iintro ⟨⟨H0, H1, H2, H3, H4, H5, H6, H7, H8, H9⟩, H10, H11, S0, S1, S2, S3, S4⟩
    isplitl [S0 S1 S2 S3 S4 Hg]
    · isplitl [S0 S1 S2 S3 S4]
      · isplitl [S0]; · iapply (held_some c sc0); iexact S0
        isplitl [S1]; · iapply (held_some c sc1); iexact S1
        isplitl [S2]; · iapply (held_some c sc2); iexact S2
        isplitl [S3]; · iapply (held_some c sc3); iexact S3
        iapply (left_owns c sc4 VCa _ (cover_next_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun q => h0 ((first_iff t).mp q)) _)); iexact S4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iapply (left_owns c (ms10 t) VYa _ (cover_next_ya c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun q => h0 ((first_iff t).mp q)) _)); iexact H10
    iapply (left_owns c (ms11 t) VHl _ (cover_next_hl c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun q => h0 ((first_iff t).mp q)) _)); iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = between m c 0 (Nat.zero_le _) from rfl, between_zero m c 0 _ rfl]
  try exact Idealize.SL.BI.Entails.refl _

theorem between_out (c : Dev nD) (t : Fin (cfg0.N + 1)) (ht : t.val ≠ 0) : (dats m 0 c).Φ t ⊢ Pipeline.ΦA spec0 c := by
  rw [show (dats m 0 c).Φ t = between m c t.val (Nat.le_of_lt_succ t.isLt) from rfl, between_pos m c _ _ ht, rest_eq]
  iintro ⟨⟨S0, S1, S2, S3, S4⟩, Hg⟩
  isplitl [S0 S1 S2 S3 S4]
  · isplitl [S0]; · iexact S0
    isplitl [S1]; · iexact S1
    isplitl [S2]; · iexact S2
    isplitl [S3]; · iexact S3
    unfold some'; iexists _; iexact S4
  iexact Hg

theorem hout (c : Dev nD) : (dats m 0 c).Φ (Fin.last cfg0.N) ⊢ Pipeline.ΦA spec0 c :=
  between_out m c _ (by rw [Fin.val_last]; have : cfg0.N = 57 := N_0; omega)

/-! ## The run and the frame -/

-- the launch theorem's implicit arguments are found by unifying its conclusion with this one
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution ends with the arrays at what the proof data say. -/
theorem run_main : θ_run defs (onTc (τ := τ) (main (F := F))) (s₀ m ρ) (Pipeline.FramePost cfgs (dats m) 0 (V m)) :=
  (θ_run defs _ _).mono (fun _ h => h.1) (run_quiet m ρ)

/-- The frame: every execution ends, the arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_quiet m ρ))

end Cert.AFwdIdeal.Step

end
-- ==== Proof.AFwdForm.lean ====
/- The forward gated linear recurrence, as forms of the arrays: convolution, gates, decay, input and states; and the
identities of extended reals by which the kernel's spellings are the reference's. -/
module

public import proofs.«01_k».proof.Proof.Ext

@[expose] public section

set_option maxRecDepth 16384

noncomputable section

namespace Cert.AFwdForm

open Idealize.ShloMosaic
open Cert.Ext (sig)

/-! ### The forms -/

/-- The softplus of a number. -/
def sp (v : EReal) : EReal := max v 0 + Ideal.log1p (Ideal.exp (-(max v (-v))))

/-- The head of a column, and the column's place in it. -/
abbrev hd (j : Fin 2048) : Fin 16 := ⟨j.val / 128, by omega⟩
abbrev sub (j : Fin 2048) : Fin 128 := ⟨j.val % 128, by omega⟩

/-- A column of a column's head. -/
abbrev mate (j : Fin 2048) (l : Fin 128) : Fin 2048 := ⟨j.val / 128 * 128 + l.val, by omega⟩

variable (z : FVec Ideal ⟨2, ![8208, 14336]⟩ .f32) (wa : FVec Ideal ⟨2, ![4, 2048]⟩ .f32) (ba : FVec Ideal ⟨1, ![2048]⟩ .f32)
  (wr : FVec Ideal ⟨3, ![16, 128, 128]⟩ .f32) (br : FVec Ideal ⟨1, ![2048]⟩ .f32)
  (wi : FVec Ideal ⟨3, ![16, 128, 128]⟩ .f32) (bi : FVec Ideal ⟨1, ![2048]⟩ .f32) (lam : FVec Ideal ⟨1, ![2048]⟩ .f32)

/-- The branch's rows with three rows of zeros in front. -/
def xs (n : ℕ) (j : Fin 2048) : EReal :=
  if h : 3 ≤ n ∧ n - 3 < 8208 then z (ix2 ⟨n - 3, h.2⟩ ⟨j.val, by omega⟩) else 0

/-- The causal convolution of four rows. -/
def cv (n : ℕ) (j : Fin 2048) : EReal :=
  ba (ix1 j) + wa (ix2 0 j) * xs z n j + wa (ix2 1 j) * xs z (n + 1) j + wa (ix2 2 j) * xs z (n + 2) j
    + wa (ix2 3 j) * xs z (n + 3) j

/-- A gate: the logistic of a head's product with its matrix. -/
def gate (w : FVec Ideal ⟨3, ![16, 128, 128]⟩ .f32) (b : FVec Ideal ⟨1, ![2048]⟩ .f32) (n : ℕ) (j : Fin 2048) : EReal :=
  sig (∑ l : Fin 128, cv z wa ba n (mate j l) * w (ix3 (hd j) l (sub j)) + b (ix1 j))

/-- The logarithm of the decay. -/
def lg (n : ℕ) (j : Fin 2048) : EReal :=
  Ideal.ofBits .f32 0xC1000000#32 * gate z wa ba wr br n j * sp (-(lam (ix1 j)))

/-- The decay. -/
def dec (n : ℕ) (j : Fin 2048) : EReal := Ideal.exp (lg z wa ba wr br lam n j)

/-- The gated input. -/
def inp (n : ℕ) (j : Fin 2048) : EReal :=
  Ideal.sqrt (max (-(Ideal.expm1 (Ideal.ofBits .f32 0x40000000#32 * lg z wa ba wr br lam n j))) 0)
    * (gate z wa ba wi bi n j * cv z wa ba n j)

/-- The state before row `n`. -/
def st : ℕ → Fin 2048 → EReal
  | 0, _ => 0
  | n + 1, j => dec z wa ba wr br lam n j * st n j + inp z wa ba wr br wi bi lam n j

/-- The gated output of a row. -/
def ya (r : Fin 8208) (j : Fin 2048) : EReal :=
  z (ix2 r ⟨2048 + j.val, by omega⟩) * sig (z (ix2 r ⟨2048 + j.val, by omega⟩)) * st z wa ba wr br wi bi lam (r.val + 1) j

/-! ### Literals -/

theorem lit_neg_eight : Ideal.ofBits .f32 0xC1000000#32 = ((-8 : ℝ) : EReal) := by
  simp [Ideal.ofBits, Ideal.ieee]; rw [← EReal.coe_mul]; norm_num

theorem lit_neg_two : Ideal.ofBits .f32 0xC0000000#32 = ((-2 : ℝ) : EReal) := by
  simp [Ideal.ofBits, Ideal.ieee]; rw [← EReal.coe_mul]; norm_num

theorem lit_zero : Ideal.ofBits .f32 0x00000000#32 = 0 := by
  simp [Ideal.ofBits, Ideal.ieee]

/-! ### Spellings -/

/-- The exponential of a number that is not positive is a real between 0 and 1. -/
theorem exp_neg_abs (v : EReal) : ∃ e : ℝ, 0 ≤ e ∧ Ideal.exp (-(max v (-v))) = (e : EReal) := by
  induction v with
  | bot => exact ⟨0, le_refl _, by simp⟩
  | top => exact ⟨0, le_refl _, by simp⟩
  | coe r =>
    refine ⟨Real.exp (-(max r (-r))), (Real.exp_pos _).le, ?_⟩
    rw [← EReal.coe_neg, ← EReal.coe_strictMono.monotone.map_max, ← EReal.coe_neg, Ideal.exp_coe]

/-- The kernel's logarithm of one more than a real, by the quotient that corrects the sum's rounding. -/
theorem log1p_quot {e : ℝ} (he : 0 ≤ e) :
    (if (1 + (e : EReal)) = 1 then (e : EReal) else Ideal.div (e * Ideal.log (1 + (e : EReal))) (1 + (e : EReal) - 1))
      = Ideal.log1p (e : EReal) := by
  unfold Ideal.log1p
  have h1 : (1 + (e : EReal)) = ((1 + e : ℝ) : EReal) := by rw [EReal.coe_add]; rfl
  rw [h1]
  have hp : ¬(1 + e ≤ 0) := by linarith
  by_cases h : e = 0
  · subst h; rw [if_pos (by simp), Ideal.log_coe, if_neg hp]; simp
  · have h2 : ¬(((1 + e : ℝ) : EReal) = 1) := by
      rw [show (1 : EReal) = ((1 : ℝ) : EReal) from rfl, EReal.coe_eq_coe_iff]; intro hh; apply h; linarith
    rw [if_neg h2, Ideal.log_coe, if_neg hp, show (1 : EReal) = ((1 : ℝ) : EReal) from rfl, ← EReal.coe_sub,
      show 1 + e - 1 = e by ring, Ideal.div_coe h, ← EReal.coe_mul, ← EReal.coe_mul]
    congr 1; field_simp

/-- The softplus is not negative. -/
theorem sp_nonneg (v : EReal) : 0 ≤ sp v := by
  unfold sp
  obtain ⟨e, he, h⟩ := exp_neg_abs v
  rw [h]
  refine add_nonneg (le_max_right _ _) ?_
  unfold Ideal.log1p
  rw [show (1 + (e : EReal)) = ((1 + e : ℝ) : EReal) by rw [EReal.coe_add]; rfl, Ideal.log_coe, if_neg (by linarith)]
  exact EReal.coe_nonneg.2 (Real.log_nonneg (by linarith))

/-- The logistic function's values are reals that are not negative. -/
theorem sig_real (v : EReal) : ∃ r : ℝ, 0 ≤ r ∧ sig v = (r : EReal) := by
  unfold Ext.sig
  induction v with
  | bot => exact ⟨0, le_refl _, by rw [Ideal.logistic_bot]; rfl⟩
  | top => exact ⟨1, zero_le_one, by rw [Ideal.logistic_top]; rfl⟩
  | coe r =>
    refine ⟨_, ?_, Ideal.logistic_coe r⟩
    positivity

/-- The logarithm of the decay is not positive. -/
theorem log_decay (v : EReal) {s : EReal} (hs : 0 ≤ s) : Ideal.ofBits .f32 0xC1000000#32 * sig v * s ≠ ⊤ := by
  obtain ⟨r, hr, h⟩ := sig_real v
  rw [h, lit_neg_eight, ← EReal.coe_mul]
  have h0 : (-8 * r) ≤ 0 := by linarith
  induction s with
  | bot => simp at hs
  | top =>
    rcases h0.lt_or_eq with h1 | h1
    · rw [EReal.coe_mul_top_of_neg h1]; exact bot_ne_top
    · rw [h1]; simp
  | coe q => rw [← EReal.coe_mul]; exact EReal.coe_ne_top _

/-- One less twice-exponential by the hyperbolic tangent. -/
theorem neg_expm1 {x : EReal} (hx : x ≠ ⊤) :
    Ideal.div (Ideal.ofBits .f32 0xC0000000#32 * Ideal.tanh x) (1 - Ideal.tanh x)
      = -(Ideal.expm1 (Ideal.ofBits .f32 0x40000000#32 * x)) := by
  rw [lit_neg_two, Ext.lit_two]
  unfold Ideal.expm1
  induction x with
  | top => exact absurd rfl hx
  | bot =>
    rw [EReal.coe_mul_bot_of_pos (by norm_num), Ideal.tanh_bot, Ideal.exp_bot,
      show (-1 : EReal) = ((-1 : ℝ) : EReal) from rfl, show (1 : EReal) = ((1 : ℝ) : EReal) from rfl, ← EReal.coe_mul,
      ← EReal.coe_sub, Ideal.div_coe (by norm_num), ← EReal.coe_mul, zero_sub, ← EReal.coe_neg, ← EReal.coe_neg]
    norm_num
  | coe r =>
    rw [← EReal.coe_mul, Ideal.tanh_coe, Ideal.exp_coe, show (1 : EReal) = ((1 : ℝ) : EReal) from rfl, ← EReal.coe_mul,
      ← EReal.coe_sub, ← EReal.coe_sub, ← EReal.coe_neg]
    have h1 := Real.exp_pos r
    have h2 : Real.exp (-r) = (Real.exp r)⁻¹ := Real.exp_neg _
    have h3 : Real.exp (2 * r) = Real.exp r * Real.exp r := by rw [← Real.exp_add]; congr 1; ring
    have ht : 1 - Real.tanh r = 2 / (Real.exp r * Real.exp r + 1) := by
      rw [Real.tanh_eq_sinh_div_cosh, Real.sinh_eq, Real.cosh_eq, h2]
      field_simp; ring
    have ht' : Real.tanh r = 1 - 2 / (Real.exp r * Real.exp r + 1) := by linarith
    have hp : (1 - Real.tanh r) ≠ 0 := by rw [ht]; positivity
    rw [Ideal.div_coe hp, ← EReal.coe_mul]
    congr 1
    rw [ht', h3]; field_simp; ring

/-! ### Chains of affine maps -/

/-- A factor that is a real and not negative. -/
def fac (p : NNReal) : EReal := ((p : ℝ) : EReal)

theorem fac_mul (p q : NNReal) : fac p * fac q = fac (p * q) := by
  unfold fac; rw [NNReal.coe_mul, EReal.coe_mul]

/-- Two affine maps after one another. -/
theorem fac_comp (p q : NNReal) (x d c : EReal) : fac (p * q) * x + (fac p * d + c) = fac p * (fac q * x + d) + c := by
  rw [← fac_mul, ← add_assoc, mul_assoc]
  unfold fac
  rw [Ext.coe_mul_add (NNReal.coe_nonneg p)]

/-- The exponential of what is not the upper infinity is such a factor. -/
theorem exp_fac {x : EReal} (hx : x ≠ ⊤) : ∃ p : NNReal, Ideal.exp x = fac p := by
  induction x with
  | top => exact absurd rfl hx
  | bot => exact ⟨0, by simp [fac]⟩
  | coe r => exact ⟨⟨Real.exp r, (Real.exp_pos r).le⟩, rfl⟩

theorem dec_fac (n : ℕ) (j : Fin 2048) : ∃ p : NNReal, dec z wa ba wr br lam n j = fac p :=
  exp_fac (log_decay _ (sp_nonneg _))

end Cert.AFwdForm
end
-- ==== Proof.AFwdRows.lean ====
/- The forward gated recurrence's kernel: what its loop over eight-row slabs leaves. -/
module

public import proofs.«01_k».proof.Proof.AFwdForm
public import proofs.«01_k».proof.Proof.Gen.AFwdIdeal.Loops
public import Idealize.ShloMosaic.Lib.Pipeline.ValueKit
public import Idealize.ShloMosaic.Lib.VecWindow

@[expose] public section

set_option maxRecDepth 16384

noncomputable section

open Idealize.ShloMosaic Idealize.ShloMosaic.TcCoe Idealize.SL.Sem

namespace Cert.AFwdIdeal.Step

open Cert.AFwdIdeal Cert.AFwdIdeal.Gen
open Cert.AFwdForm (fac fac_mul fac_comp)

/-! ### One slab -/

/-- The recurrence from `h`, the factors and addends by their numbers. -/
def chain (p : ℕ → NNReal) (U : ℕ → EReal) (h : EReal) : ℕ → EReal
  | 0 => h
  | n + 1 => fac (p n) * chain p U h n + U n

theorem sge1 : ∀ k : ℕ, k < 8 → IntOp.cmpi CmpIPredicate.sge (BitVec.ofNat 32 k) 1#32 = if 1 ≤ k then 1#1 else 0#1 := by decide
theorem sge2 : ∀ k : ℕ, k < 8 → IntOp.cmpi CmpIPredicate.sge (BitVec.ofNat 32 k) 2#32 = if 2 ≤ k then 1#1 else 0#1 := by decide
theorem sge4 : ∀ k : ℕ, k < 8 → IntOp.cmpi CmpIPredicate.sge (BitVec.ofNat 32 k) 4#32 = if 4 ≤ k then 1#1 else 0#1 := by decide

/-- The doubling steps over eight rows are the recurrence. -/
theorem slab_row (h : FVec Ideal S1x2048 .f32) (a u : FVec Ideal S8x2048 .f32) (j : Fin 2048) (p : ℕ → NNReal) (U : ℕ → EReal)
    (ha : ∀ k : Fin 8, a (ix2 k j) = fac (p k.val)) (hu : ∀ k : Fin 8, u (ix2 k j) = U k.val) (k : Fin 8) :
    k0_pay59 (F := Ideal) h a u (ix2 k j) = chain p U (h (ix2 0 j)) (k.val + 1) := by
  pointwise [k0_pay59]
  simp only [ha, hu]
  obtain ⟨n, hn⟩ := k
  generalize h (ix2 0 j) = x
  simp only []
  interval_cases n <;> simp only [Nat.reduceAdd, Nat.reduceSub, Nat.reduceMod, Nat.reduceLT, sge1, sge2, sge4, chain] <;>
    simp only [Scalar.select, Nat.reduceLeDiff, if_true, if_false, ite_true, ite_false, reduceIte, BitVec.reduceEq, fac_mul] <;>
    simp only [↓fac_comp]

/-! ### The loop -/

theorem trips_lt (k : Fin k0_t1_loop.trips) : k.val < 18 := Nat.lt_of_lt_of_le k.isLt k0_t1_abs.2.1

/-- The row of the block that a slab's row is. -/
abbrev slabRow (k : Fin k0_t1_loop.trips) (a : Fin 8) : Fin 144 := ⟨8 * k.val + a.val, by have := trips_lt k; omega⟩

/-- A load at a slab's offset reads the slab's rows. -/
theorem load_slab (V : View sig .tc .vmem S144x2048 .f32) (f : V.ty.Contents (Elt Ideal)) (k : Fin k0_t1_loop.trips)
    (inb : ∀ a, (k0_off1 k) a + S8x2048.size a ≤ S144x2048.size a) (a : Fin 8) (j : Fin 2048) :
    V.readAt (Elt Ideal) (Rect.unit (s := S144x2048) (k0_off1 k) S8x2048.size inb).toLoadRect f (ix2 a j)
      = V.read (Elt Ideal) f (ix2 (slabRow k a) j) := by
  rw [V.readAt_unit f inb (k0_off1_eq k) (by rw [← k0_off1_eq k]; exact inb)]
  exact congrArg (V.read (Elt Ideal) f) (funext fun b => by
    match b with
    | 0 => exact Fin.ext (by show 8 * k.val + 1 * a.val = 8 * k.val + a.val; omega)
    | 1 => exact Fin.ext (by show 0 + 1 * j.val = j.val; omega))

/-- The recurrence after more steps. -/
theorem chain_add (p : ℕ → NNReal) (U : ℕ → EReal) (h : EReal) (m : ℕ) : ∀ n,
    chain (fun k => p (m + k)) (fun k => U (m + k)) (chain p U h m) n = chain p U h (m + n)
  | 0 => rfl
  | n + 1 => by
    show _ * chain _ _ _ n + _ = _ * chain p U h (m + n) + _
    rw [chain_add p U h m n]; rfl

/-- The carried row and the states' buffer before trip `n`: the rows before are states, the later ones still inputs. -/
structure Held (arg12 : Memref sig .tc .vmem S144x2048 .f32) (p : Fin 2048 → ℕ → NNReal) (U : Fin 2048 → ℕ → EReal) (h : Fin 2048 → EReal)
    (f12 : BufTy.Contents (Elt Ideal) arg12.view.ty) (n : ℕ)
    (s : Vec Ideal S1x2048 .f32 × List (View.Piece (Elt Ideal) S144x2048 .f32)) : Prop where
  carry : ∀ j, s.1 (ix2 0 j) = chain (p j) (U j) (h j) (8 * n)
  new : ∀ (r : Fin 144) j, r.val < 8 * n → arg12.view.read (Elt Ideal) (arg12.view.writes (Elt Ideal) f12 s.2) (ix2 r j)
    = chain (p j) (U j) (h j) (r.val + 1)
  old : ∀ (r : Fin 144) j, 8 * n ≤ r.val → arg12.view.read (Elt Ideal) (arg12.view.writes (Elt Ideal) f12 s.2) (ix2 r j)
    = arg12.view.read (Elt Ideal) f12 (ix2 r j)

theorem pay60_at (h : FVec Ideal S1x2048 .f32) (a u : FVec Ideal S8x2048 .f32) (j : Fin 2048) :
    k0_pay60 (F := Ideal) h a u (ix2 0 j) = k0_pay59 (F := Ideal) h a u (ix2 7 j) := by
  pointwise [k0_pay60]

variable (𝒱 : Variants) (c : Dev nD) (bd : Option 𝒱.V) (i : grid0.Coords)
  (arg1 : Memref sig .tc .vmem S144x2048 .f32) (harg1 : arg1.IsWhole)
  (arg2 : Memref sig .tc .vmem S16x2048 .f32) (harg2 : arg2.IsWhole)
  (arg3 : Memref sig .tc .vmem S144x2048 .f32) (harg3 : arg3.IsWhole)
  (arg4 : Memref sig .tc .vmem S4x2048 .f32) (harg4 : arg4.IsWhole)
  (arg5 : Memref sig .tc .vmem S1x2048 .f32) (harg5 : arg5.IsWhole)
  (arg6 : Memref sig .tc .vmem S16x128x128 .bf16) (harg6 : arg6.IsWhole)
  (arg7 : Memref sig .tc .vmem S1x2048 .f32) (harg7 : arg7.IsWhole)
  (arg8 : Memref sig .tc .vmem S16x128x128 .bf16) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S144x2048 .bf16) (harg11 : arg11.IsWhole)
  (arg12 : Memref sig .tc .vmem S144x2048 .f32) (harg12 : arg12.IsWhole)
  (arg13 : Memref sig .tc .vmem S160x2048 .f32) (harg13 : arg13.IsWhole)
  (arg14 : Memref sig .tc .vmem S144x2048 .f32) (harg14 : arg14.IsWhole)
  (arg15 : Memref sig .tc .vmem S144x2048 .f32) (harg15 : arg15.IsWhole)
  (arg16 : Memref sig .tc .vmem S144x2048 .f32) (harg16 : arg16.IsWhole)
  (arg17 : Memref sig .tc .vmem S1x2048 .f32) (harg17 : arg17.IsWhole)
  (X16 : BufTy.Contents (Elt Ideal) arg16.view.ty) (f12 : BufTy.Contents (Elt Ideal) arg12.view.ty)
  (init : Vec Ideal S1x2048 .f32)

/-- The loop's state before each trip. -/
theorem loop (p : Fin 2048 → ℕ → NNReal) (U : Fin 2048 → ℕ → EReal)
    (ha : ∀ (r : Fin 144) j, arg16.view.read (Elt Ideal) X16 (ix2 r j) = fac (p j r.val))
    (hu : ∀ (r : Fin 144) j, arg12.view.read (Elt Ideal) f12 (ix2 r j) = U j r.val) :
    ∀ n, n ≤ k0_t1_loop.trips → Held arg12 p U (fun j => init (ix2 0 j)) f12 n
      (st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X16 f12 init n)
  | 0, _ => ⟨fun j => rfl, fun r j hr => absurd hr (by omega), fun r j _ => rfl⟩
  | n + 1, hn => by
    have ih := loop p U ha hu n (by omega)
    rw [st_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X16 f12 init ⟨n, hn⟩]
    generalize st_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X16 f12 init n = s at ih
    have h18 := trips_lt ⟨n, hn⟩
    have row : ∀ inb inb' (a : Fin 8) (j : Fin 2048), k0_pay59 (F := Ideal) s.1
        (arg16.view.readAt (Elt Ideal) (Rect.unit (s := S144x2048) (k0_off1 ⟨n, hn⟩) S8x2048.size inb).toLoadRect X16)
        (arg12.view.readAt (Elt Ideal) (Rect.unit (s := S144x2048) (k0_off1 ⟨n, hn⟩) S8x2048.size inb').toLoadRect
          (arg12.view.writes (Elt Ideal) f12 s.2)) (ix2 a j)
        = chain (p j) (U j) (init (ix2 0 j)) (8 * n + (a.val + 1)) := fun inb inb' a j => by
      rw [slab_row _ _ _ j (fun k => p j (8 * n + k)) (fun k => U j (8 * n + k))
        (fun k => (load_slab _ _ ⟨n, hn⟩ _ k j).trans (ha _ j))
        (fun k => (load_slab _ _ ⟨n, hn⟩ _ k j).trans ((ih.old _ j (by show 8 * n ≤ 8 * n + k.val; omega)).trans (hu _ j))) a,
        ih.carry j, chain_add]
    refine ⟨fun j => ?_, fun r j hr => ?_, fun r j hr => ?_⟩
    · dsimp only [tripR_k0_t1]; unfold trip_k0_t1; dsimp only
      exact (pay60_at _ _ _ j).trans (row _ _ 7 j)
    · dsimp only [tripL_k0_t1]; unfold trip_k0_t1; dsimp only
      rw [View.writes_append]
      by_cases hlt : r.val < 8 * n
      · rw [View.read_writes_cons_unit_of_not_mem _ _ _ _ _ _ (k0_off1_eq ⟨n, hn⟩) 0 (.inl (by show r.val < 8 * n; omega))]
        exact ih.new r j hlt
      · obtain ⟨a, rfl⟩ : ∃ a, r = slabRow ⟨n, hn⟩ a := ⟨⟨r.val - 8 * n, by omega⟩, Fin.ext (by show r.val = 8 * n + (r.val - 8 * n); omega)⟩
        rw [View.read_writes_cons_unit_of_mem _ _ _ _ _ _ (ix2 a j) (k0_off1_eq ⟨n, hn⟩) (fun x => by match x with | 0 => rfl | 1 => exact (Nat.zero_add _).symm)]
        exact row _ _ a j
    · dsimp only [tripL_k0_t1]; unfold trip_k0_t1; dsimp only
      rw [View.writes_append, View.read_writes_cons_unit_of_not_mem _ _ _ _ _ _ (k0_off1_eq ⟨n, hn⟩) 0 (.inr (by show 8 * n + 8 ≤ r.val; omega))]
      exact ih.old r j (by omega)

end Cert.AFwdIdeal.Step
end
-- ==== Proof.AFwdTile.lean ====
/- A tile of the forward recurrence: from the blocks handed to it, the convolution, the gates, the decays, the inputs and
the sixteen heads' products, and after its loop the states. -/
module

public import proofs.«01_k».proof.Proof.AFwdForm
public import proofs.«01_k».proof.Proof.AFwdRows
public import proofs.«01_k».proof.Proof.AFwdRun
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.ShloMosaic.Tactic Idealize.SL.Sem

namespace Cert.AFwdIdeal.Step

open Cert.AFwdIdeal Cert.AFwdIdeal.Gen
open Cert.AFwdForm

/-! ### The payloads -/

theorem cast_row (x : Vec Ideal S144x2048 .f32) (a : Fin 144) (j : Fin 2048) : k0_pay4 (F := Ideal) x (ix2 a j) = x (ix2 a j) := by
  pointwise [k0_pay4]

theorem conv_row (b w0 w1 w2 w3 : Vec Ideal S1x2048 .f32) (v0 v1 v2 v3 : Vec Ideal S144x2048 .f32) (a : Fin 144) (j : Fin 2048) :
    k0_pay7 (F := Ideal) (k0_pay5 b w0 v0 w1 v1) v2 (k0_pay6 w2) w3 v3 (ix2 a j)
      = b (ix2 0 j) + w0 (ix2 0 j) * v0 (ix2 a j) + w1 (ix2 0 j) * v1 (ix2 a j) + w2 (ix2 0 j) * v2 (ix2 a j)
        + w3 (ix2 0 j) * v3 (ix2 a j) := by
  pointwise [k0_pay5, k0_pay6, k0_pay7]

/-- A head's product: the head's columns of the convolution with its matrix. -/
def headProd (o : ℕ) (h : S144x2048.Slices ![0, o] S144x128) (cb : FVec Ideal S144x2048 .bf16) (w : Vec Ideal S1x128x128 .bf16) : FVec Ideal S144x128 .f32 :=
  shapeCast S144x128 (matmul dot_S144x128_S128x128_S144x128_1_0_0_1_n_n none (extractStridedSlice S144x128 ![0, o] cb h)
    (shapeCast S128x128 w shapeCasts_S1x128x128_S128x128 : FVec Ideal S128x128 .bf16) (constant S144x128 .f32 0x00000000#32)) shapeCasts_S144x128_S144x128

theorem headProd_at (o : ℕ) (h : S144x2048.Slices ![0, o] S144x128) (ho : o + 128 ≤ 2048) (cb : FVec Ideal S144x2048 .bf16) (w : Vec Ideal S1x128x128 .bf16) (a : Fin 144) (q : Fin 128) :
    headProd o h cb w (ix2 a q) = ∑ l : Fin 128, cb (ix2 a ⟨o + l.val, by omega⟩) * w (ix3 0 l q) := by
  pointwise [headProd]

theorem log_row (b lm : Vec Ideal S1x2048 .f32) (g : Vec Ideal S144x2048 .f32) (a : Fin 144) (j : Fin 2048) :
    k0_pay52 (F := Ideal) (k0_pay50 (k0_pay8 b) g) lm (ix2 a j)
      = Ideal.ofBits .f32 0xC1000000#32 * Ext.sig (g (ix2 a j) + b (ix2 0 j)) * sp (-(lm (ix2 0 j))) := by
  pointwise [k0_pay52, k0_pay50, k0_pay8]
  rw [Ext.sig_tanh, zero_sub]
  refine congrArg₂ (fun x y : EReal => x * y) rfl ?_
  show max _ _ + (if 1 + Ideal.exp (0 - max _ (-_)) = 1 then Ideal.exp (0 - max _ (-_)) else
    Ideal.div (Ideal.exp (0 - max _ (-_)) * Ideal.log (1 + Ideal.exp (0 - max _ (-_)))) (1 + Ideal.exp (0 - max _ (-_)) - 1)) = _
  rw [zero_sub]
  obtain ⟨e, he, h⟩ := exp_neg_abs (-(lm (ix2 0 j)))
  rw [sp, h]
  exact congrArg₂ (fun x y : EReal => x + y) rfl (log1p_quot he)

theorem gate_row (b : Vec Ideal S1x2048 .f32) (g : Vec Ideal S144x2048 .f32) (a : Fin 144) (j : Fin 2048) :
    k0_pay51 (F := Ideal) (k0_pay9 b) g (ix2 a j) = Ext.sig (g (ix2 a j) + b (ix2 0 j)) := by
  pointwise [k0_pay51, k0_pay9]
  exact Ext.sig_tanh _

theorem input_row (r : FVec Ideal S144x2048 .f32) (lm : Vec Ideal S1x2048 .f32) (ca ig : FVec Ideal S144x2048 .f32) (a : Fin 144) (j : Fin 2048) (x : EReal)
    (hx : k0_pay52 (F := Ideal) r lm (ix2 a j) = x) (ht : x ≠ ⊤) :
    k0_pay58 (F := Ideal) ca ig (k0_pay55 r lm) (k0_pay56 r lm) (ix2 a j)
      = Ideal.sqrt (max (-(Ideal.expm1 (Ideal.ofBits .f32 0x40000000#32 * x))) 0) * (ig (ix2 a j) * ca (ix2 a j)) := by
  pointwise [k0_pay58, k0_pay55, k0_pay56, k0_pay54]
  rw [hx, neg_expm1 ht]

theorem decay_row (r : FVec Ideal S144x2048 .f32) (lm : Vec Ideal S1x2048 .f32) (a : Fin 144) (j : Fin 2048) (x : EReal)
    (hx : k0_pay52 (F := Ideal) r lm (ix2 a j) = x) : k0_pay57 (F := Ideal) (k0_pay53 r lm) (ix2 a j) = Ideal.exp x := by
  pointwise [k0_pay57, k0_pay53]
  rw [hx]

theorem gated_row (h s : Vec Ideal S144x2048 .f32) (a : Fin 144) (j : Fin 2048) :
    (show EReal from k0_pay1 (F := Ideal) (k0_pay62 h) (k0_pay63 s) (ix2 a j)) = s (ix2 a j) * Ext.sig (s (ix2 a j)) * h (ix2 a j) := by
  pointwise [k0_pay1, k0_pay62, k0_pay63]
  rw [Ext.sig_tanh]
  exact mul_comm _ _

/-! ### Loads -/

theorem load_row (arg : Memref Cert.AFwdIdeal.sig .tc .vmem S4x2048 .f32) (h : arg.IsWhole) (x : Vec Ideal S4x2048 .f32) (k : Fin 4)
    (inb : ∀ a, (![k.val, 0] : Fin 2 → ℕ) a + S1x2048.size a ≤ S4x2048.size a) (j : Fin 2048) :
    arg.view.readAt (Elt Ideal) (Rect.unit (s := S4x2048) ![k.val, 0] S1x2048.size inb).toLoadRect (h.unread x) (ix2 0 j) = x (ix2 k j) := by
  rw [View.readAt_apply, h.read_unread]
  exact congrArg x (funext fun b => by
    match b with
    | 0 => exact Fin.ext (by show k.val + 1 * 0 = k.val; omega)
    | 1 => exact Fin.ext (by show 0 + 1 * j.val = j.val; omega))

theorem load_head (arg : Memref Cert.AFwdIdeal.sig .tc .vmem S16x128x128 .bf16) (h : arg.IsWhole) (x : Vec Ideal S16x128x128 .bf16) (k : Fin 16)
    (inb : ∀ a, (![k.val, 0, 0] : Fin 3 → ℕ) a + S1x128x128.size a ≤ S16x128x128.size a) (l q : Fin 128) :
    arg.view.readAt (Elt Ideal) (Rect.unit (s := S16x128x128) ![k.val, 0, 0] S1x128x128.size inb).toLoadRect (h.unread x) (ix3 0 l q) = x (ix3 k l q) := by
  rw [View.readAt_apply, h.read_unread]
  exact congrArg x (funext fun b => by
    match b with
    | 0 => exact Fin.ext (by show k.val + 1 * 0 = k.val; omega)
    | 1 => exact Fin.ext (by show 0 + 1 * l.val = l.val; omega)
    | 2 => exact Fin.ext (by show 0 + 1 * q.val = q.val; omega))

/-! ### The blocks of a tile -/

variable (c : Dev nD) (i : grid0.Coords)
  (arg1 : Memref sig .tc .vmem S144x2048 .f32) (harg1 : arg1.IsWhole)
  (arg2 : Memref sig .tc .vmem S16x2048 .f32) (harg2 : arg2.IsWhole)
  (arg3 : Memref sig .tc .vmem S144x2048 .f32) (harg3 : arg3.IsWhole)
  (arg4 : Memref sig .tc .vmem S4x2048 .f32) (harg4 : arg4.IsWhole)
  (arg5 : Memref sig .tc .vmem S1x2048 .f32) (harg5 : arg5.IsWhole)
  (arg6 : Memref sig .tc .vmem S16x128x128 .bf16) (harg6 : arg6.IsWhole)
  (arg7 : Memref sig .tc .vmem S1x2048 .f32) (harg7 : arg7.IsWhole)
  (arg8 : Memref sig .tc .vmem S16x128x128 .bf16) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S144x2048 .bf16) (harg11 : arg11.IsWhole)
  (arg12 : Memref sig .tc .vmem S144x2048 .f32) (harg12 : arg12.IsWhole)
  (arg13 : Memref sig .tc .vmem S160x2048 .f32) (harg13 : arg13.IsWhole)
  (arg14 : Memref sig .tc .vmem S144x2048 .f32) (harg14 : arg14.IsWhole)
  (arg15 : Memref sig .tc .vmem S144x2048 .f32) (harg15 : arg15.IsWhole)
  (arg16 : Memref sig .tc .vmem S144x2048 .f32) (harg16 : arg16.IsWhole)
  (arg17 : Memref sig .tc .vmem S1x2048 .f32) (harg17 : arg17.IsWhole)
  (x1 : Vec Ideal S144x2048 .f32) (x2 : Vec Ideal S16x2048 .f32) (x3 : Vec Ideal S144x2048 .f32) (x4 : Vec Ideal S4x2048 .f32) (x5 : Vec Ideal S1x2048 .f32)
  (x6 : Vec Ideal S16x128x128 .bf16) (x7 : Vec Ideal S1x2048 .f32) (x8 : Vec Ideal S16x128x128 .bf16) (x9 : Vec Ideal S1x2048 .f32) (x10 : Vec Ideal S1x2048 .f32)
  (x17 : Vec Ideal S1x2048 .f32)
  (z : FVec Ideal ⟨2, ![8208, 14336]⟩ .f32) (wa : FVec Ideal ⟨2, ![4, 2048]⟩ .f32) (ba : FVec Ideal ⟨1, ![2048]⟩ .f32)
  (wr : FVec Ideal ⟨3, ![16, 128, 128]⟩ .f32) (br : FVec Ideal ⟨1, ![2048]⟩ .f32)
  (wi : FVec Ideal ⟨3, ![16, 128, 128]⟩ .f32) (bi : FVec Ideal ⟨1, ![2048]⟩ .f32) (lam : FVec Ideal ⟨1, ![2048]⟩ .f32) (N : ℕ)

/-- The blocks hold the arrays' parts for the tile that begins at row `N`. -/
structure Blocks : Prop where
  rows : ∀ (a : Fin 144) j, x1 (ix2 a j) = xs z (N + 3 + a.val) j
  halo : ∀ (a : Fin 16) j, 13 ≤ a.val → k0_pay3 (F := Ideal) i x2 (ix2 a j) = xs z (N + a.val - 13) j
  taps : ∀ k j, x4 (ix2 k j) = wa (ix2 k j)
  bias : ∀ j, x5 (ix2 0 j) = ba (ix1 j)
  matR : ∀ k l q, (show EReal from x6 (ix3 k l q)) = wr (ix3 k l q)
  biasR : ∀ j, x7 (ix2 0 j) = br (ix1 j)
  matI : ∀ k l q, (show EReal from x8 (ix3 k l q)) = wi (ix3 k l q)
  biasI : ∀ j, x9 (ix2 0 j) = bi (ix1 j)
  lamb : ∀ j, x10 (ix2 0 j) = lam (ix1 j)

variable (hb : Blocks i x1 x2 x4 x5 x6 x7 x8 x9 x10 z wa ba wr br wi bi lam N)
include hb

/-! ### The convolution -/

/-- The extended tile: the halo's rows, then the tile's. -/
theorem ext_at (b : Fin 160) (h : 13 ≤ b.val) (j : Fin 2048) :
    View.canon (run_next.sl.H13_2 (F := Ideal) c i arg1 harg1 arg2 harg2 x1 x2) (ix2 b j) = xs z (N + b.val - 13) j := by
  rw [← View.read_writes_junk_eq_canon (Memref.whole cc0_scratch0 : Memref Cert.AFwdIdeal.sig .tc .vmem S160x2048 .f32).view]
  unfold run_next.sl.H13_2
  rw [View.readAt_full, View.readAt_full, harg1.read_unread, harg2.read_unread]
  by_cases h16 : 16 ≤ b.val
  · rw [View.read_writes_cons_unit_of_mem _ _ _ _ _ _ (ix2 (⟨b.val - 16, by omega⟩ : Fin 144) j) rfl (fun x => by
      match x with
      | 0 => show b.val = 16 + (b.val - 16); omega
      | 1 => exact (Nat.zero_add _).symm)]
    rw [cast_row, hb.rows, show N + 3 + (b.val - 16) = N + b.val - 13 by omega]
  · rw [View.read_writes_cons_unit_of_not_mem _ _ _ _ _ _ rfl 0 (.inl (by show b.val < 16; omega)),
      View.read_writes_cons_unit_of_mem _ _ _ _ _ _ (ix2 (⟨b.val, by omega⟩ : Fin 16) j) rfl (fun x => by
        match x with
        | 0 => exact (Nat.zero_add _).symm
        | 1 => exact (Nat.zero_add _).symm)]
    exact hb.halo _ j h

theorem tap (k : ℕ) (hk : 13 ≤ k ∧ k ≤ 16) (inb : ∀ a, (![k, 0] : Fin 2 → ℕ) a + S144x2048.size a ≤ S160x2048.size a) (a : Fin 144) (j : Fin 2048) :
    arg13.view.readCov (run_next.sl.H13_2 (F := Ideal) c i arg1 harg1 arg2 harg2 x1 x2) (Rect.unit (s := S160x2048) ![k, 0] S144x2048.size inb).toLoadRect (ix2 a j)
      = xs z (N + a.val + (k - 13)) j := by
  rw [View.readCov_eq_canon']
  refine Eq.trans (congrArg (View.canon _) (?_ : _ = ix2 (⟨k + a.val, by omega⟩ : Fin 160) j)) ((ext_at c i arg1 harg1 arg2 harg2 x1 x2 x4 x5 x6 x7 x8 x9 x10 z wa ba wr br wi bi lam N hb _ (by show 13 ≤ k + a.val; omega) j).trans ?_)
  · funext b
    match b with
    | 0 => exact Fin.ext (by show k + 1 * a.val = k + a.val; omega)
    | 1 => exact Fin.ext (by show 0 + 1 * j.val = j.val; omega)
  · show xs z (N + (k + a.val) - 13) j = _
    rw [show N + (k + a.val) - 13 = N + a.val + (k - 13) by omega]

theorem conv_at (a : Fin 144) (j : Fin 2048) :
    run_next.sl.r_2 (F := Ideal) c i arg1 harg1 arg2 harg2 arg4 harg4 arg5 harg5 arg13 x1 x2 x4 x5 (ix2 a j) = cv z wa ba (N + a.val) j := by
  unfold run_next.sl.r_2 run_next.sl.r run_next.sl.r_1
  refine (conv_row _ _ _ _ _ _ _ _ _ a j).trans ?_
  unfold run_next.sl.v17 run_next.sl.v23 run_next.sl.v28 run_next.sl.v33 cv
  refine congrArg₂ (· + ·) (congrArg₂ (· + ·) (congrArg₂ (· + ·) (congrArg₂ (· + ·) ?_ ?_) ?_) ?_) ?_
  · rw [View.readAt_full, harg5.read_unread]; exact hb.bias j
  · exact congrArg₂ (· * ·) ((load_row arg4 harg4 x4 0 _ j).trans (hb.taps 0 j)) (tap c i arg1 harg1 arg2 harg2 arg13 x1 x2 x4 x5 x6 x7 x8 x9 x10 z wa ba wr br wi bi lam N hb 13 (by omega) _ a j)
  · exact congrArg₂ (· * ·) ((load_row arg4 harg4 x4 1 _ j).trans (hb.taps 1 j)) (tap c i arg1 harg1 arg2 harg2 arg13 x1 x2 x4 x5 x6 x7 x8 x9 x10 z wa ba wr br wi bi lam N hb 14 (by omega) _ a j)
  · exact congrArg₂ (· * ·) ((load_row arg4 harg4 x4 2 _ j).trans (hb.taps 2 j)) (tap c i arg1 harg1 arg2 harg2 arg13 x1 x2 x4 x5 x6 x7 x8 x9 x10 z wa ba wr br wi bi lam N hb 15 (by omega) _ a j)
  · exact congrArg₂ (· * ·) ((load_row arg4 harg4 x4 3 _ j).trans (hb.taps 3 j)) (tap c i arg1 harg1 arg2 harg2 arg13 x1 x2 x4 x5 x6 x7 x8 x9 x10 z wa ba wr br wi bi lam N hb 16 (by omega) _ a j)

/-! ### The heads -/

omit hb in
theorem whole_idx (inb : ∀ a, (![0, 0] : Fin 2 → ℕ) a + S144x2048.size a ≤ S144x2048.size a) (a : Fin 144) (j : Fin 2048) :
    (Rect.unit (s := S144x2048) ![0, 0] S144x2048.size inb).toLoadRect.idx (ix2 a j) = ix2 a j := by
  funext b
  match b with
  | 0 => exact Fin.ext (by show 0 + 1 * a.val = a.val; omega)
  | 1 => exact Fin.ext (by show 0 + 1 * j.val = j.val; omega)

omit hb in
theorem zero_off : (![0, 0] : Fin 2 → ℕ) = fun _ => 0 := by
  funext b
  match b with
  | 0 => rfl
  | 1 => rfl

/-- A gate's sum: a head's columns of the convolution with the head's matrix. -/
def headSum (w : FVec Ideal ⟨3, ![16, 128, 128]⟩ .f32) (n : ℕ) (j : Fin 2048) : EReal :=
  ∑ l : Fin 128, cv z wa ba n (mate j l) * w (ix3 (hd j) l (sub j))

/-- A gate's sums over a tile. -/
def sums (w : FVec Ideal ⟨3, ![16, 128, 128]⟩ .f32) : S144x2048.Idx → EReal := fun y => headSum z wa ba w (N + (y 0).val) (y 1)

omit hb in
theorem headSum_at (w : FVec Ideal ⟨3, ![16, 128, 128]⟩ .f32) (n o : ℕ) (ho : o + 128 ≤ 2048) (k : Fin 16) (hk : o = 128 * k.val) (q : Fin 128) :
    ∑ l : Fin 128, cv z wa ba n ⟨o + l.val, by omega⟩ * w (ix3 k l q) = headSum z wa ba w n ⟨o + q.val, by omega⟩ := by
  subst hk
  unfold headSum
  refine Finset.sum_congr rfl fun l _ => congrArg₂ (· * ·) (congrArg (cv z wa ba n) (Fin.ext ?_)) (congrArg w ?_)
  · show 128 * k.val + l.val = (128 * k.val + q.val) / 128 * 128 + l.val; omega
  · rw [show hd ⟨128 * k.val + q.val, by omega⟩ = k from Fin.ext (by show (128 * k.val + q.val) / 128 = k.val; omega),
      show sub ⟨128 * k.val + q.val, by omega⟩ = q from Fin.ext (by show (128 * k.val + q.val) % 128 = q.val; omega)]

omit hb in
/-- A head's piece is a block of the gate's sums. -/
theorem piece (w : FVec Ideal ⟨3, ![16, 128, 128]⟩ .f32) (cb : FVec Ideal S144x2048 .bf16) (hc : ∀ (a : Fin 144) j, (show EReal from cb (ix2 a j)) = cv z wa ba (N + a.val) j)
    (arg : Memref Cert.AFwdIdeal.sig .tc .vmem S16x128x128 .bf16) (h : arg.IsWhole) (x : Vec Ideal S16x128x128 .bf16)
    (hw : ∀ k l q, (show EReal from x (ix3 k l q)) = w (ix3 k l q))
    (k : Fin 16) (o : ℕ) (hk : o = 128 * k.val) (hs : S144x2048.Slices ![0, o] S144x128)
    (inb : ∀ a, (![k.val, 0, 0] : Fin 3 → ℕ) a + S1x128x128.size a ≤ S16x128x128.size a)
    (inb' : ∀ a, (![0, o] : Fin 2 → ℕ) a + S144x128.size a ≤ S144x2048.size a) (y : S144x128.Idx) :
    headProd o hs cb (arg.view.readAt (Elt Ideal) (Rect.unit (s := S16x128x128) ![k.val, 0, 0] S1x128x128.size inb).toLoadRect (h.unread x)) y
      = sums z wa ba N w ((Rect.unit (s := S144x2048) ![0, o] S144x128.size inb').emb y) := by
  idx_vars y
  rw [headProd_at o hs (by omega)]
  refine (Finset.sum_congr rfl fun l _ => congrArg₂ (· * ·) (hc y0 _) ((load_head arg h x k inb l y1).trans (hw k l y1))).trans ?_
  refine (headSum_at z wa ba w (N + y0.val) o (by omega) k hk y1).trans ?_
  unfold sums
  refine congrArg₂ (headSum z wa ba w) ?_ (Fin.ext ?_)
  · show N + y0.val = N + (0 + 1 * y0.val); omega
  · show o + y1.val = o + 1 * y1.val; omega

theorem sumsR_at (a : Fin 144) (j : Fin 2048) :
    run_next.sl.v266 (F := Ideal) c i arg1 harg1 arg2 harg2 arg4 harg4 arg5 harg5 arg6 harg6 arg13 arg14 x1 x2 x4 x5 x6 (ix2 a j) = headSum z wa ba wr (N + a.val) j := by
  have hc := conv_at c i arg1 harg1 arg2 harg2 arg4 harg4 arg5 harg5 arg13 x1 x2 x4 x5 x6 x7 x8 x9 x10 z wa ba wr br wi bi lam N hb
  have p := fun k o hk hs inb inb' y => piece z wa ba N wr (run_next.sl.r_5 (F := Ideal) c i arg1 harg1 arg2 harg2 arg4 harg4 arg5 harg5 arg13 x1 x2 x4 x5) hc arg6 harg6 x6 hb.matR k o hk hs inb inb' y
  have hp : View.PiecesOf (sums z wa ba N wr) (run_next.sl.H14_16 (F := Ideal) c i arg1 harg1 arg2 harg2 arg4 harg4 arg5 harg5 arg6 harg6 arg13 x1 x2 x4 x5 x6) := by
    unfold run_next.sl.H14_16
    exact ⟨p 15 1920 rfl slices_S144x2048_o0_1920_S144x128 inb_S16x128x128_S1x128x128_15_0_0 inb_S144x2048_S144x128_0_1920, p 14 1792 rfl slices_S144x2048_o0_1792_S144x128 inb_S16x128x128_S1x128x128_14_0_0 inb_S144x2048_S144x128_0_1792, p 13 1664 rfl slices_S144x2048_o0_1664_S144x128 inb_S16x128x128_S1x128x128_13_0_0 inb_S144x2048_S144x128_0_1664, p 12 1536 rfl slices_S144x2048_o0_1536_S144x128 inb_S16x128x128_S1x128x128_12_0_0 inb_S144x2048_S144x128_0_1536, p 11 1408 rfl slices_S144x2048_o0_1408_S144x128 inb_S16x128x128_S1x128x128_11_0_0 inb_S144x2048_S144x128_0_1408, p 10 1280 rfl slices_S144x2048_o0_1280_S144x128 inb_S16x128x128_S1x128x128_10_0_0 inb_S144x2048_S144x128_0_1280,
      p 9 1152 rfl slices_S144x2048_o0_1152_S144x128 inb_S16x128x128_S1x128x128_9_0_0 inb_S144x2048_S144x128_0_1152, p 8 1024 rfl slices_S144x2048_o0_1024_S144x128 inb_S16x128x128_S1x128x128_8_0_0 inb_S144x2048_S144x128_0_1024, p 7 896 rfl slices_S144x2048_o0_896_S144x128 inb_S16x128x128_S1x128x128_7_0_0 inb_S144x2048_S144x128_0_896, p 6 768 rfl slices_S144x2048_o0_768_S144x128 inb_S16x128x128_S1x128x128_6_0_0 inb_S144x2048_S144x128_0_768, p 5 640 rfl slices_S144x2048_o0_640_S144x128 inb_S16x128x128_S1x128x128_5_0_0 inb_S144x2048_S144x128_0_640, p 4 512 rfl slices_S144x2048_o0_512_S144x128 inb_S16x128x128_S1x128x128_4_0_0 inb_S144x2048_S144x128_0_512,
      p 3 384 rfl slices_S144x2048_o0_384_S144x128 inb_S16x128x128_S1x128x128_3_0_0 inb_S144x2048_S144x128_0_384, p 2 256 rfl slices_S144x2048_o0_256_S144x128 inb_S16x128x128_S1x128x128_2_0_0 inb_S144x2048_S144x128_0_256, p 1 128 rfl slices_S144x2048_o0_128_S144x128 inb_S16x128x128_S1x128x128_1_0_0 inb_S144x2048_S144x128_0_128, p 0 0 rfl slices_S144x2048_o0_0_S144x128 inb_S16x128x128_S1x128x128_0_0_0 inb_S144x2048_S144x128_0_0, trivial⟩
  unfold run_next.sl.v266
  rw [View.readCov_eq_canon']
  refine (congrArg (View.canon _) (whole_idx _ a j)).trans ((View.canon_apply_of_pieces (sums z wa ba N wr) _ hp.mem (ix2 a j)
    (View.cover_of_tiledL (run_next.sl.H14_16 (F := Ideal) c i arg1 harg1 arg2 harg2 arg4 harg4 arg5 harg5 arg6 harg6 arg13 x1 x2 x4 x5 x6) S144x128.size (by sl_kernel_rfl) _)).trans ?_)
  rfl

theorem sumsI_at (a : Fin 144) (j : Fin 2048) :
    run_next.sl.v276 (F := Ideal) c i arg1 harg1 arg2 harg2 arg4 harg4 arg5 harg5 arg8 harg8 arg13 arg15 x1 x2 x4 x5 x8 (ix2 a j) = headSum z wa ba wi (N + a.val) j := by
  have hc := conv_at c i arg1 harg1 arg2 harg2 arg4 harg4 arg5 harg5 arg13 x1 x2 x4 x5 x6 x7 x8 x9 x10 z wa ba wr br wi bi lam N hb
  have p := fun k o hk hs inb inb' y => piece z wa ba N wi (run_next.sl.r_5 (F := Ideal) c i arg1 harg1 arg2 harg2 arg4 harg4 arg5 harg5 arg13 x1 x2 x4 x5) hc arg8 harg8 x8 hb.matI k o hk hs inb inb' y
  have hp : View.PiecesOf (sums z wa ba N wi) (run_next.sl.H15_16 (F := Ideal) c i arg1 harg1 arg2 harg2 arg4 harg4 arg5 harg5 arg8 harg8 arg13 x1 x2 x4 x5 x8) := by
    unfold run_next.sl.H15_16
    exact ⟨p 15 1920 rfl slices_S144x2048_o0_1920_S144x128 inb_S16x128x128_S1x128x128_15_0_0 inb_S144x2048_S144x128_0_1920, p 14 1792 rfl slices_S144x2048_o0_1792_S144x128 inb_S16x128x128_S1x128x128_14_0_0 inb_S144x2048_S144x128_0_1792, p 13 1664 rfl slices_S144x2048_o0_1664_S144x128 inb_S16x128x128_S1x128x128_13_0_0 inb_S144x2048_S144x128_0_1664, p 12 1536 rfl slices_S144x2048_o0_1536_S144x128 inb_S16x128x128_S1x128x128_12_0_0 inb_S144x2048_S144x128_0_1536, p 11 1408 rfl slices_S144x2048_o0_1408_S144x128 inb_S16x128x128_S1x128x128_11_0_0 inb_S144x2048_S144x128_0_1408, p 10 1280 rfl slices_S144x2048_o0_1280_S144x128 inb_S16x128x128_S1x128x128_10_0_0 inb_S144x2048_S144x128_0_1280,
      p 9 1152 rfl slices_S144x2048_o0_1152_S144x128 inb_S16x128x128_S1x128x128_9_0_0 inb_S144x2048_S144x128_0_1152, p 8 1024 rfl slices_S144x2048_o0_1024_S144x128 inb_S16x128x128_S1x128x128_8_0_0 inb_S144x2048_S144x128_0_1024, p 7 896 rfl slices_S144x2048_o0_896_S144x128 inb_S16x128x128_S1x128x128_7_0_0 inb_S144x2048_S144x128_0_896, p 6 768 rfl slices_S144x2048_o0_768_S144x128 inb_S16x128x128_S1x128x128_6_0_0 inb_S144x2048_S144x128_0_768, p 5 640 rfl slices_S144x2048_o0_640_S144x128 inb_S16x128x128_S1x128x128_5_0_0 inb_S144x2048_S144x128_0_640, p 4 512 rfl slices_S144x2048_o0_512_S144x128 inb_S16x128x128_S1x128x128_4_0_0 inb_S144x2048_S144x128_0_512,
      p 3 384 rfl slices_S144x2048_o0_384_S144x128 inb_S16x128x128_S1x128x128_3_0_0 inb_S144x2048_S144x128_0_384, p 2 256 rfl slices_S144x2048_o0_256_S144x128 inb_S16x128x128_S1x128x128_2_0_0 inb_S144x2048_S144x128_0_256, p 1 128 rfl slices_S144x2048_o0_128_S144x128 inb_S16x128x128_S1x128x128_1_0_0 inb_S144x2048_S144x128_0_128, p 0 0 rfl slices_S144x2048_o0_0_S144x128 inb_S16x128x128_S1x128x128_0_0_0 inb_S144x2048_S144x128_0_0, trivial⟩
  unfold run_next.sl.v276
  rw [View.readCov_eq_canon']
  refine (congrArg (View.canon _) (whole_idx _ a j)).trans ((View.canon_apply_of_pieces (sums z wa ba N wi) _ hp.mem (ix2 a j)
    (View.cover_of_tiledL (run_next.sl.H15_16 (F := Ideal) c i arg1 harg1 arg2 harg2 arg4 harg4 arg5 harg5 arg8 harg8 arg13 x1 x2 x4 x5 x8) S144x128.size (by sl_kernel_rfl) _)).trans ?_)
  rfl

/-! ### Gates, decays, inputs -/

theorem lg_at (a : Fin 144) (j : Fin 2048) :
    k0_pay52 (F := Ideal) (run_next.sl.r_13 (F := Ideal) c i arg1 harg1 arg2 harg2 arg4 harg4 arg5 harg5 arg6 harg6 arg7 harg7 arg13 arg14 x1 x2 x4 x5 x6 x7)
      (arg10.view.readAt (Elt Ideal) (Rect.unit (s := S1x2048) ![0, 0] S1x2048.size inb_S1x2048_S1x2048_0_0).toLoadRect (harg10.unread x10)) (ix2 a j)
      = lg z wa ba wr br lam (N + a.val) j := by
  unfold run_next.sl.r_13 run_next.sl.r_3
  refine (log_row _ _ _ a j).trans ?_
  rw [View.readAt_full, View.readAt_full, harg10.read_unread, harg7.read_unread, hb.biasR, hb.lamb, sumsR_at c i arg1 harg1 arg2 harg2 arg4 harg4 arg5 harg5 arg6 harg6 arg13 arg14 x1 x2 x4 x5 x6 x7 x8 x9 x10 z wa ba wr br wi bi lam N hb]
  rfl

theorem input_at (a : Fin 144) (j : Fin 2048) :
    View.canon (run_next.sl.H12_1 (F := Ideal) c i arg1 harg1 arg2 harg2 arg4 harg4 arg5 harg5 arg6 harg6 arg7 harg7 arg8 harg8 arg9 harg9 arg10 harg10 arg13 arg14 arg15 x1 x2 x4 x5 x6 x7 x8 x9 x10) (ix2 a j) = inp z wa ba wr br wi bi lam (N + a.val) j := by
  unfold run_next.sl.H12_1
  rw [View.canon_unit_zero zero_off]
  unfold run_next.sl.r_16 run_next.sl.r_17
  refine (input_row _ _ _ _ a j _ (lg_at c i arg1 harg1 arg2 harg2 arg4 harg4 arg5 harg5 arg6 harg6 arg7 harg7 arg10 harg10 arg13 arg14 x1 x2 x4 x5 x6 x7 x8 x9 x10 z wa ba wr br wi bi lam N hb a j) (log_decay _ (sp_nonneg _))).trans ?_
  refine congrArg₂ (fun x y => Ideal.sqrt _ * (x * y)) ?_ (conv_at c i arg1 harg1 arg2 harg2 arg4 harg4 arg5 harg5 arg13 x1 x2 x4 x5 x6 x7 x8 x9 x10 z wa ba wr br wi bi lam N hb a j)
  unfold run_next.sl.r_14 run_next.sl.r_4
  refine (gate_row _ _ a j).trans ?_
  rw [View.readAt_full, harg9.read_unread, hb.biasI, sumsI_at c i arg1 harg1 arg2 harg2 arg4 harg4 arg5 harg5 arg8 harg8 arg13 arg15 x1 x2 x4 x5 x6 x7 x8 x9 x10 z wa ba wr br wi bi lam N hb]
  rfl

theorem decay_at (a : Fin 144) (j : Fin 2048) :
    View.canon (run_next.sl.H16_1 (F := Ideal) c i arg1 harg1 arg2 harg2 arg4 harg4 arg5 harg5 arg6 harg6 arg7 harg7 arg10 harg10 arg13 arg14 x1 x2 x4 x5 x6 x7 x10) (ix2 a j) = dec z wa ba wr br lam (N + a.val) j := by
  unfold run_next.sl.H16_1
  rw [View.canon_unit_zero zero_off]
  unfold run_next.sl.r_15
  exact decay_row _ _ a j _ (lg_at c i arg1 harg1 arg2 harg2 arg4 harg4 arg5 harg5 arg6 harg6 arg7 harg7 arg10 harg10 arg13 arg14 x1 x2 x4 x5 x6 x7 x8 x9 x10 z wa ba wr br wi bi lam N hb a j)

/-! ### The states -/

/-- The decays of the tile's rows as factors. -/
def factors (j : Fin 2048) (r : ℕ) : NNReal := Classical.choose (dec_fac z wa ba wr br lam (N + r) j)

omit hb in
theorem factors_eq (j : Fin 2048) (r : ℕ) : dec z wa ba wr br lam (N + r) j = fac (factors z wa ba wr br lam N j r) :=
  Classical.choose_spec (dec_fac z wa ba wr br lam (N + r) j)

omit hb in
theorem chain_st (j : Fin 2048) : ∀ n, chain (factors z wa ba wr br lam N j) (fun r => inp z wa ba wr br wi bi lam (N + r) j)
    (st z wa ba wr br wi bi lam N j) n = st z wa ba wr br wi bi lam (N + n) j
  | 0 => rfl
  | n + 1 => by
    show fac _ * chain _ _ _ n + _ = dec _ _ _ _ _ _ (N + n) j * st _ _ _ _ _ _ _ _ (N + n) j + _
    rw [chain_st j n, factors_eq]
    rfl

/-- What the loop leaves, from a carried row of states. -/
theorem swept (init : Vec Ideal S1x2048 .f32) (h0 : ∀ j, init (ix2 0 j) = st z wa ba wr br wi bi lam N j) :
    (∀ j, (st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        (arg16.view.writes (Elt Ideal) arg16.view.junk (run_next.sl.H16_1 (F := Ideal) c i arg1 harg1 arg2 harg2 arg4 harg4 arg5 harg5 arg6 harg6 arg7 harg7 arg10 harg10 arg13 arg14 x1 x2 x4 x5 x6 x7 x10))
        (arg12.view.writes (Elt Ideal) arg12.view.junk (run_next.sl.H12_1 (F := Ideal) c i arg1 harg1 arg2 harg2 arg4 harg4 arg5 harg5 arg6 harg6 arg7 harg7 arg8 harg8 arg9 harg9 arg10 harg10 arg13 arg14 arg15 x1 x2 x4 x5 x6 x7 x8 x9 x10)) init
        (Scf.trips k0_t1_loop.lb k0_t1_loop.ub k0_t1_loop.st)).1 (ix2 0 j) = st z wa ba wr br wi bi lam (N + 144) j)
    ∧ ∀ (r : Fin 144) j, View.canon ((st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
        (arg16.view.writes (Elt Ideal) arg16.view.junk (run_next.sl.H16_1 (F := Ideal) c i arg1 harg1 arg2 harg2 arg4 harg4 arg5 harg5 arg6 harg6 arg7 harg7 arg10 harg10 arg13 arg14 x1 x2 x4 x5 x6 x7 x10))
        (arg12.view.writes (Elt Ideal) arg12.view.junk (run_next.sl.H12_1 (F := Ideal) c i arg1 harg1 arg2 harg2 arg4 harg4 arg5 harg5 arg6 harg6 arg7 harg7 arg8 harg8 arg9 harg9 arg10 harg10 arg13 arg14 arg15 x1 x2 x4 x5 x6 x7 x8 x9 x10)) init
        (Scf.trips k0_t1_loop.lb k0_t1_loop.ub k0_t1_loop.st)).2 ++ run_next.sl.H12_1 (F := Ideal) c i arg1 harg1 arg2 harg2 arg4 harg4 arg5 harg5 arg6 harg6 arg7 harg7 arg8 harg8 arg9 harg9 arg10 harg10 arg13 arg14 arg15 x1 x2 x4 x5 x6 x7 x8 x9 x10) (ix2 r j)
      = st z wa ba wr br wi bi lam (N + (r.val + 1)) j := by
  have e : Scf.trips k0_t1_loop.lb k0_t1_loop.ub k0_t1_loop.st = 18 := by decide
  have L := loop Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    (arg16.view.writes (Elt Ideal) arg16.view.junk (run_next.sl.H16_1 (F := Ideal) c i arg1 harg1 arg2 harg2 arg4 harg4 arg5 harg5 arg6 harg6 arg7 harg7 arg10 harg10 arg13 arg14 x1 x2 x4 x5 x6 x7 x10))
    (arg12.view.writes (Elt Ideal) arg12.view.junk (run_next.sl.H12_1 (F := Ideal) c i arg1 harg1 arg2 harg2 arg4 harg4 arg5 harg5 arg6 harg6 arg7 harg7 arg8 harg8 arg9 harg9 arg10 harg10 arg13 arg14 arg15 x1 x2 x4 x5 x6 x7 x8 x9 x10)) init
    (factors z wa ba wr br lam N) (fun j r => inp z wa ba wr br wi bi lam (N + r) j)
    (fun r j => by rw [View.read_writes_junk_eq_canon, decay_at c i arg1 harg1 arg2 harg2 arg4 harg4 arg5 harg5 arg6 harg6 arg7 harg7 arg10 harg10 arg13 arg14 x1 x2 x4 x5 x6 x7 x8 x9 x10 z wa ba wr br wi bi lam N hb, factors_eq])
    (fun r j => by rw [View.read_writes_junk_eq_canon, input_at c i arg1 harg1 arg2 harg2 arg4 harg4 arg5 harg5 arg6 harg6 arg7 harg7 arg8 harg8 arg9 harg9 arg10 harg10 arg13 arg14 arg15 x1 x2 x4 x5 x6 x7 x8 x9 x10 z wa ba wr br wi bi lam N hb])
    (Scf.trips k0_t1_loop.lb k0_t1_loop.ub k0_t1_loop.st) (le_refl _)
  refine ⟨fun j => (L.carry j).trans ?_, fun r j => ?_⟩
  · rw [h0, chain_st, e]
  · rw [← View.read_writes_junk_eq_canon arg12.view, View.writes_append]
    refine (L.new r j (by rw [e]; omega)).trans ?_
    rw [h0, chain_st]

end Cert.AFwdIdeal.Step
end
-- ==== Proof.AFwdOut.lean ====
/- A tile of the forward recurrence as a whole: the gated block, the states and the carried row that its run leaves. -/
module

public import proofs.«01_k».proof.Proof.AFwdTile

@[expose] public section

set_option maxRecDepth 16384

noncomputable section

open Idealize.ShloMosaic Idealize.ShloMosaic.TcCoe Idealize.ShloMosaic.Tactic Idealize.SL.Sem

namespace Cert.AFwdIdeal.Step

open Cert.AFwdIdeal Cert.AFwdIdeal.Gen
open Cert.AFwdForm

theorem cleared (y : S1x2048.Idx) : k0_pay2 (F := Ideal) y = 0 := by
  idx_vars y
  pointwise [k0_pay2]

theorem carry_cast (x : Vec Ideal S1x2048 .f32) (k : Fin 1) (j : Fin 2048) : k0_pay61 (F := Ideal) x (ix2 k j) = x (ix2 k j) := by
  pointwise [k0_pay61]

theorem zero_off1 : (![0, 0] : Fin S1x2048.rank → ℕ) = fun _ => 0 := zero_off

variable (c : Dev nD) (i : grid0.Coords)
  (arg1 : Memref sig .tc .vmem S144x2048 .f32) (harg1 : arg1.IsWhole)
  (arg2 : Memref sig .tc .vmem S16x2048 .f32) (harg2 : arg2.IsWhole)
  (arg3 : Memref sig .tc .vmem S144x2048 .f32) (harg3 : arg3.IsWhole)
  (arg4 : Memref sig .tc .vmem S4x2048 .f32) (harg4 : arg4.IsWhole)
  (arg5 : Memref sig .tc .vmem S1x2048 .f32) (harg5 : arg5.IsWhole)
  (arg6 : Memref sig .tc .vmem S16x128x128 .bf16) (harg6 : arg6.IsWhole)
  (arg7 : Memref sig .tc .vmem S1x2048 .f32) (harg7 : arg7.IsWhole)
  (arg8 : Memref sig .tc .vmem S16x128x128 .bf16) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S144x2048 .bf16) (harg11 : arg11.IsWhole)
  (arg12 : Memref sig .tc .vmem S144x2048 .f32) (harg12 : arg12.IsWhole)
  (arg13 : Memref sig .tc .vmem S160x2048 .f32) (harg13 : arg13.IsWhole)
  (arg14 : Memref sig .tc .vmem S144x2048 .f32) (harg14 : arg14.IsWhole)
  (arg15 : Memref sig .tc .vmem S144x2048 .f32) (harg15 : arg15.IsWhole)
  (arg16 : Memref sig .tc .vmem S144x2048 .f32) (harg16 : arg16.IsWhole)
  (arg17 : Memref sig .tc .vmem S1x2048 .f32) (harg17 : arg17.IsWhole)
  (x1 : Vec Ideal S144x2048 .f32) (x2 : Vec Ideal S16x2048 .f32) (x3 : Vec Ideal S144x2048 .f32) (x4 : Vec Ideal S4x2048 .f32) (x5 : Vec Ideal S1x2048 .f32)
  (x6 : Vec Ideal S16x128x128 .bf16) (x7 : Vec Ideal S1x2048 .f32) (x8 : Vec Ideal S16x128x128 .bf16) (x9 : Vec Ideal S1x2048 .f32) (x10 : Vec Ideal S1x2048 .f32)
  (x17 : Vec Ideal S1x2048 .f32)
  (z : FVec Ideal ⟨2, ![8208, 14336]⟩ .f32) (wa : FVec Ideal ⟨2, ![4, 2048]⟩ .f32) (ba : FVec Ideal ⟨1, ![2048]⟩ .f32)
  (wr : FVec Ideal ⟨3, ![16, 128, 128]⟩ .f32) (br : FVec Ideal ⟨1, ![2048]⟩ .f32)
  (wi : FVec Ideal ⟨3, ![16, 128, 128]⟩ .f32) (bi : FVec Ideal ⟨1, ![2048]⟩ .f32) (lam : FVec Ideal ⟨1, ![2048]⟩ .f32) (N : ℕ)

variable (hb : Blocks i x1 x2 x4 x5 x6 x7 x8 x9 x10 z wa ba wr br wi bi lam N)
include hb

/-! ### A later tile -/

section
variable (hc : ¬first i) (h0 : ∀ j, x17 (ix2 0 j) = st z wa ba wr br wi bi lam N j)
include h0

theorem next_init (inb : ∀ a, (![0, 0] : Fin 2 → ℕ) a + S1x2048.size a ≤ S1x2048.size a) (j : Fin 2048) :
    arg17.view.readAt (Elt Ideal) (Rect.unit (s := S1x2048) ![0, 0] S1x2048.size inb).toLoadRect (harg17.unread x17) (ix2 0 j)
      = st z wa ba wr br wi bi lam N j := by
  rw [View.readAt_full, harg17.read_unread, h0]

theorem next_states (r : Fin 144) (j : Fin 2048) :
    View.canon (run_next (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).2.1 (ix2 r j) = st z wa ba wr br wi bi lam (N + (r.val + 1)) j := by
  unfold run_next
  exact (swept c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x4 x5 x6 x7 x8 x9 x10 z wa ba wr br wi bi lam N hb _ (fun j => next_init i arg17 harg17 x1 x2 x4 x5 x6 x7 x8 x9 x10 x17 z wa ba wr br wi bi lam N hb h0 _ j)).2 r j

theorem next_carry (j : Fin 2048) :
    View.canon (run_next (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).2.2.1 (ix2 0 j) = st z wa ba wr br wi bi lam (N + 144) j := by
  unfold run_next
  refine (congrFun (View.canon_unit_zero zero_off1 _ _) (ix2 0 j)).trans ?_
  exact (carry_cast _ 0 j).trans ((swept c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x4 x5 x6 x7 x8 x9 x10 z wa ba wr br wi bi lam N hb _ (fun j => next_init i arg17 harg17 x1 x2 x4 x5 x6 x7 x8 x9 x10 x17 z wa ba wr br wi bi lam N hb h0 _ j)).1 j)

theorem next_gated (a : Fin 144) (j : Fin 2048) :
    (show EReal from View.canon (run_next (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc x17).1 (ix2 a j))
      = x3 (ix2 a j) * Ext.sig (x3 (ix2 a j)) * st z wa ba wr br wi bi lam (N + (a.val + 1)) j := by
  unfold run_next
  refine (congrFun (View.canon_unit_zero zero_off _ _) (ix2 a j)).trans ?_
  unfold run_next.sl.r_18 run_next.sl.r_19
  refine (gated_row _ _ a j).trans ?_
  rw [View.readAt_full, harg3.read_unread]
  refine congrArg₂ (fun x y : EReal => x * y) rfl ?_
  unfold run_next.sl.v334
  rw [View.readCov_eq_canon']
  exact (congrArg (View.canon _) (whole_idx _ a j)).trans ((swept c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x4 x5 x6 x7 x8 x9 x10 z wa ba wr br wi bi lam N hb _ (fun j => next_init i arg17 harg17 x1 x2 x4 x5 x6 x7 x8 x9 x10 x17 z wa ba wr br wi bi lam N hb h0 _ j)).2 a j)

end

/-! ### The first tile -/

section
variable (hc : first i) (h0 : N = 0)
include h0

omit hb h0 in
theorem same_inputs : run_first.sl.H12_1 (F := Ideal) c i arg1 harg1 arg2 harg2 arg4 harg4 arg5 harg5 arg6 harg6 arg7 harg7 arg8 harg8 arg9 harg9 arg10 harg10 arg13 arg14 arg15 x1 x2 x4 x5 x6 x7 x8 x9 x10 = run_next.sl.H12_1 c i arg1 harg1 arg2 harg2 arg4 harg4 arg5 harg5 arg6 harg6 arg7 harg7 arg8 harg8 arg9 harg9 arg10 harg10 arg13 arg14 arg15 x1 x2 x4 x5 x6 x7 x8 x9 x10 := by sl_kernel_rfl

omit hb h0 in
theorem same_decays : run_first.sl.H16_1 (F := Ideal) c i arg1 harg1 arg2 harg2 arg4 harg4 arg5 harg5 arg6 harg6 arg7 harg7 arg10 harg10 arg13 arg14 x1 x2 x4 x5 x6 x7 x10 = run_next.sl.H16_1 c i arg1 harg1 arg2 harg2 arg4 harg4 arg5 harg5 arg6 harg6 arg7 harg7 arg10 harg10 arg13 arg14 x1 x2 x4 x5 x6 x7 x10 := by sl_kernel_rfl

omit hb in
theorem first_init (j : Fin 2048) : run_first.sl.v327 (F := Ideal) c arg17 (ix2 0 j) = st z wa ba wr br wi bi lam N j := by
  subst h0
  unfold run_first.sl.v327
  rw [View.readCov_eq_canon']
  unfold run_first.sl.H17_1
  rw [View.canon_unit_zero zero_off1]
  exact cleared _

theorem first_states (r : Fin 144) (j : Fin 2048) :
    View.canon (run_first (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).2.1 (ix2 r j) = st z wa ba wr br wi bi lam (N + (r.val + 1)) j := by
  unfold run_first
  dsimp only
  rw [same_inputs, same_decays]
  exact (swept c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x4 x5 x6 x7 x8 x9 x10 z wa ba wr br wi bi lam N hb _ (fun j => first_init c arg17 z wa ba wr br wi bi lam N h0 j)).2 r j

theorem first_carry (j : Fin 2048) :
    View.canon (run_first (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).2.2.1 (ix2 0 j) = st z wa ba wr br wi bi lam (N + 144) j := by
  unfold run_first
  dsimp only
  rw [same_inputs, same_decays]
  refine (congrFun (View.canon_cons_unit_zero zero_off1 _ _ _) (ix2 0 j)).trans ?_
  exact (carry_cast _ 0 j).trans ((swept c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x4 x5 x6 x7 x8 x9 x10 z wa ba wr br wi bi lam N hb _ (fun j => first_init c arg17 z wa ba wr br wi bi lam N h0 j)).1 j)

theorem first_gated (a : Fin 144) (j : Fin 2048) :
    (show EReal from View.canon (run_first (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x3 x4 x5 x6 x7 x8 x9 x10 hc).1 (ix2 a j))
      = x3 (ix2 a j) * Ext.sig (x3 (ix2 a j)) * st z wa ba wr br wi bi lam (N + (a.val + 1)) j := by
  unfold run_first
  refine (congrFun (View.canon_unit_zero zero_off _ _) (ix2 a j)).trans ?_
  unfold run_first.sl.r_18 run_first.sl.r_19
  refine (gated_row _ _ a j).trans ?_
  rw [View.readAt_full, harg3.read_unread]
  refine congrArg₂ (fun x y : EReal => x * y) rfl ?_
  unfold run_first.sl.v334
  rw [View.readCov_eq_canon', same_inputs, same_decays]
  exact (congrArg (View.canon _) (whole_idx _ a j)).trans ((swept c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x1 x2 x4 x5 x6 x7 x8 x9 x10 z wa ba wr br wi bi lam N hb _ (fun j => first_init c arg17 z wa ba wr br wi bi lam N h0 j)).2 a j)

end

end Cert.AFwdIdeal.Step
end
-- ==== Proof.AFwdKernel.lean ====
/- The forward recurrence's kernel over its grid: the blocks of each tile, the states carried from tile to tile, and the two
arrays that it leaves. -/
module

public import proofs.«01_k».proof.Proof.AFwdFrame
public import proofs.«01_k».proof.Proof.AFwdOut

@[expose] public section

set_option maxRecDepth 16384

noncomputable section

open Idealize.ShloMosaic Idealize.ShloMosaic.TcCoe Idealize.SL.Sem

namespace Cert.AFwdIdeal.Step

open Cert.AFwdIdeal Cert.AFwdIdeal.Gen
open Cert.AFwdForm

variable (m : (ℓ : Loc nD τ Cert.AFwdIdeal.sig) → Buf (Elt Ideal) ℓ)

abbrev Zz (c : Dev nD) : FVec Ideal ⟨2, ![8208, 14336]⟩ .f32 := m ((c : Thread nD τ).loc main_arg0)
abbrev Wa (c : Dev nD) : FVec Ideal ⟨2, ![4, 2048]⟩ .f32 := m ((c : Thread nD τ).loc main_arg1)
abbrev Ba (c : Dev nD) : FVec Ideal ⟨1, ![2048]⟩ .f32 := m ((c : Thread nD τ).loc main_arg2)
abbrev Wr (c : Dev nD) : FVec Ideal ⟨3, ![16, 128, 128]⟩ .f32 := m ((c : Thread nD τ).loc main_arg3)
abbrev Br (c : Dev nD) : FVec Ideal ⟨1, ![2048]⟩ .f32 := m ((c : Thread nD τ).loc main_arg4)
abbrev Wi (c : Dev nD) : FVec Ideal ⟨3, ![16, 128, 128]⟩ .f32 := m ((c : Thread nD τ).loc main_arg5)
abbrev Bi (c : Dev nD) : FVec Ideal ⟨1, ![2048]⟩ .f32 := m ((c : Thread nD τ).loc main_arg6)
abbrev Lm (c : Dev nD) : FVec Ideal ⟨1, ![2048]⟩ .f32 := m ((c : Thread nD τ).loc main_arg7)

/-! ### The blocks -/

/-- The windows' block indices at a grid point. -/
theorem idx : ∀ t : Fin cfg0.N, win0_0.index t = ![t.val, 0] ∧ win0_1.index t = ![9 * t.val - 1, 0] ∧ win0_2.index t = ![t.val, 1]
    ∧ win0_3.index t = ![0, 0] ∧ win0_4.index t = ![0, 0] ∧ win0_5.index t = ![0, 0, 0] ∧ win0_6.index t = ![0, 0]
    ∧ win0_7.index t = ![0, 0, 0] ∧ win0_8.index t = ![0, 0] ∧ win0_9.index t = ![0, 0] ∧ win0_10.index t = ![t.val, 0]
    ∧ win0_11.index t = ![t.val, 0] ∧ t.val < 57 :=
  (by decide +kernel : ∀ t : Fin grid0.N, _)

theorem lt57 (t : Fin cfg0.N) : t.val < 57 := (idx t).2.2.2.2.2.2.2.2.2.2.2.2

theorem coord (t : Fin cfg0.N) : (grid0.coords t 0).val = t.val := by
  have h := lt57 t
  have e0 : (grid0.coords t 0).val = t.val / 1 % 57 := Pipeline.Grid.coords_val t 0 (by decide) rfl
  omega

theorem V_ba (c : Dev nD) : V m c main_v0 = broadcastInDim S1x2048 ![1] bcast_S2048_S1x2048_1 (Ba m c) := by
  unfold V; after_results_simp <;> rfl
theorem V_wr (c : Dev nD) : V m c main_v1 = truncf .bf16 (Wr m c) bitsLt_bf16_f32 := by
  unfold V; after_results_simp <;> rfl
theorem V_br (c : Dev nD) : V m c main_v2 = broadcastInDim S1x2048 ![1] bcast_S2048_S1x2048_1 (Br m c) := by
  unfold V; after_results_simp <;> rfl
theorem V_wi (c : Dev nD) : V m c main_v3 = truncf .bf16 (Wi m c) bitsLt_bf16_f32 := by
  unfold V; after_results_simp <;> rfl
theorem V_bi (c : Dev nD) : V m c main_v4 = broadcastInDim S1x2048 ![1] bcast_S2048_S1x2048_1 (Bi m c) := by
  unfold V; after_results_simp <;> rfl
theorem V_lm (c : Dev nD) : V m c main_v5 = broadcastInDim S1x2048 ![1] bcast_S2048_S1x2048_1 (Lm m c) := by
  unfold V; after_results_simp <;> rfl

theorem rows_at (c : Dev nD) (t : Fin cfg0.N) (a : Fin 144) (j : Fin 2048) :
    (show EReal from iblk m c 0 t (ix2 a j)) = xs (Zz m c) (144 * t.val + 3 + a.val) j := by
  have h := lt57 t
  rw [xs, dif_pos (by omega)]
  trans Zz m c (ix2 (⟨t.val * 144 + a.val, by omega⟩ : Fin 8208) (⟨j.val, by omega⟩ : Fin 14336))
  · blk_ext [iblk, V, idx t]
  · exact congrArg (fun r => Zz m c (ix2 r _)) (Fin.ext (by show t.val * 144 + a.val = 144 * t.val + 3 + a.val - 3; omega))

theorem halo_at (c : Dev nD) (t : Fin cfg0.N) (a : Fin 16) (j : Fin 2048) (ha : 13 ≤ a.val) :
    (show EReal from k0_pay3 (F := Ideal) (grid0.coords t) (iblk m c 1 t) (ix2 a j)) = xs (Zz m c) (144 * t.val + a.val - 13) j := by
  have h := lt57 t
  by_cases h0 : t.val = 0
  · have e : Scalar.cmpi .eq (BitVec.ofNat 32 (grid0.coords t 0).val) 0#32 = 1#1 := by rw [coord, h0]; rfl
    pointwise [k0_pay3, e]
    rw [xs, dif_neg (by omega)]
  · have e : Scalar.cmpi .eq (BitVec.ofNat 32 (grid0.coords t 0).val) 0#32 = 0#1 := by
      rw [coord]
      have hb : BitVec.ofNat 32 t.val ≠ 0#32 := fun q => h0 (by
        have := congrArg BitVec.toNat q
        rw [BitVec.toNat_ofNat] at this
        have h2 : t.val % 2 ^ 32 = t.val := Nat.mod_eq_of_lt (by omega)
        rw [h2] at this
        exact this)
      show BitVec.ofBool (BitVec.ofNat 32 t.val == 0#32) = 0#1
      rw [beq_eq_false_iff_ne.mpr hb]; rfl
    pointwise [k0_pay3, e]
    rw [xs, dif_pos (by omega)]
    trans Zz m c (ix2 (⟨(9 * t.val - 1) * 16 + a.val, by omega⟩ : Fin 8208) (⟨j.val, by omega⟩ : Fin 14336))
    · blk_ext [iblk, V, idx t]
    · exact congrArg (fun r => Zz m c (ix2 r _)) (Fin.ext (by show (9 * t.val - 1) * 16 + a.val = 144 * t.val + a.val - 13 - 3; omega))

theorem skip_at (c : Dev nD) (t : Fin cfg0.N) (a : Fin 144) (j : Fin 2048) (r : Fin 8208) (hr : r.val = 144 * t.val + a.val) :
    (show EReal from iblk m c 2 t (ix2 a j)) = Zz m c (ix2 r ⟨2048 + j.val, by omega⟩) := by
  have h := lt57 t
  trans Zz m c (ix2 (⟨t.val * 144 + a.val, by omega⟩ : Fin 8208) (⟨2048 + j.val, by omega⟩ : Fin 14336))
  · blk_ext [iblk, V, idx t]
  · exact congrArg (fun r => Zz m c (ix2 r _)) (Fin.ext (by show t.val * 144 + a.val = r.val; omega))

theorem taps_at (c : Dev nD) (t : Fin cfg0.N) (k : Fin 4) (j : Fin 2048) : (show EReal from iblk m c 3 t (ix2 k j)) = Wa m c (ix2 k j) := by
  blk_ext [iblk, V, idx t]

theorem bias_at (c : Dev nD) (t : Fin cfg0.N) (j : Fin 2048) : (show EReal from iblk m c 4 t (ix2 0 j)) = Ba m c (ix1 j) := by
  trans V m c main_v0 (ix2 0 j)
  · blk_ext [iblk, idx t]
  · rw [V_ba]; pointwise

theorem matR_at (c : Dev nD) (t : Fin cfg0.N) (k : Fin 16) (l q : Fin 128) : (show EReal from iblk m c 5 t (ix3 k l q)) = Wr m c (ix3 k l q) := by
  trans V m c main_v1 (ix3 k l q)
  · blk_ext [iblk, idx t]
  · rw [V_wr]; pointwise

theorem biasR_at (c : Dev nD) (t : Fin cfg0.N) (j : Fin 2048) : (show EReal from iblk m c 6 t (ix2 0 j)) = Br m c (ix1 j) := by
  trans V m c main_v2 (ix2 0 j)
  · blk_ext [iblk, idx t]
  · rw [V_br]; pointwise

theorem matI_at (c : Dev nD) (t : Fin cfg0.N) (k : Fin 16) (l q : Fin 128) : (show EReal from iblk m c 7 t (ix3 k l q)) = Wi m c (ix3 k l q) := by
  trans V m c main_v3 (ix3 k l q)
  · blk_ext [iblk, idx t]
  · rw [V_wi]; pointwise

theorem biasI_at (c : Dev nD) (t : Fin cfg0.N) (j : Fin 2048) : (show EReal from iblk m c 8 t (ix2 0 j)) = Bi m c (ix1 j) := by
  trans V m c main_v4 (ix2 0 j)
  · blk_ext [iblk, idx t]
  · rw [V_bi]; pointwise

theorem lamb_at (c : Dev nD) (t : Fin cfg0.N) (j : Fin 2048) : (show EReal from iblk m c 9 t (ix2 0 j)) = Lm m c (ix1 j) := by
  trans V m c main_v5 (ix2 0 j)
  · blk_ext [iblk, idx t]
  · rw [V_lm]; pointwise

theorem blocks (c : Dev nD) (t : Fin cfg0.N) :
    Blocks (grid0.coords t) (iblk m c 0 t) (iblk m c 1 t) (iblk m c 3 t) (iblk m c 4 t) (iblk m c 5 t) (iblk m c 6 t) (iblk m c 7 t)
      (iblk m c 8 t) (iblk m c 9 t) (Zz m c) (Wa m c) (Ba m c) (Wr m c) (Br m c) (Wi m c) (Bi m c) (Lm m c) (144 * t.val) where
  rows := rows_at m c t
  halo a j h := halo_at m c t a j h
  taps := taps_at m c t
  bias := bias_at m c t
  matR := matR_at m c t
  biasR := biasR_at m c t
  matI := matI_at m c t
  biasI := biasI_at m c t
  lamb := lamb_at m c t

/-! ### The tiles in order -/

/-- The states of a device's arrays. -/
abbrev State (c : Dev nD) : ℕ → Fin 2048 → EReal := st (Zz m c) (Wa m c) (Ba m c) (Wr m c) (Br m c) (Wi m c) (Bi m c) (Lm m c)

/-- What a tile leaves. -/
structure Left (c : Dev nD) (t : Fin cfg0.N) (x3 : Vec Ideal S144x2048 .f32) (o : Out Ideal) : Prop where
  gated : ∀ (a : Fin 144) j, (show EReal from o.1 (ix2 a j))
    = x3 (ix2 a j) * Ext.sig (x3 (ix2 a j)) * State m c (144 * t.val + (a.val + 1)) j
  states : ∀ (a : Fin 144) j, o.2.1 (ix2 a j) = State m c (144 * t.val + (a.val + 1)) j
  carry : ∀ j, o.2.2 (ix2 0 j) = State m c (144 * t.val + 144) j

/-- What pieces leave, from what they say. -/
theorem left_of (c : Dev nD) (t : Fin cfg0.N) (x3 : Vec Ideal S144x2048 .f32) (A : List (View.Piece (Elt Ideal) S144x2048 .bf16))
    (B : List (View.Piece (Elt Ideal) S144x2048 .f32)) (C : List (View.Piece (Elt Ideal) S1x2048 .f32))
    (hA : ∀ (a : Fin 144) j, (show EReal from View.canon A (ix2 a j)) = x3 (ix2 a j) * Ext.sig (x3 (ix2 a j)) * State m c (144 * t.val + (a.val + 1)) j)
    (hB : ∀ (a : Fin 144) j, View.canon B (ix2 a j) = State m c (144 * t.val + (a.val + 1)) j)
    (hC : ∀ j, View.canon C (ix2 0 j) = State m c (144 * t.val + 144) j) : Left m c t x3 (read3 A B C) :=
  ⟨fun a j => (congrFun (View.read_writes_junk_eq_canon VYa A) (ix2 a j)).trans (hA a j),
    fun a j => (congrFun (View.read_writes_junk_eq_canon VHl B) (ix2 a j)).trans (hB a j),
    fun j => (congrFun (View.read_writes_junk_eq_canon VCa C) (ix2 0 j)).trans (hC j)⟩

theorem left_first (c : Dev nD) (t : Fin cfg0.N) (h : t.val = 0) : Left m c t (iblk m c 2 t) (outsAt m c t.val t.isLt) := by
  rw [outsAt_first m c t h]
  refine left_of m c t _ _ _ _ (fun a j => ?_) ?_ ?_
  · exact first_gated c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (Zz m c) (Wa m c) (Ba m c) (Wr m c) (Br m c) (Wi m c) (Bi m c) (Lm m c) (144 * t.val) (blocks m c t) ((first_iff t).mpr h) (by omega) a j
  · exact fun a j => first_states c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (Zz m c) (Wa m c) (Ba m c) (Wr m c) (Br m c) (Wi m c) (Bi m c) (Lm m c) (144 * t.val) (blocks m c t) ((first_iff t).mpr h) (by omega) a j
  · exact fun j => first_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (Zz m c) (Wa m c) (Ba m c) (Wr m c) (Br m c) (Wi m c) (Bi m c) (Lm m c) (144 * t.val) (blocks m c t) ((first_iff t).mpr h) (by omega) j

theorem left_next (c : Dev nD) (t : Fin cfg0.N) (h : ¬t.val = 0)
    (hp : ∀ j, (outsAt m c (t.val - 1) (by omega)).2.2 (ix2 0 j) = State m c (144 * t.val) j) : Left m c t (iblk m c 2 t) (outsAt m c t.val t.isLt) := by
  rw [outsAt_next m c t h]
  refine left_of m c t _ _ _ _ (fun a j => ?_) ?_ ?_
  · exact next_gated c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt m c (t.val - 1) (by omega)).2.2 (Zz m c) (Wa m c) (Ba m c) (Wr m c) (Br m c) (Wi m c) (Bi m c) (Lm m c) (144 * t.val) (blocks m c t) (fun q => h ((first_iff t).mp q)) hp a j
  · exact fun a j => next_states c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt m c (t.val - 1) (by omega)).2.2 (Zz m c) (Wa m c) (Ba m c) (Wr m c) (Br m c) (Wi m c) (Bi m c) (Lm m c) (144 * t.val) (blocks m c t) (fun q => h ((first_iff t).mp q)) hp a j
  · exact fun j => next_carry c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) sc0 (Memref.isWhole_whole _) sc1 (Memref.isWhole_whole _) sc2 (Memref.isWhole_whole _) sc3 (Memref.isWhole_whole _) sc4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (outsAt m c (t.val - 1) (by omega)).2.2 (Zz m c) (Wa m c) (Ba m c) (Wr m c) (Br m c) (Wi m c) (Bi m c) (Lm m c) (144 * t.val) (blocks m c t) (fun q => h ((first_iff t).mp q)) hp j

theorem left_all (c : Dev nD) (n : ℕ) (hn : n < cfg0.N) : Left m c ⟨n, hn⟩ (iblk m c 2 ⟨n, hn⟩) (outsAt m c n hn) := by
  induction n with
  | zero => exact left_first m c ⟨0, hn⟩ rfl
  | succ n ih => exact left_next m c ⟨n + 1, hn⟩ (Nat.succ_ne_zero n) (ih (Nat.lt_of_succ_lt hn)).carry

/-! ### The final arrays -/

theorem final_ya (c : Dev nD) : (dats m 0 c).arrAt 10 (cfgs 0).N
    = fun i : S8208x2048.Idx => ya (Zz m c) (Wa m c) (Ba m c) (Wr m c) (Br m c) (Wi m c) (Bi m c) (Lm m c) (i 0) (i 1) := by
  refine (dats m 0 c).arrAt_eq_of_covers 10 _ (by decide +kernel) fun t hf y => ?_
  idx_vars y
  blk_simp
  rw [after0_10]
  have h := lt57 t
  refine ((left_all m c t.val t.isLt).gated y0 y1).trans ?_
  have e := skip_at m c t y0 y1 ⟨144 * t.val + y0.val, by omega⟩ rfl
  refine (congrArg (fun x : EReal => x * Ext.sig x * State m c (144 * t.val + (y0.val + 1)) y1) e).trans ?_
  exact congrArg₂ (ya (Zz m c) (Wa m c) (Ba m c) (Wr m c) (Br m c) (Wi m c) (Bi m c) (Lm m c)) (Fin.ext (by symm; blk_simp [idx t]; show _ = 144 * t.val + y0.val; omega)) (Fin.ext (by symm; blk_simp [idx t]))

theorem final_hl (c : Dev nD) : (dats m 0 c).arrAt 11 (cfgs 0).N
    = fun i : S8208x2048.Idx => State m c ((i 0).val + 1) (i 1) := by
  refine (dats m 0 c).arrAt_eq_of_covers 11 _ (by decide +kernel) fun t hf y => ?_
  idx_vars y
  blk_simp
  rw [after0_11]
  refine ((left_all m c t.val t.isLt).states y0 y1).trans ?_
  exact congrArg₂ (State m c) (by symm; blk_simp [idx t]; show _ = 144 * t.val + (y0.val + 1); omega) (Fin.ext (by symm; blk_simp [idx t]))

end Cert.AFwdIdeal.Step
end
-- ==== Proof.AFwdReference.lean ====
/- The forward gated recurrence's reference: its convolution, gates and decay, and the states its loop over rows leaves. -/
module

public import proofs.«01_k».proof.Proof.AFwdForm
public import proofs.«01_k».proof.Proof.Gen.AFwdRefIdeal.Step
public import Idealize.ShloMosaic.Lib.Pointwise

@[expose] public section

set_option maxRecDepth 16384

noncomputable section

open Idealize.ShloMosaic Idealize.ShloMosaic.TcCoe

namespace Cert.AFwdRefIdeal.Rows

open Cert.AFwdRefIdeal Cert.AFwdRefIdeal.Gen Cert.AFwdRefIdeal.Step
open Cert.AFwdForm

variable (z : FVec Ideal S8208x14336 .f32) (wa : FVec Ideal S4x2048 .f32) (ba : FVec Ideal S2048 .f32)
  (wr : FVec Ideal S16x128x128 .f32) (br : FVec Ideal S2048 .f32) (wi : FVec Ideal S16x128x128 .f32)
  (bi : FVec Ideal S2048 .f32) (lam : FVec Ideal S2048 .f32)

/-- The rows with three rows of zeros in front. -/
theorem padded (n : Fin 8211) (j : Fin 2048) : A_main_v2 (F := Ideal) z wa ba wr br wi bi lam (ix2 n j) = xs z n.val j := by
  unfold xs
  pointwise [A_main_v2, A_main_v0, K_main_v1, K_main_cst]
  by_cases h : n.val < 3
  · rw [dif_pos h, dif_neg (by omega)]
  · rw [dif_neg h, dif_pos (by omega)]

theorem conv (r : Fin 8208) (j : Fin 2048) : A_main_v34 (F := Ideal) z wa ba wr br wi bi lam (ix2 r j) = cv z wa ba r.val j := by
  unfold cv
  pointwise [A_main_v34, A_main_v33, A_main_v32, A_main_v31, A_main_v30, A_main_v29, A_main_v28, A_main_v27, A_main_v26, A_main_v25,
    A_main_v24, A_main_v23, A_main_v22, A_main_v21, A_main_v20, A_main_v19, A_main_v18, A_main_v17, A_main_v16, A_main_v15,
    A_main_v14, A_main_v13, A_main_v12, A_main_v11, A_main_v10, A_main_v8, A_main_v7, A_main_v6, A_main_v5, A_main_v4, A_main_v3,
    K_main_v9, K_main_cst_0, padded]
  simp only [add_comm _ (r : ℕ)]
  rw [add_comm _ (ba (ix1 j))]
  simp only [add_assoc]

theorem gate_r (r : Fin 8208) (j : Fin 2048) : A_main_v47 (F := Ideal) z wa ba wr br wi bi lam (ix2 r j) = gate z wa ba wr br r.val j := by
  unfold gate
  rw [← Ext.sig_exp]
  pointwise [A_main_v47, A_main_v45, A_main_v43, A_main_v42, A_main_v41, A_main_v40, A_main_v39, A_main_v38, A_main_v37, A_main_v36,
    A_main_v35, K_main_v44, K_main_v46, K_main_cst_1, K_main_cst_2, conv]
  exact congrArg (fun t => Ideal.div 1 (1 + Ideal.exp (-(t + br (ix1 j))))) (Finset.sum_congr rfl fun l _ => mul_comm _ _)

theorem gate_i (r : Fin 8208) (j : Fin 2048) : A_main_v59 (F := Ideal) z wa ba wr br wi bi lam (ix2 r j) = gate z wa ba wi bi r.val j := by
  unfold gate
  rw [← Ext.sig_exp]
  pointwise [A_main_v59, A_main_v57, A_main_v55, A_main_v54, A_main_v53, A_main_v52, A_main_v51, A_main_v50, A_main_v49, A_main_v48,
    A_main_v35, K_main_v56, K_main_v58, K_main_cst_3, K_main_cst_4, conv]
  exact congrArg (fun t => Ideal.div 1 (1 + Ideal.exp (-(t + bi (ix1 j))))) (Finset.sum_congr rfl fun l _ => mul_comm _ _)

theorem soft (j : Fin 2048) : A_main_v63 (F := Ideal) z wa ba wr br wi bi lam (ix1 j) = sp (-(lam (ix1 j))) := by
  unfold sp
  pointwise [A_main_v63, A_main_call0_v4, A_main_call0_v6, A_main_call0_v11, A_main_call0_v10, A_main_call0_v9, A_main_call0_v8,
    A_main_call0_v7, A_main_call0_v3, A_main_call0_v1, A_main_v62, K_main_call0_v0, K_main_call0_v2, K_main_call0_v5, K_main_call0_cst]
  rw [if_neg (fun h => h rfl)]
  rfl

theorem decay_log (r : Fin 8208) (j : Fin 2048) : A_main_v66 (F := Ideal) z wa ba wr br wi bi lam (ix2 r j) = lg z wa ba wr br lam r.val j := by
  unfold lg
  pointwise [A_main_v66, A_main_v65, A_main_v64, A_main_v61, K_main_v60, K_main_cst_5, soft, gate_r]

theorem decay (r : Fin 8208) (j : Fin 2048) : A_main_v67 (F := Ideal) z wa ba wr br wi bi lam (ix2 r j) = dec z wa ba wr br lam r.val j := by
  unfold dec
  pointwise [A_main_v67, decay_log]

theorem input (r : Fin 8208) (j : Fin 2048) : A_main_v76 (F := Ideal) z wa ba wr br wi bi lam (ix2 r j) = inp z wa ba wr br wi bi lam r.val j := by
  unfold inp
  pointwise [A_main_v76, A_main_v75, A_main_v74, A_main_v73, A_main_v71, A_main_v70, A_main_v69, K_main_v68, K_main_v72, K_main_cst_6,
    K_main_cst_7, decay_log, gate_i, conv]
  rfl

/-! ### The loop over rows -/

/-- The loop's state after `n` rows. -/
def it : ℕ → State Ideal
  | 0 => init z wa ba wr br wi bi lam
  | n + 1 => step n (it n)

theorem it_decay : ∀ n, (it z wa ba wr br wi bi lam n).main_v79_0 = A_main_v67 (F := Ideal) z wa ba wr br wi bi lam
  | 0 => rfl
  | n + 1 => it_decay n

theorem it_input : ∀ n, (it z wa ba wr br wi bi lam n).main_v79_1 = A_main_v76 (F := Ideal) z wa ba wr br wi bi lam
  | 0 => rfl
  | n + 1 => it_input n

theorem row_index (n : ℕ) (hn : n < 8208) : (BitVec.ofNat 32 n).toInt = (n : ℤ) := by
  rw [BitVec.toInt_eq_toNat_of_lt] <;> simp [BitVec.toNat_ofNat] <;> omega

/-- A row's start is its number, the columns' start is 0. -/
theorem start_row (n : ℕ) (hn : n < 8208) (h : S1x2048.rank = S8208x2048.rank) :
    Host.clampedStart S8208x2048 S1x2048 h (fun k => BitVec.toInt ((![(constantI S_ 32 (BitVec.ofNat 32 n) : (⟨S_, .i32⟩ : BufTy).Contents (Elt Ideal)),
      (constantI S_ 32 0#32)] : Fin 2 → (⟨S_, .i32⟩ : BufTy).Contents (Elt Ideal)) k (Shape.Idx.first h_S_))) 0 = n :=
  Host.clampedStart_of_le _ _ _ n (row_index n hn) (by show n + 1 ≤ 8208; omega)

theorem start_col (n : ℕ) (h : S1x2048.rank = S8208x2048.rank) :
    Host.clampedStart S8208x2048 S1x2048 h (fun k => BitVec.toInt ((![(constantI S_ 32 (BitVec.ofNat 32 n) : (⟨S_, .i32⟩ : BufTy).Contents (Elt Ideal)),
      (constantI S_ 32 0#32)] : Fin 2 → (⟨S_, .i32⟩ : BufTy).Contents (Elt Ideal)) k (Shape.Idx.first h_S_))) 1 = 0 :=
  Host.clampedStart_of_le _ _ _ 0 rfl (by show 0 + 2048 ≤ 2048; omega)

theorem carried : ∀ n, n ≤ 8208 → ∀ j, (it z wa ba wr br wi bi lam n).main_v79_3 (ix1 j) = st z wa ba wr br wi bi lam n j
  | 0, _, j => by
    show K_main_v77 (F := Ideal) (ix1 j) = 0
    pointwise [K_main_v77, K_main_cst_8]
  | n + 1, hn, j => by
    show b7 n (it z wa ba wr br wi bi lam n) (ix1 j) = _ * _ + _
    have ih := carried n (by omega) j
    pointwise [b7, b6, b5, b4, b3, b2, b1, b0, it_decay, it_input, ih]
    have e1 := fun (x : Fin 8208) (u : Fin 2048) (hx : x.val = n) (hu : u.val = j.val) =>
      (show A_main_v67 (F := Ideal) z wa ba wr br wi bi lam (ix2 x u) = dec z wa ba wr br lam n j by
        rw [decay, hx, show u = j from Fin.ext hu])
    have e2 := fun (x : Fin 8208) (u : Fin 2048) (hx : x.val = n) (hu : u.val = j.val) =>
      (show A_main_v76 (F := Ideal) z wa ba wr br wi bi lam (ix2 x u) = inp z wa ba wr br wi bi lam n j by
        rw [input, hx, show u = j from Fin.ext hu])
    refine congrArg₂ (· + ·) (congrArg (· * _) (e1 _ _ ?_ ?_)) (e2 _ _ ?_ ?_)
    · exact start_row n (by omega) rfl
    · show _ + j.val = j.val; rw [start_col n rfl]; omega
    · exact start_row n (by omega) rfl
    · show _ + j.val = j.val; rw [start_col n rfl]; omega

theorem states : ∀ n, n ≤ 8208 → ∀ (r : Fin 8208) j, r.val < n →
    (it z wa ba wr br wi bi lam n).main_v79_4 (ix2 r j) = st z wa ba wr br wi bi lam (r.val + 1) j
  | 0, _, r, j, h => absurd h (by omega)
  | n + 1, hn, r, j, h => by
    show b10 n (it z wa ba wr br wi bi lam n) (ix2 r j) = _
    have hc := carried z wa ba wr br wi bi lam (n + 1) hn j
    pointwise [b10, b9, b8]
    by_cases hlt : r.val < n
    · rw [dif_neg (by rw [start_row n (by omega)]; omega)]
      exact states n (by omega) r j hlt
    · rw [dif_pos (by rw [start_row n (by omega), start_col]; omega)]
      refine Eq.trans (congrArg (fun q => b7 n (it z wa ba wr br wi bi lam n) (ix1 q)) (Fin.ext ?_)) (hc.trans (by rw [show r.val = n by omega]))
      show j.val - _ = j.val
      rw [start_col n rfl]; omega

/-- The states, whole. -/
theorem states_out : (it z wa ba wr br wi bi lam 8208).main_v79_4 = fun i : S8208x2048.Idx => st z wa ba wr br wi bi lam ((i 0).val + 1) (i 1) := by
  funext i
  idx_vars i
  exact states z wa ba wr br wi bi lam 8208 (le_refl _) i0 i1 i0.isLt

/-- The gated output, whole. -/
theorem gated_out : R_main_v83 (F := Ideal) (it z wa ba wr br wi bi lam 8208) z = fun i : S8208x2048.Idx => ya z wa ba wr br wi bi lam (i 0) (i 1) := by
  funext i
  idx_vars i
  unfold ya
  rw [← Ext.sig_exp]
  pointwise [R_main_v83, states_out]

end Cert.AFwdRefIdeal.Rows
end
-- ==== Proof.AFwdIter.lean ====
/- The run of the forward recurrence's reference: its loop over the rows carries the states of `it`. -/
module

public import proofs.«01_k».proof.Proof.AFwdReference
public import proofs.«01_k».proof.Proof.Gen.AFwdRefIdeal.Run

@[expose] public section

set_option maxRecDepth 16384

noncomputable section

open Idealize.ShloMosaic Idealize.ShloMosaic.TcCoe Idealize.SL.Sem Idealize.ShloMosaic.StableHlo

namespace Cert.AFwdRefIdeal.Rows

open Cert.AFwdRefIdeal Cert.AFwdRefIdeal.Gen Cert.AFwdRefIdeal.Value
open Cert.AFwdRefIdeal.Step (State b7 b10 R_main_v83)
open Cert.AFwdForm (ya st)

/-- Buffers' contents before trip `n`: the decays, the inputs, the row of states, the states so far, and the counter. -/
structure At (V : Valuation τ sig (Elt Ideal)) (n : ℕ) (s : State Ideal) : Prop where
  decays : V (Proc.devRef .tc main_v79_0) = s.main_v79_0
  inputs : V (Proc.devRef .tc main_v79_1) = s.main_v79_1
  count : V (Proc.devRef .tc main_v79_2) = constantI S_ 32 (BitVec.ofNat 32 n)
  row : V (Proc.devRef .tc main_v79_3) = s.main_v79_3
  states : V (Proc.devRef .tc main_v79_4) = s.main_v79_4

variable {V : Valuation τ sig (Elt Ideal)} {n : ℕ} {s : State Ideal}

theorem At.new_row (h : At V n s) : res_main_while0b_v87 V = b7 n s := by
  unfold res_main_while0b_v87
  rw [h.decays, h.inputs, h.row, h.count]
  rfl

theorem At.new_states (h : At V n s) : step_main_v79_4 V = b10 n s := by
  unfold step_main_v79_4
  rw [h.new_row, h.states, h.count]
  rfl

theorem At.new_count (h : At V n s) : step_main_v79_2 V = constantI S_ 32 (BitVec.ofNat 32 (n + 1)) := by
  unfold step_main_v79_2
  rw [h.count]
  funext i
  show BitVec.ofNat 32 n + 1#32 = BitVec.ofNat 32 (n + 1)
  rw [BitVec.ofNat_add]

/-- A trip makes one step of the recurrence. -/
theorem At.next (h : At V n s) : At (STEP V) (n + 1) (Cert.AFwdRefIdeal.Step.step n s) :=
  ⟨(STEP_main_v79_0 V).trans h.decays, (STEP_main_v79_1 V).trans h.inputs, (STEP_main_v79_2 V).trans h.new_count,
    (STEP_main_v79_3 V).trans h.new_row, (STEP_main_v79_4 V).trans h.new_states⟩

variable (m : (ℓ : Loc nD τ sig) → Buf (Elt Ideal) ℓ) (c : Dev nD)

/-- The loop's states on the arrays of a memory. -/
abbrev iter : ℕ → State Ideal :=
  it (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

set_option maxRecDepth 65536 in
set_option maxHeartbeats 800000 in
/-- What stands before the first trip. -/
theorem at_entry : At (entryContents preI m c) 0 (iter m c 0) := by
  constructor <;> (simp only [entryContents, afterL_cons, afterL_nil]; after_reads_simp) <;> rfl

theorem at_trip (n : ℕ) : At (STEP^[n] (entryContents preI m c)) n (iter m c n) := by
  induction n with
  | zero => exact at_entry m c
  | succ n ih => rw [Function.iterate_succ_apply']; exact ih.next

theorem gated_at : out_main_v83 (STEP^[8208] (entryContents preI m c))
    = R_main_v83 (iter m c 8208) (m ((c.tc : Thread nD τ).loc main_arg0)) := by
  unfold out_main_v83
  rw [(at_trip m c 8208).states, iter_main_arg0 m c 8208]
  rfl

/-- The gated output the loop leaves, as a function of the arrays. -/
def gatedOf (c : Dev nD) : S8208x2048.Idx → EReal := fun i => ya (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (i 0) (i 1)

/-- The states the loop leaves, as a function of the arrays. -/
def statesOf (c : Dev nD) : S8208x2048.Idx → EReal := fun i => st (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) ((i 0).val + 1) (i 1)

/-- The reference's run, its two results in closed form. -/
theorem run_values (ρ : Dev nD → PrngReg) :
    θ_run (defs (F := Ideal)) (onTc (τ := τ) (main (F := Ideal))) ⟨m, fun _ => 0, ρ⟩ fun r => ∀ c : Dev nD,
      r.2.mem ((c.tc : Thread nD τ).loc main_v83) = gatedOf m c ∧ r.2.mem ((c.tc : Thread nD τ).loc main_v79_4) = statesOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans ((gated_at m c).trans (gated_out _ _ _ _ _ _ _ _)),
    (h c).2.1.trans ((at_trip m c 8208).states.trans (states_out _ _ _ _ _ _ _ _)), (h c).2.2⟩) (Value.run m ρ)

end Cert.AFwdRefIdeal.Rows
end
-- ==== Proof.AFwdPair.lean ====
/- The forward recurrence's kernel and its reference side by side. -/
module

public import proofs.«01_k».proof.Proof.AFwdKernel
public import proofs.«01_k».proof.Proof.AFwdIter
public import proofs.«01_k».proof.Defs
public import Idealize.ShloMosaic.Lib.Claim

@[expose] public section

set_option maxRecDepth 16384

noncomputable section

open Idealize.ShloMosaic Idealize.ShloMosaic.TcCoe Idealize.SL.Sem

namespace Cert.AFwdPair

open Cert.AFwdIdeal.Step Cert.AFwdRefIdeal.Rows

theorem reference_frame : Cert.quiescent_AFwdRefIdeal := by
  intro m g _
  refine (θ_run _ _ _).mono (fun r h => ⟨fun c => (h c).2.2, funext fun s => ?_⟩) (Cert.AFwdRefIdeal.Value.run m g)
  exact ((by decide : ∀ _ : SemLoc Cert.AFwdRefIdeal.sig, False) s.2).elim

theorem algebraic : Cert.algebraic_AFwdIdeal_AFwdRefIdeal := by
  pair_intro
  · run_from Cert.AFwdIdeal.Step.run_main m g
  · run_from Cert.AFwdRefIdeal.Rows.run_values m' g'
    · unfold gatedOf
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      exact (final_ya m c).symm
    · unfold statesOf
      rw [(hagree c).1, (hagree c).2.1, (hagree c).2.2.1, (hagree c).2.2.2.1, (hagree c).2.2.2.2.1, (hagree c).2.2.2.2.2.1,
        (hagree c).2.2.2.2.2.2.1, (hagree c).2.2.2.2.2.2.2]
      exact (final_hl m c).symm

end Cert.AFwdPair
end
-- ==== Proof.AFwdWord.lean ====
/- The forward recurrence's frame on machine words: its program is the one whose run `AFwdFrame` proves at any reading of the floats. -/
module

public import proofs.«01_k».proof.Proof.AFwdFrame
public import proofs.«01_k».proof.Proof.Gen.AFwd
public import proofs.«01_k».proof.Defs
public import Idealize.ShloMosaic.Lib.Tactic

@[expose] public section

set_option maxRecDepth 16384

noncomputable section

open Idealize.ShloMosaic Idealize.ShloMosaic.TcCoe Idealize.SL.Sem

namespace Cert.AFwdWord

variable (m : (ℓ : Loc Cert.AFwd.nD Cert.AFwd.τ Cert.AFwd.sig) → Buf (Elt Bits) ℓ) (g : Dev Cert.AFwd.nD → PrngReg)

/-- What the frame says of the program read at the extended reals, here at words. -/
def Shared : Prop :=
  θ_run (Cert.AFwdIdeal.defs (F := Bits)) (onTc (τ := Cert.AFwdIdeal.τ) (Cert.AFwdIdeal.main (F := Bits))) ⟨m, fun _ => 0, g⟩ (fun r => (∀ c : Dev Cert.AFwdIdeal.nD,
      r.2.mem ((c.tc : Thread Cert.AFwdIdeal.nD Cert.AFwdIdeal.τ).loc Cert.AFwdIdeal.main_arg0) = m ((c.tc : Thread Cert.AFwdIdeal.nD Cert.AFwdIdeal.τ).loc Cert.AFwdIdeal.main_arg0)
      ∧ r.2.mem ((c.tc : Thread Cert.AFwdIdeal.nD Cert.AFwdIdeal.τ).loc Cert.AFwdIdeal.main_arg1) = m ((c.tc : Thread Cert.AFwdIdeal.nD Cert.AFwdIdeal.τ).loc Cert.AFwdIdeal.main_arg1)
      ∧ r.2.mem ((c.tc : Thread Cert.AFwdIdeal.nD Cert.AFwdIdeal.τ).loc Cert.AFwdIdeal.main_arg2) = m ((c.tc : Thread Cert.AFwdIdeal.nD Cert.AFwdIdeal.τ).loc Cert.AFwdIdeal.main_arg2)
      ∧ r.2.mem ((c.tc : Thread Cert.AFwdIdeal.nD Cert.AFwdIdeal.τ).loc Cert.AFwdIdeal.main_arg3) = m ((c.tc : Thread Cert.AFwdIdeal.nD Cert.AFwdIdeal.τ).loc Cert.AFwdIdeal.main_arg3)
      ∧ r.2.mem ((c.tc : Thread Cert.AFwdIdeal.nD Cert.AFwdIdeal.τ).loc Cert.AFwdIdeal.main_arg4) = m ((c.tc : Thread Cert.AFwdIdeal.nD Cert.AFwdIdeal.τ).loc Cert.AFwdIdeal.main_arg4)
      ∧ r.2.mem ((c.tc : Thread Cert.AFwdIdeal.nD Cert.AFwdIdeal.τ).loc Cert.AFwdIdeal.main_arg5) = m ((c.tc : Thread Cert.AFwdIdeal.nD Cert.AFwdIdeal.τ).loc Cert.AFwdIdeal.main_arg5)
      ∧ r.2.mem ((c.tc : Thread Cert.AFwdIdeal.nD Cert.AFwdIdeal.τ).loc Cert.AFwdIdeal.main_arg6) = m ((c.tc : Thread Cert.AFwdIdeal.nD Cert.AFwdIdeal.τ).loc Cert.AFwdIdeal.main_arg6)
      ∧ r.2.mem ((c.tc : Thread Cert.AFwdIdeal.nD Cert.AFwdIdeal.τ).loc Cert.AFwdIdeal.main_arg7) = m ((c.tc : Thread Cert.AFwdIdeal.nD Cert.AFwdIdeal.τ).loc Cert.AFwdIdeal.main_arg7))
    ∧ r.2.sem = fun _ => 0)

/-- The same of the program as printed. -/
def Printed : Prop :=
  θ_run (Cert.AFwd.defs (F := Bits)) (onTc (τ := Cert.AFwd.τ) (Cert.AFwd.main (F := Bits))) ⟨m, fun _ => 0, g⟩ (fun r => (∀ c : Dev Cert.AFwd.nD,
      r.2.mem ((c.tc : Thread Cert.AFwd.nD Cert.AFwd.τ).loc Cert.AFwd.main_arg0) = m ((c.tc : Thread Cert.AFwd.nD Cert.AFwd.τ).loc Cert.AFwd.main_arg0)
      ∧ r.2.mem ((c.tc : Thread Cert.AFwd.nD Cert.AFwd.τ).loc Cert.AFwd.main_arg1) = m ((c.tc : Thread Cert.AFwd.nD Cert.AFwd.τ).loc Cert.AFwd.main_arg1)
      ∧ r.2.mem ((c.tc : Thread Cert.AFwd.nD Cert.AFwd.τ).loc Cert.AFwd.main_arg2) = m ((c.tc : Thread Cert.AFwd.nD Cert.AFwd.τ).loc Cert.AFwd.main_arg2)
      ∧ r.2.mem ((c.tc : Thread Cert.AFwd.nD Cert.AFwd.τ).loc Cert.AFwd.main_arg3) = m ((c.tc : Thread Cert.AFwd.nD Cert.AFwd.τ).loc Cert.AFwd.main_arg3)
      ∧ r.2.mem ((c.tc : Thread Cert.AFwd.nD Cert.AFwd.τ).loc Cert.AFwd.main_arg4) = m ((c.tc : Thread Cert.AFwd.nD Cert.AFwd.τ).loc Cert.AFwd.main_arg4)
      ∧ r.2.mem ((c.tc : Thread Cert.AFwd.nD Cert.AFwd.τ).loc Cert.AFwd.main_arg5) = m ((c.tc : Thread Cert.AFwd.nD Cert.AFwd.τ).loc Cert.AFwd.main_arg5)
      ∧ r.2.mem ((c.tc : Thread Cert.AFwd.nD Cert.AFwd.τ).loc Cert.AFwd.main_arg6) = m ((c.tc : Thread Cert.AFwd.nD Cert.AFwd.τ).loc Cert.AFwd.main_arg6)
      ∧ r.2.mem ((c.tc : Thread Cert.AFwd.nD Cert.AFwd.τ).loc Cert.AFwd.main_arg7) = m ((c.tc : Thread Cert.AFwd.nD Cert.AFwd.τ).loc Cert.AFwd.main_arg7))
    ∧ r.2.sem = fun _ => 0)

theorem shared_eq_printed : Shared m g = Printed m g := by
  sl_kernel_rfl

theorem frame : Cert.quiescent_AFwd := fun m g _ =>
  Eq.mp (shared_eq_printed m g) (Cert.AFwdIdeal.Step.frame (F := Bits) m g)

end Cert.AFwdWord
end
-- ==== Proof.MFwdForm.lean ====
/- The gated merge of the two projected branches, as a form of the arrays. -/
module

public import proofs.«01_k».proof.Proof.MergeForm

@[expose] public section

noncomputable section

namespace Cert.MFwdForm

open Idealize.ShloMosaic
open Cert.MergeForm (proj gateA gateB)

/-- Each branch's projection under its gate, added. -/
def mix (ya yb : FVec Ideal ⟨2, ![8208, 2048]⟩ .f32) (z : FVec Ideal ⟨2, ![8208, 14336]⟩ .f32)
    (wa wb : FVec Ideal ⟨2, ![2048, 2048]⟩ .f32) (r : Fin 8208) (k : Fin 2048) : EReal :=
  gateA z r k * proj ya wa r k + gateB z r k * proj yb wb r k

end Cert.MFwdForm
end
-- ==== Proof.MFwdKernel.lean ====
/- What the forward merge's kernel leaves in its three arrays. -/
module

public import proofs.«01_k».proof.Proof.MFwdForm
public import proofs.«01_k».proof.Proof.Gen.MFwdIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.MFwdIdeal.Mix

open Cert.MFwdIdeal Cert.MFwdIdeal.Gen Cert.MergeForm Cert.MFwdForm

variable (m : (ℓ : Loc nD τ sig) → Buf (Elt Ideal) ℓ)

abbrev Ya (c : Dev nD) : FVec Ideal ⟨2, ![8208, 2048]⟩ .f32 := m ((c : Thread nD τ).loc main_arg0)
abbrev Yb (c : Dev nD) : FVec Ideal ⟨2, ![8208, 2048]⟩ .f32 := m ((c : Thread nD τ).loc main_arg1)
abbrev Z (c : Dev nD) : FVec Ideal ⟨2, ![8208, 14336]⟩ .f32 := m ((c : Thread nD τ).loc main_arg2)
abbrev Wa (c : Dev nD) : FVec Ideal ⟨2, ![2048, 2048]⟩ .f32 := m ((c : Thread nD τ).loc main_arg3)
abbrev Wb (c : Dev nD) : FVec Ideal ⟨2, ![2048, 2048]⟩ .f32 := m ((c : Thread nD τ).loc main_arg4)

/-- The windows' block indices at a grid point: rows of the branches, a gate's tile, columns of a weight, a result's tile. -/
theorem idx : ∀ t : Fin cfg0.N, (win0_0.index t = ![t.val / 4, 0] ∧ win0_1.index t = ![t.val / 4, 0])
    ∧ (win0_2.index t = ![t.val / 4, 20 + t.val % 4] ∧ win0_3.index t = ![t.val / 4, 24 + t.val % 4])
    ∧ (win0_4.index t = ![0, t.val % 4] ∧ win0_5.index t = ![0, t.val % 4])
    ∧ win0_6.index t = ![t.val / 4, t.val % 4] ∧ win0_7.index t = ![t.val / 4, t.val % 4]
    ∧ win0_8.index t = ![t.val / 4, t.val % 4] ∧ t.val < 36 :=
  (by decide +kernel : ∀ t : Fin grid0.N, _)

theorem lt36 (t : Fin cfg0.N) : t.val < 36 := (idx t).2.2.2.2.2.2

/-- The row and the column of the whole array that a tile's row and column are. -/
abbrev row (t : Fin cfg0.N) (r : Fin 912) : Fin 8208 := ⟨t.val / 4 * 912 + r, by have := lt36 t; omega⟩
abbrev col (t : Fin cfg0.N) (k : Fin 512) : Fin 2048 := ⟨t.val % 4 * 512 + k, by omega⟩

theorem V_ya (c : Dev nD) : V m c main_v0 = truncf .bf16 (Ya m c) bitsLt_bf16_f32 := by
  unfold V; after_results_simp <;> rfl

theorem V_yb (c : Dev nD) : V m c main_v1 = truncf .bf16 (Yb m c) bitsLt_bf16_f32 := by
  unfold V; after_results_simp <;> rfl

theorem V_wa (c : Dev nD) : V m c main_v2 = truncf .bf16 (Wa m c) bitsLt_bf16_f32 := by
  unfold V; after_results_simp <;> rfl

theorem V_wb (c : Dev nD) : V m c main_v3 = truncf .bf16 (Wb m c) bitsLt_bf16_f32 := by
  unfold V; after_results_simp <;> rfl

theorem ya_at (c : Dev nD) (t : Fin cfg0.N) (r : Fin 912) (j : Fin 2048) :
    (show EReal from iblk m c 0 t (ix2 r j)) = Ya m c (ix2 (row t r) j) := by
  trans V m c main_v0 (ix2 (row t r) j)
  · blk_ext [iblk, idx t]
  · rw [V_ya]; pointwise

theorem yb_at (c : Dev nD) (t : Fin cfg0.N) (r : Fin 912) (j : Fin 2048) :
    (show EReal from iblk m c 1 t (ix2 r j)) = Yb m c (ix2 (row t r) j) := by
  trans V m c main_v1 (ix2 (row t r) j)
  · blk_ext [iblk, idx t]
  · rw [V_yb]; pointwise

theorem ma_at (c : Dev nD) (t : Fin cfg0.N) (r : Fin 912) (k : Fin 512) :
    (show EReal from iblk m c 2 t (ix2 r k)) = Z m c (ix2 (row t r) ⟨10240 + col t k, by have := (col t k).isLt; omega⟩) := by
  blk_ext [iblk, V, idx t]

theorem mb_at (c : Dev nD) (t : Fin cfg0.N) (r : Fin 912) (k : Fin 512) :
    (show EReal from iblk m c 3 t (ix2 r k)) = Z m c (ix2 (row t r) ⟨12288 + col t k, by have := (col t k).isLt; omega⟩) := by
  blk_ext [iblk, V, idx t]

theorem wa_at (c : Dev nD) (t : Fin cfg0.N) (j : Fin 2048) (k : Fin 512) :
    (show EReal from iblk m c 4 t (ix2 j k)) = Wa m c (ix2 j (col t k)) := by
  trans V m c main_v2 (ix2 j (col t k))
  · blk_ext [iblk, idx t]
  · rw [V_wa]; pointwise

theorem wb_at (c : Dev nD) (t : Fin cfg0.N) (j : Fin 2048) (k : Fin 512) :
    (show EReal from iblk m c 5 t (ix2 j k)) = Wb m c (ix2 j (col t k)) := by
  trans V m c main_v3 (ix2 j (col t k))
  · blk_ext [iblk, idx t]
  · rw [V_wb]; pointwise

/-- The two products of a tile. -/
theorem pa_at (c : Dev nD) (t : Fin cfg0.N) (r : Fin 912) (k : Fin 512) :
    k0_pay2 (F := Ideal) (iblk m c 0 t) (iblk m c 4 t) (ix2 r k) = proj (Ya m c) (Wa m c) (row t r) (col t k) := by
  unfold proj
  pointwise [k0_pay2]
  exact Finset.sum_congr rfl fun j _ => congrArg₂ (· * ·) (ya_at m c t r j) (wa_at m c t j k)

theorem pb_at (c : Dev nD) (t : Fin cfg0.N) (r : Fin 912) (k : Fin 512) :
    k0_pay3 (F := Ideal) (iblk m c 1 t) (iblk m c 5 t) (ix2 r k) = proj (Yb m c) (Wb m c) (row t r) (col t k) := by
  unfold proj
  pointwise [k0_pay3]
  exact Finset.sum_congr rfl fun j _ => congrArg₂ (· * ·) (yb_at m c t r j) (wb_at m c t j k)

/-- A tile of the merged rows. -/
theorem mix_at (c : Dev nD) (t : Fin cfg0.N) (r : Fin 912) (k : Fin 512) :
    k0_pay4 (F := Ideal) (iblk m c 0 t) (iblk m c 4 t) (iblk m c 1 t) (iblk m c 5 t) (iblk m c 2 t) (iblk m c 3 t) (ix2 r k)
      = mix (Ya m c) (Yb m c) (Z m c) (Wa m c) (Wb m c) (row t r) (col t k) := by
  unfold mix gateA gateB
  rw [← ma_at, ← mb_at, ← Ext.sig_tanh, ← Ext.sig_tanh]
  pointwise [k0_pay4, pa_at, pb_at]

/-- The three results, tile by tile. -/
theorem final_merged (c : Dev nD) : (dats m 0 c).arrAt 6 (cfgs 0).N
    = fun i : S8208x2048.Idx => mix (Ya m c) (Yb m c) (Z m c) (Wa m c) (Wb m c) (i 0) (i 1) := by
  refine (dats m 0 c).arrAt_eq_of_covers 6 _ (by decide +kernel) fun t _ y => ?_
  idx_vars y
  blk_simp
  rw [after0_6]
  unfold out0_6
  frame_out
  refine (mix_at m c t y0 y1).trans ?_
  exact congrArg₂ (mix (Ya m c) (Yb m c) (Z m c) (Wa m c) (Wb m c))
    (Fin.ext (by symm; blk_simp [idx t])) (Fin.ext (by symm; blk_simp [idx t]))

theorem final_pa (c : Dev nD) : (dats m 0 c).arrAt 7 (cfgs 0).N
    = fun i : S8208x2048.Idx => proj (Ya m c) (Wa m c) (i 0) (i 1) := by
  refine (dats m 0 c).arrAt_eq_of_covers 7 _ (by decide +kernel) fun t _ y => ?_
  idx_vars y
  blk_simp
  rw [after0_7]
  unfold out0_7
  frame_out
  trans k0_pay2 (F := Ideal) (iblk m c 0 t) (iblk m c 4 t) (ix2 y0 y1)
  · pointwise [k0_pay5]
  refine (pa_at m c t y0 y1).trans ?_
  exact congrArg₂ (proj (Ya m c) (Wa m c)) (Fin.ext (by symm; blk_simp [idx t])) (Fin.ext (by symm; blk_simp [idx t]))

theorem final_pb (c : Dev nD) : (dats m 0 c).arrAt 8 (cfgs 0).N
    = fun i : S8208x2048.Idx => proj (Yb m c) (Wb m c) (i 0) (i 1) := by
  refine (dats m 0 c).arrAt_eq_of_covers 8 _ (by decide +kernel) fun t _ y => ?_
  idx_vars y
  blk_simp
  rw [after0_8]
  unfold out0_8
  frame_out
  trans k0_pay3 (F := Ideal) (iblk m c 1 t) (iblk m c 5 t) (ix2 y0 y1)
  · pointwise [k0_pay1]
  refine (pb_at m c t y0 y1).trans ?_
  exact congrArg₂ (proj (Yb m c) (Wb m c)) (Fin.ext (by symm; blk_simp [idx t])) (Fin.ext (by symm; blk_simp [idx t]))

end Cert.MFwdIdeal.Mix
end
-- ==== Proof.MFwdReference.lean ====
/- What the forward merge's reference leaves in its three results. -/
module

public import proofs.«01_k».proof.Proof.MFwdForm
public import proofs.«01_k».proof.Proof.Gen.MFwdRefIdeal.Read

@[expose] public section

set_option maxRecDepth 16384

noncomputable section

open Idealize.ShloMosaic

namespace Cert.MFwdRefIdeal.Mix

open Cert.MFwdRefIdeal Cert.MFwdRefIdeal.Gen Cert.MFwdRefIdeal.Read Cert.MergeForm Cert.MFwdForm

variable (ya yb : FVec Ideal S8208x2048 .f32) (z : FVec Ideal S8208x14336 .f32) (wa wb : FVec Ideal S2048x2048 .f32)

theorem pa_at (r : Fin 8208) (k : Fin 2048) : val_main_v9 (F := Ideal) ya wa (ix2 r k) = proj ya wa r k := by
  unfold proj
  pointwise [val_main_v9, val_main_v8, val_main_v7]

theorem pb_at (r : Fin 8208) (k : Fin 2048) : val_main_v12 (F := Ideal) yb wb (ix2 r k) = proj yb wb r k := by
  unfold proj
  pointwise [val_main_v12, val_main_v11, val_main_v10]

theorem ga_at (r : Fin 8208) (k : Fin 2048) : val_main_v18 (F := Ideal) z (ix2 r k) = gateA z r k := by
  unfold gateA
  rw [← Ext.sig_exp]
  pointwise [val_main_v18, val_main_v17, val_main_v16, val_main_v15, val_main_v14, val_main_v13, val_main_v5, val_main_cst,
    val_main_cst_0]

theorem gb_at (r : Fin 8208) (k : Fin 2048) : val_main_v25 (F := Ideal) z (ix2 r k) = gateB z r k := by
  unfold gateB
  rw [← Ext.sig_exp]
  pointwise [val_main_v25, val_main_v24, val_main_v23, val_main_v22, val_main_v21, val_main_v20, val_main_v6, val_main_cst_1,
    val_main_cst_2]

theorem merged_out : val_main_v28 (F := Ideal) ya yb z wa wb = fun i : S8208x2048.Idx => mix ya yb z wa wb (i 0) (i 1) := by
  funext i
  idx_vars i
  unfold mix
  pointwise [val_main_v28, val_main_v27, val_main_v26, val_main_v19, ga_at, gb_at, pa_at, pb_at]

theorem pa_out : val_main_v29 (F := Ideal) ya wa = fun i : S8208x2048.Idx => proj ya wa (i 0) (i 1) := by
  funext i
  idx_vars i
  pointwise [val_main_v29, pa_at]

theorem pb_out : val_main_v30 (F := Ideal) yb wb = fun i : S8208x2048.Idx => proj yb wb (i 0) (i 1) := by
  funext i
  idx_vars i
  pointwise [val_main_v30, pb_at]

end Cert.MFwdRefIdeal.Mix
end
-- ==== Proof.MFwdPair.lean ====
/- The forward merge's kernel and its reference side by side. -/
module

public import proofs.«01_k».proof.Proof.MFwdKernel
public import proofs.«01_k».proof.Proof.MFwdReference
public import proofs.«01_k».proof.Defs
public import proofs.«01_k».proof.Proof.Gen.MFwdRefIdeal.Run
public import Idealize.ShloMosaic.Lib.Claim

@[expose] public section

set_option maxRecDepth 16384

noncomputable section

open Idealize.ShloMosaic Idealize.ShloMosaic.TcCoe Idealize.SL.Sem

namespace Cert.MFwdPair

open Cert.MFwdIdeal.Mix Cert.MFwdRefIdeal.Mix

theorem reference_frame : Cert.quiescent_MFwdRefIdeal := by
  intro m g _
  refine (θ_run _ _ _).mono (fun r h => ⟨fun c => (h c).2.2.2, funext fun s => ?_⟩) (Cert.MFwdRefIdeal.Value.run m g)
  exact ((by decide : ∀ _ : SemLoc Cert.MFwdRefIdeal.sig, False) s.2).elim

theorem algebraic : Cert.algebraic_MFwdIdeal_MFwdRefIdeal := by
  pair_intro
  · run_from Cert.MFwdIdeal.Gen.run_main m g
  · run_from Cert.MFwdRefIdeal.Value.run m' g'
    · exact (merged_out _ _ _ _ _).trans (final_merged m c).symm
    · exact (pa_out _ _).trans (final_pa m c).symm
    · exact (pb_out _ _).trans (final_pb m c).symm

end Cert.MFwdPair
end
-- ==== Proof.PFwdForm.lean ====
/- The normalized rows and the joint projection, as forms of the arrays. -/
module

public import proofs.«01_k».proof.Proof.NormForm

@[expose] public section

set_option maxRecDepth 16384

noncomputable section

namespace Cert.PFwdForm

open Idealize.ShloMosaic
open Cert.NormForm (ri)

variable (h : FVec Ideal ⟨2, ![8208, 2048]⟩ .f32) (g : FVec Ideal ⟨1, ![2048]⟩ .f32) (w : FVec Ideal ⟨2, ![2048, 14336]⟩ .f32)

/-- A normalized row, scaled by the gain. -/
def normed (r : Fin 8208) (k : Fin 2048) : EReal := h (ix2 r k) * ri h r * g (ix1 k)

/-- The joint projection of the normalized rows. -/
def proj (r : Fin 8208) (n : Fin 14336) : EReal := ∑ k : Fin 2048, normed h g r k * w (ix2 k n)

end Cert.PFwdForm
end
-- ==== Proof.PFwdRows.lean ====
/- The joint projection's kernel: what its loop over sixteen-row slabs leaves in the block of normalised rows, whatever the
number type. -/
module

public import proofs.«01_k».proof.Proof.Gen.PFwdIdeal.Loops
public import Idealize.ShloMosaic.Lib.Pipeline.ValueKit
public import Idealize.ShloMosaic.Lib.VecWindow

@[expose] public section

set_option maxRecDepth 16384

noncomputable section

namespace Cert.PFwdIdeal.Step

open Cert.PFwdIdeal Cert.PFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Sixteen rows of a block, by their number. -/
def sixteen (X : Vec F S912x2048 .f32) (b : Fin 57) : Vec F S16x2048 .f32 :=
  fun y => X (ix2 (⟨16 * b.val + (y 0).val, by have h : (y 0).val < 16 := (y 0).isLt; omega⟩ : Fin 912) (y 1))

/-- The normalised rows of a block, scaled by the gain: each sixteen rows by the slab's own arithmetic. -/
def normalised (X : Vec F S912x2048 .f32) (g : Vec F S1x2048 .f32) : Vec F S912x2048 .bf16 := fun y =>
  k0_pay4 (sixteen X ⟨(y 0).val / 16, by have h : (y 0).val < 912 := (y 0).isLt; omega⟩) g
    (ix2 (⟨(y 0).val % 16, by omega⟩ : Fin 16) (y 1))

theorem trips_lt (k : Fin k0_t1_loop.trips) : k.val < 19 := Nat.lt_of_lt_of_le k.isLt k0_t1_abs.2.1

/-- The row of the block that a slab's row is. -/
abbrev slabRow (k : Fin k0_t1_loop.trips) (s : Fin 3) (a : Fin 16) : Fin 912 :=
  ⟨48 * k.val + 16 * s.val + a.val, by have := trips_lt k; omega⟩

/-- The sixteen rows of a block that a slab holds. -/
def slab (X : Vec F S912x2048 .f32) (k : Fin k0_t1_loop.trips) (s : Fin 3) : Vec F S16x2048 .f32 :=
  fun y => X (ix2 (slabRow k s (y 0)) (y 1))

theorem normalised_slab (X : Vec F S912x2048 .f32) (g : Vec F S1x2048 .f32) (k : Fin k0_t1_loop.trips) (s : Fin 3) (a : Fin 16)
    (j : Fin 2048) : normalised X g (ix2 (slabRow k s a) j) = k0_pay4 (slab X k s) g (ix2 a j) := by
  have hk := trips_lt k
  have e1 : sixteen X ⟨(slabRow k s a).val / 16, by omega⟩ = slab X k s := funext fun y => by
    have h : (y 0).val < 16 := (y 0).isLt
    refine congrArg (fun r => X (ix2 r (y 1))) (Fin.ext ?_)
    show 16 * ((48 * k.val + 16 * s.val + a.val) / 16) + (y 0).val = 48 * k.val + 16 * s.val + (y 0).val
    omega
  have e2 : (⟨(slabRow k s a).val % 16, by omega⟩ : Fin 16) = a := Fin.ext (by
    show (48 * k.val + 16 * s.val + a.val) % 16 = a.val; omega)
  show k0_pay4 (sixteen X ⟨(slabRow k s a).val / 16, _⟩) g (ix2 (⟨(slabRow k s a).val % 16, _⟩ : Fin 16) j) = _
  rw [e1, e2]

/-- A load at a slab's offset reads the slab. -/
theorem load_slab (V : View sig .tc .vmem S912x2048 .f32) (f : V.ty.Contents (Elt F)) (k : Fin k0_t1_loop.trips) (s : Fin 3)
    (inb : ∀ a, (k0_off1 k (BitVec.ofNat 32 s.val)) a + S16x2048.size a ≤ S912x2048.size a) :
    V.readAt (Elt F) (Rect.unit (s := S912x2048) (k0_off1 k (BitVec.ofNat 32 s.val)) S16x2048.size inb).toLoadRect f
      = slab (V.read (Elt F) f) k s := by
  rw [V.readAt_unit f inb (k0_off1_eq k s) (by rw [← k0_off1_eq k s]; exact inb)]
  funext y
  exact congrArg (V.read (Elt F) f) (funext fun a => by
    match a with
    | 0 => exact Fin.ext (by show 48 * k.val + 16 * s.val + 1 * (y 0).val = 48 * k.val + 16 * s.val + (y 0).val; omega)
    | 1 => exact Fin.ext (by show 0 + 1 * (y 1).val = (y 1).val; omega))

/-- The three slabs' arithmetic is the same. -/
theorem same1 (u : Vec F S16x2048 .f32) (g : Vec F S1x2048 .f32) : k0_pay1 u (k0_pay5 u) k0_pay6 g = k0_pay4 u g := rfl
theorem same2 (u : Vec F S16x2048 .f32) (g : Vec F S1x2048 .f32) : k0_pay2 u g = k0_pay4 u g := rfl

theorem slab_congr {X : Vec F S912x2048 .f32} {g g' : Vec F S1x2048 .f32} {k : Fin k0_t1_loop.trips} {s : Fin 3}
    {u : Vec F S16x2048 .f32} (hu : u = slab X k s) (hg : g' = g) (a : Fin 16) (j : Fin 2048) :
    k0_pay4 u g' (ix2 a j) = normalised X g (ix2 (slabRow k s a) j) := by
  subst hu hg; exact (normalised_slab X _ k s a j).symm

/-- What a trip's pieces leave: the rows of its three slabs normalised, the others as they were. -/
structure Trip (arg6 : Memref sig .tc .vmem S912x2048 .bf16) (X : Vec F S912x2048 .f32) (g : Vec F S1x2048 .f32)
    (k : Fin k0_t1_loop.trips) (L : List (View.Piece (Elt F) S912x2048 .bf16)) : Prop where
  new : ∀ (f : BufTy.Contents (Elt F) arg6.view.ty) s a j, arg6.view.read (Elt F) (arg6.view.writes (Elt F) f L) (ix2 (slabRow k s a) j)
    = normalised X g (ix2 (slabRow k s a) j)
  old : ∀ (f : BufTy.Contents (Elt F) arg6.view.ty) (r : Fin 912) j, r.val < 48 * k.val ∨ 48 * k.val + 48 ≤ r.val →
    arg6.view.read (Elt F) (arg6.view.writes (Elt F) f L) (ix2 r j) = arg6.view.read (Elt F) f (ix2 r j)

variable (𝒱 : Variants) (bd : Option 𝒱.V) (c : Dev nD) (i : grid0.Coords)
  (arg2 : Memref sig .tc .vmem S912x2048 .f32) (harg2 : arg2.IsWhole)
  (arg3 : Memref sig .tc .vmem S1x2048 .f32) (harg3 : arg3.IsWhole)
  (arg4 : Memref sig .tc .vmem S1x2048x1792 .bf16) (harg4 : arg4.IsWhole)
  (arg5 : Memref sig .tc .vmem S912x1792 .f32) (harg5 : arg5.IsWhole)
  (arg6 : Memref sig .tc .vmem S912x2048 .bf16) (harg6 : arg6.IsWhole) (k0_h1 : k0_cond1 i = 1#1)
  (X2 : BufTy.Contents (Elt F) arg2.view.ty) (X3 : BufTy.Contents (Elt F) arg3.view.ty)

theorem trip (k : Fin k0_t1_loop.trips) : Trip arg6 (arg2.view.read (Elt F) X2) (arg3.view.read (Elt F) X3) k
    (tripL_k0_t1 (F := F) 𝒱 c bd i arg2 harg2 arg3 harg3 arg4 harg4 arg5 harg5 arg6 harg6 k0_h1 X2 X3 k) := by
  have hk := trips_lt k
  have e3 : ∀ inb, arg3.view.readAt (Elt F) (Rect.unit (s := S1x2048) ![0, 0] S1x2048.size inb).toLoadRect X3
      = arg3.view.read (Elt F) X3 := fun inb => arg3.view.readAt_full X3 inb
  refine ⟨fun f s a j => ?_, fun f r j hr => ?_⟩
  · dsimp only [tripL_k0_t1]; unfold trip_k0_t1; dsimp only
    match s with
    | 0 =>
      rw [View.read_writes_cons_unit_of_not_mem _ _ _ _ _ _ (k0_off1_eq k 2) 0 (.inl (by show 48 * k.val + 16 * 0 + a.val < 48 * k.val + 16 * 2; omega)),
        View.read_writes_cons_unit_of_not_mem _ _ _ _ _ _ (k0_off1_eq k 1) 0 (.inl (by show 48 * k.val + 16 * 0 + a.val < 48 * k.val + 16 * 1; omega)),
        View.read_writes_cons_unit_of_mem _ _ _ _ _ _ (ix2 a j) (k0_off1_eq k 0) (fun x => by match x with | 0 => rfl | 1 => exact (Nat.zero_add _).symm)]
      exact slab_congr (load_slab _ _ k 0 _) (e3 _) a j
    | 1 =>
      rw [View.read_writes_cons_unit_of_not_mem _ _ _ _ _ _ (k0_off1_eq k 2) 0 (.inl (by show 48 * k.val + 16 * 1 + a.val < 48 * k.val + 16 * 2; omega)),
        View.read_writes_cons_unit_of_mem _ _ _ _ _ _ (ix2 a j) (k0_off1_eq k 1) (fun x => by match x with | 0 => rfl | 1 => exact (Nat.zero_add _).symm)]
      exact (congrFun (same1 _ _) (ix2 a j)).trans (slab_congr (load_slab _ _ k 1 _) (e3 _) a j)
    | 2 =>
      rw [View.read_writes_cons_unit_of_mem _ _ _ _ _ _ (ix2 a j) (k0_off1_eq k 2) (fun x => by match x with | 0 => rfl | 1 => exact (Nat.zero_add _).symm)]
      exact (congrFun (same2 _ _) (ix2 a j)).trans (slab_congr (load_slab _ _ k 2 _) (e3 _) a j)
  · dsimp only [tripL_k0_t1]; unfold trip_k0_t1; dsimp only
    have out : ∀ s : Fin 3, (ix2 r j (0 : Fin 2)).val < (![48 * k.val + 16 * s.val, 0] : Fin 2 → ℕ) 0
        ∨ (![48 * k.val + 16 * s.val, 0] : Fin 2 → ℕ) 0 + S16x2048.size 0 ≤ (ix2 r j (0 : Fin 2)).val := fun s => by
      show r.val < 48 * k.val + 16 * s.val ∨ 48 * k.val + 16 * s.val + 16 ≤ r.val
      omega
    rw [View.read_writes_cons_unit_of_not_mem _ _ _ _ _ _ (k0_off1_eq k 2) 0 (out 2),
      View.read_writes_cons_unit_of_not_mem _ _ _ _ _ _ (k0_off1_eq k 1) 0 (out 1),
      View.read_writes_cons_unit_of_not_mem _ _ _ _ _ _ (k0_off1_eq k 0) 0 (out 0)]
    rfl

/-- After the trips before `n` the rows before `48 n` are normalised. -/
theorem swept (f : BufTy.Contents (Elt F) arg6.view.ty) : ∀ n, n ≤ k0_t1_loop.trips → ∀ (r : Fin 912) (j : Fin 2048), r.val < 48 * n →
    arg6.view.read (Elt F) (arg6.view.writes (Elt F) f (pb_k0_t1 (F := F) 𝒱 c bd i arg2 harg2 arg3 harg3 arg4 harg4 arg5 harg5 arg6 harg6 k0_h1 X2 X3 n)) (ix2 r j)
      = normalised (arg2.view.read (Elt F) X2) (arg3.view.read (Elt F) X3) (ix2 r j)
  | 0, _, r, j, hr => absurd hr (by omega)
  | n + 1, h, r, j, hr => by
    have ht := trip 𝒱 bd c i arg2 harg2 arg3 harg3 arg4 harg4 arg5 harg5 arg6 harg6 k0_h1 X2 X3 ⟨n, h⟩
    rw [pb_k0_t1_succ (F := F) 𝒱 c bd i arg2 harg2 arg3 harg3 arg4 harg4 arg5 harg5 arg6 harg6 k0_h1 X2 X3 ⟨n, h⟩, View.writes_append]
    by_cases hlt : r.val < 48 * n
    · exact (ht.old _ r j (.inl hlt)).trans (swept f n (by omega) r j hlt)
    · obtain ⟨s, a, rfl⟩ : ∃ s a, r = slabRow ⟨n, h⟩ s a :=
        ⟨⟨(r.val - 48 * n) / 16, by omega⟩, ⟨(r.val - 48 * n) % 16, by omega⟩,
          Fin.ext (by show r.val = 48 * n + 16 * ((r.val - 48 * n) / 16) + (r.val - 48 * n) % 16; omega)⟩
      exact ht.new _ s a j

/-- The loop leaves the whole block normalised. -/
theorem loop (f : BufTy.Contents (Elt F) arg6.view.ty) :
    arg6.view.read (Elt F) (arg6.view.writes (Elt F) f (pb_k0_t1 (F := F) 𝒱 c bd i arg2 harg2 arg3 harg3 arg4 harg4 arg5 harg5 arg6 harg6 k0_h1 X2 X3 k0_t1_loop.trips))
      = normalised (arg2.view.read (Elt F) X2) (arg3.view.read (Elt F) X3) := funext fun y => by
  have e : k0_t1_loop.trips = 19 := by decide +kernel
  rw [show y = ix2 (y 0) (y 1) from funext fun a => by match a with | 0 => rfl | 1 => rfl]
  have h : (y 0).val < 912 := (y 0).isLt
  exact swept 𝒱 bd c i arg2 harg2 arg3 harg3 arg4 harg4 arg5 harg5 arg6 harg6 k0_h1 X2 X3 f _ (Nat.le_refl _) (y 0) (y 1) (by rw [e]; omega)

end Cert.PFwdIdeal.Step

end
-- ==== Proof.PFwdRun.lean ====
/- The joint projection's kernel run once at a grid point, whatever the number type: at a row tile's first column it
normalises the tile's rows and multiplies them by its block of the weights, at a later column it multiplies the rows it finds. -/
module

public import proofs.«01_k».proof.Proof.Gen.PFwdIdeal.Frame
public import proofs.«01_k».proof.Proof.PFwdRows
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.PFwdIdeal.Step

open Cert.PFwdIdeal Cert.PFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S912x2048 .f32) (harg2 : arg2.IsWhole)
  (arg3 : Memref sig .tc .vmem S1x2048 .f32) (harg3 : arg3.IsWhole)
  (arg4 : Memref sig .tc .vmem S1x2048x1792 .bf16) (harg4 : arg4.IsWhole)
  (arg5 : Memref sig .tc .vmem S912x1792 .f32) (harg5 : arg5.IsWhole)
  (arg6 : Memref sig .tc .vmem S912x2048 .bf16) (harg6 : arg6.IsWhole)
  (x2 : Vec F S912x2048 .f32) (x3 : Vec F S1x2048 .f32) (x4 : Vec F S1x2048x1792 .bf16)

/-- The staged operands, each at its contents. -/
def operands : sProp 𝕄 := iprop(owns (c : Thread nD τ) arg2 fullShare x2 ∗ owns (c : Thread nD τ) arg3 fullShare x3 ∗ owns (c : Thread nD τ) arg4 fullShare x4)

set_option maxHeartbeats 1600000 in
/-- The body at a row tile's first column. -/
theorem run_first (hc : k0_cond1 i = 1#1) (E : Set ℕ) (K : PUnit → sProp 𝕄) :
    iprop(operands c arg2 arg3 arg4 x2 x3 x4 ∗ (∃ d, owns (c : Thread nD τ) arg5 fullShare d) ∗ (∃ d, owns (c : Thread nD τ) arg6 fullShare d)
        ∗ (iprop(operands c arg2 arg3 arg4 x2 x3 x4 ∗ owns (c : Thread nD τ) arg5 fullShare (k0_pay3 (normalised x2 x3) x4)
            ∗ owns (c : Thread nD τ) arg6 fullShare (normalised x2 x3)) -∗ K ⟨⟩))
      ⊢ wp frame (wpE (defs₀ (F := F)) Variants.none c none) E (cc0_in_proj_fwd i arg2 harg2 arg3 harg3 arg4 harg4 arg5 harg5 arg6 harg6) K := by
  simp only [cc0_in_proj_fwd_eq_skeleton]; unfold cc0_in_proj_fwd_skel operands owns
  iintro ⟨⟨⟨%f2, %hf2, H2⟩, ⟨%f3, %hf3, H3⟩, ⟨%f4, %hf4, H4⟩⟩, ⟨%d5, %f5, -, H5⟩, ⟨%d6, %f6, -, H6⟩, Hk⟩
  obtain rfl := harg2.eq_unread hf2; obtain rfl := harg3.eq_unread hf3; obtain rfl := harg4.eq_unread hf4
  sl_exec (disch := first | sl_exact hc)
  sl_step
  iapply Hk
  isplitl [H2 H3 H4]
  · isplitl [H2]
    · iexists _; isplitr; · ipureintro; exact harg2.read_unread _
      iexact H2
    isplitl [H3]
    · iexists _; isplitr; · ipureintro; exact harg3.read_unread _
      iexact H3
    iexists _; isplitr; · ipureintro; exact harg4.read_unread _
    iexact H4
  isplitl [H5]
  · iexists _; isplitr
    swap; · iexact H5
    ipureintro
    sl_unfold_words
    rw [View.read_writes_full, View.readAt_full, View.readAt_full, harg4.read_unread, loop, harg2.read_unread, harg3.read_unread]
  iexists _; isplitr
  swap; · iexact H6
  ipureintro
  rw [loop, harg2.read_unread, harg3.read_unread]

set_option maxHeartbeats 1600000 in
/-- The body at a later column. -/
theorem run_next (x6 : Vec F S912x2048 .bf16) (hc : ¬k0_cond1 i = 1#1) (E : Set ℕ) (K : PUnit → sProp 𝕄) :
    iprop(operands c arg2 arg3 arg4 x2 x3 x4 ∗ (∃ d, owns (c : Thread nD τ) arg5 fullShare d) ∗ owns (c : Thread nD τ) arg6 fullShare x6
        ∗ (iprop(operands c arg2 arg3 arg4 x2 x3 x4 ∗ owns (c : Thread nD τ) arg5 fullShare (k0_pay3 x6 x4)
            ∗ owns (c : Thread nD τ) arg6 fullShare x6) -∗ K ⟨⟩))
      ⊢ wp frame (wpE (defs₀ (F := F)) Variants.none c none) E (cc0_in_proj_fwd i arg2 harg2 arg3 harg3 arg4 harg4 arg5 harg5 arg6 harg6) K := by
  simp only [cc0_in_proj_fwd_eq_skeleton]; unfold cc0_in_proj_fwd_skel operands owns
  iintro ⟨⟨⟨%f2, %hf2, H2⟩, ⟨%f3, %hf3, H3⟩, ⟨%f4, %hf4, H4⟩⟩, ⟨%d5, %f5, -, H5⟩, ⟨%f6, %hf6, H6⟩, Hk⟩
  obtain rfl := harg2.eq_unread hf2; obtain rfl := harg3.eq_unread hf3; obtain rfl := harg4.eq_unread hf4; obtain rfl := harg6.eq_unread hf6
  sl_exec (disch := first | sl_exact hc)
  sl_step
  iapply Hk
  isplitl [H2 H3 H4]
  · isplitl [H2]
    · iexists _; isplitr; · ipureintro; exact harg2.read_unread _
      iexact H2
    isplitl [H3]
    · iexists _; isplitr; · ipureintro; exact harg3.read_unread _
      iexact H3
    iexists _; isplitr; · ipureintro; exact harg4.read_unread _
    iexact H4
  isplitl [H5]
  · iexists _; isplitr
    swap; · iexact H5
    ipureintro
    sl_unfold_words
    rw [View.read_writes_full, View.readAt_full, View.readAt_full, harg4.read_unread, harg6.read_unread]
  iexists _; isplitr
  swap; · iexact H6
  ipureintro; exact harg6.read_unread _

end Cert.PFwdIdeal.Step

end
-- ==== Proof.PFwdFrame.lean ====
/- The joint projection's kernel as a whole: what its two outputs hold after each grid point, the run of the pipeline over
the grid, and its frame, whatever the number type. -/
module

public import proofs.«01_k».proof.Proof.PFwdRun
public import Idealize.ShloMosaic.Lib.Pipeline.TableIdle
public import Idealize.ShloMosaic.Lib.Claim

@[expose] public section

set_option maxRecDepth 16384

noncomputable section

namespace Cert.PFwdIdeal.Step

open Cert.PFwdIdeal Cert.PFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rows are normalised at a row tile's first column only. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

theorem live_first (t : Fin cfg0.N) (h : t.val % 8 = 0) : cfg0.idle 4 (cfg0.grid.coords t) = false := by
  show (!(k0_cond1 (grid0.coords t) == 1#1)) = false
  rw [(first_iff t).mpr h]; rfl

theorem idle_next (t : Fin cfg0.N) (h : ¬t.val % 8 = 0) : cfg0.idle 4 (cfg0.grid.coords t) = true := by
  show (!(k0_cond1 (grid0.coords t) == 1#1)) = true
  rw [Bool.not_eq_true', beq_eq_false_iff_ne]
  exact fun e => h ((first_iff t).mp e)

theorem later_of_idle (t : Fin cfg0.N) (h : cfg0.idle 4 (cfg0.grid.coords t) = true) : ¬t.val % 8 = 0 := fun h0 =>
  Bool.false_ne_true ((live_first t h0).symm.trans h)

/-- At a later column the buffer of normalised rows holds what an earlier column stored. -/
theorem stored : ∀ t : Fin cfg0.N, ¬t.val % 8 = 0 → cfg0.fresh 4 t.val = false :=
  (by decide +kernel : ∀ t : Fin grid0.N, ¬t.val % 8 = 0 → cfg0.fresh 4 t.val = false)

/-! ## The buffers the body is handed -/

abbrev ms0 (t : Fin cfg0.N) : Memref sig .tc .vmem S912x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x2048x1792 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S912x1792 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S912x2048 .bf16 := win0_4.stage (cfg0.slots t 4)
abbrev hs4 (t : Fin cfg0.N) : (ms4 t).IsWhole := hstage0_4 ((cfg0.slots t 4).cast nbuf0_4)

/-- The first column of a point's row tile. -/
abbrev tile (t : Fin cfg0.N) : Fin cfg0.N := ⟨t.val - t.val % 8, by omega⟩

theorem tile_first (t : Fin cfg0.N) (h : t.val % 8 = 0) : tile t = t := Fin.ext (by show t.val - t.val % 8 = t.val; omega)

theorem tile_prev (t : Fin cfg0.N) (h : ¬t.val % 8 = 0) : tile ⟨t.val - 1, by omega⟩ = tile t :=
  Fin.ext (by show t.val - 1 - (t.val - 1) % 8 = t.val - t.val % 8; omega)

/-- The normalised rows of a point's row tile. -/
def rowsAt (c : Dev nD) (t : Fin cfg0.N) : Vec F S912x2048 .bf16 := normalised (iblk m c 0 (tile t)) (iblk m c 1 (tile t))

/-- The proof data of the pipeline: inputs keep their blocks, the normalised rows stay through a row tile's columns, and the
product is of those rows and the column's block of the weights. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay3 (rowsAt m c t) (iblk m c 2 t)
    | ⟨4, _⟩ => rowsAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = k0_pay3 (rowsAt m c t) (iblk m c 2 t) := by dsimp only [dats]
theorem after0_4 (c : Dev nD) (t : Fin cfg0.N) : (dats m 0 c).after 4 t = rowsAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem rowsAt_prev (c : Dev nD) (t : Fin cfg0.N) (h : ¬t.val % 8 = 0) : rowsAt m c ⟨t.val - 1, by omega⟩ = rowsAt m c t := by
  unfold rowsAt; rw [tile_prev t h]

/-- At a later column the body finds the tile's normalised rows. -/
theorem before0_4 (c : Dev nD) (t : Fin cfg0.N) (h : ¬t.val % 8 = 0) (d) : (dats m 0 c).before 4 t d = rowsAt m c t := by
  rw [Dat.before_out_traj _ 4 rfl (fun _ _ => rfl) (fun t _ hi _ => by
      rw [after0_4, after0_4, rowsAt_prev m c t (later_of_idle t hi)]) t.val t rfl d,
    if_neg (by rw [stored t h]; exact Bool.false_ne_true), after0_4, rowsAt_prev m c t h]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ (dats m 0 c).leavesExact 4 t)

/-- A buffer at a tile's normalised rows is left as the pipeline wants it, whichever the column. -/
theorem leaves_rows (c : Dev nD) (t : Fin cfg0.N) :
    owns (c : Thread nD τ) (ms4 t) fullShare (rowsAt m c t) ⊢ ((dats m 0 c).leavesExact 4 t : sProp 𝕄) := by
  by_cases h0 : t.val % 8 = 0
  · unfold Dat.leavesExact; rw [live_first t h0, after0_4]
  by_cases h7 : (cfg0.win 4).flush t = true
  · unfold Dat.leavesExact; rw [idle_next t h0, h7, after0_4]
  · rw [Dat.leavesExact_idle (dats m 0 c) 4 t (idle_next t h0) (Bool.eq_false_iff.mpr h7)]
    iintro H
    iexists (rowsAt m c t)
    rw [before0_4 m c t h0]
    iexact H

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = (dats m 0 c).Φ t.castSucc from rfl,
    after0_0, after0_1, after0_2, after0_3]
  by_cases h0 : t.val % 8 = 0
  · have er : rowsAt m c t = normalised (iblk m c 0 t) (iblk m c 1 t) := by unfold rowsAt; rw [tile_first t h0]
    iintro ⟨Hg, Ho, ⟨%d0, H0⟩, ⟨%d1, H1⟩, ⟨%d2, H2⟩, ⟨%d3, H3⟩, ⟨%d4, H4⟩⟩
    iapply (run_first c (grid0.coords t) (ms0 t) (hs0 t) (ms1 t) (hs1 t) (ms2 t) (hs2 t) (ms3 t) (hs3 t) (ms4 t) (hs4 t) (iblk m c 0 t) (iblk m c 1 t) (iblk m c 2 t) ((first_iff t).mpr h0) Set.univ _)
    unfold operands
    isplitl [H0 H1 H2]
    · isplitl [H0]; · iexact H0
      isplitl [H1]; · iexact H1
      iexact H2
    isplitl [H3]; · iexists _; iexact H3
    isplitl [H4]; · iexists _; iexact H4
    rw [← er]
    iintro ⟨⟨H0, H1, H2⟩, H3, H4⟩
    isplitl [Hg]; · iexact Hg
    isplitl [Ho]; · iexact Ho
    isplitl [H0]; · iexact H0
    isplitl [H1]; · iexact H1
    isplitl [H2]; · iexact H2
    isplitl [H3]; · iexact H3
    iapply (leaves_rows m c t); iexact H4
  · simp only [before0_4 m c t h0]
    iintro ⟨Hg, Ho, ⟨%d0, H0⟩, ⟨%d1, H1⟩, ⟨%d2, H2⟩, ⟨%d3, H3⟩, ⟨%d4, H4⟩⟩
    iapply (run_next c (grid0.coords t) (ms0 t) (hs0 t) (ms1 t) (hs1 t) (ms2 t) (hs2 t) (ms3 t) (hs3 t) (ms4 t) (hs4 t) (iblk m c 0 t) (iblk m c 1 t) (iblk m c 2 t) (rowsAt m c t) (fun e => h0 ((first_iff t).mp e)) Set.univ _)
    unfold operands
    isplitl [H0 H1 H2]
    · isplitl [H0]; · iexact H0
      isplitl [H1]; · iexact H1
      iexact H2
    isplitl [H3]; · iexists _; iexact H3
    isplitl [H4]; · iexact H4
    iintro ⟨⟨H0, H1, H2⟩, H3, H4⟩
    isplitl [Hg]; · iexact Hg
    isplitl [Ho]; · iexact Ho
    isplitl [H0]; · iexact H0
    isplitl [H1]; · iexact H1
    isplitl [H2]; · iexact H2
    isplitl [H3]; · iexact H3
    iapply (leaves_rows m c t); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the launch theorem's implicit arguments are found by unifying its conclusion with this one
set_option backward.isDefEq.respectTransparency.types false in
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => Entails.refl _) (hout := fun _ => Entails.refl _)

/-- Every execution ends with the arrays at what the proof data say. -/
theorem run_main : θ_run defs (onTc (τ := τ) (main (F := F))) (s₀ m ρ) (Pipeline.FramePost cfgs (dats m) 0 (V m)) :=
  (θ_run defs _ _).mono (fun _ h => h.1) (run_quiet m ρ)

/-- The frame: every execution ends, the arguments as they were, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiet m ρ))

end Cert.PFwdIdeal.Step

end
-- ==== Proof.PFwdKernel.lean ====
/- What the joint projection's kernel leaves in its two arrays. -/
module

public import proofs.«01_k».proof.Proof.PFwdForm
public import proofs.«01_k».proof.Proof.PFwdFrame
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.PFwdIdeal.Step

open Cert.PFwdIdeal Cert.PFwdIdeal.Gen
open Cert.NormForm (ri rb)
open Cert.PFwdForm (normed proj)

/-! ### A block of normalized rows -/

theorem slab_at (u : FVec Ideal S16x2048 .f32) (g : FVec Ideal S1x2048 .f32) (a : Fin 16) (j : Fin 2048) :
    k0_pay4 (F := Ideal) u g (ix2 a j) = u (ix2 a j) * rb u a * g (ix2 0 j) := by
  unfold rb Ext.rinv; pointwise [k0_pay4]

theorem normed_of {X : FVec Ideal S912x2048 .f32} {G : FVec Ideal S1x2048 .f32} {h : FVec Ideal ⟨2, ![8208, 2048]⟩ .f32}
    {g : FVec Ideal ⟨1, ![2048]⟩ .f32} {r : Fin 912} {R : Fin 8208} (hX : ∀ j, X (ix2 r j) = h (ix2 R j))
    (hG : ∀ j, G (ix2 0 j) = g (ix1 j)) (k : Fin 2048) : normalised (F := Ideal) X G (ix2 r k) = normed h g R k := by
  have e : ∀ j, sixteen (F := Ideal) X (⟨r.val / 16, by omega⟩ : Fin 57) (ix2 (⟨r.val % 16, by omega⟩ : Fin 16) j) = X (ix2 r j) :=
    fun j => congrArg (fun q : Fin 912 => X (ix2 q j)) (Fin.ext (Nat.div_add_mod r.val 16))
  refine (slab_at (sixteen (F := Ideal) X ⟨r.val / 16, by omega⟩) G ⟨r.val % 16, by omega⟩ k).trans ?_
  unfold normed rb ri
  simp only [e, hX, hG]

/-! ### The blocks -/

variable (m : (ℓ : Loc nD τ sig) → Buf (Elt Ideal) ℓ)

abbrev Hs (c : Dev nD) : FVec Ideal ⟨2, ![8208, 2048]⟩ .f32 := m ((c : Thread nD τ).loc main_arg0)
abbrev Gn (c : Dev nD) : FVec Ideal ⟨1, ![2048]⟩ .f32 := m ((c : Thread nD τ).loc main_arg1)
abbrev Wi (c : Dev nD) : FVec Ideal ⟨2, ![2048, 14336]⟩ .f32 := m ((c : Thread nD τ).loc main_arg2)

/-- The windows' block indices at a grid point. -/
theorem idx : ∀ t : Fin cfg0.N, win0_0.index t = ![t.val / 8, 0] ∧ win0_1.index t = ![0, 0]
    ∧ win0_2.index t = ![t.val % 8 / 2, 0, t.val % 8 % 2] ∧ win0_3.index t = ![t.val / 8, t.val % 8]
    ∧ win0_4.index t = ![t.val / 8, 0] ∧ t.val < 72 :=
  (by decide +kernel : ∀ t : Fin grid0.N, _)

theorem lt72 (t : Fin cfg0.N) : t.val < 72 := (idx t).2.2.2.2.2

/-- The row and the column of the whole array that a tile's row and column are. -/
abbrev row (t : Fin cfg0.N) (r : Fin 912) : Fin 8208 := ⟨t.val / 8 * 912 + r, by have := lt72 t; omega⟩
abbrev col (t : Fin cfg0.N) (l : Fin 1792) : Fin 14336 := ⟨t.val % 8 * 1792 + l, by omega⟩

theorem V_w (c : Dev nD) : V m c main_v2 = transpose S4x2048x3584 [1, 0, 2] (shapeCast S2048x4x3584
    (truncf .bf16 (Wi m c) bitsLt_bf16_f32) shapeCasts_S2048x14336_S2048x4x3584) transposes_S2048x4x3584_S4x2048x3584_1_0_2 := by
  unfold V; after_results_simp <;> rfl

theorem V_g (c : Dev nD) : V m c main_v3 = broadcastInDim S1x2048 ![1] bcast_S2048_S1x2048_1 (Gn m c) := by
  unfold V; after_results_simp <;> rfl

theorem h_at (c : Dev nD) (t : Fin cfg0.N) (r : Fin 912) (j : Fin 2048) :
    (show EReal from iblk m c 0 t (ix2 r j)) = Hs m c (ix2 (row t r) j) := by
  blk_ext [iblk, V, idx t]

theorem g_at (c : Dev nD) (t : Fin cfg0.N) (j : Fin 2048) : (show EReal from iblk m c 1 t (ix2 0 j)) = Gn m c (ix1 j) := by
  trans V m c main_v3 (ix2 0 j)
  · blk_ext [iblk, idx t]
  · rw [V_g]; pointwise

theorem w_at (c : Dev nD) (t : Fin cfg0.N) (j : Fin 2048) (l : Fin 1792) :
    (show EReal from iblk m c 2 t (ix3 0 j l)) = Wi m c (ix2 j (col t l)) := by
  trans V m c main_v2 (ix3 (⟨t.val % 8 / 2, by omega⟩ : Fin 4) j (⟨t.val % 8 % 2 * 1792 + l, by omega⟩ : Fin 3584))
  · blk_ext [iblk, idx t]
  · rw [V_w]; pointwise
    exact congrArg (fun a => Wi m c (ix2 j a)) (Fin.ext (by
      show t.val % 8 / 2 * 3584 + (t.val % 8 % 2 * 1792 + l.val) = t.val % 8 * 1792 + l.val
      omega))

/-- The rows a point finds or makes are the normalized rows of its tile. -/
theorem rowsAt_at (c : Dev nD) (t : Fin cfg0.N) (r : Fin 912) (k : Fin 2048) :
    rowsAt m c t (ix2 r k) = normed (Hs m c) (Gn m c) (row t r) k :=
  normed_of (fun j => (h_at m c (tile t) r j).trans (congrArg (fun a => Hs m c (ix2 a j)) (Fin.ext (by
    show (t.val - t.val % 8) / 8 * 912 + r.val = t.val / 8 * 912 + r.val
    omega)))) (g_at m c (tile t)) k

theorem prod_at (c : Dev nD) (t : Fin cfg0.N) (r : Fin 912) (l : Fin 1792) :
    k0_pay3 (F := Ideal) (rowsAt m c t) (iblk m c 2 t) (ix2 r l) = proj (Hs m c) (Gn m c) (Wi m c) (row t r) (col t l) := by
  unfold proj
  pointwise [k0_pay3, rowsAt_at]
  exact Finset.sum_congr rfl fun j _ => congrArg (_ * ·) (w_at m c t j l)

/-! ### The arrays -/

/-- The joint projection, tile by tile. -/
theorem final_z (c : Dev nD) : (dats m 0 c).arrAt 3 (cfgs 0).N
    = fun i : S8208x14336.Idx => proj (Hs m c) (Gn m c) (Wi m c) (i 0) (i 1) := by
  refine (dats m 0 c).arrAt_eq_of_covers 3 _ (by decide +kernel) fun t _ y => ?_
  idx_vars y
  blk_simp
  rw [after0_3]
  refine (prod_at m c t y0 y1).trans ?_
  exact congrArg₂ (fun a b => proj (Hs m c) (Gn m c) (Wi m c) a b)
    (Fin.ext (by symm; blk_simp [idx t])) (Fin.ext (by symm; blk_simp [idx t]))

/-- The normalized rows, row tile by row tile. -/
theorem final_hn (c : Dev nD) : (dats m 0 c).arrAt 4 (cfgs 0).N
    = fun i : S8208x2048.Idx => normed (Hs m c) (Gn m c) (i 0) (i 1) := by
  refine (dats m 0 c).arrAt_eq_of_covers 4 _ (by decide +kernel) fun t _ y => ?_
  idx_vars y
  blk_simp
  rw [after0_4]
  refine (rowsAt_at m c t y0 y1).trans ?_
  exact congrArg₂ (fun a b => normed (Hs m c) (Gn m c) a b)
    (Fin.ext (by symm; blk_simp [idx t])) (Fin.ext (by symm; blk_simp [idx t]))

end Cert.PFwdIdeal.Step
end
-- ==== Proof.PFwdReference.lean ====
/- The joint projection's reference as sums over rows and columns. -/
module

public import proofs.«01_k».proof.Proof.PFwdForm
public import proofs.«01_k».proof.Proof.Gen.PFwdRefIdeal.Read

@[expose] public section

set_option maxRecDepth 16384

noncomputable section

open Idealize.ShloMosaic Idealize.ShloMosaic.TcCoe

namespace Cert.PFwdRefIdeal.Rows

open Cert.PFwdRefIdeal Cert.PFwdRefIdeal.Gen Cert.PFwdRefIdeal.Read
open Cert.NormForm (ri)
open Cert.PFwdForm (normed proj)

variable (x : FVec Ideal S8208x2048 .f32) (g : FVec Ideal S2048 .f32) (w : FVec Ideal S2048x14336 .f32)

theorem ri_at (r : Fin 8208) : val_main_v8 (F := Ideal) x (ix3 0 r 0) = ri x r := by
  unfold ri Ext.rinv
  pointwise [val_main_v8, val_main_v7, val_main_v6, val_main_cst_1, val_main_v5, val_main_v4, val_main_cst_0, val_main_v3,
    val_main_v2, val_main_cst, val_main_v1, val_main_v0]

theorem normed_at (r : Fin 8208) (k : Fin 2048) : val_main_v13 (F := Ideal) x g (ix3 0 r k) = normed x g r k := by
  unfold normed
  pointwise [val_main_v13, val_main_v12, val_main_v11, val_main_v10, val_main_v9, val_main_v0, ri_at]

/-- The reference's two results, whole. -/
theorem z_out : val_main_v15 (F := Ideal) x g w = fun i : S8208x14336.Idx => proj x g w (i 0) (i 1) := by
  funext i
  idx_vars i
  unfold proj
  pointwise [val_main_v15, val_main_v14, normed_at]

theorem hn_out : val_main_v17 (F := Ideal) x g = fun i : S8208x2048.Idx => normed x g (i 0) (i 1) := by
  funext i
  idx_vars i
  pointwise [val_main_v17, val_main_v16, normed_at]

end Cert.PFwdRefIdeal.Rows
end
-- ==== Proof.PFwdPair.lean ====
/- The joint projection's kernel and its reference side by side. -/
module

public import proofs.«01_k».proof.Proof.PFwdKernel
public import proofs.«01_k».proof.Proof.PFwdReference
public import proofs.«01_k».proof.Defs
public import proofs.«01_k».proof.Proof.Gen.PFwdRefIdeal.Run
public import Idealize.ShloMosaic.Lib.Claim

@[expose] public section

set_option maxRecDepth 16384

noncomputable section

open Idealize.ShloMosaic Idealize.ShloMosaic.TcCoe Idealize.SL.Sem

namespace Cert.PFwdPair

open Cert.PFwdIdeal.Step Cert.PFwdRefIdeal.Rows

theorem reference_frame : Cert.quiescent_PFwdRefIdeal := by
  intro m g _
  refine (θ_run _ _ _).mono (fun r h => ⟨fun c => (h c).2.2, funext fun s => ?_⟩) (Cert.PFwdRefIdeal.Value.run m g)
  exact ((by decide : ∀ _ : SemLoc Cert.PFwdRefIdeal.sig, False) s.2).elim

theorem algebraic : Cert.algebraic_PFwdIdeal_PFwdRefIdeal := by
  pair_intro
  · run_from Cert.PFwdIdeal.Step.run_main m g
  · run_from Cert.PFwdRefIdeal.Value.run m' g'
    · exact (z_out _ _ _).trans (final_z m c).symm
    · exact (hn_out _ _).trans (final_hn m c).symm

end Cert.PFwdPair
end
-- ==== Proof.PFwdWord.lean ====
/- The joint projection's frame on machine words: its program is the one whose run `PFwdFrame` proves at any reading of the floats. -/
module

public import proofs.«01_k».proof.Proof.PFwdFrame
public import proofs.«01_k».proof.Proof.Gen.PFwd
public import proofs.«01_k».proof.Defs
public import Idealize.ShloMosaic.Lib.Tactic

@[expose] public section

set_option maxRecDepth 16384

noncomputable section

open Idealize.ShloMosaic Idealize.ShloMosaic.TcCoe Idealize.SL.Sem

namespace Cert.PFwdWord

variable (m : (ℓ : Loc Cert.PFwd.nD Cert.PFwd.τ Cert.PFwd.sig) → Buf (Elt Bits) ℓ) (g : Dev Cert.PFwd.nD → PrngReg)

/-- What the frame says of the program read at the extended reals, here at words. -/
def Shared : Prop :=
  θ_run (Cert.PFwdIdeal.defs (F := Bits)) (onTc (τ := Cert.PFwdIdeal.τ) (Cert.PFwdIdeal.main (F := Bits))) ⟨m, fun _ => 0, g⟩ (fun r => (∀ c : Dev Cert.PFwdIdeal.nD,
      r.2.mem ((c.tc : Thread Cert.PFwdIdeal.nD Cert.PFwdIdeal.τ).loc Cert.PFwdIdeal.main_arg0) = m ((c.tc : Thread Cert.PFwdIdeal.nD Cert.PFwdIdeal.τ).loc Cert.PFwdIdeal.main_arg0)
      ∧ r.2.mem ((c.tc : Thread Cert.PFwdIdeal.nD Cert.PFwdIdeal.τ).loc Cert.PFwdIdeal.main_arg1) = m ((c.tc : Thread Cert.PFwdIdeal.nD Cert.PFwdIdeal.τ).loc Cert.PFwdIdeal.main_arg1)
      ∧ r.2.mem ((c.tc : Thread Cert.PFwdIdeal.nD Cert.PFwdIdeal.τ).loc Cert.PFwdIdeal.main_arg2) = m ((c.tc : Thread Cert.PFwdIdeal.nD Cert.PFwdIdeal.τ).loc Cert.PFwdIdeal.main_arg2))
    ∧ r.2.sem = fun _ => 0)

/-- The same of the program as printed. -/
def Printed : Prop :=
  θ_run (Cert.PFwd.defs (F := Bits)) (onTc (τ := Cert.PFwd.τ) (Cert.PFwd.main (F := Bits))) ⟨m, fun _ => 0, g⟩ (fun r => (∀ c : Dev Cert.PFwd.nD,
      r.2.mem ((c.tc : Thread Cert.PFwd.nD Cert.PFwd.τ).loc Cert.PFwd.main_arg0) = m ((c.tc : Thread Cert.PFwd.nD Cert.PFwd.τ).loc Cert.PFwd.main_arg0)
      ∧ r.2.mem ((c.tc : Thread Cert.PFwd.nD Cert.PFwd.τ).loc Cert.PFwd.main_arg1) = m ((c.tc : Thread Cert.PFwd.nD Cert.PFwd.τ).loc Cert.PFwd.main_arg1)
      ∧ r.2.mem ((c.tc : Thread Cert.PFwd.nD Cert.PFwd.τ).loc Cert.PFwd.main_arg2) = m ((c.tc : Thread Cert.PFwd.nD Cert.PFwd.τ).loc Cert.PFwd.main_arg2))
    ∧ r.2.sem = fun _ => 0)

theorem shared_eq_printed : Shared m g = Printed m g := by
  sl_kernel_rfl

theorem frame : Cert.quiescent_PFwd := fun m g _ =>
  Eq.mp (shared_eq_printed m g) (Cert.PFwdIdeal.Step.frame (F := Bits) m g)

end Cert.PFwdWord
end
-- ==== Proof.ProdForm.lean ====
/- The plain products of the step, in the real numbers. -/
module

public import proofs.«01_k».proof.Proof.MergeForm

@[expose] public section

noncomputable section

namespace Cert.ProdForm

open Idealize.ShloMosaic

/-- The residual and the projection of the merged rows. -/
def resid (h y : FVec Ideal ⟨2, ![8208, 2048]⟩ .f32) (w : FVec Ideal ⟨2, ![2048, 2048]⟩ .f32) (r : Fin 8208) (k : Fin 2048) : EReal :=
  h (ix2 r k) + Cert.MergeForm.proj y w r k

/-- The gradient of a projection's input: the cotangent against the rows of the weight. -/
def back (w : FVec Ideal ⟨2, ![2048, 2048]⟩ .f32) (ct : FVec Ideal ⟨2, ![8208, 2048]⟩ .f32) (r : Fin 8208) (k : Fin 2048) : EReal :=
  ∑ j : Fin 2048, ct (ix2 r j) * w (ix2 k j)

/-- The gradient of a projection's weight: the input against the cotangent, summed over the rows. -/
def gram {n : Nat} (x : FVec Ideal ⟨2, ![8208, 2048]⟩ .f32) (ct : FVec Ideal ⟨2, ![8208, n]⟩ .f32) (i : Fin 2048) (k : Fin n) : EReal :=
  ∑ l : Fin 8208, x (ix2 l i) * ct (ix2 l k)

/-- A column of the joint projection from its shard and its place in it. -/
abbrev shard (a : Fin 4) (k : Fin 3584) : Fin 14336 := ⟨a * 3584 + k, by omega⟩

end Cert.ProdForm
end
-- ==== Proof.OFwdKernel.lean ====
/- What the output projection's kernel leaves in its array. -/
module

public import proofs.«01_k».proof.Proof.ProdForm
public import proofs.«01_k».proof.Proof.Gen.OFwdIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.OFwdIdeal.Prod

open Cert.OFwdIdeal Cert.OFwdIdeal.Gen Cert.ProdForm

variable (m : (ℓ : Loc nD τ sig) → Buf (Elt Ideal) ℓ)

abbrev H (c : Dev nD) : FVec Ideal ⟨2, ![8208, 2048]⟩ .f32 := m ((c : Thread nD τ).loc main_arg0)
abbrev Y (c : Dev nD) : FVec Ideal ⟨2, ![8208, 2048]⟩ .f32 := m ((c : Thread nD τ).loc main_arg1)
abbrev W (c : Dev nD) : FVec Ideal ⟨2, ![2048, 2048]⟩ .f32 := m ((c : Thread nD τ).loc main_arg2)

/-- The windows' block indices at a grid point: the residual's tile, rows, columns of the weight, the result's tile. -/
theorem idx : ∀ t : Fin cfg0.N, win0_0.index t = ![t.val / 2, t.val % 2] ∧ win0_1.index t = ![t.val / 2, 0]
    ∧ win0_2.index t = ![0, t.val % 2] ∧ win0_3.index t = ![t.val / 2, t.val % 2] ∧ t.val < 18 :=
  (by decide +kernel : ∀ t : Fin grid0.N, _)

theorem lt18 (t : Fin cfg0.N) : t.val < 18 := (idx t).2.2.2.2

/-- The row and the column of the whole array that a tile's row and column are. -/
abbrev row (t : Fin cfg0.N) (r : Fin 912) : Fin 8208 := ⟨t.val / 2 * 912 + r, by have := lt18 t; omega⟩
abbrev col (t : Fin cfg0.N) (k : Fin 1024) : Fin 2048 := ⟨t.val % 2 * 1024 + k, by omega⟩

theorem V_y (c : Dev nD) : V m c main_v0 = truncf .bf16 (Y m c) bitsLt_bf16_f32 := by
  unfold V; after_results_simp <;> rfl

theorem V_w (c : Dev nD) : V m c main_v1 = truncf .bf16 (W m c) bitsLt_bf16_f32 := by
  unfold V; after_results_simp <;> rfl

theorem h_at (c : Dev nD) (t : Fin cfg0.N) (r : Fin 912) (k : Fin 1024) :
    (show EReal from iblk m c 0 t (ix2 r k)) = H m c (ix2 (row t r) (col t k)) := by
  blk_ext [iblk, V, idx t]

theorem y_at (c : Dev nD) (t : Fin cfg0.N) (r : Fin 912) (j : Fin 2048) :
    (show EReal from iblk m c 1 t (ix2 r j)) = Y m c (ix2 (row t r) j) := by
  trans V m c main_v0 (ix2 (row t r) j)
  · blk_ext [iblk, idx t]
  · rw [V_y]; pointwise

theorem w_at (c : Dev nD) (t : Fin cfg0.N) (j : Fin 2048) (k : Fin 1024) :
    (show EReal from iblk m c 2 t (ix2 j k)) = W m c (ix2 j (col t k)) := by
  trans V m c main_v1 (ix2 j (col t k))
  · blk_ext [iblk, idx t]
  · rw [V_w]; pointwise

/-- A tile of the result. -/
theorem tile_at (c : Dev nD) (t : Fin cfg0.N) (r : Fin 912) (k : Fin 1024) :
    k0_pay1 (F := Ideal) (iblk m c 0 t) (iblk m c 1 t) (iblk m c 2 t) (ix2 r k)
      = resid (H m c) (Y m c) (W m c) (row t r) (col t k) := by
  unfold resid Cert.MergeForm.proj
  rw [← h_at]
  pointwise [k0_pay1]
  exact congrArg ((show EReal from iblk m c 0 t (ix2 r k)) + ·) (Finset.sum_congr rfl fun j _ => congrArg₂ (· * ·) (y_at m c t r j) (w_at m c t j k))

/-- The result, tile by tile. -/
theorem final_out (c : Dev nD) : (dats m 0 c).arrAt 3 (cfgs 0).N
    = fun i : S8208x2048.Idx => resid (H m c) (Y m c) (W m c) (i 0) (i 1) := by
  refine (dats m 0 c).arrAt_eq_of_covers 3 _ (by decide +kernel) fun t _ y => ?_
  idx_vars y
  blk_simp
  rw [after0_3]
  unfold out0_3
  frame_out
  refine (tile_at m c t y0 y1).trans ?_
  exact congrArg₂ (resid (H m c) (Y m c) (W m c)) (Fin.ext (by symm; blk_simp [idx t])) (Fin.ext (by symm; blk_simp [idx t]))

end Cert.OFwdIdeal.Prod
end
-- ==== Proof.OFwdReference.lean ====
/- What the reference of the output projection leaves in its result. -/
module

public import proofs.«01_k».proof.Proof.ProdForm
public import proofs.«01_k».proof.Proof.Gen.OFwdRefIdeal.Read

@[expose] public section

set_option maxRecDepth 16384

noncomputable section

open Idealize.ShloMosaic

namespace Cert.OFwdRefIdeal.Prod

open Cert.OFwdRefIdeal Cert.OFwdRefIdeal.Gen Cert.OFwdRefIdeal.Read Cert.ProdForm

variable (h y : FVec Ideal S8208x2048 .f32) (w : FVec Ideal S2048x2048 .f32)

theorem ref_out : val_main_v3 (F := Ideal) h y w = fun i : S8208x2048.Idx => resid h y w (i 0) (i 1) := by
  funext i
  idx_vars i
  unfold resid Cert.MergeForm.proj
  pointwise [val_main_v3, val_main_v2, val_main_v1, val_main_v0]

end Cert.OFwdRefIdeal.Prod
end
-- ==== Proof.OFwdPair.lean ====
/- The kernel and the reference of the output projection side by side. -/
module

public import proofs.«01_k».proof.Proof.OFwdKernel
public import proofs.«01_k».proof.Proof.OFwdReference
public import proofs.«01_k».proof.Defs
public import proofs.«01_k».proof.Proof.Gen.OFwdRefIdeal.Run
public import Idealize.ShloMosaic.Lib.Claim

@[expose] public section

set_option maxRecDepth 16384

noncomputable section

open Idealize.ShloMosaic Idealize.ShloMosaic.TcCoe Idealize.SL.Sem

namespace Cert.OFwdPair

open Cert.OFwdIdeal.Prod Cert.OFwdRefIdeal.Prod

theorem reference_frame : Cert.quiescent_OFwdRefIdeal := by
  intro m g _
  refine (θ_run _ _ _).mono (fun r h => ⟨fun c => (h c).2, funext fun s => ?_⟩) (Cert.OFwdRefIdeal.Value.run m g)
  exact ((by decide : ∀ _ : SemLoc Cert.OFwdRefIdeal.sig, False) s.2).elim

theorem algebraic : Cert.algebraic_OFwdIdeal_OFwdRefIdeal := by
  pair_intro
  · run_from Cert.OFwdIdeal.Gen.run_main m g
  · run_from Cert.OFwdRefIdeal.Value.run m' g'
    · exact (ref_out _ _ _).trans (final_out m c).symm

end Cert.OFwdPair
end
-- ==== Proof.MatNtKernel.lean ====
/- What the kernel of the input's gradient leaves in its array. -/
module

public import proofs.«01_k».proof.Proof.ProdForm
public import proofs.«01_k».proof.Proof.Gen.MatNtIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.MatNtIdeal.Prod

open Cert.MatNtIdeal Cert.MatNtIdeal.Gen Cert.ProdForm

variable (m : (ℓ : Loc nD τ sig) → Buf (Elt Ideal) ℓ)

abbrev W (c : Dev nD) : FVec Ideal ⟨2, ![2048, 2048]⟩ .f32 := m ((c : Thread nD τ).loc main_arg1)
abbrev Ct (c : Dev nD) : FVec Ideal ⟨2, ![8208, 2048]⟩ .f32 := m ((c : Thread nD τ).loc main_arg2)

/-- The windows' block indices at a grid point: rows of the cotangent, rows of the weight, the result's tile. -/
theorem idx : ∀ t : Fin cfg0.N, win0_0.index t = ![t.val / 2, 0] ∧ win0_1.index t = ![t.val % 2, 0]
    ∧ win0_2.index t = ![t.val / 2, t.val % 2] ∧ t.val < 18 :=
  (by decide +kernel : ∀ t : Fin grid0.N, _)

theorem lt18 (t : Fin cfg0.N) : t.val < 18 := (idx t).2.2.2

/-- The row and the column of the whole array that a tile's row and column are. -/
abbrev row (t : Fin cfg0.N) (r : Fin 912) : Fin 8208 := ⟨t.val / 2 * 912 + r, by have := lt18 t; omega⟩
abbrev col (t : Fin cfg0.N) (k : Fin 1024) : Fin 2048 := ⟨t.val % 2 * 1024 + k, by omega⟩

theorem V_ct (c : Dev nD) : V m c main_v0 = truncf .bf16 (Ct m c) bitsLt_bf16_f32 := by
  unfold V; after_results_simp <;> rfl

theorem V_w (c : Dev nD) : V m c main_v1 = truncf .bf16 (W m c) bitsLt_bf16_f32 := by
  unfold V; after_results_simp <;> rfl

theorem ct_at (c : Dev nD) (t : Fin cfg0.N) (r : Fin 912) (j : Fin 2048) :
    (show EReal from iblk m c 0 t (ix2 r j)) = Ct m c (ix2 (row t r) j) := by
  trans V m c main_v0 (ix2 (row t r) j)
  · blk_ext [iblk, idx t]
  · rw [V_ct]; pointwise

theorem w_at (c : Dev nD) (t : Fin cfg0.N) (k : Fin 1024) (j : Fin 2048) :
    (show EReal from iblk m c 1 t (ix2 k j)) = W m c (ix2 (col t k) j) := by
  trans V m c main_v1 (ix2 (col t k) j)
  · blk_ext [iblk, idx t]
  · rw [V_w]; pointwise

/-- A tile of the gradient. -/
theorem tile_at (c : Dev nD) (t : Fin cfg0.N) (r : Fin 912) (k : Fin 1024) :
    k0_pay1 (F := Ideal) (iblk m c 0 t) (iblk m c 1 t) (ix2 r k) = back (W m c) (Ct m c) (row t r) (col t k) := by
  unfold back
  pointwise [k0_pay1]
  exact Finset.sum_congr rfl fun j _ => congrArg₂ (· * ·) (ct_at m c t r j) (w_at m c t k j)

/-- The gradient, tile by tile. -/
theorem final_back (c : Dev nD) : (dats m 0 c).arrAt 2 (cfgs 0).N
    = fun i : S8208x2048.Idx => back (W m c) (Ct m c) (i 0) (i 1) := by
  refine (dats m 0 c).arrAt_eq_of_covers 2 _ (by decide +kernel) fun t _ y => ?_
  idx_vars y
  blk_simp
  rw [after0_2]
  unfold out0_2
  frame_out
  refine (tile_at m c t y0 y1).trans ?_
  exact congrArg₂ (back (W m c) (Ct m c)) (Fin.ext (by symm; blk_simp [idx t])) (Fin.ext (by symm; blk_simp [idx t]))

end Cert.MatNtIdeal.Prod
end
-- ==== Proof.MatNtReference.lean ====
/- What the reference of an input's gradient leaves in its result. -/
module

public import proofs.«01_k».proof.Proof.ProdForm
public import proofs.«01_k».proof.Proof.Gen.MatNtRefIdeal.Read

@[expose] public section

set_option maxRecDepth 16384

noncomputable section

open Idealize.ShloMosaic

namespace Cert.MatNtRefIdeal.Prod

open Cert.MatNtRefIdeal Cert.MatNtRefIdeal.Gen Cert.MatNtRefIdeal.Read Cert.ProdForm

variable (w : FVec Ideal S2048x2048 .f32) (ct : FVec Ideal S8208x2048 .f32)

theorem ref_out : val_main_v3 (F := Ideal) w ct = fun i : S8208x2048.Idx => back w ct (i 0) (i 1) := by
  funext i
  idx_vars i
  unfold back
  pointwise [val_main_v3]

end Cert.MatNtRefIdeal.Prod
end
-- ==== Proof.MatNtPair.lean ====
/- The kernel and the reference of an input's gradient side by side. -/
module

public import proofs.«01_k».proof.Proof.MatNtKernel
public import proofs.«01_k».proof.Proof.MatNtReference
public import proofs.«01_k».proof.Defs
public import proofs.«01_k».proof.Proof.Gen.MatNtRefIdeal.Run
public import Idealize.ShloMosaic.Lib.Claim

@[expose] public section

set_option maxRecDepth 16384

noncomputable section

open Idealize.ShloMosaic Idealize.ShloMosaic.TcCoe Idealize.SL.Sem

namespace Cert.MatNtPair

open Cert.MatNtIdeal.Prod Cert.MatNtRefIdeal.Prod

theorem reference_frame : Cert.quiescent_MatNtRefIdeal := by
  intro m g _
  refine (θ_run _ _ _).mono (fun r h => ⟨fun c => (h c).2, funext fun s => ?_⟩) (Cert.MatNtRefIdeal.Value.run m g)
  exact ((by decide : ∀ _ : SemLoc Cert.MatNtRefIdeal.sig, False) s.2).elim

theorem algebraic : Cert.algebraic_MatNtIdeal_MatNtRefIdeal := by
  pair_intro
  · run_from Cert.MatNtIdeal.Gen.run_main m g
  · run_from Cert.MatNtRefIdeal.Value.run m' g'
    · exact (ref_out _ _).trans (final_back m c).symm

end Cert.MatNtPair
end
-- ==== Proof.MatTnKernel.lean ====
/- What the kernel of a weight's gradient leaves in its array. -/
module

public import proofs.«01_k».proof.Proof.ProdForm
public import proofs.«01_k».proof.Proof.Gen.MatTnIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.MatTnIdeal.Prod

open Cert.MatTnIdeal Cert.MatTnIdeal.Gen Cert.ProdForm

variable (m : (ℓ : Loc nD τ sig) → Buf (Elt Ideal) ℓ)

abbrev X (c : Dev nD) : FVec Ideal ⟨2, ![8208, 2048]⟩ .f32 := m ((c : Thread nD τ).loc main_arg0)
abbrev Ct (c : Dev nD) : FVec Ideal ⟨2, ![8208, 2048]⟩ .f32 := m ((c : Thread nD τ).loc main_arg2)

/-- The windows' block indices at a grid point: rows of the input, the cotangent's tile, columns of the result. -/
theorem idx : ∀ t : Fin cfg0.N, win0_0.index t = ![t.val % 9, 0] ∧ win0_1.index t = ![t.val % 9, t.val / 9]
    ∧ win0_2.index t = ![0, t.val / 9] ∧ t.val < 18 :=
  (by decide +kernel : ∀ t : Fin grid0.N, _)

theorem lt18 (t : Fin cfg0.N) : t.val < 18 := (idx t).2.2.2

/-- The row and the column of the whole array that a tile's row and column are. -/
abbrev row (t : Fin cfg0.N) (r : Fin 912) : Fin 8208 := ⟨t.val % 9 * 912 + r, by omega⟩
abbrev col (t : Fin cfg0.N) (k : Fin 1024) : Fin 2048 := ⟨t.val / 9 * 1024 + k, by have := lt18 t; omega⟩

theorem V_x (c : Dev nD) : V m c main_v0 = truncf .bf16 (X m c) bitsLt_bf16_f32 := by
  unfold V; after_results_simp <;> rfl

theorem x_at (c : Dev nD) (t : Fin cfg0.N) (r : Fin 912) (i : Fin 2048) :
    (show EReal from iblk m c 0 t (ix2 r i)) = X m c (ix2 (row t r) i) := by
  trans V m c main_v0 (ix2 (row t r) i)
  · blk_ext [iblk, idx t]
  · rw [V_x]; pointwise

theorem ct_at (c : Dev nD) (t : Fin cfg0.N) (r : Fin 912) (k : Fin 1024) :
    (show EReal from iblk m c 1 t (ix2 r k)) = Ct m c (ix2 (row t r) (col t k)) := by
  blk_ext [iblk, V, idx t]

/-- What the accumulating store adds to. -/
theorem add_at (c : Dev nD) (t : Fin cfg0.N) (a : FVec Ideal S2048x1024 .f32) (i : Fin 2048) (k : Fin 1024) :
    k0_pay2 (F := Ideal) a (iblk m c 0 t) (iblk m c 1 t) (ix2 i k)
      = a (ix2 i k) + ∑ r : Fin 912, X m c (ix2 (row t r) i) * Ct m c (ix2 (row t r) (col t k)) := by
  pointwise [k0_pay2]
  exact congrArg (_ + ·) (Finset.sum_congr rfl fun r _ => congrArg₂ (· * ·) (x_at m c t r i) (ct_at m c t r k))

/-- The sum over one column's grid points of the sums over their tiles' rows is the sum over all rows. -/
theorem sum_rows (t : Fin cfg0.N) (hf : (win0 2).flush t = true) (c : Dev nD) (i : Fin 2048) (k : Fin 1024) :
    ∑ s : Fin 9, ∑ r : Fin 912,
        X m c (ix2 (row ⟨9 * (t.val / 9) + s, Pipeline.run_point_lt_of_flush t ((flush0_2 t).mp hf) s⟩ r) i)
          * Ct m c (ix2 (row ⟨9 * (t.val / 9) + s, Pipeline.run_point_lt_of_flush t ((flush0_2 t).mp hf) s⟩ r)
            (col ⟨9 * (t.val / 9) + s, Pipeline.run_point_lt_of_flush t ((flush0_2 t).mp hf) s⟩ k))
      = gram (X m c) (Ct m c) i (col t k) := by
  unfold gram
  refine Fin.sum_mul_add_congr (f := fun l => X m c (ix2 l i) * Ct m c (ix2 l (col t k))) fun s r hl => ?_
  have hr : row ⟨9 * (t.val / 9) + s, Pipeline.run_point_lt_of_flush t ((flush0_2 t).mp hf) s⟩ r = ⟨s.val * 912 + r.val, hl⟩ :=
    Fin.ext (by show (9 * (t.val / 9) + s.val) % 9 * 912 + r.val = s.val * 912 + r.val; omega)
  have hk : col ⟨9 * (t.val / 9) + s, Pipeline.run_point_lt_of_flush t ((flush0_2 t).mp hf) s⟩ k = col t k :=
    Fin.ext (by show (9 * (t.val / 9) + s.val) / 9 * 1024 + k.val = t.val / 9 * 1024 + k.val; omega)
  rw [hr, hk]

/-- The gradient, accumulated over the row tiles. -/
theorem final_gram (c : Dev nD) : (dats m 0 c).arrAt 2 (cfgs 0).N
    = fun i : S2048x2048.Idx => gram (X m c) (Ct m c) (i 0) (i 1) := by
  refine (dats m 0 c).arrAt_eq_of_covers 2 _ (by decide +kernel) fun t hf y => ?_
  idx_vars y
  blk_simp
  rw [after0_2, Pipeline.eq_sum_fin_of_reset_step_apply_of_flush (fun n h => outsAt0 m c n h) 9 (fun _ => 0)
    (fun p j => ∑ r : Fin 912, X m c (ix2 (row p r) (j 0)) * Ct m c (ix2 (row p r) (col p (j 1))))
    (fun t h j => by
      idx_vars j; rw [outsAt0_A m c t h]; frame_out
      rw [add_at]; exact congrArg (· + _) (by pointwise [k0_pay1]))
    (fun t h j => by
      idx_vars j; rw [outsAt0_B m c t h]; frame_out
      exact add_at m c t _ j0 j1)
    t ((flush0_2 t).mp hf) _, zero_add]
  refine (sum_rows m t hf c y0 y1).trans ?_
  exact congrArg₂ (gram (X m c) (Ct m c)) (Fin.ext (by symm; blk_simp [idx t])) (Fin.ext (by symm; blk_simp [idx t]))

end Cert.MatTnIdeal.Prod
end
-- ==== Proof.MatTnReference.lean ====
/- What the reference of a weight's gradient leaves in its result. -/
module

public import proofs.«01_k».proof.Proof.ProdForm
public import proofs.«01_k».proof.Proof.Gen.MatTnRefIdeal.Read

@[expose] public section

set_option maxRecDepth 16384

noncomputable section

open Idealize.ShloMosaic

namespace Cert.MatTnRefIdeal.Prod

open Cert.MatTnRefIdeal Cert.MatTnRefIdeal.Gen Cert.MatTnRefIdeal.Read Cert.ProdForm

variable (x ct : FVec Ideal S8208x2048 .f32)

theorem ref_out : val_main_v2 (F := Ideal) x ct = fun i : S2048x2048.Idx => gram x ct (i 0) (i 1) := by
  funext i
  idx_vars i
  unfold gram
  pointwise [val_main_v2, val_main_v1]
  exact Finset.sum_congr rfl fun l _ => mul_comm _ _

end Cert.MatTnRefIdeal.Prod
end
-- ==== Proof.MatTnPair.lean ====
/- The kernel and the reference of a weight's gradient side by side. -/
module

public import proofs.«01_k».proof.Proof.MatTnKernel
public import proofs.«01_k».proof.Proof.MatTnReference
public import proofs.«01_k».proof.Defs
public import proofs.«01_k».proof.Proof.Gen.MatTnRefIdeal.Run
public import Idealize.ShloMosaic.Lib.Claim

@[expose] public section

set_option maxRecDepth 16384

noncomputable section

open Idealize.ShloMosaic Idealize.ShloMosaic.TcCoe Idealize.SL.Sem

namespace Cert.MatTnPair

open Cert.MatTnIdeal.Prod Cert.MatTnRefIdeal.Prod

theorem reference_frame : Cert.quiescent_MatTnRefIdeal := by
  intro m g _
  refine (θ_run _ _ _).mono (fun r h => ⟨fun c => (h c).2, funext fun s => ?_⟩) (Cert.MatTnRefIdeal.Value.run m g)
  exact ((by decide : ∀ _ : SemLoc Cert.MatTnRefIdeal.sig, False) s.2).elim

theorem algebraic : Cert.algebraic_MatTnIdeal_MatTnRefIdeal := by
  pair_intro
  · run_from Cert.MatTnIdeal.Gen.run_main m g
  · run_from Cert.MatTnRefIdeal.Value.run m' g'
    · exact (ref_out _ _).trans (final_gram m c).symm

end Cert.MatTnPair
end
-- ==== Proof.DWinKernel.lean ====
/- What the kernel of the joint weight's gradient leaves in its array. -/
module

public import proofs.«01_k».proof.Proof.ProdForm
public import proofs.«01_k».proof.Proof.Gen.DWinIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.DWinIdeal.Prod

open Cert.DWinIdeal Cert.DWinIdeal.Gen Cert.ProdForm

variable (m : (ℓ : Loc nD τ sig) → Buf (Elt Ideal) ℓ)

abbrev X (c : Dev nD) : FVec Ideal ⟨2, ![8208, 2048]⟩ .f32 := m ((c : Thread nD τ).loc main_arg0)
abbrev Dz (c : Dev nD) : FVec Ideal ⟨2, ![8208, 14336]⟩ .f32 := m ((c : Thread nD τ).loc main_arg2)

/-- The block indices at a grid point of the rows of the input and of the result's tile. -/
theorem idx : ∀ t : Fin cfg0.N, win0_0.index t = ![t.val % 9, 0] ∧ win0_8.index t = ![t.val / 63, 0, t.val / 9 % 7] ∧ t.val < 252 :=
  (by decide +kernel : ∀ t : Fin grid0.N, _)

theorem lt252 (t : Fin cfg0.N) : t.val < 252 := (idx t).2.2

/-- The row and the column of the whole array that a tile's row and column are. -/
abbrev row (t : Fin cfg0.N) (r : Fin 912) : Fin 8208 := ⟨t.val % 9 * 912 + r, by omega⟩
abbrev col (t : Fin cfg0.N) (k : Fin 512) : Fin 14336 := ⟨t.val / 9 * 512 + k, by have := lt252 t; omega⟩

theorem V_x (c : Dev nD) : V m c main_v0 = truncf .bf16 (X m c) bitsLt_bf16_f32 := by
  unfold V; after_results_simp <;> rfl

theorem x_at (c : Dev nD) (t : Fin cfg0.N) (r : Fin 912) (i : Fin 2048) :
    (show EReal from iblk m c 0 t (ix2 r i)) = X m c (ix2 (row t r) i) := by
  trans V m c main_v0 (ix2 (row t r) i)
  · blk_ext [iblk, idx t]
  · rw [V_x]; pointwise

/-! The seven parts of the cotangent, each over the grid points that read it. -/

theorem V1 (c : Dev nD) : V m c main_v2 = extractStridedSlice S8208x2048 ![0, 0]
    (truncf .bf16 (Dz m c) bitsLt_bf16_f32) slices_S8208x14336_S8208x2048_0_0 := by
  unfold V; after_results_simp <;> rfl

theorem idx1 : ∀ t : Fin cfg0.N, 0 ≤ t.val → t.val < 36 → win0_1.index t = ![t.val % 9, t.val / 9 - 0] :=
  (by decide +kernel : ∀ t : Fin grid0.N, _)

theorem dz1 (c : Dev nD) (t : Fin cfg0.N) (h : 0 ≤ t.val) (h' : t.val < 36) (r : Fin 912) (k : Fin 512) :
    (show EReal from iblk m c 1 t (ix2 r k)) = Dz m c (ix2 (row t r) (col t k)) := by
  trans V m c main_v2 (ix2 (row t r) ⟨(t.val / 9 - 0) * 512 + k, by omega⟩)
  · blk_ext [iblk, idx1 t h h']
  · rw [V1]
    pointwise

theorem V2 (c : Dev nD) : V m c main_v3 = extractStridedSlice S8208x2048 ![0, 2048]
    (truncf .bf16 (Dz m c) bitsLt_bf16_f32) slices_S8208x14336_S8208x2048_0_2048 := by
  unfold V; after_results_simp <;> rfl

theorem idx2 : ∀ t : Fin cfg0.N, 36 ≤ t.val → t.val < 72 → win0_2.index t = ![t.val % 9, t.val / 9 - 4] :=
  (by decide +kernel : ∀ t : Fin grid0.N, _)

theorem dz2 (c : Dev nD) (t : Fin cfg0.N) (h : 36 ≤ t.val) (h' : t.val < 72) (r : Fin 912) (k : Fin 512) :
    (show EReal from iblk m c 2 t (ix2 r k)) = Dz m c (ix2 (row t r) (col t k)) := by
  trans V m c main_v3 (ix2 (row t r) ⟨(t.val / 9 - 4) * 512 + k, by omega⟩)
  · blk_ext [iblk, idx2 t h h']
  · rw [V2]
    pointwise
    exact congrArg (fun l => Dz m c (ix2 (row t r) l)) (Fin.ext (by show _ = t.val / 9 * 512 + k.val; simp only []; omega))

theorem V3 (c : Dev nD) : V m c main_v4 = extractStridedSlice S8208x2048 ![0, 4096]
    (truncf .bf16 (Dz m c) bitsLt_bf16_f32) slices_S8208x14336_S8208x2048_0_4096 := by
  unfold V; after_results_simp <;> rfl

theorem idx3 : ∀ t : Fin cfg0.N, 72 ≤ t.val → t.val < 108 → win0_3.index t = ![t.val % 9, t.val / 9 - 8] :=
  (by decide +kernel : ∀ t : Fin grid0.N, _)

theorem dz3 (c : Dev nD) (t : Fin cfg0.N) (h : 72 ≤ t.val) (h' : t.val < 108) (r : Fin 912) (k : Fin 512) :
    (show EReal from iblk m c 3 t (ix2 r k)) = Dz m c (ix2 (row t r) (col t k)) := by
  trans V m c main_v4 (ix2 (row t r) ⟨(t.val / 9 - 8) * 512 + k, by omega⟩)
  · blk_ext [iblk, idx3 t h h']
  · rw [V3]
    pointwise
    exact congrArg (fun l => Dz m c (ix2 (row t r) l)) (Fin.ext (by show _ = t.val / 9 * 512 + k.val; simp only []; omega))

theorem V4 (c : Dev nD) : V m c main_v5 = extractStridedSlice S8208x2048 ![0, 6144]
    (truncf .bf16 (Dz m c) bitsLt_bf16_f32) slices_S8208x14336_S8208x2048_0_6144 := by
  unfold V; after_results_simp <;> rfl

theorem idx4 : ∀ t : Fin cfg0.N, 108 ≤ t.val → t.val < 144 → win0_4.index t = ![t.val % 9, t.val / 9 - 12] :=
  (by decide +kernel : ∀ t : Fin grid0.N, _)

theorem dz4 (c : Dev nD) (t : Fin cfg0.N) (h : 108 ≤ t.val) (h' : t.val < 144) (r : Fin 912) (k : Fin 512) :
    (show EReal from iblk m c 4 t (ix2 r k)) = Dz m c (ix2 (row t r) (col t k)) := by
  trans V m c main_v5 (ix2 (row t r) ⟨(t.val / 9 - 12) * 512 + k, by omega⟩)
  · blk_ext [iblk, idx4 t h h']
  · rw [V4]
    pointwise
    exact congrArg (fun l => Dz m c (ix2 (row t r) l)) (Fin.ext (by show _ = t.val / 9 * 512 + k.val; simp only []; omega))

theorem V5 (c : Dev nD) : V m c main_v6 = extractStridedSlice S8208x2048 ![0, 8192]
    (truncf .bf16 (Dz m c) bitsLt_bf16_f32) slices_S8208x14336_S8208x2048_0_8192 := by
  unfold V; after_results_simp <;> rfl

theorem idx5 : ∀ t : Fin cfg0.N, 144 ≤ t.val → t.val < 180 → win0_5.index t = ![t.val % 9, t.val / 9 - 16] :=
  (by decide +kernel : ∀ t : Fin grid0.N, _)

theorem dz5 (c : Dev nD) (t : Fin cfg0.N) (h : 144 ≤ t.val) (h' : t.val < 180) (r : Fin 912) (k : Fin 512) :
    (show EReal from iblk m c 5 t (ix2 r k)) = Dz m c (ix2 (row t r) (col t k)) := by
  trans V m c main_v6 (ix2 (row t r) ⟨(t.val / 9 - 16) * 512 + k, by omega⟩)
  · blk_ext [iblk, idx5 t h h']
  · rw [V5]
    pointwise
    exact congrArg (fun l => Dz m c (ix2 (row t r) l)) (Fin.ext (by show _ = t.val / 9 * 512 + k.val; simp only []; omega))

theorem V6 (c : Dev nD) : V m c main_v7 = extractStridedSlice S8208x2048 ![0, 10240]
    (truncf .bf16 (Dz m c) bitsLt_bf16_f32) slices_S8208x14336_S8208x2048_0_10240 := by
  unfold V; after_results_simp <;> rfl

theorem idx6 : ∀ t : Fin cfg0.N, 180 ≤ t.val → t.val < 216 → win0_6.index t = ![t.val % 9, t.val / 9 - 20] :=
  (by decide +kernel : ∀ t : Fin grid0.N, _)

theorem dz6 (c : Dev nD) (t : Fin cfg0.N) (h : 180 ≤ t.val) (h' : t.val < 216) (r : Fin 912) (k : Fin 512) :
    (show EReal from iblk m c 6 t (ix2 r k)) = Dz m c (ix2 (row t r) (col t k)) := by
  trans V m c main_v7 (ix2 (row t r) ⟨(t.val / 9 - 20) * 512 + k, by omega⟩)
  · blk_ext [iblk, idx6 t h h']
  · rw [V6]
    pointwise
    exact congrArg (fun l => Dz m c (ix2 (row t r) l)) (Fin.ext (by show _ = t.val / 9 * 512 + k.val; simp only []; omega))

theorem V7 (c : Dev nD) : V m c main_v8 = extractStridedSlice S8208x2048 ![0, 12288]
    (truncf .bf16 (Dz m c) bitsLt_bf16_f32) slices_S8208x14336_S8208x2048_0_12288 := by
  unfold V; after_results_simp <;> rfl

theorem idx7 : ∀ t : Fin cfg0.N, 216 ≤ t.val → t.val < 252 → win0_7.index t = ![t.val % 9, t.val / 9 - 24] :=
  (by decide +kernel : ∀ t : Fin grid0.N, _)

theorem dz7 (c : Dev nD) (t : Fin cfg0.N) (h : 216 ≤ t.val) (h' : t.val < 252) (r : Fin 912) (k : Fin 512) :
    (show EReal from iblk m c 7 t (ix2 r k)) = Dz m c (ix2 (row t r) (col t k)) := by
  trans V m c main_v8 (ix2 (row t r) ⟨(t.val / 9 - 24) * 512 + k, by omega⟩)
  · blk_ext [iblk, idx7 t h h']
  · rw [V7]
    pointwise
    exact congrArg (fun l => Dz m c (ix2 (row t r) l)) (Fin.ext (by show _ = t.val / 9 * 512 + k.val; simp only []; omega))

/-- What one grid point contributes. -/
def part (c : Dev nD) (t : Fin cfg0.N) (i : Fin 2048) (k : Fin 512) : EReal :=
  ∑ r : Fin 912, X m c (ix2 (row t r) i) * Dz m c (ix2 (row t r) (col t k))

/-- What an accumulating store adds to, whichever part it reads. -/
theorem add_at (c : Dev nD) (t : Fin cfg0.N) (y : FVec Ideal S912x512 .bf16)
    (hy : ∀ (r : Fin 912) (k : Fin 512), (show EReal from y (ix2 r k)) = Dz m c (ix2 (row t r) (col t k)))
    (a : FVec Ideal S1x2048x512 .f32) (i : Fin 2048) (k : Fin 512) :
    k0_pay1 (F := Ideal) a (iblk m c 0 t) y (ix3 0 i k) = a (ix3 0 i k) + part m c t i k := by
  unfold part
  pointwise [k0_pay1]
  exact congrArg (_ + ·) (Finset.sum_congr rfl fun r _ => congrArg₂ (· * ·) (x_at m c t r i) (hy r k))

/-- The part of the cotangent that a grid point reads. -/
theorem cut (t : Fin cfg0.N) : t.val < 36 ∨ (36 ≤ t.val ∧ t.val < 72) ∨ (72 ≤ t.val ∧ t.val < 108) ∨ (108 ≤ t.val ∧ t.val < 144)
    ∨ (144 ≤ t.val ∧ t.val < 180) ∨ (180 ≤ t.val ∧ t.val < 216) ∨ (216 ≤ t.val ∧ t.val < 252) := by
  have := lt252 t
  omega

/-- The first row tile of a column starts from zero. -/
theorem first_at (c : Dev nD) (t : Fin cfg0.N) (h : t.val % 9 = 0) (i : Fin 2048) (k : Fin 512) :
    outsAt0 m c t.val t.isLt (ix3 0 i k) = (0 : EReal) + part m c t i k := by
  rcases cut t with q | q | q | q | q | q | q
  · rw [outsAt0_A m c t h (by omega) (by omega) (by omega) (by omega) (by omega) (by omega) (by omega)]; frame_out
    exact (add_at m c t _ (dz1 m c t (by omega) (by omega)) _ i k).trans (congrArg (· + _) (by pointwise [k0_pay3]))
  · rw [outsAt0_C m c t h (by omega) (by omega) (by omega) (by omega) (by omega) (by omega) (by omega)]; frame_out
    exact (add_at m c t _ (dz2 m c t (by omega) (by omega)) _ i k).trans (congrArg (· + _) (by pointwise [k0_pay3]))
  · rw [outsAt0_E m c t h (by omega) (by omega) (by omega) (by omega) (by omega) (by omega) (by omega)]; frame_out
    exact (add_at m c t _ (dz3 m c t (by omega) (by omega)) _ i k).trans (congrArg (· + _) (by pointwise [k0_pay3]))
  · rw [outsAt0_G m c t h (by omega) (by omega) (by omega) (by omega) (by omega) (by omega) (by omega)]; frame_out
    exact (add_at m c t _ (dz4 m c t (by omega) (by omega)) _ i k).trans (congrArg (· + _) (by pointwise [k0_pay3]))
  · rw [outsAt0_I m c t h (by omega) (by omega) (by omega) (by omega) (by omega) (by omega) (by omega)]; frame_out
    exact (add_at m c t _ (dz5 m c t (by omega) (by omega)) _ i k).trans (congrArg (· + _) (by pointwise [k0_pay3]))
  · rw [outsAt0_K m c t h (by omega) (by omega) (by omega) (by omega) (by omega) (by omega) (by omega)]; frame_out
    exact (add_at m c t _ (dz6 m c t (by omega) (by omega)) _ i k).trans (congrArg (· + _) (by pointwise [k0_pay3]))
  · rw [outsAt0_M m c t h (by omega) (by omega) (by omega) (by omega) (by omega) (by omega) (by omega)]; frame_out
    exact (add_at m c t _ (dz7 m c t (by omega) (by omega)) _ i k).trans (congrArg (· + _) (by pointwise [k0_pay3]))

/-- A later row tile adds to what stands. -/
theorem next_at (c : Dev nD) (t : Fin cfg0.N) (h : ¬t.val % 9 = 0) (i : Fin 2048) (k : Fin 512) :
    outsAt0 m c t.val t.isLt (ix3 0 i k)
      = (show EReal from outsAt0 m c (t.val - 1) (Nat.lt_of_le_of_lt (Nat.sub_le _ _) t.isLt) (ix3 0 i k)) + part m c t i k := by
  rcases cut t with q | q | q | q | q | q | q
  · rw [outsAt0_B m c t h (by omega) (by omega) (by omega) (by omega) (by omega) (by omega) (by omega)]; frame_out
    exact add_at m c t _ (dz1 m c t (by omega) (by omega)) _ i k
  · rw [outsAt0_D m c t h (by omega) (by omega) (by omega) (by omega) (by omega) (by omega) (by omega)]; frame_out
    exact add_at m c t _ (dz2 m c t (by omega) (by omega)) _ i k
  · rw [outsAt0_F m c t h (by omega) (by omega) (by omega) (by omega) (by omega) (by omega) (by omega)]; frame_out
    exact add_at m c t _ (dz3 m c t (by omega) (by omega)) _ i k
  · rw [outsAt0_H m c t h (by omega) (by omega) (by omega) (by omega) (by omega) (by omega) (by omega)]; frame_out
    exact add_at m c t _ (dz4 m c t (by omega) (by omega)) _ i k
  · rw [outsAt0_J m c t h (by omega) (by omega) (by omega) (by omega) (by omega) (by omega) (by omega)]; frame_out
    exact add_at m c t _ (dz5 m c t (by omega) (by omega)) _ i k
  · rw [outsAt0_L m c t h (by omega) (by omega) (by omega) (by omega) (by omega) (by omega) (by omega)]; frame_out
    exact add_at m c t _ (dz6 m c t (by omega) (by omega)) _ i k
  · rw [outsAt0_N m c t h (by omega) (by omega) (by omega) (by omega) (by omega) (by omega) (by omega)]; frame_out
    exact add_at m c t _ (dz7 m c t (by omega) (by omega)) _ i k

/-- The sum over one column's grid points of the sums over their tiles' rows is the sum over all rows. -/
theorem sum_rows (t : Fin cfg0.N) (hf : (win0 8).flush t = true) (c : Dev nD) (i : Fin 2048) (k : Fin 512) :
    ∑ s : Fin 9, part m c ⟨9 * (t.val / 9) + s, Pipeline.run_point_lt_of_flush t ((flush0_8 t).mp hf) s⟩ i k
      = gram (X m c) (Dz m c) i (col t k) := by
  unfold gram part
  refine Fin.sum_mul_add_congr (f := fun l => X m c (ix2 l i) * Dz m c (ix2 l (col t k))) fun s r hl => ?_
  have hr : row ⟨9 * (t.val / 9) + s, Pipeline.run_point_lt_of_flush t ((flush0_8 t).mp hf) s⟩ r = ⟨s.val * 912 + r.val, hl⟩ :=
    Fin.ext (by show (9 * (t.val / 9) + s.val) % 9 * 912 + r.val = s.val * 912 + r.val; omega)
  have hk : col ⟨9 * (t.val / 9) + s, Pipeline.run_point_lt_of_flush t ((flush0_8 t).mp hf) s⟩ k = col t k :=
    Fin.ext (by show (9 * (t.val / 9) + s.val) / 9 * 512 + k.val = t.val / 9 * 512 + k.val; omega)
  rw [hr, hk]

/-- The gradient in its four shards, accumulated over the row tiles. -/
theorem final_gram (c : Dev nD) : (dats m 0 c).arrAt 8 (cfgs 0).N
    = fun i : S4x2048x3584.Idx => gram (X m c) (Dz m c) (i 1) (shard (i 0) (i 2)) := by
  refine (dats m 0 c).arrAt_eq_of_covers 8 _ (by decide +kernel) fun t hf y => ?_
  idx_vars y
  obtain rfl : y0 = 0 := Subsingleton.elim _ _
  blk_simp
  rw [after0_8, Pipeline.eq_sum_fin_of_reset_step_apply_of_flush (fun n h => outsAt0 m c n h) 9 (fun _ => 0)
    (fun p j => part m c p (j 1) (j 2))
    (fun t h j => by
      idx_vars j
      obtain rfl : j0 = 0 := Subsingleton.elim _ _
      exact first_at m c t h j1 j2)
    (fun t h j => by
      idx_vars j
      obtain rfl : j0 = 0 := Subsingleton.elim _ _
      exact next_at m c t h j1 j2)
    t ((flush0_8 t).mp hf) _, zero_add]
  refine (sum_rows m t hf c y1 y2).trans ?_
  have := lt252 t
  have e0 : ((win0_8.blk t).view.emb (ix3 0 y1 y2) 0).val = t.val / 63 := by blk_simp [idx t]; exact Nat.add_zero _
  have e2 : ((win0_8.blk t).view.emb (ix3 0 y1 y2) 2).val = t.val / 9 % 7 * 512 + y2.val := by blk_simp [idx t]
  refine congrArg₂ (gram (X m c) (Dz m c)) (Fin.ext (by symm; blk_simp [idx t])) (Fin.ext ?_)
  show t.val / 9 * 512 + y2.val = ((win0_8.blk t).view.emb (ix3 0 y1 y2) 0).val * 3584 + ((win0_8.blk t).view.emb (ix3 0 y1 y2) 2).val
  rw [e0, e2]
  omega

end Cert.DWinIdeal.Prod
end
-- ==== Proof.DWinReference.lean ====
/- What the reference of the joint weight's gradient leaves in its result. -/
module

public import proofs.«01_k».proof.Proof.ProdForm
public import proofs.«01_k».proof.Proof.Gen.DWinRefIdeal.Read

@[expose] public section

set_option maxRecDepth 16384

noncomputable section

open Idealize.ShloMosaic

namespace Cert.DWinRefIdeal.Prod

open Cert.DWinRefIdeal Cert.DWinRefIdeal.Gen Cert.DWinRefIdeal.Read Cert.ProdForm

variable (x : FVec Ideal S8208x2048 .f32) (dz : FVec Ideal S8208x14336 .f32)

theorem ref_out : val_main_v5 (F := Ideal) x dz = fun i : S4x2048x3584.Idx => gram x dz (i 1) (shard (i 0) (i 2)) := by
  funext i
  idx_vars i
  unfold gram
  pointwise [val_main_v5, val_main_v4, val_main_v2, val_main_v1]
  exact Finset.sum_congr rfl fun l _ => mul_comm _ _

end Cert.DWinRefIdeal.Prod
end
-- ==== Proof.DWinPair.lean ====
/- The kernel and the reference of the joint weight's gradient side by side. -/
module

public import proofs.«01_k».proof.Proof.DWinKernel
public import proofs.«01_k».proof.Proof.DWinReference
public import proofs.«01_k».proof.Defs
public import proofs.«01_k».proof.Proof.Gen.DWinRefIdeal.Run
public import Idealize.ShloMosaic.Lib.Claim

@[expose] public section

set_option maxRecDepth 16384

noncomputable section

open Idealize.ShloMosaic Idealize.ShloMosaic.TcCoe Idealize.SL.Sem

namespace Cert.DWinPair

open Cert.DWinIdeal.Prod Cert.DWinRefIdeal.Prod

theorem reference_frame : Cert.quiescent_DWinRefIdeal := by
  intro m g _
  refine (θ_run _ _ _).mono (fun r h => ⟨fun c => (h c).2, funext fun s => ?_⟩) (Cert.DWinRefIdeal.Value.run m g)
  exact ((by decide : ∀ _ : SemLoc Cert.DWinRefIdeal.sig, False) s.2).elim

theorem algebraic : Cert.algebraic_DWinIdeal_DWinRefIdeal := by
  pair_intro
  · run_from Cert.DWinIdeal.Gen.run_main m g
  · run_from Cert.DWinRefIdeal.Value.run m' g'
    · exact (ref_out _ _).trans (final_gram m c).symm

end Cert.DWinPair
end
-- ==== Proof.SlotsForm.lean ====
/- The sum of the four devices' parts of one weight's gradient. -/
module

public import proofs.«01_k».proof.Proof.Ext
public import Idealize.ShloMosaic.Lib.Pointwise

@[expose] public section

set_option maxRecDepth 16384

noncomputable section

open Idealize.ShloMosaic

namespace Cert.SlotsForm

/-- Row `r`, column `c` of the sum over the slots. -/
def total (y : FVec Ideal ⟨3, ![4, 1024, 3584]⟩ .bf16) (r : Fin 1024) (c : Fin 3584) : EReal :=
  ∑ s : Fin 4, (show EReal from y (ix3 s r c))

/-- The sum in the order in which the slots are added. -/
theorem total_eq (y : FVec Ideal ⟨3, ![4, 1024, 3584]⟩ .bf16) (r : Fin 1024) (c : Fin 3584) :
    total y r c = ((show EReal from y (ix3 0 r c)) + (show EReal from y (ix3 1 r c)) + (show EReal from y (ix3 2 r c)))
      + (show EReal from y (ix3 3 r c)) := Fin.sum_univ_four _

end Cert.SlotsForm
end
-- ==== Proof.SlotsKernel.lean ====
/- What the kernel that sums the slots leaves in its array. -/
module

public import proofs.«01_k».proof.Proof.SlotsForm
public import proofs.«01_k».proof.Proof.Gen.SlotsIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.SlotsIdeal.Sum

open Cert.SlotsIdeal Cert.SlotsIdeal.Gen Cert.SlotsForm

variable (m : (ℓ : Loc nD τ sig) → Buf (Elt Ideal) ℓ)

abbrev Y (c : Dev nD) : FVec Ideal ⟨3, ![4, 1024, 3584]⟩ .bf16 := m ((c : Thread nD τ).loc main_arg0)

/-- The windows' block indices at a grid point: the same rows of every slot, and the result's rows. -/
theorem idx : ∀ t : Fin cfg0.N, win0_0.index t = ![0, t.val, 0] ∧ win0_1.index t = ![t.val, 0] ∧ t.val < 32 :=
  (by decide +kernel : ∀ t : Fin grid0.N, _)

/-- The row of the whole array that a block's row is. -/
abbrev row (t : Fin cfg0.N) (r : Fin 32) : Fin 1024 := ⟨t.val * 32 + r, by have := (idx t).2.2; omega⟩

theorem y_at (c : Dev nD) (t : Fin cfg0.N) (s : Fin 4) (r : Fin 32) (k : Fin 3584) :
    (show EReal from iblk m c 0 t (ix3 s r k)) = Y m c (ix3 s (row t r) k) := by
  blk_ext [iblk, V, idx t]

/-- A block of the sum. -/
theorem block_at (c : Dev nD) (t : Fin cfg0.N) (r : Fin 32) (k : Fin 3584) :
    k0_pay1 (F := Ideal) (View.ld (iblk m c 0 t) r0_0) (View.ld (iblk m c 0 t) r0_1) (View.ld (iblk m c 0 t) r0_2)
      (View.ld (iblk m c 0 t) r0_3) (ix2 r k) = total (Y m c) (row t r) k := by
  rw [total_eq, ← y_at, ← y_at, ← y_at, ← y_at]
  pointwise [k0_pay1]

/-- The sum, block by block. -/
theorem final_total (c : Dev nD) : (dats m 0 c).arrAt 1 (cfgs 0).N
    = fun i : S1024x3584.Idx => total (Y m c) (i 0) (i 1) := by
  refine (dats m 0 c).arrAt_eq_of_covers 1 _ (by decide +kernel) fun t _ y => ?_
  idx_vars y
  blk_simp
  rw [after0_1]
  unfold out0_1
  frame_out
  refine (block_at m c t y0 y1).trans ?_
  exact congrArg₂ (total (Y m c)) (Fin.ext (by symm; blk_simp [idx t])) (Fin.ext (by symm; blk_simp [idx t]))

end Cert.SlotsIdeal.Sum
end
-- ==== Proof.SlotsReference.lean ====
/- What the reference of the sum over the slots leaves in its result. -/
module

public import proofs.«01_k».proof.Proof.SlotsForm
public import proofs.«01_k».proof.Proof.Gen.SlotsRefIdeal.Read

@[expose] public section

set_option maxRecDepth 16384

noncomputable section

open Idealize.ShloMosaic

namespace Cert.SlotsRefIdeal.Sum

open Cert.SlotsRefIdeal Cert.SlotsRefIdeal.Gen Cert.SlotsRefIdeal.Read Cert.SlotsForm

variable (y : FVec Ideal S4x1024x3584 .bf16)

theorem ref_out : val_main_v1 (F := Ideal) y = fun i : S1024x3584.Idx => total y (i 0) (i 1) := by
  funext i
  idx_vars i
  unfold total
  pointwise [val_main_v1]
  refine (congrArg (· + _) (?_ : (val_main_cst (F := Ideal) (Shape.Idx.first h_S_) : EReal) = 0)).trans
    ((zero_add _).trans (Finset.sum_congr rfl fun s _ => by pointwise [val_main_v0]))
  pointwise [val_main_cst]

end Cert.SlotsRefIdeal.Sum
end
-- ==== Proof.SlotsPair.lean ====
/- The kernel and the reference of the sum over the slots side by side. -/
module

public import proofs.«01_k».proof.Proof.SlotsKernel
public import proofs.«01_k».proof.Proof.SlotsReference
public import proofs.«01_k».proof.Defs
public import proofs.«01_k».proof.Proof.Gen.SlotsRefIdeal.Run
public import Idealize.ShloMosaic.Lib.Claim

@[expose] public section

set_option maxRecDepth 16384

noncomputable section

open Idealize.ShloMosaic Idealize.ShloMosaic.TcCoe Idealize.SL.Sem

namespace Cert.SlotsPair

open Cert.SlotsIdeal.Sum Cert.SlotsRefIdeal.Sum

theorem reference_frame : Cert.quiescent_SlotsRefIdeal := by
  intro m g _
  refine (θ_run _ _ _).mono (fun r h => ⟨fun c => (h c).2, funext fun s => ?_⟩) (Cert.SlotsRefIdeal.Value.run m g)
  exact ((by decide : ∀ _ : SemLoc Cert.SlotsRefIdeal.sig, False) s.2).elim

theorem algebraic : Cert.algebraic_SlotsIdeal_SlotsRefIdeal := by
  pair_intro
  · run_from Cert.SlotsIdeal.Gen.run_main m g
  · refine θ_run_mono (Cert.SlotsRefIdeal.Value.run m' g') fun r hr c => ⟨(hr c).1.trans ?_, (hr c).2⟩
    rw [Cert.SlotsRefIdeal.Read.val_main_v1_eq, hagree c, ref_out]
    exact (final_total m c).symm

end Cert.SlotsPair
end
-- ==== Proof.SHalfForm.lean ====
/- A core's half of the gradient shards plus what the sibling core has of it. -/
module

public import proofs.«01_k».proof.Proof.MergeForm
public import proofs.«01_k».proof.Proof.Gen.Pre_is_core
public import Idealize.ShloMosaic.Lib.Pointwise
import Idealize.ShloMosaic.Lib.Pointwise.ShapeOpsCore

@[expose] public section

set_option maxRecDepth 16384

noncomputable section

open Idealize.ShloMosaic

namespace Cert.SHalfForm

/-- Row `r` of the half that core `w` sums: the first thousand and twenty-four rows for core 0, the last for core 1. -/
def own (w : BitVec 32) (r : Fin 1024) : Fin 2048 := if w = 0#32 then ⟨r.val, by omega⟩ else ⟨1024 + r.val, by omega⟩

/-- Shard `q`, row `r`, column `k` of the sum. -/
def both (g : FVec Ideal ⟨3, ![4, 2048, 3584]⟩ .f32) (x : FVec Ideal ⟨3, ![4, 1024, 3584]⟩ .f32) (w : BitVec 32)
    (q : Fin 4) (r : Fin 1024) (k : Fin 3584) : EReal :=
  (show EReal from g (ix3 q (own w r) k)) + (show EReal from x (ix3 q r k))

/-- The precondition says that the word is one of the two cores. -/
theorem word_cases {F : FTy → Type} [FloatOps F] (g : FVec F Cert.Pre_is_core.S4x2048x3584 .f32)
    (x : FVec F Cert.Pre_is_core.S4x1024x3584 .f32) (v : IVec Cert.Pre_is_core.S1 32)
    (h : Cert.Pre_is_core.fn (F := F) g x v = fun _ => 1#1) : v (ix1 0) = 0#32 ∨ v (ix1 0) = 1#32 := by
  have hor : ∀ a b : BitVec 1, IntOp.ori a b = 1#1 → a = 1#1 ∨ b = 1#1 := by decide
  have heq : ∀ a b : BitVec 32, IntOp.cmpi .eq a b = 1#1 → a = b := fun a b hab => by
    by_contra hne
    rw [show IntOp.cmpi .eq a b = BitVec.ofBool (a == b) from rfl, beq_eq_false_iff_ne.mpr hne] at hab
    exact absurd hab (by decide)
  have h0 := congrFun h (ix1 0)
  simp only [Cert.Pre_is_core.fn, constantI, broadcastInDim, cmpi, ori] at h0
  exact (hor _ _ h0).imp (heq _ _) (heq _ _)

end Cert.SHalfForm
end
-- ==== Proof.SHalfWord.lean ====
/- The word that names the core: the frame of the summing kernel on words. -/
module

public import proofs.«01_k».proof.Proof.SHalfForm
public import proofs.«01_k».proof.Defs
public import proofs.«01_k».proof.Proof.Gen.SHalf.Frame

@[expose] public section

set_option maxRecDepth 16384

noncomputable section

open Idealize.ShloMosaic Idealize.ShloMosaic.TcCoe Idealize.SL.Sem

namespace Cert.SHalf.Sum

open Cert.SHalf Cert.SHalf.Gen Cert.SHalfForm

/-- The word of the table. -/
abbrev word (m : (ℓ : Loc nD τ sig) → Buf (Elt Bits) ℓ) : BitVec 32 := (m ((0 : Dev nD).tc.loc main_arg2) : IVec S1 32) (ix1 0)

/-- It is what the map of the first operand's blocks reads. -/
theorem word_at (m : (ℓ : Loc nD τ sig) → Buf (Elt Bits) ℓ) :
    (tbl m).at 0 (Rect.unit (s := S1) ![0] S1.size inb_S1_S1_0) numel1_S1 = word m :=
  congrArg (m ((0 : Dev nD).tc.loc main_arg2) : IVec S1 32) (funext fun (a : Fin 1) => by
    match a with
    | 0 => exact Subsingleton.elim (α := Fin 1) _ _)

/-- Where the first operand's block lies, for a given word. -/
theorem block_of (m : (ℓ : Loc nD τ sig) → Buf (Elt Bits) ℓ) (i : grid0.Coords) :
    cc0_transform_0 inb_S1_S1_0 numel1_S1 (tbl m) i
      = ![(BitVec.ofNat 32 (i 0).val).toNat, (Scalar.addi (Scalar.muli (word m) 8#32) (BitVec.ofNat 32 (i 1).val)).toNat, 0] := by
  unfold cc0_transform_0
  rw [word_at]
  rfl

/-- Under the precondition every block lies in its array. -/
theorem ok_of_pre (m : (ℓ : Loc nD τ sig) → Buf (Elt Bits) ℓ) (h : Cert.Pre_SHalf m) : Ok m := by
  intro i
  refine ⟨?_, Or.inl rfl⟩
  rw [block_of]
  rcases word_cases _ _ _ (h 0) with hw | hw <;> rw [show word m = _ from hw] <;> revert i <;> decide +kernel

theorem frame : Cert.quiescent_SHalf := fun m ρ h => Cert.SHalf.Gen.frame m ρ (ok_of_pre m h)

end Cert.SHalf.Sum
end
-- ==== Proof.SHalfKernel.lean ====
/- What the kernel that sums the halves leaves in its array. -/
module

public import proofs.«01_k».proof.Proof.SHalfForm
public import proofs.«01_k».proof.Proof.Gen.SHalfIdeal.Frame
public import proofs.«01_k».proof.Defs
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.SHalfIdeal.Sum

open Cert.SHalfIdeal Cert.SHalfIdeal.Gen Cert.SHalfForm

/-- The word of the table. -/
abbrev word (m : (ℓ : Loc nD τ sig) → Buf (Elt Ideal) ℓ) : BitVec 32 := (m ((0 : Dev nD).tc.loc main_arg2) : IVec S1 32) (ix1 0)

/-- It is what the map of the first operand's blocks reads. -/
theorem word_at (m : (ℓ : Loc nD τ sig) → Buf (Elt Ideal) ℓ) :
    (tbl m).at 0 (Rect.unit (s := S1) ![0] S1.size inb_S1_S1_0) numel1_S1 = word m :=
  congrArg (m ((0 : Dev nD).tc.loc main_arg2) : IVec S1 32) (funext fun (a : Fin 1) => by
    match a with
    | 0 => exact Subsingleton.elim (α := Fin 1) _ _)

/-- Where the first operand's block lies, for a given word. -/
theorem block_of (m : (ℓ : Loc nD τ sig) → Buf (Elt Ideal) ℓ) (i : grid0.Coords) :
    cc0_transform_0 inb_S1_S1_0 numel1_S1 (tbl m) i
      = ![(BitVec.ofNat 32 (i 0).val).toNat, (Scalar.addi (Scalar.muli (word m) 8#32) (BitVec.ofNat 32 (i 1).val)).toNat, 0] := by
  unfold cc0_transform_0
  rw [word_at]
  rfl

/-- Under the precondition every block lies in its array. -/
theorem ok_of_pre (m : (ℓ : Loc nD τ sig) → Buf (Elt Ideal) ℓ) (h : Cert.Pre_SHalfIdeal m) : Ok m := by
  intro i
  refine ⟨?_, Or.inl rfl⟩
  rw [block_of]
  rcases word_cases _ _ _ (h 0) with hw | hw <;> rw [show word m = _ from hw] <;> revert i <;> decide +kernel

variable (m : (ℓ : Loc nD τ sig) → Buf (Elt Ideal) ℓ) (hO : Ok m)

abbrev G (c : Dev nD) : FVec Ideal ⟨3, ![4, 2048, 3584]⟩ .f32 := m ((c : Thread nD τ).loc main_arg0)
abbrev X (c : Dev nD) : FVec Ideal ⟨3, ![4, 1024, 3584]⟩ .f32 := m ((c : Thread nD τ).loc main_arg1)

/-- The first operand's block index at a grid point, for the two words. -/
theorem idx_own : ∀ t : Fin grid0.N, ∀ w : BitVec 32, w = 0#32 ∨ w = 1#32 →
    ((![(BitVec.ofNat 32 ((grid0.coords t) 0).val).toNat,
      (Scalar.addi (Scalar.muli w 8#32) (BitVec.ofNat 32 ((grid0.coords t) 1).val)).toNat, 0] : Fin 3 → ℕ)
      = ![t.val / 8, (if w = 0#32 then 0 else 8) + t.val % 8, 0]) := by
  intro t w hw
  rcases hw with rfl | rfl <;> revert t <;> decide +kernel

/-- The other two windows' block indices. -/
theorem idx_rest : ∀ t : Fin grid0.N, cc0_transform_1 (grid0.coords t) = ![t.val / 8, t.val % 8, 0]
    ∧ cc0_transform_2 (grid0.coords t) = ![t.val / 8, t.val % 8, 0] ∧ t.val < 32 := by decide +kernel

theorem idx (hw : word m = 0#32 ∨ word m = 1#32) (t : Fin (cfgM m hO).N) :
    ((cfgM m hO).win 0).index t = ![t.val / 8, (if word m = 0#32 then 0 else 8) + t.val % 8, 0]
    ∧ ((cfgM m hO).win 1).index t = ![t.val / 8, t.val % 8, 0] ∧ ((cfgM m hO).win 2).index t = ![t.val / 8, t.val % 8, 0]
    ∧ t.val < 32 :=
  ⟨(block_of m (grid0.coords t)).trans (idx_own t _ hw), (idx_rest t).1, (idx_rest t).2.1, (idx_rest t).2.2⟩

/-- The shard and the row of the whole array that a block's are. -/
abbrev shard (t : Fin (cfgM m hO).N) : Fin 4 := ⟨t.val / 8, by have := (idx_rest t).2.2; omega⟩
abbrev row (t : Fin (cfgM m hO).N) (r : Fin 128) : Fin 1024 := ⟨t.val % 8 * 128 + r, by omega⟩

theorem g_at (hw : word m = 0#32 ∨ word m = 1#32) (c : Dev nD) (t : Fin (cfgM m hO).N) (r : Fin 128) (k : Fin 3584) :
    (show EReal from iblk m hO c 0 t (ix3 0 r k)) = G m c (ix3 (shard m hO t) (own (word m) (row m hO t r)) k) := by
  have h := idx m hO hw t
  rcases hw with hw | hw
  · rw [hw] at h ⊢
    blk_ext [iblk, V, h, own]
    simp
  · rw [hw] at h ⊢
    blk_ext [iblk, V, h, own]
    simp
    omega

theorem x_at (hw : word m = 0#32 ∨ word m = 1#32) (c : Dev nD) (t : Fin (cfgM m hO).N) (r : Fin 128) (k : Fin 3584) :
    (show EReal from iblk m hO c 1 t (ix3 0 r k)) = X m c (ix3 (shard m hO t) (row m hO t r) k) := by
  blk_ext [iblk, V, idx m hO hw t]

/-- A block of the sum. -/
theorem block_at (hw : word m = 0#32 ∨ word m = 1#32) (c : Dev nD) (t : Fin (cfgM m hO).N) (r : Fin 128) (k : Fin 3584) :
    (show EReal from outsAt0 m hO c t (ix3 0 r k)) = both (G m c) (X m c) (word m) (shard m hO t) (row m hO t r) k := by
  unfold both
  rw [← g_at m hO hw, ← x_at m hO hw]
  unfold outsAt0 out0_A_2
  frame_out
  pointwise [k0_pay1]
  exact congrArg₂ (fun a b : EReal => a + b) (congrFun ((hs0_0 m hO t).read_unread (iblk m hO c 0 t)) _)
    (congrFun ((hs0_1 m hO t).read_unread (iblk m hO c 1 t)) _)

/-- The blocks of the sum cover its array. -/
theorem covers : ((cfgM m hO).win 2).Covers := by
  have hpos : ∀ a : Fin 3, 0 < S1x128x3584.size a := by decide
  refine ⟨hpos, fun β => ?_⟩
  have h0 : (β (0 : Fin 3)).val < 4 := lt_of_lt_of_eq (β (0 : Fin 3)).isLt
    (show (S4x1024x3584.size 0 + S1x128x3584.size 0 - 1) / S1x128x3584.size 0 = 4 by decide)
  have h1 : (β (1 : Fin 3)).val < 8 := lt_of_lt_of_eq (β (1 : Fin 3)).isLt
    (show (S4x1024x3584.size 1 + S1x128x3584.size 1 - 1) / S1x128x3584.size 1 = 8 by decide)
  have h2 : (β (2 : Fin 3)).val < 1 := lt_of_lt_of_eq (β (2 : Fin 3)).isLt
    (show (S4x1024x3584.size 2 + S1x128x3584.size 2 - 1) / S1x128x3584.size 2 = 1 by decide)
  have hN : (β (0 : Fin 3)).val * 8 + (β (1 : Fin 3)).val < grid0.N := lt_of_lt_of_eq (b := 32) (by omega) (by decide)
  refine ⟨⟨(β (0 : Fin 3)).val * 8 + (β (1 : Fin 3)).val, hN⟩, flush0_2 _ _, fun (a : Fin 3) => ⟨?_, Or.inl rfl⟩⟩
  refine (congrFun (idx_rest ⟨_, hN⟩).2.1 a).trans ?_
  fin_cases a <;> simp <;> omega

/-- The sum, block by block. -/
theorem final_both (hw : word m = 0#32 ∨ word m = 1#32) (c : Dev nD) : (dats m hO 0 c).arrAt 2 (cfgM m hO).N
    = fun i : S4x1024x3584.Idx => both (G m c) (X m c) (word m) (i 0) (i 1) (i 2) := by
  refine (dats m hO 0 c).arrAt_eq_of_covers 2 _ (covers m hO) fun t _ (y : S1x128x3584.Idx) => ?_
  idx_vars y
  blk_simp
  rw [after0_2]
  obtain rfl : y0 = 0 := Subsingleton.elim _ _
  refine (block_at m hO hw c t y1 y2).trans ?_
  have e : ((((cfgM m hO).win 2).blk t).view.emb (ix3 0 y1 y2) : S4x1024x3584.Idx) = ix3 (shard m hO t) (row m hO t y1) y2 := by
    blk_ext [idx m hO hw t]
  exact congrArg (fun i : S4x1024x3584.Idx => both (G m c) (X m c) (word m) (i 0) (i 1) (i 2)) e.symm

end Cert.SHalfIdeal.Sum
end
-- ==== Proof.SHalfReference.lean ====
/- What the reference of the sum of the halves leaves in its result. -/
module

public import proofs.«01_k».proof.Proof.SHalfForm
public import proofs.«01_k».proof.Proof.Gen.SHalfRefIdeal.Read

@[expose] public section

set_option maxRecDepth 16384

noncomputable section

open Idealize.ShloMosaic

namespace Cert.SHalfRefIdeal.Sum

open Cert.SHalfRefIdeal Cert.SHalfRefIdeal.Gen Cert.SHalfRefIdeal.Read Cert.SHalfForm

variable (g : FVec Ideal S4x2048x3584 .f32) (x : FVec Ideal S4x1024x3584 .f32) (v : IVec S1 32)

theorem ref_out : val_main_v6 (F := Ideal) g x v = fun i : S4x1024x3584.Idx => both g x (v (ix1 0)) (i 0) (i 1) (i 2) := by
  funext i
  idx_vars i
  unfold both own
  pointwise [val_main_v6, val_main_v5, val_main_v4, val_main_v3, val_main_v2, val_main_v1, val_main_v0, val_main_c]
  congr 1
  unfold Scalar.select
  rcases eq_or_ne (v (ix1 0)) 0#32 with h | h
  · rw [h]
    rfl
  · rw [if_neg h, show IntOp.cmpi .eq (v (ix1 0)) 0#32 = BitVec.ofBool (v (ix1 0) == 0#32) from rfl, beq_eq_false_iff_ne.mpr h]
    rfl

end Cert.SHalfRefIdeal.Sum
end
-- ==== Proof.SHalfPair.lean ====
/- The kernel and the reference of the sum of the halves side by side. -/
module

public import proofs.«01_k».proof.Proof.SHalfKernel
public import proofs.«01_k».proof.Proof.SHalfReference
public import proofs.«01_k».proof.Defs
public import proofs.«01_k».proof.Proof.Gen.SHalfRefIdeal.Run
public import Idealize.ShloMosaic.Lib.Claim

@[expose] public section

set_option maxRecDepth 16384

noncomputable section

open Idealize.ShloMosaic Idealize.ShloMosaic.TcCoe Idealize.SL.Sem

namespace Cert.SHalfPair

open Cert.SHalfIdeal.Sum Cert.SHalfRefIdeal.Sum Cert.SHalfForm

theorem kernel_frame : Cert.quiescent_SHalfIdeal := fun m ρ h => Cert.SHalfIdeal.Gen.frame m ρ (ok_of_pre m h)

theorem reference_frame : Cert.quiescent_SHalfRefIdeal := by
  intro m g _
  refine (θ_run _ _ _).mono (fun r h => ⟨fun c => (h c).2, funext fun s => ?_⟩) (Cert.SHalfRefIdeal.Value.run m g)
  exact ((by decide : ∀ _ : SemLoc Cert.SHalfRefIdeal.sig, False) s.2).elim

theorem algebraic : Cert.algebraic_SHalfIdeal_SHalfRefIdeal := by
  intro m g m' g' hpre hagree
  have hO := ok_of_pre m hpre
  have hw : word m = 0#32 ∨ word m = 1#32 := word_cases _ _ _ (hpre 0)
  refine ⟨fun c => (Cert.SHalfIdeal.Gen.dats m hO 0 c).arrAt 2 (Cert.SHalfIdeal.Gen.cfgM m hO).N, ?_, ?_⟩
  · exact θ_run_mono (θ_run_and (Cert.SHalfIdeal.Gen.run_main m g hO) (Cert.SHalfIdeal.Gen.unchanged m g hO))
      fun r h c => ⟨(h.1 c).1 (2 : Fin 3), h.2 c⟩
  · refine θ_run_mono (Cert.SHalfRefIdeal.Value.run m' g') fun r hr c => ⟨(hr c).1.trans ?_, (hr c).2⟩
    obtain rfl : c = 0 := Subsingleton.elim _ _
    rw [Cert.SHalfRefIdeal.Read.val_main_v6_eq, (hagree 0).1, (hagree 0).2.1, (hagree 0).2.2, ref_out]
    exact (final_both m hO hw 0).symm

end Cert.SHalfPair
end
-- ==== Proof.AdamForm.lean ====
/- AdamW on one parameter, entry by entry, with the arrays' leading axes merged into rows. -/
module

public import proofs.«01_k».proof.Proof.Ext
public import Idealize.ShloMosaic.Lib.Pointwise

@[expose] public section

set_option maxRecDepth 16384

noncomputable section

open Idealize.ShloMosaic

namespace Cert.AdamForm

/-- The gates' weight, and whatever has its shape. -/
abbrev Arr : Type := FVec Ideal ⟨4, ![4, 16, 128, 128]⟩ .f32

/-- Row `r`, column `c` of an array whose three leading axes are merged. -/
def flat (a : Arr) (r : Fin 8192) (c : Fin 128) : EReal :=
  a (ix4 (⟨r.val / 2048, by omega⟩ : Fin 4) (⟨r.val / 128 % 16, by omega⟩ : Fin 16) (⟨r.val % 128, by omega⟩ : Fin 128) c)

abbrev lit (b : BitVec 32) : EReal := Scalar.ofBits (F := Ideal) .f32 b

/-- The first moment after the step. -/
def first (g mo : EReal) : EReal := lit 0x3F666666#32 * mo + lit 0x3DCCCCCD#32 * g

/-- The second moment after the step. -/
def second (g ve : EReal) : EReal := lit 0x3F7FBE77#32 * ve + lit 0x3A83126F#32 * (g * g)

/-- The change of the weight: the corrected moments' quotient and the decay, times the negative rate. -/
def change (w g mo ve : EReal) : EReal :=
  lit 0xBA83126F#32 * (FloatOps.divf (F := Ideal) (φ := .f32) (first g mo * lit 0x3FC48605#32)
    ((show EReal from FloatOps.sqrt (F := Ideal) (φ := .f32) (second g ve * lit 0x42C8E6D3#32)) + lit 0x322BCC77#32) + lit 0x3C23D70A#32 * w)

end Cert.AdamForm
end
-- ==== Proof.AdamKernel.lean ====
/- What the kernel of the optimiser leaves in its arrays. -/
module

public import proofs.«01_k».proof.Proof.AdamForm
public import proofs.«01_k».proof.Proof.Gen.AdamIdeal.Frame
public import Idealize.ShloMosaic.Lib.Pipeline.ReadBack
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem

namespace Cert.AdamIdeal.Step

open Cert.AdamIdeal Cert.AdamIdeal.Gen Cert.AdamForm

variable (m : (ℓ : Loc nD τ sig) → Buf (Elt Ideal) ℓ)

abbrev W (c : Dev nD) : Arr := m ((c : Thread nD τ).loc main_arg0)
abbrev G (c : Dev nD) : Arr := m ((c : Thread nD τ).loc main_arg1)
abbrev Mo (c : Dev nD) : Arr := m ((c : Thread nD τ).loc main_arg2)
abbrev Ve (c : Dev nD) : Arr := m ((c : Thread nD τ).loc main_arg3)

/-- Every window reads or writes the same rows at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ t.val < 2 :=
  (by decide +kernel : ∀ t : Fin grid0.N, _)

theorem lt2 (t : Fin cfg0.N) : t.val < 2 := (idx t).2.2.2.2.2.2.2.2

/-- The row of the whole array that a block's row is. -/
abbrev row (t : Fin cfg0.N) (r : Fin 4096) : Fin 8192 := ⟨t.val * 4096 + r, by have := lt2 t; omega⟩

/-- Merging the leading axes by a reshape. -/
theorem merged (a : Arr) (r : Fin 8192) (c : Fin 128) :
    (show EReal from shapeCast S8192x128 a shapeCasts_S4x16x128x128_S8192x128 (ix2 r c)) = flat a r c := by
  unfold flat
  pointwise

theorem V_w (c : Dev nD) : V m c main_v0 = shapeCast S8192x128 (W m c) shapeCasts_S4x16x128x128_S8192x128 := by
  unfold V; after_results_simp <;> rfl

theorem w_at (c : Dev nD) (t : Fin cfg0.N) (r : Fin 4096) (k : Fin 128) :
    (show EReal from iblk m c 0 t (ix2 r k)) = flat (W m c) (row t r) k := by
  trans V m c main_v0 (ix2 (row t r) k)
  · blk_ext [iblk, idx t]
  · rw [V_w]; exact merged _ _ _

theorem V_g (c : Dev nD) : V m c main_v1 = shapeCast S8192x128 (G m c) shapeCasts_S4x16x128x128_S8192x128 := by
  unfold V; after_results_simp <;> rfl

theorem g_at (c : Dev nD) (t : Fin cfg0.N) (r : Fin 4096) (k : Fin 128) :
    (show EReal from iblk m c 1 t (ix2 r k)) = flat (G m c) (row t r) k := by
  trans V m c main_v1 (ix2 (row t r) k)
  · blk_ext [iblk, idx t]
  · rw [V_g]; exact merged _ _ _

theorem V_mo (c : Dev nD) : V m c main_v2 = shapeCast S8192x128 (Mo m c) shapeCasts_S4x16x128x128_S8192x128 := by
  unfold V; after_results_simp <;> rfl

theorem mo_at (c : Dev nD) (t : Fin cfg0.N) (r : Fin 4096) (k : Fin 128) :
    (show EReal from iblk m c 2 t (ix2 r k)) = flat (Mo m c) (row t r) k := by
  trans V m c main_v2 (ix2 (row t r) k)
  · blk_ext [iblk, idx t]
  · rw [V_mo]; exact merged _ _ _

theorem V_ve (c : Dev nD) : V m c main_v3 = shapeCast S8192x128 (Ve m c) shapeCasts_S4x16x128x128_S8192x128 := by
  unfold V; after_results_simp <;> rfl

theorem ve_at (c : Dev nD) (t : Fin cfg0.N) (r : Fin 4096) (k : Fin 128) :
    (show EReal from iblk m c 3 t (ix2 r k)) = flat (Ve m c) (row t r) k := by
  trans V m c main_v3 (ix2 (row t r) k)
  · blk_ext [iblk, idx t]
  · rw [V_ve]; exact merged _ _ _

/-- A block of each result. -/
theorem g_block (c : Dev nD) (t : Fin cfg0.N) (r : Fin 4096) (k : Fin 128) :
    k0_pay2 (F := Ideal) (iblk m c 1 t) (ix2 r k) = flat (G m c) (row t r) k := by
  rw [← g_at]
  pointwise [k0_pay2]

theorem mo_block (c : Dev nD) (t : Fin cfg0.N) (r : Fin 4096) (k : Fin 128) :
    k0_pay3 (F := Ideal) (iblk m c 1 t) (iblk m c 2 t) (ix2 r k)
      = first (flat (G m c) (row t r) k) (flat (Mo m c) (row t r) k) := by
  rw [← g_at, ← mo_at]
  unfold first
  pointwise [k0_pay3, k0_pay2]

theorem ve_block (c : Dev nD) (t : Fin cfg0.N) (r : Fin 4096) (k : Fin 128) :
    k0_pay4 (F := Ideal) (iblk m c 1 t) (iblk m c 3 t) (ix2 r k)
      = second (flat (G m c) (row t r) k) (flat (Ve m c) (row t r) k) := by
  rw [← g_at, ← ve_at]
  unfold second
  pointwise [k0_pay4, k0_pay2]

theorem change_block (c : Dev nD) (t : Fin cfg0.N) (r : Fin 4096) (k : Fin 128) :
    k0_pay1 (F := Ideal) (k0_pay5 (iblk m c 1 t) (iblk m c 2 t) (iblk m c 3 t) (iblk m c 0 t)) (Scalar.ofBits .f32 0xBA83126F#32) (ix2 r k)
      = change (flat (W m c) (row t r) k) (flat (G m c) (row t r) k) (flat (Mo m c) (row t r) k) (flat (Ve m c) (row t r) k) := by
  unfold change
  rw [← mo_block, ← ve_block, ← w_at]
  pointwise [k0_pay1, k0_pay5]

/-- The gradient, passed on. -/
theorem final_g (c : Dev nD) : (dats m 0 c).arrAt 4 (cfgs 0).N
    = fun i : S8192x128.Idx => flat (G m c) (i 0) (i 1) := by
  refine (dats m 0 c).arrAt_eq_of_covers 4 _ (by decide +kernel) fun t _ y => ?_
  idx_vars y
  blk_simp
  rw [after0_4]
  unfold out0_4
  frame_out
  refine (g_block m c t y0 y1).trans ?_
  exact congrArg₂ (fun a b => flat (G m c) a b)
    (Fin.ext (by symm; blk_simp [idx t])) (Fin.ext (by symm; blk_simp [idx t]))

/-- The change of the weight. -/
theorem final_change (c : Dev nD) : (dats m 0 c).arrAt 5 (cfgs 0).N
    = fun i : S8192x128.Idx => change (flat (W m c) (i 0) (i 1)) (flat (G m c) (i 0) (i 1)) (flat (Mo m c) (i 0) (i 1)) (flat (Ve m c) (i 0) (i 1)) := by
  refine (dats m 0 c).arrAt_eq_of_covers 5 _ (by decide +kernel) fun t _ y => ?_
  idx_vars y
  blk_simp
  rw [after0_5]
  unfold out0_5
  frame_out
  refine (change_block m c t y0 y1).trans ?_
  exact congrArg₂ (fun a b => change (flat (W m c) a b) (flat (G m c) a b) (flat (Mo m c) a b) (flat (Ve m c) a b))
    (Fin.ext (by symm; blk_simp [idx t])) (Fin.ext (by symm; blk_simp [idx t]))

/-- The first moment. -/
theorem final_mo (c : Dev nD) : (dats m 0 c).arrAt 6 (cfgs 0).N
    = fun i : S8192x128.Idx => first (flat (G m c) (i 0) (i 1)) (flat (Mo m c) (i 0) (i 1)) := by
  refine (dats m 0 c).arrAt_eq_of_covers 6 _ (by decide +kernel) fun t _ y => ?_
  idx_vars y
  blk_simp
  rw [after0_6]
  unfold out0_6
  frame_out
  refine (mo_block m c t y0 y1).trans ?_
  exact congrArg₂ (fun a b => first (flat (G m c) a b) (flat (Mo m c) a b))
    (Fin.ext (by symm; blk_simp [idx t])) (Fin.ext (by symm; blk_simp [idx t]))

/-- The second moment. -/
theorem final_ve (c : Dev nD) : (dats m 0 c).arrAt 7 (cfgs 0).N
    = fun i : S8192x128.Idx => second (flat (G m c) (i 0) (i 1)) (flat (Ve m c) (i 0) (i 1)) := by
  refine (dats m 0 c).arrAt_eq_of_covers 7 _ (by decide +kernel) fun t _ y => ?_
  idx_vars y
  blk_simp
  rw [after0_7]
  unfold out0_7
  frame_out
  refine (ve_block m c t y0 y1).trans ?_
  exact congrArg₂ (fun a b => second (flat (G m c) a b) (flat (Ve m c) a b))
    (Fin.ext (by symm; blk_simp [idx t])) (Fin.ext (by symm; blk_simp [idx t]))

end Cert.AdamIdeal.Step
end
-- ==== Proof.AdamReference.lean ====
/- What the reference of the optimiser leaves in its results. -/
module

public import proofs.«01_k».proof.Proof.AdamForm
public import proofs.«01_k».proof.Proof.Gen.AdamRefIdeal.Read

@[expose] public section

set_option maxRecDepth 16384

noncomputable section

open Idealize.ShloMosaic

namespace Cert.AdamRefIdeal.Step

open Cert.AdamRefIdeal Cert.AdamRefIdeal.Gen Cert.AdamRefIdeal.Read Cert.AdamForm

variable (w g mo ve : Arr)

theorem ref_g : val_main_v24 (F := Ideal) g = fun i : S8192x128.Idx => flat g (i 0) (i 1) := by
  funext i
  idx_vars i
  unfold flat
  pointwise [val_main_v24]

theorem ref_mo : val_main_v26 (F := Ideal) g mo = fun i : S8192x128.Idx => first (flat g (i 0) (i 1)) (flat mo (i 0) (i 1)) := by
  funext i
  idx_vars i
  unfold first flat
  pointwise [val_main_v26, val_main_v4, val_main_v3, val_main_v2, val_main_v1, val_main_v0, val_main_cst, val_main_cst_0]

theorem ref_ve : val_main_v27 (F := Ideal) g ve = fun i : S8192x128.Idx => second (flat g (i 0) (i 1)) (flat ve (i 0) (i 1)) := by
  funext i
  idx_vars i
  unfold second flat
  pointwise [val_main_v27, val_main_cst_7, val_main_cst_6, val_main_cst_5, val_main_cst_4, val_main_cst_3, val_main_v10, val_main_v9, val_main_v8, val_main_cst_2, val_main_v7, val_main_v6, val_main_v5, val_main_cst_1, val_main_cst_0, val_main_cst]

theorem ref_change : val_main_v25 (F := Ideal) w g mo ve = fun i : S8192x128.Idx =>
    change (flat w (i 0) (i 1)) (flat g (i 0) (i 1)) (flat mo (i 0) (i 1)) (flat ve (i 0) (i 1)) := by
  funext i
  idx_vars i
  unfold change first second flat
  pointwise [val_main_v25, val_main_v23, val_main_v22, val_main_v21, val_main_v20, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6, val_main_cst_7]

end Cert.AdamRefIdeal.Step
end
-- ==== Proof.AdamPair.lean ====
/- The kernel and the reference of the optimiser side by side. -/
module

public import proofs.«01_k».proof.Proof.AdamKernel
public import proofs.«01_k».proof.Proof.AdamReference
public import proofs.«01_k».proof.Defs
public import proofs.«01_k».proof.Proof.Gen.AdamRefIdeal.Run
public import Idealize.ShloMosaic.Lib.Claim

@[expose] public section

set_option maxRecDepth 16384

noncomputable section

open Idealize.ShloMosaic Idealize.ShloMosaic.TcCoe Idealize.SL.Sem

namespace Cert.AdamPair

open Cert.AdamIdeal.Step Cert.AdamRefIdeal.Step

theorem reference_frame : Cert.quiescent_AdamRefIdeal := by
  intro m g _
  refine (θ_run _ _ _).mono (fun r h => ⟨fun c => (h c).2.2.2.2, funext fun s => ?_⟩) (Cert.AdamRefIdeal.Value.run m g)
  exact ((by decide : ∀ _ : SemLoc Cert.AdamRefIdeal.sig, False) s.2).elim

theorem algebraic : Cert.algebraic_AdamIdeal_AdamRefIdeal := by
  pair_intro
  · run_from Cert.AdamIdeal.Gen.run_main m g
  · run_from Cert.AdamRefIdeal.Value.run m' g'
    · exact (ref_g _).trans (final_g m c).symm
    · exact (ref_change _ _ _ _).trans (final_change m c).symm
    · exact (ref_mo _ _).trans (final_mo m c).symm
    · exact (ref_ve _ _).trans (final_ve m c).symm

end Cert.AdamPair
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.Din
public import proofs.«01_k».proof.Proof.Gen.Din.Skeleton
public import proofs.«01_k».proof.Proof.Gen.Din.Launch
public import proofs.«01_k».proof.Proof.Gen.Din.Points
public import proofs.«01_k».proof.Proof.Gen.Din.Frame
public import proofs.«01_k».proof.Proof.Gen.DinIdeal
public import proofs.«01_k».proof.Proof.Gen.DinIdeal.Skeleton
public import proofs.«01_k».proof.Proof.Gen.DinIdeal.Launch
public import proofs.«01_k».proof.Proof.Gen.DinIdeal.Points
public import proofs.«01_k».proof.Proof.Gen.DinIdeal.Frame
public import proofs.«01_k».proof.Proof.Gen.DinRefIdeal
public import proofs.«01_k».proof.Proof.Gen.DinRefIdeal.Run
public import proofs.«01_k».proof.Proof.Gen.DinRefIdeal.Read
public import proofs.«01_k».proof.Proof.Gen.AFwd
public import proofs.«01_k».proof.Proof.Gen.AFwdIdeal
public import proofs.«01_k».proof.Proof.Gen.AFwdIdeal.Skeleton
public import proofs.«01_k».proof.Proof.Gen.AFwdIdeal.Launch
public import proofs.«01_k».proof.Proof.Gen.AFwdIdeal.Points
public import proofs.«01_k».proof.Proof.Gen.AFwdIdeal.Frame
public import proofs.«01_k».proof.Proof.Gen.AFwdIdeal.Loops
public import proofs.«01_k».proof.Proof.Gen.AFwdRefIdeal
public import proofs.«01_k».proof.Proof.Gen.AFwdRefIdeal.Run
public import proofs.«01_k».proof.Proof.Gen.AFwdRefIdeal.Step
public import proofs.«01_k».proof.Proof.Gen.MFwd
public import proofs.«01_k».proof.Proof.Gen.MFwd.Skeleton
public import proofs.«01_k».proof.Proof.Gen.MFwd.Launch
public import proofs.«01_k».proof.Proof.Gen.MFwd.Points
public import proofs.«01_k».proof.Proof.Gen.MFwd.Frame
public import proofs.«01_k».proof.Proof.Gen.MFwdIdeal
public import proofs.«01_k».proof.Proof.Gen.MFwdIdeal.Skeleton
public import proofs.«01_k».proof.Proof.Gen.MFwdIdeal.Launch
public import proofs.«01_k».proof.Proof.Gen.MFwdIdeal.Points
public import proofs.«01_k».proof.Proof.Gen.MFwdIdeal.Frame
public import proofs.«01_k».proof.Proof.Gen.MFwdRefIdeal
public import proofs.«01_k».proof.Proof.Gen.MFwdRefIdeal.Run
public import proofs.«01_k».proof.Proof.Gen.MFwdRefIdeal.Read
public import proofs.«01_k».proof.Proof.Gen.PFwd
public import proofs.«01_k».proof.Proof.Gen.PFwdIdeal
public import proofs.«01_k».proof.Proof.Gen.PFwdIdeal.Skeleton
public import proofs.«01_k».proof.Proof.Gen.PFwdIdeal.Launch
public import proofs.«01_k».proof.Proof.Gen.PFwdIdeal.Points
public import proofs.«01_k».proof.Proof.Gen.PFwdIdeal.Frame
public import proofs.«01_k».proof.Proof.Gen.PFwdIdeal.Loops
public import proofs.«01_k».proof.Proof.Gen.PFwdRefIdeal
public import proofs.«01_k».proof.Proof.Gen.PFwdRefIdeal.Run
public import proofs.«01_k».proof.Proof.Gen.PFwdRefIdeal.Read
public import proofs.«01_k».proof.Proof.LossPair
public import proofs.«01_k».proof.Proof.MergePair
public import proofs.«01_k».proof.Proof.DinPair
public import proofs.«01_k».proof.Proof.AFwdPair
public import proofs.«01_k».proof.Proof.AFwdWord
public import proofs.«01_k».proof.Proof.MFwdPair
public import proofs.«01_k».proof.Proof.PFwdPair
public import proofs.«01_k».proof.Proof.PFwdWord
public import proofs.«01_k».proof.Proof.Gen.OFwd
public import proofs.«01_k».proof.Proof.Gen.OFwd.Skeleton
public import proofs.«01_k».proof.Proof.Gen.OFwd.Launch
public import proofs.«01_k».proof.Proof.Gen.OFwd.Points
public import proofs.«01_k».proof.Proof.Gen.OFwd.Frame
public import proofs.«01_k».proof.Proof.Gen.OFwdIdeal
public import proofs.«01_k».proof.Proof.Gen.OFwdIdeal.Skeleton
public import proofs.«01_k».proof.Proof.Gen.OFwdIdeal.Launch
public import proofs.«01_k».proof.Proof.Gen.OFwdIdeal.Points
public import proofs.«01_k».proof.Proof.Gen.OFwdIdeal.Frame
public import proofs.«01_k».proof.Proof.Gen.OFwdRefIdeal
public import proofs.«01_k».proof.Proof.Gen.OFwdRefIdeal.Run
public import proofs.«01_k».proof.Proof.Gen.OFwdRefIdeal.Read
public import proofs.«01_k».proof.Proof.Gen.MatNt
public import proofs.«01_k».proof.Proof.Gen.MatNt.Skeleton
public import proofs.«01_k».proof.Proof.Gen.MatNt.Launch
public import proofs.«01_k».proof.Proof.Gen.MatNt.Points
public import proofs.«01_k».proof.Proof.Gen.MatNt.Frame
public import proofs.«01_k».proof.Proof.Gen.MatNtIdeal
public import proofs.«01_k».proof.Proof.Gen.MatNtIdeal.Skeleton
public import proofs.«01_k».proof.Proof.Gen.MatNtIdeal.Launch
public import proofs.«01_k».proof.Proof.Gen.MatNtIdeal.Points
public import proofs.«01_k».proof.Proof.Gen.MatNtIdeal.Frame
public import proofs.«01_k».proof.Proof.Gen.MatNtRefIdeal
public import proofs.«01_k».proof.Proof.Gen.MatNtRefIdeal.Run
public import proofs.«01_k».proof.Proof.Gen.MatNtRefIdeal.Read
public import proofs.«01_k».proof.Proof.Gen.MatTn
public import proofs.«01_k».proof.Proof.Gen.MatTn.Skeleton
public import proofs.«01_k».proof.Proof.Gen.MatTn.Launch
public import proofs.«01_k».proof.Proof.Gen.MatTn.Points
public import proofs.«01_k».proof.Proof.Gen.MatTn.Frame
public import proofs.«01_k».proof.Proof.Gen.MatTnIdeal
public import proofs.«01_k».proof.Proof.Gen.MatTnIdeal.Skeleton
public import proofs.«01_k».proof.Proof.Gen.MatTnIdeal.Launch
public import proofs.«01_k».proof.Proof.Gen.MatTnIdeal.Points
public import proofs.«01_k».proof.Proof.Gen.MatTnIdeal.Frame
public import proofs.«01_k».proof.Proof.Gen.MatTnRefIdeal
public import proofs.«01_k».proof.Proof.Gen.MatTnRefIdeal.Run
public import proofs.«01_k».proof.Proof.Gen.MatTnRefIdeal.Read
public import proofs.«01_k».proof.Proof.Gen.DWin
public import proofs.«01_k».proof.Proof.Gen.DWin.Skeleton
public import proofs.«01_k».proof.Proof.Gen.DWin.Launch
public import proofs.«01_k».proof.Proof.Gen.DWin.Points
public import proofs.«01_k».proof.Proof.Gen.DWin.Frame
public import proofs.«01_k».proof.Proof.Gen.DWinIdeal
public import proofs.«01_k».proof.Proof.Gen.DWinIdeal.Skeleton
public import proofs.«01_k».proof.Proof.Gen.DWinIdeal.Launch
public import proofs.«01_k».proof.Proof.Gen.DWinIdeal.Points
public import proofs.«01_k».proof.Proof.Gen.DWinIdeal.Frame
public import proofs.«01_k».proof.Proof.Gen.DWinRefIdeal
public import proofs.«01_k».proof.Proof.Gen.DWinRefIdeal.Run
public import proofs.«01_k».proof.Proof.Gen.DWinRefIdeal.Read
public import proofs.«01_k».proof.Proof.OFwdPair
public import proofs.«01_k».proof.Proof.MatNtPair
public import proofs.«01_k».proof.Proof.MatTnPair
public import proofs.«01_k».proof.Proof.DWinPair
public import proofs.«01_k».proof.Proof.Gen.Slots
public import proofs.«01_k».proof.Proof.Gen.Slots.Skeleton
public import proofs.«01_k».proof.Proof.Gen.Slots.Launch
public import proofs.«01_k».proof.Proof.Gen.Slots.Points
public import proofs.«01_k».proof.Proof.Gen.Slots.Frame
public import proofs.«01_k».proof.Proof.Gen.SlotsIdeal
public import proofs.«01_k».proof.Proof.Gen.SlotsIdeal.Skeleton
public import proofs.«01_k».proof.Proof.Gen.SlotsIdeal.Launch
public import proofs.«01_k».proof.Proof.Gen.SlotsIdeal.Points
public import proofs.«01_k».proof.Proof.Gen.SlotsIdeal.Frame
public import proofs.«01_k».proof.Proof.Gen.SlotsRefIdeal
public import proofs.«01_k».proof.Proof.Gen.SlotsRefIdeal.Run
public import proofs.«01_k».proof.Proof.Gen.SlotsRefIdeal.Read
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamRefIdeal.Run
public import proofs.«01_k».proof.Proof.Gen.AdamRefIdeal.Read
public import proofs.«01_k».proof.Proof.Gen.SHalf
public import proofs.«01_k».proof.Proof.Gen.SHalf.Skeleton
public import proofs.«01_k».proof.Proof.Gen.SHalf.Launch
public import proofs.«01_k».proof.Proof.Gen.SHalf.Points
public import proofs.«01_k».proof.Proof.Gen.SHalf.Frame
public import proofs.«01_k».proof.Proof.Gen.SHalfIdeal
public import proofs.«01_k».proof.Proof.Gen.SHalfIdeal.Skeleton
public import proofs.«01_k».proof.Proof.Gen.SHalfIdeal.Launch
public import proofs.«01_k».proof.Proof.Gen.SHalfIdeal.Points
public import proofs.«01_k».proof.Proof.Gen.SHalfIdeal.Frame
public import proofs.«01_k».proof.Proof.Gen.SHalfRefIdeal
public import proofs.«01_k».proof.Proof.Gen.SHalfRefIdeal.Run
public import proofs.«01_k».proof.Proof.Gen.SHalfRefIdeal.Read
public import proofs.«01_k».proof.Proof.Gen.Pre_is_core
public import proofs.«01_k».proof.Proof.SlotsPair
public import proofs.«01_k».proof.Proof.SHalfWord
public import proofs.«01_k».proof.Proof.SHalfPair
public import proofs.«01_k».proof.Proof.AdamPair
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Merge.Gen.facts, Cert.MergeIdeal.Gen.facts, Cert.MergeRefIdeal.Gen.facts,
  Cert.Din.Gen.facts, Cert.DinIdeal.Gen.facts, Cert.DinRefIdeal.Gen.facts,
  Cert.AFwd.Gen.facts, Cert.AFwdIdeal.Gen.facts, Cert.AFwdRefIdeal.Gen.facts,
  Cert.MFwd.Gen.facts, Cert.MFwdIdeal.Gen.facts, Cert.MFwdRefIdeal.Gen.facts,
  Cert.PFwd.Gen.facts, Cert.PFwdIdeal.Gen.facts, Cert.PFwdRefIdeal.Gen.facts,
  Cert.OFwd.Gen.facts, Cert.OFwdIdeal.Gen.facts, Cert.OFwdRefIdeal.Gen.facts,
  Cert.MatNt.Gen.facts, Cert.MatNtIdeal.Gen.facts, Cert.MatNtRefIdeal.Gen.facts,
  Cert.MatTn.Gen.facts, Cert.MatTnIdeal.Gen.facts, Cert.MatTnRefIdeal.Gen.facts,
  Cert.DWin.Gen.facts, Cert.DWinIdeal.Gen.facts, Cert.DWinRefIdeal.Gen.facts,
  Cert.Slots.Gen.facts, Cert.SlotsIdeal.Gen.facts, Cert.SlotsRefIdeal.Gen.facts,
  Cert.Adam.Gen.facts, Cert.AdamIdeal.Gen.facts, Cert.AdamRefIdeal.Gen.facts,
  Cert.SHalf.Gen.facts, Cert.SHalfIdeal.Gen.facts, Cert.SHalfRefIdeal.Gen.facts, Cert.Pre_is_core.Gen.facts,
  fun m ρ _ => Cert.Kernel.Gen.frame m ρ, fun m ρ _ => Cert.KernelIdeal.Gen.frame m ρ, LossPair.reference_frame,
  fun m ρ _ => Cert.Merge.Gen.frame m ρ, fun m ρ _ => Cert.MergeIdeal.Gen.frame m ρ, MergePair.reference_frame,
  fun m ρ _ => Cert.Din.Gen.frame m ρ, fun m ρ _ => Cert.DinIdeal.Gen.frame m ρ, DinPair.reference_frame,
  AFwdWord.frame, fun m ρ _ => Cert.AFwdIdeal.Step.frame m ρ, AFwdPair.reference_frame,
  fun m ρ _ => Cert.MFwd.Gen.frame m ρ, fun m ρ _ => Cert.MFwdIdeal.Gen.frame m ρ, MFwdPair.reference_frame,
  PFwdWord.frame, fun m ρ _ => Cert.PFwdIdeal.Step.frame m ρ, PFwdPair.reference_frame,
  fun m ρ _ => Cert.OFwd.Gen.frame m ρ, fun m ρ _ => Cert.OFwdIdeal.Gen.frame m ρ, OFwdPair.reference_frame,
  fun m ρ _ => Cert.MatNt.Gen.frame m ρ, fun m ρ _ => Cert.MatNtIdeal.Gen.frame m ρ, MatNtPair.reference_frame,
  fun m ρ _ => Cert.MatTn.Gen.frame m ρ, fun m ρ _ => Cert.MatTnIdeal.Gen.frame m ρ, MatTnPair.reference_frame,
  fun m ρ _ => Cert.DWin.Gen.frame m ρ, fun m ρ _ => Cert.DWinIdeal.Gen.frame m ρ, DWinPair.reference_frame,
  fun m ρ _ => Cert.Slots.Gen.frame m ρ, fun m ρ _ => Cert.SlotsIdeal.Gen.frame m ρ, SlotsPair.reference_frame,
  fun m ρ _ => Cert.Adam.Gen.frame m ρ, fun m ρ _ => Cert.AdamIdeal.Gen.frame m ρ, AdamPair.reference_frame,
  Cert.SHalf.Sum.frame, SHalfPair.kernel_frame, SHalfPair.reference_frame,
  trivial, LossPair.algebraic, trivial, MergePair.algebraic, trivial, DinPair.algebraic, trivial, AFwdPair.algebraic,
  trivial, MFwdPair.algebraic, trivial, PFwdPair.algebraic, trivial, OFwdPair.algebraic, trivial, MatNtPair.algebraic,
  trivial, MatTnPair.algebraic, trivial, DWinPair.algebraic, trivial, SlotsPair.algebraic,
  trivial, AdamPair.algebraic, trivial, SHalfPair.algebraic⟩

end Cert.Proof

end
